-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Dkv (m : (ℓ : Loc Cert.Dkv.nD Cert.Dkv.τ Cert.Dkv.sig) → Buf (Elt Bits) ℓ) : Prop :=
  True

def Pre_DkvIdeal (m : (ℓ : Loc Cert.DkvIdeal.nD Cert.DkvIdeal.τ Cert.DkvIdeal.sig) → Buf (Elt Ideal) ℓ) : Prop :=
  True

def Pre_DkvIdeal_finite [hPre_finite : Cert.Pre_finite.Facts] (m : (ℓ : Loc Cert.DkvIdeal.nD Cert.DkvIdeal.τ Cert.DkvIdeal.sig) → Buf (Elt Ideal) ℓ) : Prop :=
  ∀ c : Dev Cert.DkvIdeal.nD,
    (Cert.Pre_finite.fn (F := Ideal) (m ((c.tc : Thread Cert.DkvIdeal.nD Cert.DkvIdeal.τ).loc Cert.DkvIdeal.main_arg0)) (m ((c.tc : Thread Cert.DkvIdeal.nD Cert.DkvIdeal.τ).loc Cert.DkvIdeal.main_arg1)) (m ((c.tc : Thread Cert.DkvIdeal.nD Cert.DkvIdeal.τ).loc Cert.DkvIdeal.main_arg2)) (m ((c.tc : Thread Cert.DkvIdeal.nD Cert.DkvIdeal.τ).loc Cert.DkvIdeal.main_arg3)) (m ((c.tc : Thread Cert.DkvIdeal.nD Cert.DkvIdeal.τ).loc Cert.DkvIdeal.main_arg4))).1 = (fun _ => 1#1)
    ∧ (Cert.Pre_finite.fn (F := Ideal) (m ((c.tc : Thread Cert.DkvIdeal.nD Cert.DkvIdeal.τ).loc Cert.DkvIdeal.main_arg0)) (m ((c.tc : Thread Cert.DkvIdeal.nD Cert.DkvIdeal.τ).loc Cert.DkvIdeal.main_arg1)) (m ((c.tc : Thread Cert.DkvIdeal.nD Cert.DkvIdeal.τ).loc Cert.DkvIdeal.main_arg2)) (m ((c.tc : Thread Cert.DkvIdeal.nD Cert.DkvIdeal.τ).loc Cert.DkvIdeal.main_arg3)) (m ((c.tc : Thread Cert.DkvIdeal.nD Cert.DkvIdeal.τ).loc Cert.DkvIdeal.main_arg4))).2.1 = (fun _ => 1#1)
    ∧ (Cert.Pre_finite.fn (F := Ideal) (m ((c.tc : Thread Cert.DkvIdeal.nD Cert.DkvIdeal.τ).loc Cert.DkvIdeal.main_arg0)) (m ((c.tc : Thread Cert.DkvIdeal.nD Cert.DkvIdeal.τ).loc Cert.DkvIdeal.main_arg1)) (m ((c.tc : Thread Cert.DkvIdeal.nD Cert.DkvIdeal.τ).loc Cert.DkvIdeal.main_arg2)) (m ((c.tc : Thread Cert.DkvIdeal.nD Cert.DkvIdeal.τ).loc Cert.DkvIdeal.main_arg3)) (m ((c.tc : Thread Cert.DkvIdeal.nD Cert.DkvIdeal.τ).loc Cert.DkvIdeal.main_arg4))).2.2.1 = (fun _ => 1#1)
    ∧ (Cert.Pre_finite.fn (F := Ideal) (m ((c.tc : Thread Cert.DkvIdeal.nD Cert.DkvIdeal.τ).loc Cert.DkvIdeal.main_arg0)) (m ((c.tc : Thread Cert.DkvIdeal.nD Cert.DkvIdeal.τ).loc Cert.DkvIdeal.main_arg1)) (m ((c.tc : Thread Cert.DkvIdeal.nD Cert.DkvIdeal.τ).loc Cert.DkvIdeal.main_arg2)) (m ((c.tc : Thread Cert.DkvIdeal.nD Cert.DkvIdeal.τ).loc Cert.DkvIdeal.main_arg3)) (m ((c.tc : Thread Cert.DkvIdeal.nD Cert.DkvIdeal.τ).loc Cert.DkvIdeal.main_arg4))).2.2.2.1 = (fun _ => 1#1)
    ∧ (Cert.Pre_finite.fn (F := Ideal) (m ((c.tc : Thread Cert.DkvIdeal.nD Cert.DkvIdeal.τ).loc Cert.DkvIdeal.main_arg0)) (m ((c.tc : Thread Cert.DkvIdeal.nD Cert.DkvIdeal.τ).loc Cert.DkvIdeal.main_arg1)) (m ((c.tc : Thread Cert.DkvIdeal.nD Cert.DkvIdeal.τ).loc Cert.DkvIdeal.main_arg2)) (m ((c.tc : Thread Cert.DkvIdeal.nD Cert.DkvIdeal.τ).loc Cert.DkvIdeal.main_arg3)) (m ((c.tc : Thread Cert.DkvIdeal.nD Cert.DkvIdeal.τ).loc Cert.DkvIdeal.main_arg4))).2.2.2.2 = (fun _ => 1#1)

def Pre_DkvRefIdeal (m : (ℓ : Loc Cert.DkvRefIdeal.nD Cert.DkvRefIdeal.τ Cert.DkvRefIdeal.sig) → Buf (Elt Ideal) ℓ) : Prop :=
  True

def Pre_DkvRefIdeal_finite [hPre_finite : Cert.Pre_finite.Facts] (m : (ℓ : Loc Cert.DkvRefIdeal.nD Cert.DkvRefIdeal.τ Cert.DkvRefIdeal.sig) → Buf (Elt Ideal) ℓ) : Prop :=
  ∀ c : Dev Cert.DkvRefIdeal.nD,
    (Cert.Pre_finite.fn (F := Ideal) (m ((c.tc : Thread Cert.DkvRefIdeal.nD Cert.DkvRefIdeal.τ).loc Cert.DkvRefIdeal.main_arg0)) (m ((c.tc : Thread Cert.DkvRefIdeal.nD Cert.DkvRefIdeal.τ).loc Cert.DkvRefIdeal.main_arg1)) (m ((c.tc : Thread Cert.DkvRefIdeal.nD Cert.DkvRefIdeal.τ).loc Cert.DkvRefIdeal.main_arg2)) (m ((c.tc : Thread Cert.DkvRefIdeal.nD Cert.DkvRefIdeal.τ).loc Cert.DkvRefIdeal.main_arg3)) (m ((c.tc : Thread Cert.DkvRefIdeal.nD Cert.DkvRefIdeal.τ).loc Cert.DkvRefIdeal.main_arg4))).1 = (fun _ => 1#1)
    ∧ (Cert.Pre_finite.fn (F := Ideal) (m ((c.tc : Thread Cert.DkvRefIdeal.nD Cert.DkvRefIdeal.τ).loc Cert.DkvRefIdeal.main_arg0)) (m ((c.tc : Thread Cert.DkvRefIdeal.nD Cert.DkvRefIdeal.τ).loc Cert.DkvRefIdeal.main_arg1)) (m ((c.tc : Thread Cert.DkvRefIdeal.nD Cert.DkvRefIdeal.τ).loc Cert.DkvRefIdeal.main_arg2)) (m ((c.tc : Thread Cert.DkvRefIdeal.nD Cert.DkvRefIdeal.τ).loc Cert.DkvRefIdeal.main_arg3)) (m ((c.tc : Thread Cert.DkvRefIdeal.nD Cert.DkvRefIdeal.τ).loc Cert.DkvRefIdeal.main_arg4))).2.1 = (fun _ => 1#1)
    ∧ (Cert.Pre_finite.fn (F := Ideal) (m ((c.tc : Thread Cert.DkvRefIdeal.nD Cert.DkvRefIdeal.τ).loc Cert.DkvRefIdeal.main_arg0)) (m ((c.tc : Thread Cert.DkvRefIdeal.nD Cert.DkvRefIdeal.τ).loc Cert.DkvRefIdeal.main_arg1)) (m ((c.tc : Thread Cert.DkvRefIdeal.nD Cert.DkvRefIdeal.τ).loc Cert.DkvRefIdeal.main_arg2)) (m ((c.tc : Thread Cert.DkvRefIdeal.nD Cert.DkvRefIdeal.τ).loc Cert.DkvRefIdeal.main_arg3)) (m ((c.tc : Thread Cert.DkvRefIdeal.nD Cert.DkvRefIdeal.τ).loc Cert.DkvRefIdeal.main_arg4))).2.2.1 = (fun _ => 1#1)
    ∧ (Cert.Pre_finite.fn (F := Ideal) (m ((c.tc : Thread Cert.DkvRefIdeal.nD Cert.DkvRefIdeal.τ).loc Cert.DkvRefIdeal.main_arg0)) (m ((c.tc : Thread Cert.DkvRefIdeal.nD Cert.DkvRefIdeal.τ).loc Cert.DkvRefIdeal.main_arg1)) (m ((c.tc : Thread Cert.DkvRefIdeal.nD Cert.DkvRefIdeal.τ).loc Cert.DkvRefIdeal.main_arg2)) (m ((c.tc : Thread Cert.DkvRefIdeal.nD Cert.DkvRefIdeal.τ).loc Cert.DkvRefIdeal.main_arg3)) (m ((c.tc : Thread Cert.DkvRefIdeal.nD Cert.DkvRefIdeal.τ).loc Cert.DkvRefIdeal.main_arg4))).2.2.2.1 = (fun _ => 1#1)
    ∧ (Cert.Pre_finite.fn (F := Ideal) (m ((c.tc : Thread Cert.DkvRefIdeal.nD Cert.DkvRefIdeal.τ).loc Cert.DkvRefIdeal.main_arg0)) (m ((c.tc : Thread Cert.DkvRefIdeal.nD Cert.DkvRefIdeal.τ).loc Cert.DkvRefIdeal.main_arg1)) (m ((c.tc : Thread Cert.DkvRefIdeal.nD Cert.DkvRefIdeal.τ).loc Cert.DkvRefIdeal.main_arg2)) (m ((c.tc : Thread Cert.DkvRefIdeal.nD Cert.DkvRefIdeal.τ).loc Cert.DkvRefIdeal.main_arg3)) (m ((c.tc : Thread Cert.DkvRefIdeal.nD Cert.DkvRefIdeal.τ).loc Cert.DkvRefIdeal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1)
      ∧ r.2.mem ((c.tc : Thread Cert.UpDw.nD Cert.UpDw.τ).loc Cert.UpDw.main_arg2) = m ((c.tc : Thread Cert.UpDw.nD Cert.UpDw.τ).loc Cert.UpDw.main_arg2))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
      ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1)
      ∧ r.2.mem ((c.tc : Thread Cert.UpDwRefIdeal.nD Cert.UpDwRefIdeal.τ).loc Cert.UpDwRefIdeal.main_arg2) = m ((c.tc : Thread Cert.UpDwRefIdeal.nD Cert.UpDwRefIdeal.τ).loc Cert.UpDwRefIdeal.main_arg2))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Dkv [hDkv : Cert.Dkv.Facts] : Prop :=
  ∀ (m : (ℓ : Loc Cert.Dkv.nD Cert.Dkv.τ Cert.Dkv.sig) → Buf (Elt Bits) ℓ) (g : Dev Cert.Dkv.nD → PrngReg), Pre_Dkv m →
    θ_run (Cert.Dkv.defs (F := Bits)) (onTc (τ := Cert.Dkv.τ) (Cert.Dkv.main (F := Bits))) ⟨m, fun _ => 0, g⟩ (fun r => (∀ c : Dev Cert.Dkv.nD,
      r.2.mem ((c.tc : Thread Cert.Dkv.nD Cert.Dkv.τ).loc Cert.Dkv.main_arg0) = m ((c.tc : Thread Cert.Dkv.nD Cert.Dkv.τ).loc Cert.Dkv.main_arg0)
      ∧ r.2.mem ((c.tc : Thread Cert.Dkv.nD Cert.Dkv.τ).loc Cert.Dkv.main_arg1) = m ((c.tc : Thread Cert.Dkv.nD Cert.Dkv.τ).loc Cert.Dkv.main_arg1)
      ∧ r.2.mem ((c.tc : Thread Cert.Dkv.nD Cert.Dkv.τ).loc Cert.Dkv.main_arg2) = m ((c.tc : Thread Cert.Dkv.nD Cert.Dkv.τ).loc Cert.Dkv.main_arg2)
      ∧ r.2.mem ((c.tc : Thread Cert.Dkv.nD Cert.Dkv.τ).loc Cert.Dkv.main_arg3) = m ((c.tc : Thread Cert.Dkv.nD Cert.Dkv.τ).loc Cert.Dkv.main_arg3)
      ∧ r.2.mem ((c.tc : Thread Cert.Dkv.nD Cert.Dkv.τ).loc Cert.Dkv.main_arg4) = m ((c.tc : Thread Cert.Dkv.nD Cert.Dkv.τ).loc Cert.Dkv.main_arg4))
      ∧ r.2.sem = fun _ => 0)

def quiescent_DkvIdeal [hDkvIdeal : Cert.DkvIdeal.Facts] : Prop :=
  ∀ (m : (ℓ : Loc Cert.DkvIdeal.nD Cert.DkvIdeal.τ Cert.DkvIdeal.sig) → Buf (Elt Ideal) ℓ) (g : Dev Cert.DkvIdeal.nD → PrngReg), Pre_DkvIdeal m →
    θ_run (Cert.DkvIdeal.defs (F := Ideal)) (onTc (τ := Cert.DkvIdeal.τ) (Cert.DkvIdeal.main (F := Ideal))) ⟨m, fun _ => 0, g⟩ (fun r => (∀ c : Dev Cert.DkvIdeal.nD,
      r.2.mem ((c.tc : Thread Cert.DkvIdeal.nD Cert.DkvIdeal.τ).loc Cert.DkvIdeal.main_arg0) = m ((c.tc : Thread Cert.DkvIdeal.nD Cert.DkvIdeal.τ).loc Cert.DkvIdeal.main_arg0)
      ∧ r.2.mem ((c.tc : Thread Cert.DkvIdeal.nD Cert.DkvIdeal.τ).loc Cert.DkvIdeal.main_arg1) = m ((c.tc : Thread Cert.DkvIdeal.nD Cert.DkvIdeal.τ).loc Cert.DkvIdeal.main_arg1)
      ∧ r.2.mem ((c.tc : Thread Cert.DkvIdeal.nD Cert.DkvIdeal.τ).loc Cert.DkvIdeal.main_arg2) = m ((c.tc : Thread Cert.DkvIdeal.nD Cert.DkvIdeal.τ).loc Cert.DkvIdeal.main_arg2)
      ∧ r.2.mem ((c.tc : Thread Cert.DkvIdeal.nD Cert.DkvIdeal.τ).loc Cert.DkvIdeal.main_arg3) = m ((c.tc : Thread Cert.DkvIdeal.nD Cert.DkvIdeal.τ).loc Cert.DkvIdeal.main_arg3)
      ∧ r.2.mem ((c.tc : Thread Cert.DkvIdeal.nD Cert.DkvIdeal.τ).loc Cert.DkvIdeal.main_arg4) = m ((c.tc : Thread Cert.DkvIdeal.nD Cert.DkvIdeal.τ).loc Cert.DkvIdeal.main_arg4))
      ∧ r.2.sem = fun _ => 0)

def quiescent_DkvIdeal_pre_finite [hDkvIdeal : Cert.DkvIdeal.Facts] [hPre_finite : Cert.Pre_finite.Facts] : Prop :=
  ∀ (m : (ℓ : Loc Cert.DkvIdeal.nD Cert.DkvIdeal.τ Cert.DkvIdeal.sig) → Buf (Elt Ideal) ℓ) (g : Dev Cert.DkvIdeal.nD → PrngReg), Pre_DkvIdeal_finite m →
    θ_run (Cert.DkvIdeal.defs (F := Ideal)) (onTc (τ := Cert.DkvIdeal.τ) (Cert.DkvIdeal.main (F := Ideal))) ⟨m, fun _ => 0, g⟩ (fun r => (∀ c : Dev Cert.DkvIdeal.nD,
      r.2.mem ((c.tc : Thread Cert.DkvIdeal.nD Cert.DkvIdeal.τ).loc Cert.DkvIdeal.main_arg0) = m ((c.tc : Thread Cert.DkvIdeal.nD Cert.DkvIdeal.τ).loc Cert.DkvIdeal.main_arg0)
      ∧ r.2.mem ((c.tc : Thread Cert.DkvIdeal.nD Cert.DkvIdeal.τ).loc Cert.DkvIdeal.main_arg1) = m ((c.tc : Thread Cert.DkvIdeal.nD Cert.DkvIdeal.τ).loc Cert.DkvIdeal.main_arg1)
      ∧ r.2.mem ((c.tc : Thread Cert.DkvIdeal.nD Cert.DkvIdeal.τ).loc Cert.DkvIdeal.main_arg2) = m ((c.tc : Thread Cert.DkvIdeal.nD Cert.DkvIdeal.τ).loc Cert.DkvIdeal.main_arg2)
      ∧ r.2.mem ((c.tc : Thread Cert.DkvIdeal.nD Cert.DkvIdeal.τ).loc Cert.DkvIdeal.main_arg3) = m ((c.tc : Thread Cert.DkvIdeal.nD Cert.DkvIdeal.τ).loc Cert.DkvIdeal.main_arg3)
      ∧ r.2.mem ((c.tc : Thread Cert.DkvIdeal.nD Cert.DkvIdeal.τ).loc Cert.DkvIdeal.main_arg4) = m ((c.tc : Thread Cert.DkvIdeal.nD Cert.DkvIdeal.τ).loc Cert.DkvIdeal.main_arg4))
      ∧ r.2.sem = fun _ => 0)

def quiescent_DkvRefIdeal [hDkvRefIdeal : Cert.DkvRefIdeal.Facts] : Prop :=
  ∀ (m : (ℓ : Loc Cert.DkvRefIdeal.nD Cert.DkvRefIdeal.τ Cert.DkvRefIdeal.sig) → Buf (Elt Ideal) ℓ) (g : Dev Cert.DkvRefIdeal.nD → PrngReg), Pre_DkvRefIdeal m →
    θ_run (Cert.DkvRefIdeal.defs (F := Ideal)) (onTc (τ := Cert.DkvRefIdeal.τ) (Cert.DkvRefIdeal.main (F := Ideal))) ⟨m, fun _ => 0, g⟩ (fun r => (∀ c : Dev Cert.DkvRefIdeal.nD,
      r.2.mem ((c.tc : Thread Cert.DkvRefIdeal.nD Cert.DkvRefIdeal.τ).loc Cert.DkvRefIdeal.main_arg0) = m ((c.tc : Thread Cert.DkvRefIdeal.nD Cert.DkvRefIdeal.τ).loc Cert.DkvRefIdeal.main_arg0)
      ∧ r.2.mem ((c.tc : Thread Cert.DkvRefIdeal.nD Cert.DkvRefIdeal.τ).loc Cert.DkvRefIdeal.main_arg1) = m ((c.tc : Thread Cert.DkvRefIdeal.nD Cert.DkvRefIdeal.τ).loc Cert.DkvRefIdeal.main_arg1)
      ∧ r.2.mem ((c.tc : Thread Cert.DkvRefIdeal.nD Cert.DkvRefIdeal.τ).loc Cert.DkvRefIdeal.main_arg2) = m ((c.tc : Thread Cert.DkvRefIdeal.nD Cert.DkvRefIdeal.τ).loc Cert.DkvRefIdeal.main_arg2)
      ∧ r.2.mem ((c.tc : Thread Cert.DkvRefIdeal.nD Cert.DkvRefIdeal.τ).loc Cert.DkvRefIdeal.main_arg3) = m ((c.tc : Thread Cert.DkvRefIdeal.nD Cert.DkvRefIdeal.τ).loc Cert.DkvRefIdeal.main_arg3)
      ∧ r.2.mem ((c.tc : Thread Cert.DkvRefIdeal.nD Cert.DkvRefIdeal.τ).loc Cert.DkvRefIdeal.main_arg4) = m ((c.tc : Thread Cert.DkvRefIdeal.nD Cert.DkvRefIdeal.τ).loc Cert.DkvRefIdeal.main_arg4))
      ∧ r.2.sem = fun _ => 0)

def quiescent_DkvRefIdeal_pre_finite [hDkvRefIdeal : Cert.DkvRefIdeal.Facts] [hPre_finite : Cert.Pre_finite.Facts] : Prop :=
  ∀ (m : (ℓ : Loc Cert.DkvRefIdeal.nD Cert.DkvRefIdeal.τ Cert.DkvRefIdeal.sig) → Buf (Elt Ideal) ℓ) (g : Dev Cert.DkvRefIdeal.nD → PrngReg), Pre_DkvRefIdeal_finite m →
    θ_run (Cert.DkvRefIdeal.defs (F := Ideal)) (onTc (τ := Cert.DkvRefIdeal.τ) (Cert.DkvRefIdeal.main (F := Ideal))) ⟨m, fun _ => 0, g⟩ (fun r => (∀ c : Dev Cert.DkvRefIdeal.nD,
      r.2.mem ((c.tc : Thread Cert.DkvRefIdeal.nD Cert.DkvRefIdeal.τ).loc Cert.DkvRefIdeal.main_arg0) = m ((c.tc : Thread Cert.DkvRefIdeal.nD Cert.DkvRefIdeal.τ).loc Cert.DkvRefIdeal.main_arg0)
      ∧ r.2.mem ((c.tc : Thread Cert.DkvRefIdeal.nD Cert.DkvRefIdeal.τ).loc Cert.DkvRefIdeal.main_arg1) = m ((c.tc : Thread Cert.DkvRefIdeal.nD Cert.DkvRefIdeal.τ).loc Cert.DkvRefIdeal.main_arg1)
      ∧ r.2.mem ((c.tc : Thread Cert.DkvRefIdeal.nD Cert.DkvRefIdeal.τ).loc Cert.DkvRefIdeal.main_arg2) = m ((c.tc : Thread Cert.DkvRefIdeal.nD Cert.DkvRefIdeal.τ).loc Cert.DkvRefIdeal.main_arg2)
      ∧ r.2.mem ((c.tc : Thread Cert.DkvRefIdeal.nD Cert.DkvRefIdeal.τ).loc Cert.DkvRefIdeal.main_arg3) = m ((c.tc : Thread Cert.DkvRefIdeal.nD Cert.DkvRefIdeal.τ).loc Cert.DkvRefIdeal.main_arg3)
      ∧ r.2.mem ((c.tc : Thread Cert.DkvRefIdeal.nD Cert.DkvRefIdeal.τ).loc Cert.DkvRefIdeal.main_arg4) = m ((c.tc : Thread Cert.DkvRefIdeal.nD Cert.DkvRefIdeal.τ).loc Cert.DkvRefIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v39_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v5) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)
      ∧ m' ((c.tc : Thread Cert.UpDwRefIdeal.nD Cert.UpDwRefIdeal.τ).loc Cert.UpDwRefIdeal.main_arg2) = m ((c.tc : Thread Cert.UpDwIdeal.nD Cert.UpDwIdeal.τ).loc Cert.UpDwIdeal.main_arg2)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
          ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v7) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1)
          ∧ r.2.mem ((c.tc : Thread Cert.UpDwRefIdeal.nD Cert.UpDwRefIdeal.τ).loc Cert.UpDwRefIdeal.main_arg2) = m' ((c.tc : Thread Cert.UpDwRefIdeal.nD Cert.UpDwRefIdeal.τ).loc Cert.UpDwRefIdeal.main_arg2))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v4) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v6) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v4) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v6) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v4) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v6) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v2) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Dkv_DkvIdeal : Prop :=
  IdealRules.named_const.Statement Cert.DkvIdeal.κ "mask" .f32 0xF149F2CA#32 ⊥

def algebraic_DkvIdeal_DkvRefIdeal_pre_finite [hDkvIdeal : Cert.DkvIdeal.Facts] [hDkvRefIdeal : Cert.DkvRefIdeal.Facts] [hPre_finite : Cert.Pre_finite.Facts] : Prop :=
  ∀ (m : (ℓ : Loc Cert.DkvIdeal.nD Cert.DkvIdeal.τ Cert.DkvIdeal.sig) → Buf (Elt Ideal) ℓ) (g : Dev Cert.DkvIdeal.nD → PrngReg)
    (m' : (ℓ : Loc Cert.DkvRefIdeal.nD Cert.DkvRefIdeal.τ Cert.DkvRefIdeal.sig) → Buf (Elt Ideal) ℓ) (g' : Dev Cert.DkvRefIdeal.nD → PrngReg), Pre_DkvIdeal_finite m →
    (∀ c : Dev Cert.DkvIdeal.nD,
      m' ((c.tc : Thread Cert.DkvRefIdeal.nD Cert.DkvRefIdeal.τ).loc Cert.DkvRefIdeal.main_arg0) = m ((c.tc : Thread Cert.DkvIdeal.nD Cert.DkvIdeal.τ).loc Cert.DkvIdeal.main_arg0)
      ∧ m' ((c.tc : Thread Cert.DkvRefIdeal.nD Cert.DkvRefIdeal.τ).loc Cert.DkvRefIdeal.main_arg1) = m ((c.tc : Thread Cert.DkvIdeal.nD Cert.DkvIdeal.τ).loc Cert.DkvIdeal.main_arg1)
      ∧ m' ((c.tc : Thread Cert.DkvRefIdeal.nD Cert.DkvRefIdeal.τ).loc Cert.DkvRefIdeal.main_arg2) = m ((c.tc : Thread Cert.DkvIdeal.nD Cert.DkvIdeal.τ).loc Cert.DkvIdeal.main_arg2)
      ∧ m' ((c.tc : Thread Cert.DkvRefIdeal.nD Cert.DkvRefIdeal.τ).loc Cert.DkvRefIdeal.main_arg3) = m ((c.tc : Thread Cert.DkvIdeal.nD Cert.DkvIdeal.τ).loc Cert.DkvIdeal.main_arg3)
      ∧ m' ((c.tc : Thread Cert.DkvRefIdeal.nD Cert.DkvRefIdeal.τ).loc Cert.DkvRefIdeal.main_arg4) = m ((c.tc : Thread Cert.DkvIdeal.nD Cert.DkvIdeal.τ).loc Cert.DkvIdeal.main_arg4)) →
    ∃ (v0 : (c : Dev Cert.DkvIdeal.nD) → Buf (Elt Ideal) ((c.tc : Thread Cert.DkvIdeal.nD Cert.DkvIdeal.τ).loc Cert.DkvIdeal.main_v46_0)) (v1 : (c : Dev Cert.DkvIdeal.nD) → Buf (Elt Ideal) ((c.tc : Thread Cert.DkvIdeal.nD Cert.DkvIdeal.τ).loc Cert.DkvIdeal.main_v46_1)) (v2 : (c : Dev Cert.DkvIdeal.nD) → Buf (Elt Ideal) ((c.tc : Thread Cert.DkvIdeal.nD Cert.DkvIdeal.τ).loc Cert.DkvIdeal.main_v46_2)),
      θ_run (Cert.DkvIdeal.defs (F := Ideal)) (onTc (τ := Cert.DkvIdeal.τ) (Cert.DkvIdeal.main (F := Ideal))) ⟨m, fun _ => 0, g⟩ (fun r => ∀ c : Dev Cert.DkvIdeal.nD,
          r.2.mem ((c.tc : Thread Cert.DkvIdeal.nD Cert.DkvIdeal.τ).loc Cert.DkvIdeal.main_v46_0) = v0 c
          ∧ r.2.mem ((c.tc : Thread Cert.DkvIdeal.nD Cert.DkvIdeal.τ).loc Cert.DkvIdeal.main_v46_1) = v1 c
          ∧ r.2.mem ((c.tc : Thread Cert.DkvIdeal.nD Cert.DkvIdeal.τ).loc Cert.DkvIdeal.main_v46_2) = v2 c
          ∧ r.2.mem ((c.tc : Thread Cert.DkvIdeal.nD Cert.DkvIdeal.τ).loc Cert.DkvIdeal.main_arg0) = m ((c.tc : Thread Cert.DkvIdeal.nD Cert.DkvIdeal.τ).loc Cert.DkvIdeal.main_arg0)
          ∧ r.2.mem ((c.tc : Thread Cert.DkvIdeal.nD Cert.DkvIdeal.τ).loc Cert.DkvIdeal.main_arg1) = m ((c.tc : Thread Cert.DkvIdeal.nD Cert.DkvIdeal.τ).loc Cert.DkvIdeal.main_arg1)
          ∧ r.2.mem ((c.tc : Thread Cert.DkvIdeal.nD Cert.DkvIdeal.τ).loc Cert.DkvIdeal.main_arg2) = m ((c.tc : Thread Cert.DkvIdeal.nD Cert.DkvIdeal.τ).loc Cert.DkvIdeal.main_arg2)
          ∧ r.2.mem ((c.tc : Thread Cert.DkvIdeal.nD Cert.DkvIdeal.τ).loc Cert.DkvIdeal.main_arg3) = m ((c.tc : Thread Cert.DkvIdeal.nD Cert.DkvIdeal.τ).loc Cert.DkvIdeal.main_arg3)
          ∧ r.2.mem ((c.tc : Thread Cert.DkvIdeal.nD Cert.DkvIdeal.τ).loc Cert.DkvIdeal.main_arg4) = m ((c.tc : Thread Cert.DkvIdeal.nD Cert.DkvIdeal.τ).loc Cert.DkvIdeal.main_arg4))
      ∧ θ_run (Cert.DkvRefIdeal.defs (F := Ideal)) (onTc (τ := Cert.DkvRefIdeal.τ) (Cert.DkvRefIdeal.main (F := Ideal))) ⟨m', fun _ => 0, g'⟩ (fun r => ∀ c : Dev Cert.DkvRefIdeal.nD,
          r.2.mem ((c.tc : Thread Cert.DkvRefIdeal.nD Cert.DkvRefIdeal.τ).loc Cert.DkvRefIdeal.main_v93) = v0 c
          ∧ r.2.mem ((c.tc : Thread Cert.DkvRefIdeal.nD Cert.DkvRefIdeal.τ).loc Cert.DkvRefIdeal.main_v94) = v1 c
          ∧ r.2.mem ((c.tc : Thread Cert.DkvRefIdeal.nD Cert.DkvRefIdeal.τ).loc Cert.DkvRefIdeal.main_v96) = v2 c
          ∧ r.2.mem ((c.tc : Thread Cert.DkvRefIdeal.nD Cert.DkvRefIdeal.τ).loc Cert.DkvRefIdeal.main_arg0) = m' ((c.tc : Thread Cert.DkvRefIdeal.nD Cert.DkvRefIdeal.τ).loc Cert.DkvRefIdeal.main_arg0)
          ∧ r.2.mem ((c.tc : Thread Cert.DkvRefIdeal.nD Cert.DkvRefIdeal.τ).loc Cert.DkvRefIdeal.main_arg1) = m' ((c.tc : Thread Cert.DkvRefIdeal.nD Cert.DkvRefIdeal.τ).loc Cert.DkvRefIdeal.main_arg1)
          ∧ r.2.mem ((c.tc : Thread Cert.DkvRefIdeal.nD Cert.DkvRefIdeal.τ).loc Cert.DkvRefIdeal.main_arg2) = m' ((c.tc : Thread Cert.DkvRefIdeal.nD Cert.DkvRefIdeal.τ).loc Cert.DkvRefIdeal.main_arg2)
          ∧ r.2.mem ((c.tc : Thread Cert.DkvRefIdeal.nD Cert.DkvRefIdeal.τ).loc Cert.DkvRefIdeal.main_arg3) = m' ((c.tc : Thread Cert.DkvRefIdeal.nD Cert.DkvRefIdeal.τ).loc Cert.DkvRefIdeal.main_arg3)
          ∧ r.2.mem ((c.tc : Thread Cert.DkvRefIdeal.nD Cert.DkvRefIdeal.τ).loc Cert.DkvRefIdeal.main_arg4) = m' ((c.tc : Thread Cert.DkvRefIdeal.nD Cert.DkvRefIdeal.τ).loc Cert.DkvRefIdeal.main_arg4))

def Claim : Prop :=
  ∃ (hKernel : Cert.Kernel.Facts) (hKernelIdeal : Cert.KernelIdeal.Facts) (hReferenceIdeal : Cert.ReferenceIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hInDx : Cert.InDx.Facts) (hInDxIdeal : Cert.InDxIdeal.Facts) (hInDxRefIdeal : Cert.InDxRefIdeal.Facts) (hInDw : Cert.InDw.Facts) (hInDwIdeal : Cert.InDwIdeal.Facts) (hInDwRefIdeal : Cert.InDwRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hIn : Cert.In.Facts) (hInIdeal : Cert.InIdeal.Facts) (hInRefIdeal : Cert.InRefIdeal.Facts) (hOut : Cert.Out.Facts) (hOutIdeal : Cert.OutIdeal.Facts) (hOutRefIdeal : Cert.OutRefIdeal.Facts) (hDkv : Cert.Dkv.Facts) (hDkvIdeal : Cert.DkvIdeal.Facts) (hDkvRefIdeal : Cert.DkvRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_In (hIn := hIn)
    ∧ quiescent_InIdeal (hInIdeal := hInIdeal)
    ∧ quiescent_InRefIdeal (hInRefIdeal := hInRefIdeal)
    ∧ quiescent_Out (hOut := hOut)
    ∧ quiescent_OutIdeal (hOutIdeal := hOutIdeal)
    ∧ quiescent_OutRefIdeal (hOutRefIdeal := hOutRefIdeal)
    ∧ quiescent_Dkv (hDkv := hDkv)
    ∧ quiescent_DkvIdeal (hDkvIdeal := hDkvIdeal)
    ∧ quiescent_DkvIdeal_pre_finite (hDkvIdeal := hDkvIdeal) (hPre_finite := hPre_finite)
    ∧ quiescent_DkvRefIdeal (hDkvRefIdeal := hDkvRefIdeal)
    ∧ quiescent_DkvRefIdeal_pre_finite (hDkvRefIdeal := hDkvRefIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_InDx_InDxIdeal
    ∧ algebraic_InDxIdeal_InDxRefIdeal (hInDxIdeal := hInDxIdeal) (hInDxRefIdeal := hInDxRefIdeal)
    ∧ preserves_InDw_InDwIdeal
    ∧ algebraic_InDwIdeal_InDwRefIdeal (hInDwIdeal := hInDwIdeal) (hInDwRefIdeal := hInDwRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_In_InIdeal
    ∧ algebraic_InIdeal_InRefIdeal (hInIdeal := hInIdeal) (hInRefIdeal := hInRefIdeal)
    ∧ preserves_Out_OutIdeal
    ∧ algebraic_OutIdeal_OutRefIdeal (hOutIdeal := hOutIdeal) (hOutRefIdeal := hOutRefIdeal)
    ∧ preserves_Dkv_DkvIdeal
    ∧ algebraic_DkvIdeal_DkvRefIdeal_pre_finite (hDkvIdeal := hDkvIdeal) (hDkvRefIdeal := hDkvRefIdeal) (hPre_finite := hPre_finite)
-- ==== Pre_finite.lean ====
abbrev S8192x512 : Shape := ⟨2, ![8192, 512]⟩
abbrev S8192x4 : Shape := ⟨2, ![8192, 4]⟩
abbrev S_ : Shape := ⟨0, ![]⟩

class Facts : Prop where
  bcast_S_S8192x512 : S_.BroadcastsInDim S8192x512 (![] : Fin 0 → Fin S8192x512.rank)
  bcast_S_S8192x4 : S_.BroadcastsInDim S8192x4 (![] : Fin 0 → Fin S8192x4.rank)

variable [Facts]

def fn {F : FTy → Type} [FloatOps F] (main_arg0 : FVec F S8192x512 .f32) (main_arg1 : FVec F S8192x512 .f32) (main_arg2 : FVec F S8192x512 .f32) (main_arg3 : FVec F S8192x4 .f32) (main_arg4 : FVec F S8192x512 .f32) : IVec S8192x512 1 × IVec S8192x512 1 × IVec S8192x512 1 × IVec S8192x4 1 × IVec S8192x512 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x512 .f32 := Host.absf main_arg1
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S8192x4 .f32 := Host.absf main_arg3
  let main_cst_2 : FVec F S_ .f32 := constant S_ .f32 0x7F800000#32
  let main_v10 : FVec F S8192x4 .f32 := broadcastInDim S8192x4 ![] bcast_S_S8192x4 main_cst_2
  let main_v11 : IVec S8192x4 1 := cmpf .olt main_v9 main_v10
  let main_v12 : FVec F S8192x512 .f32 := Host.absf main_arg4
  let main_cst_3 : FVec F S_ .f32 := constant S_ .f32 0x7F800000#32
  let main_v13 : FVec F S8192x512 .f32 := broadcastInDim S8192x512 ![] bcast_S_S8192x512 main_cst_3
  let main_v14 : IVec S8192x512 1 := cmpf .olt main_v12 main_v13
  (main_v2, main_v5, main_v8, main_v11, main_v14)
-- ==== Kernel.lean ====
abbrev S8192x512 : Shape := ⟨2, ![8192, 512]⟩
abbrev S8192x4 : Shape := ⟨2, ![8192, 4]⟩
abbrev S5x36 : Shape := ⟨2, ![5, 36]⟩
abbrev S8192 : Shape := ⟨1, ![8192]⟩
abbrev S8192x4x128 : Shape := ⟨3, ![8192, 4, 128]⟩
abbrev S4x8192x128 : Shape := ⟨3, ![4, 8192, 128]⟩
abbrev S_ : Shape := ⟨0, ![]⟩
abbrev S4x8192x8192 : Shape := ⟨3, ![4, 8192, 8192]⟩
abbrev S4x8192 : Shape := ⟨2, ![4, 8192]⟩
abbrev S4x1x8192 : Shape := ⟨3, ![4, 1, 8192]⟩
abbrev S1x8192 : Shape := ⟨2, ![1, 8192]⟩
abbrev S8192x1 : Shape := ⟨2, ![8192, 1]⟩
abbrev S8192x8192 : Shape := ⟨2, ![8192, 8192]⟩
abbrev S4x8192x1 : Shape := ⟨3, ![4, 8192, 1]⟩
abbrev S1024x128 : Shape := ⟨2, ![1024, 128]⟩
abbrev S1x1 : Shape := ⟨2, ![1, 1]⟩
abbrev S1x1024x128 : Shape := ⟨3, ![1, 1024, 128]⟩
abbrev S1x1x1024 : Shape := ⟨3, ![1, 1, 1024]⟩
abbrev S128x1024 : Shape := ⟨2, ![128, 1024]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 53
  | .vmem => 21
  | .smem => 1
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x4, .f32⟩
  | .hbm, ⟨4, _⟩ => ⟨S8192x512, .f32⟩
  | .hbm, ⟨5, _⟩ => ⟨S8192, .i32⟩
  | .hbm, ⟨6, _⟩ => ⟨S8192x4x128, .f32⟩
  | .hbm, ⟨7, _⟩ => ⟨S4x8192x128, .f32⟩
  | .hbm, ⟨8, _⟩ => ⟨S_, .f32⟩
  | .hbm, ⟨9, _⟩ => ⟨S4x8192x128, .f32⟩
  | .hbm, ⟨10, _⟩ => ⟨S4x8192x128, .f32⟩
  | .hbm, ⟨11, _⟩ => ⟨S8192x4x128, .f32⟩
  | .hbm, ⟨12, _⟩ => ⟨S4x8192x128, .f32⟩
  | .hbm, ⟨13, _⟩ => ⟨S4x8192x8192, .f32⟩
  | .hbm, ⟨14, _⟩ => ⟨S4x8192, .f32⟩
  | .hbm, ⟨15, _⟩ => ⟨S4x1x8192, .f32⟩
  | .hbm, ⟨16, _⟩ => ⟨S4x8192x8192, .f32⟩
  | .hbm, ⟨17, _⟩ => ⟨S4x8192x8192, .f32⟩
  | .hbm, ⟨18, _⟩ => ⟨S1x8192, .i32⟩
  | .hbm, ⟨19, _⟩ => ⟨S8192x1, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S_, .f32⟩
  | .hbm, ⟨24, _⟩ => ⟨S_, .f32⟩
  | .hbm, ⟨25, _⟩ => ⟨S4x8192x8192, .i1⟩
  | .hbm, ⟨26, _⟩ => ⟨S4x8192x8192, .f32⟩
  | .hbm, ⟨27, _⟩ => ⟨S4x8192x8192, .f32⟩
  | .hbm, ⟨28, _⟩ => ⟨S_, .f32⟩
  | .hbm, ⟨29, _⟩ => ⟨S4x8192, .f32⟩
  | .hbm, ⟨30, _⟩ => ⟨S4x8192x1, .f32⟩
  | .hbm, ⟨31, _⟩ => ⟨S4x8192x8192, .f32⟩
  | .hbm, ⟨32, _⟩ => ⟨S4x8192x8192, .f32⟩
  | .hbm, ⟨33, _⟩ => ⟨S4x8192x8192, .f32⟩
  | .hbm, ⟨34, _⟩ => ⟨S_, .f32⟩
  | .hbm, ⟨35, _⟩ => ⟨S4x8192, .f32⟩
  | .hbm, ⟨36, _⟩ => ⟨S4x8192x1, .f32⟩
  | .hbm, ⟨37, _⟩ => ⟨S4x8192x8192, .f32⟩
  | .hbm, ⟨38, _⟩ => ⟨S4x8192x8192, .f32⟩
  | .hbm, ⟨39, _⟩ => ⟨S8192x4x128, .f32⟩
  | .hbm, ⟨40, _⟩ => ⟨S4x8192x128, .f32⟩
  | .hbm, ⟨41, _⟩ => ⟨S4x8192x128, .f32⟩
  | .hbm, ⟨42, _⟩ => ⟨S8192x4x128, .f32⟩
  | .hbm, ⟨43, _⟩ => ⟨S8192x512, .f32⟩
  | .hbm, ⟨44, _⟩ => ⟨S4x8192x1, .f32⟩
  | .hbm, ⟨45, _⟩ => ⟨S4x8192x1, .f32⟩
  | .hbm, ⟨46, _⟩ => ⟨S4x1x8192, .f32⟩
  | .hbm, ⟨47, _⟩ => ⟨S4x8192, .f32⟩
  | .hbm, ⟨48, _⟩ => ⟨S4x8192, .f32⟩
  | .hbm, ⟨49, _⟩ => ⟨S4x8192x1, .f32⟩
  | .hbm, ⟨50, _⟩ => ⟨S4x8192x128, .f32⟩
  | .hbm, ⟨51, _⟩ => ⟨S8192x512, .bf16⟩
  | .hbm, ⟨52, _⟩ => ⟨S4x1x8192, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1x1024x128, .f32⟩
  | .local _ .vmem, ⟨5, _⟩ => ⟨S1x1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1x1x1024, .f32⟩
  | .local _ .vmem, ⟨13, _⟩ => ⟨S1x1x1024, .f32⟩
  | .local _ .vmem, ⟨14, _⟩ => ⟨S1024x128, .bf16⟩
  | .local _ .vmem, ⟨15, _⟩ => ⟨S1024x128, .bf16⟩
  | .local _ .vmem, ⟨16, _⟩ => ⟨S1x1x1024, .f32⟩
  | .local _ .vmem, ⟨17, _⟩ => ⟨S1x1x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .smem, ⟨0, _⟩ => ⟨S5x36, .i32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39_0 : Ref sig .tc := ⟨.hbm, 51, rfl⟩
abbrev main_v39_1 : Ref sig .tc := ⟨.hbm, 52, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 36], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c0 : Index := 0#32
  let arg1 : BitVec 32 := BitVec.ofNat 32 (i 1).val
  let v0 : Index := Scalar.indexCast arg1
  ![0, v0.toNat]
def k0_off2 (i : grid0.Coords) : Fin 2 → Nat :=
  let c1 : Index := 1#32
  let arg1 : BitVec 32 := BitVec.ofNat 32 (i 1).val
  let v0 : Index := Scalar.indexCast arg1
  ![1, v0.toNat]
def k0_off3 (i : grid0.Coords) : Fin 2 → Nat :=
  let c2 : Index := 2#32
  let arg1 : BitVec 32 := BitVec.ofNat 32 (i 1).val
  let v0 : Index := Scalar.indexCast arg1
  ![2, v0.toNat]
def k0_off4 (i : grid0.Coords) : Fin 2 → Nat :=
  let c3 : Index := 3#32
  let arg1 : BitVec 32 := BitVec.ofNat 32 (i 1).val
  let v3 : Index := Scalar.indexCast arg1
  ![3, v3.toNat]
def k0_cond4 (v4 : BitVec 32) : BitVec 1 :=
  let c1_i32_0 : BitVec 32 := 1#32
  let v5 : BitVec 1 := Scalar.cmpi .eq v4 c1_i32_0
  let v18 : BitVec 32 := Scalar.extui v5
  let c0_i32_3 : BitVec 32 := 0#32
  let v19 : BitVec 1 := Scalar.cmpi .ne v18 c0_i32_3
  v19

def k0_cond1 (v1 : BitVec 32) : BitVec 1 :=
  let c1_i32 : BitVec 32 := 1#32
  let v2 : BitVec 1 := Scalar.cmpi .eq v1 c1_i32
  let v11 : BitVec 32 := Scalar.extui v2
  let c0_i32 : BitVec 32 := 0#32
  let v12 : BitVec 1 := Scalar.cmpi .ne v11 c0_i32
  v12

def k0_cond2 (v7 : BitVec 32) (v9 : BitVec 32) : BitVec 1 :=
  let v10 : BitVec 1 := Scalar.cmpi .eq v7 v9
  let v_true : BitVec 1 := 1#1
  let v13 : BitVec 1 := Scalar.xori v10 v_true
  let v14 : BitVec 32 := Scalar.extui v13
  let c0_i32_1 : BitVec 32 := 0#32
  let v15 : BitVec 1 := Scalar.cmpi .ne v14 c0_i32_1
  v15

def k0_cond3 (v7 : BitVec 32) (v9 : BitVec 32) : BitVec 1 :=
  let v10 : BitVec 1 := Scalar.cmpi .eq v7 v9
  let v16 : BitVec 32 := Scalar.extui v10
  let c0_i32_2 : BitVec 32 := 0#32
  let v17 : BitVec 1 := Scalar.cmpi .ne v16 c0_i32_2
  v17

def cc0_transform_0 (k0_off1_inb : ∀ i : grid0.Coords, ∀ a, (k0_off1 i) a + S1x1.size a ≤ S5x36.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : Index := Scalar.indexCast arg1
  let v1 : BitVec 32 := pf.at 0 (Rect.unit (s := S5x36) ![0, v0.toNat] S1x1.size (k0_off1_inb i)) numel1_S1x1
  let c0_i32 : BitVec 32 := 0#32
  ![v1.toNat, arg0.toNat]

def cc0_transform_1 (k0_off2_inb : ∀ i : grid0.Coords, ∀ a, (k0_off2 i) a + S1x1.size a ≤ S5x36.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c1 : Index := 1#32
  let v0 : Index := Scalar.indexCast arg1
  let v1 : BitVec 32 := pf.at 0 (Rect.unit (s := S5x36) ![1, v0.toNat] S1x1.size (k0_off2_inb i)) numel1_S1x1
  let c0_i32 : BitVec 32 := 0#32
  ![v1.toNat, arg0.toNat]

def cc0_transform_2 (k0_off2_inb : ∀ i : grid0.Coords, ∀ a, (k0_off2 i) a + S1x1.size a ≤ S5x36.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : Index := Scalar.indexCast arg1
  let v1 : BitVec 32 := pf.at 0 (Rect.unit (s := S5x36) ![1, v0.toNat] S1x1.size (k0_off2_inb i)) numel1_S1x1
  let c0_i32 : BitVec 32 := 0#32
  let c0_i32_0 : BitVec 32 := 0#32
  ![arg0.toNat, v1.toNat, c0_i32.toNat]

def cc0_transform_3 (k0_off2_inb : ∀ i : grid0.Coords, ∀ a, (k0_off2 i) a + S1x1.size a ≤ S5x36.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c1 : Index := 1#32
  let v0 : Index := Scalar.indexCast arg1
  let v1 : BitVec 32 := pf.at 0 (Rect.unit (s := S5x36) ![1, v0.toNat] S1x1.size (k0_off2_inb i)) numel1_S1x1
  let c0_i32 : BitVec 32 := 0#32
  ![v1.toNat, arg0.toNat]

def cc0_transform_4 (k0_off1_inb : ∀ i : grid0.Coords, ∀ a, (k0_off1 i) a + S1x1.size a ≤ S5x36.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : Index := Scalar.indexCast arg1
  let v1 : BitVec 32 := pf.at 0 (Rect.unit (s := S5x36) ![0, v0.toNat] S1x1.size (k0_off1_inb i)) numel1_S1x1
  let c0_i32 : BitVec 32 := 0#32
  ![v1.toNat, arg0.toNat]

def cc0_transform_5 (k0_off1_inb : ∀ i : grid0.Coords, ∀ a, (k0_off1 i) a + S1x1.size a ≤ S5x36.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : Index := Scalar.indexCast arg1
  let v1 : BitVec 32 := pf.at 0 (Rect.unit (s := S5x36) ![0, v0.toNat] S1x1.size (k0_off1_inb i)) numel1_S1x1
  let c0_i32 : BitVec 32 := 0#32
  ![v1.toNat, arg0.toNat]

def cc0_transform_6 (k0_off1_inb : ∀ i : grid0.Coords, ∀ a, (k0_off1 i) a + S1x1.size a ≤ S5x36.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : Index := Scalar.indexCast arg1
  let v1 : BitVec 32 := pf.at 0 (Rect.unit (s := S5x36) ![0, v0.toNat] S1x1.size (k0_off1_inb i)) numel1_S1x1
  let c0_i32 : BitVec 32 := 0#32
  let c0_i32_0 : BitVec 32 := 0#32
  ![arg0.toNat, c0_i32.toNat, v1.toNat]

def cc0_transform_7 (k0_off1_inb : ∀ i : grid0.Coords, ∀ a, (k0_off1 i) a + S1x1.size a ≤ S5x36.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : Index := Scalar.indexCast arg1
  let v1 : BitVec 32 := pf.at 0 (Rect.unit (s := S5x36) ![0, v0.toNat] S1x1.size (k0_off1_inb i)) numel1_S1x1
  let c0_i32 : BitVec 32 := 0#32
  ![v1.toNat, arg0.toNat]

def cc0_transform_8 (k0_off1_inb : ∀ i : grid0.Coords, ∀ a, (k0_off1 i) a + S1x1.size a ≤ S5x36.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : Index := Scalar.indexCast arg1
  let v1 : BitVec 32 := pf.at 0 (Rect.unit (s := S5x36) ![0, v0.toNat] S1x1.size (k0_off1_inb i)) numel1_S1x1
  let c0_i32 : BitVec 32 := 0#32
  let c0_i32_0 : BitVec 32 := 0#32
  ![arg0.toNat, c0_i32.toNat, v1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x512 : Shape := ⟨2, ![8192, 512]⟩
abbrev S8192x4 : Shape := ⟨2, ![8192, 4]⟩
abbrev S8192x4x128 : Shape := ⟨3, ![8192, 4, 128]⟩
abbrev S4x8192x128 : Shape := ⟨3, ![4, 8192, 128]⟩
abbrev S8192 : Shape := ⟨1, ![8192]⟩
abbrev S_ : Shape := ⟨0, ![]⟩
abbrev S4x8192x8192 : Shape := ⟨3, ![4, 8192, 8192]⟩
abbrev S4x8192 : Shape := ⟨2, ![4, 8192]⟩
abbrev S4x8192x1 : Shape := ⟨3, ![4, 8192, 1]⟩
abbrev S4x1x8192 : Shape := ⟨3, ![4, 1, 8192]⟩
abbrev S1x8192 : Shape := ⟨2, ![1, 8192]⟩
abbrev S8192x1 : Shape := ⟨2, ![8192, 1]⟩
abbrev S8192x8192 : Shape := ⟨2, ![8192, 8192]⟩
abbrev S4x128x8192 : Shape := ⟨3, ![4, 128, 8192]⟩

abbrev nBuf : Space → Nat
  | .hbm => 125
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x4, .f32⟩
  | .hbm, ⟨4, _⟩ => ⟨S8192x512, .f32⟩
  | .hbm, ⟨5, _⟩ => ⟨S8192x4x128, .f32⟩
  | .hbm, ⟨6, _⟩ => ⟨S4x8192x128, .f32⟩
  | .hbm, ⟨7, _⟩ => ⟨S8192x4x128, .f32⟩
  | .hbm, ⟨8, _⟩ => ⟨S4x8192x128, .f32⟩
  | .hbm, ⟨9, _⟩ => ⟨S8192x4x128, .f32⟩
  | .hbm, ⟨10, _⟩ => ⟨S4x8192x128, .f32⟩
  | .hbm, ⟨11, _⟩ => ⟨S8192, .i32⟩
  | .hbm, ⟨12, _⟩ => ⟨S_, .f32⟩
  | .hbm, ⟨13, _⟩ => ⟨S4x8192x128, .f32⟩
  | .hbm, ⟨14, _⟩ => ⟨S4x8192x128, .f32⟩
  | .hbm, ⟨15, _⟩ => ⟨S4x8192x8192, .f32⟩
  | .hbm, ⟨16, _⟩ => ⟨S4x8192, .f32⟩
  | .hbm, ⟨17, _⟩ => ⟨S4x8192x1, .f32⟩
  | .hbm, ⟨18, _⟩ => ⟨S4x8192x8192, .f32⟩
  | .hbm, ⟨19, _⟩ => ⟨S4x8192x8192, .f32⟩
  | .hbm, ⟨20, _⟩ => ⟨S4x8192, .f32⟩
  | .hbm, ⟨21, _⟩ => ⟨S4x1x8192, .f32⟩
  | .hbm, ⟨22, _⟩ => ⟨S4x8192x8192, .f32⟩
  | .hbm, ⟨23, _⟩ => ⟨S4x8192x8192, .f32⟩
  | .hbm, ⟨24, _⟩ => ⟨S1x8192, .i32⟩
  | .hbm, ⟨25, _⟩ => ⟨S8192x1, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S_, .f32⟩
  | .hbm, ⟨30, _⟩ => ⟨S_, .f32⟩
  | .hbm, ⟨31, _⟩ => ⟨S4x8192x8192, .i1⟩
  | .hbm, ⟨32, _⟩ => ⟨S4x8192x8192, .f32⟩
  | .hbm, ⟨33, _⟩ => ⟨S4x8192x8192, .f32⟩
  | .hbm, ⟨34, _⟩ => ⟨S_, .f32⟩
  | .hbm, ⟨35, _⟩ => ⟨S4x8192x8192, .f32⟩
  | .hbm, ⟨36, _⟩ => ⟨S_, .f32⟩
  | .hbm, ⟨37, _⟩ => ⟨S4x8192, .f32⟩
  | .hbm, ⟨38, _⟩ => ⟨S4x8192x1, .f32⟩
  | .hbm, ⟨39, _⟩ => ⟨S4x8192x8192, .f32⟩
  | .hbm, ⟨40, _⟩ => ⟨S4x8192x8192, .i1⟩
  | .hbm, ⟨41, _⟩ => ⟨S4x8192x8192, .f32⟩
  | .hbm, ⟨42, _⟩ => ⟨S_, .f32⟩
  | .hbm, ⟨43, _⟩ => ⟨S4x8192, .f32⟩
  | .hbm, ⟨44, _⟩ => ⟨S_, .f32⟩
  | .hbm, ⟨45, _⟩ => ⟨S4x8192, .f32⟩
  | .hbm, ⟨46, _⟩ => ⟨S4x8192, .f32⟩
  | .hbm, ⟨47, _⟩ => ⟨S_, .f32⟩
  | .hbm, ⟨48, _⟩ => ⟨S4x8192, .f32⟩
  | .hbm, ⟨49, _⟩ => ⟨S4x8192, .i1⟩
  | .hbm, ⟨50, _⟩ => ⟨S_, .f32⟩
  | .hbm, ⟨51, _⟩ => ⟨S4x8192, .f32⟩
  | .hbm, ⟨52, _⟩ => ⟨S4x8192, .i1⟩
  | .hbm, ⟨53, _⟩ => ⟨S_, .f32⟩
  | .hbm, ⟨54, _⟩ => ⟨S4x8192, .f32⟩
  | .hbm, ⟨55, _⟩ => ⟨S_, .f32⟩
  | .hbm, ⟨56, _⟩ => ⟨S4x8192, .f32⟩
  | .hbm, ⟨57, _⟩ => ⟨S_, .f32⟩
  | .hbm, ⟨58, _⟩ => ⟨S4x8192, .f32⟩
  | .hbm, ⟨59, _⟩ => ⟨S4x8192, .f32⟩
  | .hbm, ⟨60, _⟩ => ⟨S4x8192, .f32⟩
  | .hbm, ⟨61, _⟩ => ⟨S4x8192x1, .f32⟩
  | .hbm, ⟨62, _⟩ => ⟨S4x8192x8192, .f32⟩
  | .hbm, ⟨63, _⟩ => ⟨S4x8192x8192, .f32⟩
  | .hbm, ⟨64, _⟩ => ⟨S4x8192x8192, .f32⟩
  | .hbm, ⟨65, _⟩ => ⟨S_, .f32⟩
  | .hbm, ⟨66, _⟩ => ⟨S4x8192, .f32⟩
  | .hbm, ⟨67, _⟩ => ⟨S4x8192x1, .f32⟩
  | .hbm, ⟨68, _⟩ => ⟨S4x8192x8192, .f32⟩
  | .hbm, ⟨69, _⟩ => ⟨S4x8192x8192, .f32⟩
  | .hbm, ⟨70, _⟩ => ⟨S4x8192x1, .f32⟩
  | .hbm, ⟨71, _⟩ => ⟨S_, .f32⟩
  | .hbm, ⟨72, _⟩ => ⟨S4x8192x1, .f32⟩
  | .hbm, ⟨73, _⟩ => ⟨S4x8192x1, .f32⟩
  | .hbm, ⟨74, _⟩ => ⟨S4x8192x128, .f32⟩
  | .hbm, ⟨75, _⟩ => ⟨S8192x4x128, .f32⟩
  | .hbm, ⟨76, _⟩ => ⟨S8192x512, .f32⟩
  | .hbm, ⟨77, _⟩ => ⟨S8192x4x128, .f32⟩
  | .hbm, ⟨78, _⟩ => ⟨S4x8192x128, .f32⟩
  | .hbm, ⟨79, _⟩ => ⟨S4x128x8192, .f32⟩
  | .hbm, ⟨80, _⟩ => ⟨S4x8192x128, .f32⟩
  | .hbm, ⟨81, _⟩ => ⟨S4x8192x8192, .f32⟩
  | .hbm, ⟨82, _⟩ => ⟨S4x8192x8192, .f32⟩
  | .hbm, ⟨83, _⟩ => ⟨S4x8192x8192, .f32⟩
  | .hbm, ⟨84, _⟩ => ⟨S4x8192x8192, .f32⟩
  | .hbm, ⟨85, _⟩ => ⟨S_, .f32⟩
  | .hbm, ⟨86, _⟩ => ⟨S4x8192, .f32⟩
  | .hbm, ⟨87, _⟩ => ⟨S4x8192x1, .f32⟩
  | .hbm, ⟨88, _⟩ => ⟨S4x8192x1, .f32⟩
  | .hbm, ⟨89, _⟩ => ⟨S4x8192x8192, .f32⟩
  | .hbm, ⟨90, _⟩ => ⟨S4x8192x8192, .f32⟩
  | .hbm, ⟨91, _⟩ => ⟨S_, .f32⟩
  | .hbm, ⟨92, _⟩ => ⟨S4x8192, .f32⟩
  | .hbm, ⟨93, _⟩ => ⟨S4x8192x8192, .f32⟩
  | .hbm, ⟨94, _⟩ => ⟨S4x8192x8192, .f32⟩
  | .hbm, ⟨95, _⟩ => ⟨S4x8192x8192, .f32⟩
  | .hbm, ⟨96, _⟩ => ⟨S_, .f32⟩
  | .hbm, ⟨97, _⟩ => ⟨S4x8192x8192, .f32⟩
  | .hbm, ⟨98, _⟩ => ⟨S4x8192x8192, .f32⟩
  | .hbm, ⟨99, _⟩ => ⟨S4x8192x8192, .f32⟩
  | .hbm, ⟨100, _⟩ => ⟨S_, .f32⟩
  | .hbm, ⟨101, _⟩ => ⟨S4x8192, .f32⟩
  | .hbm, ⟨102, _⟩ => ⟨S4x1x8192, .f32⟩
  | .hbm, ⟨103, _⟩ => ⟨S_, .f32⟩
  | .hbm, ⟨104, _⟩ => ⟨S4x8192, .f32⟩
  | .hbm, ⟨105, _⟩ => ⟨S8192x4, .f32⟩
  | .hbm, ⟨106, _⟩ => ⟨S_, .f32⟩
  | .hbm, ⟨107, _⟩ => ⟨S4x8192, .f32⟩
  | .hbm, ⟨108, _⟩ => ⟨S4x8192x1, .f32⟩
  | .hbm, ⟨109, _⟩ => ⟨S_, .f32⟩
  | .hbm, ⟨110, _⟩ => ⟨S4x8192, .f32⟩
  | .hbm, ⟨111, _⟩ => ⟨S8192x4, .f32⟩
  | .hbm, ⟨112, _⟩ => ⟨S8192x4, .f32⟩
  | .hbm, ⟨113, _⟩ => ⟨S4x8192x128, .f32⟩
  | .hbm, ⟨114, _⟩ => ⟨S4x8192x128, .f32⟩
  | .hbm, ⟨115, _⟩ => ⟨S_, .f32⟩
  | .hbm, ⟨116, _⟩ => ⟨S4x8192x128, .f32⟩
  | .hbm, ⟨117, _⟩ => ⟨S4x8192x128, .f32⟩
  | .hbm, ⟨118, _⟩ => ⟨S8192x4x128, .f32⟩
  | .hbm, ⟨119, _⟩ => ⟨S8192x512, .f32⟩
  | .hbm, ⟨120, _⟩ => ⟨S8192x4x128, .f32⟩
  | .hbm, ⟨121, _⟩ => ⟨S8192x512, .f32⟩
  | .hbm, ⟨122, _⟩ => ⟨S8192x4x128, .f32⟩
  | .hbm, ⟨123, _⟩ => ⟨S8192x512, .f32⟩
  | .hbm, ⟨124, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_call0_v0 : Ref sig .tc := ⟨.hbm, 30, rfl⟩
abbrev main_v23_1 : Ref sig .tc := ⟨.hbm, 31, rfl⟩
abbrev main_call0_v2 : Ref sig .tc := ⟨.hbm, 32, rfl⟩
abbrev main_v23_0 : Ref sig .tc := ⟨.hbm, 33, rfl⟩
abbrev main_call0_cst : Ref sig .tc := ⟨.hbm, 34, rfl⟩
abbrev main_v23_2 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_12 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_call1_cst : Ref sig .tc := ⟨.hbm, 96, rfl⟩
abbrev main_call1_v0 : Ref sig .tc := ⟨.hbm, 97, rfl⟩
abbrev main_v72 : Ref sig .tc := ⟨.hbm, 98, rfl⟩
abbrev main_v73 : Ref sig .tc := ⟨.hbm, 99, rfl⟩
abbrev main_cst_13 : Ref sig .tc := ⟨.hbm, 100, rfl⟩
abbrev main_v74 : Ref sig .tc := ⟨.hbm, 101, rfl⟩
abbrev main_v75 : Ref sig .tc := ⟨.hbm, 102, rfl⟩
abbrev main_cst_14 : Ref sig .tc := ⟨.hbm, 103, rfl⟩
abbrev main_v76 : Ref sig .tc := ⟨.hbm, 104, rfl⟩
abbrev main_v77 : Ref sig .tc := ⟨.hbm, 105, rfl⟩
abbrev main_cst_15 : Ref sig .tc := ⟨.hbm, 106, rfl⟩
abbrev main_v78 : Ref sig .tc := ⟨.hbm, 107, rfl⟩
abbrev main_v79 : Ref sig .tc := ⟨.hbm, 108, rfl⟩
abbrev main_cst_16 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_17 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩

abbrev nD : Nat := 1
abbrev τ : Topo := Topo.v7x

variable {F : FTy → Type} [FloatOps F]
-- ==== UpDx.lean ====
abbrev S2048x11264 : Shape := ⟨2, ![2048, 11264]⟩
abbrev S8192x5632 : Shape := ⟨2, ![8192, 5632]⟩
abbrev S8192x2048 : Shape := ⟨2, ![8192, 2048]⟩
abbrev S1024x2816 : Shape := ⟨2, ![1024, 2816]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x11264, .bf16⟩
  | .hbm, ⟨1, _⟩ => ⟨S8192x5632, .bf16⟩
  | .hbm, ⟨2, _⟩ => ⟨S8192x5632, .bf16⟩
  | .hbm, ⟨3, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .bf16⟩
  | .local _ .vmem, ⟨5, _⟩ => ⟨S1024x2816, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond4 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let v1 : BitVec 32 := Scalar.maxsi v0 c0_i32
  let c0_i32_0 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpDxRefIdeal.lean ====
abbrev S2048x11264 : Shape := ⟨2, ![2048, 11264]⟩
abbrev S8192x5632 : Shape := ⟨2, ![8192, 5632]⟩
abbrev S8192x11264 : Shape := ⟨2, ![8192, 11264]⟩
abbrev S_ : Shape := ⟨0, ![]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S8192x5632, .bf16⟩
  | .hbm, ⟨2, _⟩ => ⟨S8192x5632, .bf16⟩
  | .hbm, ⟨3, _⟩ => ⟨S8192x11264, .bf16⟩
  | .hbm, ⟨4, _⟩ => ⟨S2048x11264, .f32⟩
  | .hbm, ⟨5, _⟩ => ⟨S8192x11264, .f32⟩
  | .hbm, ⟨6, _⟩ => ⟨S_, .f32⟩
  | .hbm, ⟨7, _⟩ => ⟨S8192x2048, .f32⟩
  | .hbm, ⟨8, _⟩ => ⟨S8192x11264, .f32⟩
  | .hbm, ⟨9, _⟩ => ⟨S8192x2048, .f32⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== UpDw.lean ====
abbrev S8192x2048 : Shape := ⟨2, ![8192, 2048]⟩
abbrev S8192x5632 : Shape := ⟨2, ![8192, 5632]⟩
abbrev S2048x11264 : Shape := ⟨2, ![2048, 11264]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S8192x5632, .bf16⟩
  | .hbm, ⟨3, _⟩ => ⟨S2048x11264, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 4], ![false, false, false]⟩

def k0_cond4 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.minsi arg1 c3_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  ![arg2.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpDwRefIdeal.lean ====
abbrev S8192x2048 : Shape := ⟨2, ![8192, 2048]⟩
abbrev S8192x5632 : Shape := ⟨2, ![8192, 5632]⟩
abbrev S8192x11264 : Shape := ⟨2, ![8192, 11264]⟩
abbrev S_ : Shape := ⟨0, ![]⟩
abbrev S2048x11264 : Shape := ⟨2, ![2048, 11264]⟩
abbrev S11264x2048 : Shape := ⟨2, ![11264, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S8192x5632, .bf16⟩
  | .hbm, ⟨3, _⟩ => ⟨S8192x11264, .bf16⟩
  | .hbm, ⟨4, _⟩ => ⟨S8192x2048, .f32⟩
  | .hbm, ⟨5, _⟩ => ⟨S8192x11264, .f32⟩
  | .hbm, ⟨6, _⟩ => ⟨S_, .f32⟩
  | .hbm, ⟨7, _⟩ => ⟨S2048x11264, .f32⟩
  | .hbm, ⟨8, _⟩ => ⟨S8192x11264, .f32⟩
  | .hbm, ⟨9, _⟩ => ⟨S11264x2048, .f32⟩
  | .hbm, ⟨10, _⟩ => ⟨S2048x11264, .f32⟩
  | .hbm, ⟨11, _⟩ => ⟨S2048x11264, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== DownDx.lean ====
abbrev S5632x2048 : Shape := ⟨2, ![5632, 2048]⟩
abbrev S8192x2048 : Shape := ⟨2, ![8192, 2048]⟩
abbrev S8192x5632 : Shape := ⟨2, ![8192, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S5632x2048, .bf16⟩
  | .hbm, ⟨1, _⟩ => ⟨S8192x2048, .bf16⟩
  | .hbm, ⟨2, _⟩ => ⟨S8192x5632, .f32⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S5632x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S5632x2048 : Shape := ⟨2, ![5632, 2048]⟩
abbrev S8192x2048 : Shape := ⟨2, ![8192, 2048]⟩
abbrev S_ : Shape := ⟨0, ![]⟩
abbrev S8192x5632 : Shape := ⟨2, ![8192, 5632]⟩

abbrev nBuf : Space → Nat
  | .hbm => 8
  | .vmem => 0
  | .smem => 0
  | _ => 0

abbrev bufTy : (tb : Table) → Fin (tcTables nBuf tb) → BufTy
  | .hbm, ⟨0, _⟩ => ⟨S5632x2048, .bf16⟩
  | .hbm, ⟨1, _⟩ => ⟨S8192x2048, .bf16⟩
  | .hbm, ⟨2, _⟩ => ⟨S5632x2048, .f32⟩
  | .hbm, ⟨3, _⟩ => ⟨S8192x2048, .f32⟩
  | .hbm, ⟨4, _⟩ => ⟨S_, .f32⟩
  | .hbm, ⟨5, _⟩ => ⟨S8192x5632, .f32⟩
  | .hbm, ⟨6, _⟩ => ⟨S8192x2048, .f32⟩
  | .hbm, ⟨7, _⟩ => ⟨S8192x5632, .f32⟩
  | _, _ => ⟨S5632x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownDw.lean ====
abbrev S8192x5632 : Shape := ⟨2, ![8192, 5632]⟩
abbrev S8192x2048 : Shape := ⟨2, ![8192, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg1 c1_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S8192x5632, .f32⟩
  | .hbm, ⟨3, _⟩ => ⟨S8192x2048, .f32⟩
  | .hbm, ⟨4, _⟩ => ⟨S_, .f32⟩
  | .hbm, ⟨5, _⟩ => ⟨S5632x2048, .f32⟩
  | .hbm, ⟨6, _⟩ => ⟨S8192x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDx.lean ====
abbrev S2048x6272 : Shape := ⟨2, ![2048, 6272]⟩
abbrev S8192x6272 : Shape := ⟨2, ![8192, 6272]⟩
abbrev S8192x2048 : Shape := ⟨2, ![8192, 2048]⟩
abbrev S512x6272 : Shape := ⟨2, ![512, 6272]⟩
abbrev S1024x6272 : Shape := ⟨2, ![1024, 6272]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x6272, .bf16⟩
  | .hbm, ⟨1, _⟩ => ⟨S8192x6272, .bf16⟩
  | .hbm, ⟨2, _⟩ => ⟨S8192x2048, .f32⟩
  | .local _ .vmem, ⟨0, _⟩ => ⟨S512x6272, .bf16⟩
  | .local _ .vmem, ⟨1, _⟩ => ⟨S512x6272, .bf16⟩
  | .local _ .vmem, ⟨2, _⟩ => ⟨S1024x6272, .bf16⟩
  | .local _ .vmem, ⟨3, _⟩ => ⟨S1024x6272, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x6272, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x6272 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x6272 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S2048x6272 : Shape := ⟨2, ![2048, 6272]⟩
abbrev S8192x6272 : Shape := ⟨2, ![8192, 6272]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x6272, .bf16⟩
  | .hbm, ⟨1, _⟩ => ⟨S8192x6272, .bf16⟩
  | .hbm, ⟨2, _⟩ => ⟨S2048x6272, .f32⟩
  | .hbm, ⟨3, _⟩ => ⟨S8192x6272, .f32⟩
  | .hbm, ⟨4, _⟩ => ⟨S_, .f32⟩
  | .hbm, ⟨5, _⟩ => ⟨S8192x2048, .f32⟩
  | .hbm, ⟨6, _⟩ => ⟨S8192x6272, .f32⟩
  | .hbm, ⟨7, _⟩ => ⟨S8192x2048, .f32⟩
  | _, _ => ⟨S2048x6272, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InDw.lean ====
abbrev S8192x2048 : Shape := ⟨2, ![8192, 2048]⟩
abbrev S8192x6272 : Shape := ⟨2, ![8192, 6272]⟩
abbrev S2048x6272 : Shape := ⟨2, ![2048, 6272]⟩
abbrev S8192x512 : Shape := ⟨2, ![8192, 512]⟩
abbrev S8192x896 : Shape := ⟨2, ![8192, 896]⟩
abbrev S512x896 : Shape := ⟨2, ![512, 896]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x6272, .bf16⟩
  | .hbm, ⟨2, _⟩ => ⟨S2048x6272, .bf16⟩
  | .local _ .vmem, ⟨0, _⟩ => ⟨S8192x512, .bf16⟩
  | .local _ .vmem, ⟨1, _⟩ => ⟨S8192x512, .bf16⟩
  | .local _ .vmem, ⟨2, _⟩ => ⟨S8192x896, .bf16⟩
  | .local _ .vmem, ⟨3, _⟩ => ⟨S8192x896, .bf16⟩
  | .local _ .vmem, ⟨4, _⟩ => ⟨S512x896, .bf16⟩
  | .local _ .vmem, ⟨5, _⟩ => ⟨S512x896, .bf16⟩
  | .local _ .vmem, ⟨6, _⟩ => ⟨S512x896, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.minsi arg1 c6_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S8192x2048 : Shape := ⟨2, ![8192, 2048]⟩
abbrev S8192x6272 : Shape := ⟨2, ![8192, 6272]⟩
abbrev S_ : Shape := ⟨0, ![]⟩
abbrev S2048x6272 : Shape := ⟨2, ![2048, 6272]⟩
abbrev S6272x2048 : Shape := ⟨2, ![6272, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x6272, .bf16⟩
  | .hbm, ⟨2, _⟩ => ⟨S8192x2048, .f32⟩
  | .hbm, ⟨3, _⟩ => ⟨S8192x6272, .f32⟩
  | .hbm, ⟨4, _⟩ => ⟨S_, .f32⟩
  | .hbm, ⟨5, _⟩ => ⟨S2048x6272, .f32⟩
  | .hbm, ⟨6, _⟩ => ⟨S8192x6272, .f32⟩
  | .hbm, ⟨7, _⟩ => ⟨S6272x2048, .f32⟩
  | .hbm, ⟨8, _⟩ => ⟨S2048x6272, .f32⟩
  | .hbm, ⟨9, _⟩ => ⟨S2048x6272, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDx.lean ====
abbrev S2048x2048 : Shape := ⟨2, ![2048, 2048]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S8192x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S2048x2048 : Shape := ⟨2, ![2048, 2048]⟩
abbrev S8192x2048 : Shape := ⟨2, ![8192, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8192x2048, .bf16⟩
  | .hbm, ⟨2, _⟩ => ⟨S2048x2048, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDw.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg1 c1_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S2048x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Up.lean ====
abbrev S8192x2048 : Shape := ⟨2, ![8192, 2048]⟩
abbrev S2048x11264 : Shape := ⟨2, ![2048, 11264]⟩
abbrev S8192x11264 : Shape := ⟨2, ![8192, 11264]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x11264, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.minsi arg1 c10_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S8192x2048 : Shape := ⟨2, ![8192, 2048]⟩
abbrev S2048x11264 : Shape := ⟨2, ![2048, 11264]⟩
abbrev S8192x11264 : Shape := ⟨2, ![8192, 11264]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x2048, .f32⟩
  | .hbm, ⟨3, _⟩ => ⟨S2048x11264, .f32⟩
  | .hbm, ⟨4, _⟩ => ⟨S8192x11264, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Down.lean ====
abbrev S8192x5632 : Shape := ⟨2, ![8192, 5632]⟩
abbrev S5632x2048 : Shape := ⟨2, ![5632, 2048]⟩
abbrev S8192x2048 : Shape := ⟨2, ![8192, 2048]⟩
abbrev S512x5632 : Shape := ⟨2, ![512, 5632]⟩
abbrev S5632x1024 : Shape := ⟨2, ![5632, 1024]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S5632x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg1 c1_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== In.lean ====
abbrev S8192x2048 : Shape := ⟨2, ![8192, 2048]⟩
abbrev S2048x6272 : Shape := ⟨2, ![2048, 6272]⟩
abbrev S8192x6272 : Shape := ⟨2, ![8192, 6272]⟩
abbrev S1024x2048 : Shape := ⟨2, ![1024, 2048]⟩
abbrev S2048x896 : Shape := ⟨2, ![2048, 896]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x6272, .bf16⟩
  | .hbm, ⟨2, _⟩ => ⟨S8192x6272, .f32⟩
  | .local _ .vmem, ⟨0, _⟩ => ⟨S1024x2048, .bf16⟩
  | .local _ .vmem, ⟨1, _⟩ => ⟨S1024x2048, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .f32⟩
  | .local _ .vmem, ⟨5, _⟩ => ⟨S1024x896, .f32⟩
  | .local _ .vmem, ⟨6, _⟩ => ⟨S1024x896, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.minsi arg1 c6_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRefIdeal.lean ====
abbrev S8192x2048 : Shape := ⟨2, ![8192, 2048]⟩
abbrev S2048x6272 : Shape := ⟨2, ![2048, 6272]⟩
abbrev S8192x6272 : Shape := ⟨2, ![8192, 6272]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6272, .bf16⟩
  | .hbm, ⟨2, _⟩ => ⟨S8192x2048, .f32⟩
  | .hbm, ⟨3, _⟩ => ⟨S2048x6272, .f32⟩
  | .hbm, ⟨4, _⟩ => ⟨S8192x6272, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Out.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.minsi arg2 c0_i32
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg1 c1_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dkv.lean ====
abbrev S8192x512 : Shape := ⟨2, ![8192, 512]⟩
abbrev S8192x4 : Shape := ⟨2, ![8192, 4]⟩
abbrev S5x36 : Shape := ⟨2, ![5, 36]⟩
abbrev S8192 : Shape := ⟨1, ![8192]⟩
abbrev S8192x4x128 : Shape := ⟨3, ![8192, 4, 128]⟩
abbrev S4x8192x128 : Shape := ⟨3, ![4, 8192, 128]⟩
abbrev S_ : Shape := ⟨0, ![]⟩
abbrev S4x8192x8192 : Shape := ⟨3, ![4, 8192, 8192]⟩
abbrev S4x8192 : Shape := ⟨2, ![4, 8192]⟩
abbrev S4x1x8192 : Shape := ⟨3, ![4, 1, 8192]⟩
abbrev S1x8192 : Shape := ⟨2, ![1, 8192]⟩
abbrev S8192x1 : Shape := ⟨2, ![8192, 1]⟩
abbrev S8192x8192 : Shape := ⟨2, ![8192, 8192]⟩
abbrev S4x8192x1 : Shape := ⟨3, ![4, 8192, 1]⟩
abbrev S1024x128 : Shape := ⟨2, ![1024, 128]⟩
abbrev S1x1 : Shape := ⟨2, ![1, 1]⟩
abbrev S1x1024x128 : Shape := ⟨3, ![1, 1024, 128]⟩
abbrev S1x1x1024 : Shape := ⟨3, ![1, 1, 1024]⟩
abbrev S1x1024x1 : Shape := ⟨3, ![1, 1024, 1]⟩
abbrev S1024x1024 : Shape := ⟨2, ![1024, 1024]⟩
abbrev S1x1024 : Shape := ⟨2, ![1, 1024]⟩
abbrev S128x1024 : Shape := ⟨2, ![128, 1024]⟩
abbrev S1024 : Shape := ⟨1, ![1024]⟩
abbrev S1024x1 : Shape := ⟨2, ![1024, 1]⟩

abbrev nBuf : Space → Nat
  | .hbm => 62
  | .vmem => 23
  | .smem => 1
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x4, .f32⟩
  | .hbm, ⟨4, _⟩ => ⟨S8192x512, .f32⟩
  | .hbm, ⟨5, _⟩ => ⟨S8192, .i32⟩
  | .hbm, ⟨6, _⟩ => ⟨S8192x4x128, .f32⟩
  | .hbm, ⟨7, _⟩ => ⟨S4x8192x128, .f32⟩
  | .hbm, ⟨8, _⟩ => ⟨S_, .f32⟩
  | .hbm, ⟨9, _⟩ => ⟨S4x8192x128, .f32⟩
  | .hbm, ⟨10, _⟩ => ⟨S4x8192x128, .f32⟩
  | .hbm, ⟨11, _⟩ => ⟨S8192x4x128, .f32⟩
  | .hbm, ⟨12, _⟩ => ⟨S4x8192x128, .f32⟩
  | .hbm, ⟨13, _⟩ => ⟨S4x8192x8192, .f32⟩
  | .hbm, ⟨14, _⟩ => ⟨S4x8192, .f32⟩
  | .hbm, ⟨15, _⟩ => ⟨S4x1x8192, .f32⟩
  | .hbm, ⟨16, _⟩ => ⟨S4x8192x8192, .f32⟩
  | .hbm, ⟨17, _⟩ => ⟨S4x8192x8192, .f32⟩
  | .hbm, ⟨18, _⟩ => ⟨S1x8192, .i32⟩
  | .hbm, ⟨19, _⟩ => ⟨S8192x1, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S_, .f32⟩
  | .hbm, ⟨24, _⟩ => ⟨S_, .f32⟩
  | .hbm, ⟨25, _⟩ => ⟨S4x8192x8192, .i1⟩
  | .hbm, ⟨26, _⟩ => ⟨S4x8192x8192, .f32⟩
  | .hbm, ⟨27, _⟩ => ⟨S4x8192x8192, .f32⟩
  | .hbm, ⟨28, _⟩ => ⟨S_, .f32⟩
  | .hbm, ⟨29, _⟩ => ⟨S4x8192, .f32⟩
  | .hbm, ⟨30, _⟩ => ⟨S4x8192x1, .f32⟩
  | .hbm, ⟨31, _⟩ => ⟨S4x8192x8192, .f32⟩
  | .hbm, ⟨32, _⟩ => ⟨S4x8192x8192, .f32⟩
  | .hbm, ⟨33, _⟩ => ⟨S4x8192x8192, .f32⟩
  | .hbm, ⟨34, _⟩ => ⟨S_, .f32⟩
  | .hbm, ⟨35, _⟩ => ⟨S4x8192, .f32⟩
  | .hbm, ⟨36, _⟩ => ⟨S4x8192x1, .f32⟩
  | .hbm, ⟨37, _⟩ => ⟨S4x8192x8192, .f32⟩
  | .hbm, ⟨38, _⟩ => ⟨S4x8192x8192, .f32⟩
  | .hbm, ⟨39, _⟩ => ⟨S8192x4x128, .f32⟩
  | .hbm, ⟨40, _⟩ => ⟨S4x8192x128, .f32⟩
  | .hbm, ⟨41, _⟩ => ⟨S4x8192x128, .f32⟩
  | .hbm, ⟨42, _⟩ => ⟨S8192x4x128, .f32⟩
  | .hbm, ⟨43, _⟩ => ⟨S8192x512, .f32⟩
  | .hbm, ⟨44, _⟩ => ⟨S4x8192x1, .f32⟩
  | .hbm, ⟨45, _⟩ => ⟨S4x8192x1, .f32⟩
  | .hbm, ⟨46, _⟩ => ⟨S4x1x8192, .f32⟩
  | .hbm, ⟨47, _⟩ => ⟨S8192x4x128, .f32⟩
  | .hbm, ⟨48, _⟩ => ⟨S4x8192x128, .f32⟩
  | .hbm, ⟨49, _⟩ => ⟨S8192x4x128, .f32⟩
  | .hbm, ⟨50, _⟩ => ⟨S4x8192x128, .f32⟩
  | .hbm, ⟨51, _⟩ => ⟨S4x8192x128, .f32⟩
  | .hbm, ⟨52, _⟩ => ⟨S_, .f32⟩
  | .hbm, ⟨53, _⟩ => ⟨S4x8192, .f32⟩
  | .hbm, ⟨54, _⟩ => ⟨S4x1x8192, .f32⟩
  | .hbm, ⟨55, _⟩ => ⟨S4x8192, .f32⟩
  | .hbm, ⟨56, _⟩ => ⟨S4x8192, .f32⟩
  | .hbm, ⟨57, _⟩ => ⟨S4x8192x1, .f32⟩
  | .hbm, ⟨58, _⟩ => ⟨S4x8192x128, .f32⟩
  | .hbm, ⟨59, _⟩ => ⟨S8192x512, .bf16⟩
  | .hbm, ⟨60, _⟩ => ⟨S8192x512, .bf16⟩
  | .hbm, ⟨61, _⟩ => ⟨S4x8192x1, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1x1024x128, .f32⟩
  | .local _ .vmem, ⟨5, _⟩ => ⟨S1x1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1024x128, .bf16⟩
  | .local _ .vmem, ⟨15, _⟩ => ⟨S1024x128, .bf16⟩
  | .local _ .vmem, ⟨16, _⟩ => ⟨S1024x128, .bf16⟩
  | .local _ .vmem, ⟨17, _⟩ => ⟨S1024x128, .bf16⟩
  | .local _ .vmem, ⟨18, _⟩ => ⟨S1x1024x1, .f32⟩
  | .local _ .vmem, ⟨19, _⟩ => ⟨S1x1024x1, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .smem, ⟨0, _⟩ => ⟨S5x36, .i32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_3 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46_0 : Ref sig .tc := ⟨.hbm, 59, rfl⟩
abbrev main_v46_1 : Ref sig .tc := ⟨.hbm, 60, rfl⟩
abbrev main_v46_2 : Ref sig .tc := ⟨.hbm, 61, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 36], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c0 : Index := 0#32
  let arg1 : BitVec 32 := BitVec.ofNat 32 (i 1).val
  let v0 : Index := Scalar.indexCast arg1
  ![0, v0.toNat]
def k0_off2 (i : grid0.Coords) : Fin 2 → Nat :=
  let c1 : Index := 1#32
  let arg1 : BitVec 32 := BitVec.ofNat 32 (i 1).val
  let v0 : Index := Scalar.indexCast arg1
  ![1, v0.toNat]
def k0_off3 (i : grid0.Coords) : Fin 2 → Nat :=
  let c2 : Index := 2#32
  let arg1 : BitVec 32 := BitVec.ofNat 32 (i 1).val
  let v0 : Index := Scalar.indexCast arg1
  ![2, v0.toNat]
def k0_off4 (i : grid0.Coords) : Fin 2 → Nat :=
  let c3 : Index := 3#32
  let arg1 : BitVec 32 := BitVec.ofNat 32 (i 1).val
  let v3 : Index := Scalar.indexCast arg1
  ![3, v3.toNat]
def k0_cond4 (v4 : BitVec 32) : BitVec 1 :=
  let c1_i32_0 : BitVec 32 := 1#32
  let v5 : BitVec 1 := Scalar.cmpi .eq v4 c1_i32_0
  let v18 : BitVec 32 := Scalar.extui v5
  let c0_i32_3 : BitVec 32 := 0#32
  let v19 : BitVec 1 := Scalar.cmpi .ne v18 c0_i32_3
  v19

def cc0_transform_0 (k0_off1_inb : ∀ i : grid0.Coords, ∀ a, (k0_off1 i) a + S1x1.size a ≤ S5x36.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : Index := Scalar.indexCast arg1
  let v1 : BitVec 32 := pf.at 0 (Rect.unit (s := S5x36) ![0, v0.toNat] S1x1.size (k0_off1_inb i)) numel1_S1x1
  let c0_i32 : BitVec 32 := 0#32
  ![v1.toNat, arg0.toNat]

def cc0_transform_1 (k0_off2_inb : ∀ i : grid0.Coords, ∀ a, (k0_off2 i) a + S1x1.size a ≤ S5x36.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c1 : Index := 1#32
  let v0 : Index := Scalar.indexCast arg1
  let v1 : BitVec 32 := pf.at 0 (Rect.unit (s := S5x36) ![1, v0.toNat] S1x1.size (k0_off2_inb i)) numel1_S1x1
  let c0_i32 : BitVec 32 := 0#32
  ![v1.toNat, arg0.toNat]

def cc0_transform_2 (k0_off2_inb : ∀ i : grid0.Coords, ∀ a, (k0_off2 i) a + S1x1.size a ≤ S5x36.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : Index := Scalar.indexCast arg1
  let v1 : BitVec 32 := pf.at 0 (Rect.unit (s := S5x36) ![1, v0.toNat] S1x1.size (k0_off2_inb i)) numel1_S1x1
  let c0_i32 : BitVec 32 := 0#32
  let c0_i32_0 : BitVec 32 := 0#32
  ![arg0.toNat, v1.toNat, c0_i32.toNat]

def cc0_transform_3 (k0_off2_inb : ∀ i : grid0.Coords, ∀ a, (k0_off2 i) a + S1x1.size a ≤ S5x36.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c1 : Index := 1#32
  let v0 : Index := Scalar.indexCast arg1
  let v1 : BitVec 32 := pf.at 0 (Rect.unit (s := S5x36) ![1, v0.toNat] S1x1.size (k0_off2_inb i)) numel1_S1x1
  let c0_i32 : BitVec 32 := 0#32
  ![v1.toNat, arg0.toNat]

def cc0_transform_4 (k0_off1_inb : ∀ i : grid0.Coords, ∀ a, (k0_off1 i) a + S1x1.size a ≤ S5x36.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : Index := Scalar.indexCast arg1
  let v1 : BitVec 32 := pf.at 0 (Rect.unit (s := S5x36) ![0, v0.toNat] S1x1.size (k0_off1_inb i)) numel1_S1x1
  let c0_i32 : BitVec 32 := 0#32
  ![v1.toNat, arg0.toNat]

def cc0_transform_5 (k0_off1_inb : ∀ i : grid0.Coords, ∀ a, (k0_off1 i) a + S1x1.size a ≤ S5x36.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : Index := Scalar.indexCast arg1
  let v1 : BitVec 32 := pf.at 0 (Rect.unit (s := S5x36) ![0, v0.toNat] S1x1.size (k0_off1_inb i)) numel1_S1x1
  let c0_i32 : BitVec 32 := 0#32
  let c0_i32_0 : BitVec 32 := 0#32
  ![arg0.toNat, c0_i32.toNat, v1.toNat]

def cc0_transform_6 (k0_off1_inb : ∀ i : grid0.Coords, ∀ a, (k0_off1 i) a + S1x1.size a ≤ S5x36.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : Index := Scalar.indexCast arg1
  let v1 : BitVec 32 := pf.at 0 (Rect.unit (s := S5x36) ![0, v0.toNat] S1x1.size (k0_off1_inb i)) numel1_S1x1
  let c0_i32 : BitVec 32 := 0#32
  let c0_i32_0 : BitVec 32 := 0#32
  ![arg0.toNat, c0_i32.toNat, v1.toNat]

def cc0_transform_7 (k0_off2_inb : ∀ i : grid0.Coords, ∀ a, (k0_off2 i) a + S1x1.size a ≤ S5x36.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c1 : Index := 1#32
  let v0 : Index := Scalar.indexCast arg1
  let v1 : BitVec 32 := pf.at 0 (Rect.unit (s := S5x36) ![1, v0.toNat] S1x1.size (k0_off2_inb i)) numel1_S1x1
  let c0_i32 : BitVec 32 := 0#32
  ![v1.toNat, arg0.toNat]

def cc0_transform_8 (k0_off2_inb : ∀ i : grid0.Coords, ∀ a, (k0_off2 i) a + S1x1.size a ≤ S5x36.size a) (numel1_S1x1 : S1x1.numel = 1) (pf : pre0.Contents (Elt F)) (i : grid0.Coords) : Fin 2 → Nat :=
  let arg0 : BitVec 32 := BitVec.ofNat 32 (i 0).val
  let arg1 : BitVec 32 := BitVec.ofNat 32 (i 1).val
  let c1 : Index := 1#32
  let v0 : Index := Scalar.indexCast arg1
  let v1 : BitVec 32 := pf.at 0 (Rect.unit (s := S5x36) ![1, v0.toNat] S1x1.size (k0_off2_inb i)) numel1_S1x1
  let c0_i32 : BitVec 32 := 0#32
  ![v1.toNat, arg0.toNat]

def cc0_transform_9 (k0_off2_inb : ∀ i : grid0.Coords, ∀ a, (k0_off2 i) a + S1x1.size a ≤ S5x36.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : Index := Scalar.indexCast arg1
  let v1 : BitVec 32 := pf.at 0 (Rect.unit (s := S5x36) ![1, v0.toNat] S1x1.size (k0_off2_inb i)) numel1_S1x1
  let c0_i32 : BitVec 32 := 0#32
  let c0_i32_0 : BitVec 32 := 0#32
  ![arg0.toNat, v1.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== DkvIdeal.lean ====
variable {F : FTy → Type} [FloatOps F] [Named F]
def κ : String → Option EReal := fun
  | "mask" => some ⊥
  | _ => none
-- ==== DkvRefIdeal.lean ====
abbrev S8192x512 : Shape := ⟨2, ![8192, 512]⟩
abbrev S8192x4 : Shape := ⟨2, ![8192, 4]⟩
abbrev S8192x4x128 : Shape := ⟨3, ![8192, 4, 128]⟩
abbrev S4x8192x128 : Shape := ⟨3, ![4, 8192, 128]⟩
abbrev S8192 : Shape := ⟨1, ![8192]⟩
abbrev S_ : Shape := ⟨0, ![]⟩
abbrev S4x8192x8192 : Shape := ⟨3, ![4, 8192, 8192]⟩
abbrev S4x8192 : Shape := ⟨2, ![4, 8192]⟩
abbrev S4x8192x1 : Shape := ⟨3, ![4, 8192, 1]⟩
abbrev S4x1x8192 : Shape := ⟨3, ![4, 1, 8192]⟩
abbrev S1x8192 : Shape := ⟨2, ![1, 8192]⟩
abbrev S8192x1 : Shape := ⟨2, ![8192, 1]⟩
abbrev S8192x8192 : Shape := ⟨2, ![8192, 8192]⟩
abbrev S4x128x8192 : Shape := ⟨3, ![4, 128, 8192]⟩

abbrev nBuf : Space → Nat
  | .hbm => 128
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x4, .f32⟩
  | .hbm, ⟨4, _⟩ => ⟨S8192x512, .f32⟩
  | .hbm, ⟨5, _⟩ => ⟨S8192x4x128, .f32⟩
  | .hbm, ⟨6, _⟩ => ⟨S4x8192x128, .f32⟩
  | .hbm, ⟨7, _⟩ => ⟨S8192x4x128, .f32⟩
  | .hbm, ⟨8, _⟩ => ⟨S4x8192x128, .f32⟩
  | .hbm, ⟨9, _⟩ => ⟨S8192x4x128, .f32⟩
  | .hbm, ⟨10, _⟩ => ⟨S4x8192x128, .f32⟩
  | .hbm, ⟨11, _⟩ => ⟨S8192, .i32⟩
  | .hbm, ⟨12, _⟩ => ⟨S_, .f32⟩
  | .hbm, ⟨13, _⟩ => ⟨S4x8192x128, .f32⟩
  | .hbm, ⟨14, _⟩ => ⟨S4x8192x128, .f32⟩
  | .hbm, ⟨15, _⟩ => ⟨S4x8192x8192, .f32⟩
  | .hbm, ⟨16, _⟩ => ⟨S4x8192, .f32⟩
  | .hbm, ⟨17, _⟩ => ⟨S4x8192x1, .f32⟩
  | .hbm, ⟨18, _⟩ => ⟨S4x8192x8192, .f32⟩
  | .hbm, ⟨19, _⟩ => ⟨S4x8192x8192, .f32⟩
  | .hbm, ⟨20, _⟩ => ⟨S4x8192, .f32⟩
  | .hbm, ⟨21, _⟩ => ⟨S4x1x8192, .f32⟩
  | .hbm, ⟨22, _⟩ => ⟨S4x8192x8192, .f32⟩
  | .hbm, ⟨23, _⟩ => ⟨S4x8192x8192, .f32⟩
  | .hbm, ⟨24, _⟩ => ⟨S1x8192, .i32⟩
  | .hbm, ⟨25, _⟩ => ⟨S8192x1, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S_, .f32⟩
  | .hbm, ⟨30, _⟩ => ⟨S_, .f32⟩
  | .hbm, ⟨31, _⟩ => ⟨S4x8192x8192, .i1⟩
  | .hbm, ⟨32, _⟩ => ⟨S4x8192x8192, .f32⟩
  | .hbm, ⟨33, _⟩ => ⟨S4x8192x8192, .f32⟩
  | .hbm, ⟨34, _⟩ => ⟨S_, .f32⟩
  | .hbm, ⟨35, _⟩ => ⟨S4x8192x8192, .f32⟩
  | .hbm, ⟨36, _⟩ => ⟨S_, .f32⟩
  | .hbm, ⟨37, _⟩ => ⟨S4x8192, .f32⟩
  | .hbm, ⟨38, _⟩ => ⟨S4x8192x1, .f32⟩
  | .hbm, ⟨39, _⟩ => ⟨S4x8192x8192, .f32⟩
  | .hbm, ⟨40, _⟩ => ⟨S4x8192x8192, .i1⟩
  | .hbm, ⟨41, _⟩ => ⟨S4x8192x8192, .f32⟩
  | .hbm, ⟨42, _⟩ => ⟨S_, .f32⟩
  | .hbm, ⟨43, _⟩ => ⟨S4x8192, .f32⟩
  | .hbm, ⟨44, _⟩ => ⟨S_, .f32⟩
  | .hbm, ⟨45, _⟩ => ⟨S4x8192, .f32⟩
  | .hbm, ⟨46, _⟩ => ⟨S4x8192, .f32⟩
  | .hbm, ⟨47, _⟩ => ⟨S_, .f32⟩
  | .hbm, ⟨48, _⟩ => ⟨S4x8192, .f32⟩
  | .hbm, ⟨49, _⟩ => ⟨S4x8192, .i1⟩
  | .hbm, ⟨50, _⟩ => ⟨S_, .f32⟩
  | .hbm, ⟨51, _⟩ => ⟨S4x8192, .f32⟩
  | .hbm, ⟨52, _⟩ => ⟨S4x8192, .i1⟩
  | .hbm, ⟨53, _⟩ => ⟨S_, .f32⟩
  | .hbm, ⟨54, _⟩ => ⟨S4x8192, .f32⟩
  | .hbm, ⟨55, _⟩ => ⟨S_, .f32⟩
  | .hbm, ⟨56, _⟩ => ⟨S4x8192, .f32⟩
  | .hbm, ⟨57, _⟩ => ⟨S_, .f32⟩
  | .hbm, ⟨58, _⟩ => ⟨S4x8192, .f32⟩
  | .hbm, ⟨59, _⟩ => ⟨S4x8192, .f32⟩
  | .hbm, ⟨60, _⟩ => ⟨S4x8192, .f32⟩
  | .hbm, ⟨61, _⟩ => ⟨S4x8192x1, .f32⟩
  | .hbm, ⟨62, _⟩ => ⟨S4x8192x8192, .f32⟩
  | .hbm, ⟨63, _⟩ => ⟨S4x8192x8192, .f32⟩
  | .hbm, ⟨64, _⟩ => ⟨S4x8192x8192, .f32⟩
  | .hbm, ⟨65, _⟩ => ⟨S_, .f32⟩
  | .hbm, ⟨66, _⟩ => ⟨S4x8192, .f32⟩
  | .hbm, ⟨67, _⟩ => ⟨S4x8192x1, .f32⟩
  | .hbm, ⟨68, _⟩ => ⟨S4x8192x8192, .f32⟩
  | .hbm, ⟨69, _⟩ => ⟨S4x8192x8192, .f32⟩
  | .hbm, ⟨70, _⟩ => ⟨S4x8192x1, .f32⟩
  | .hbm, ⟨71, _⟩ => ⟨S_, .f32⟩
  | .hbm, ⟨72, _⟩ => ⟨S4x8192x1, .f32⟩
  | .hbm, ⟨73, _⟩ => ⟨S4x8192x1, .f32⟩
  | .hbm, ⟨74, _⟩ => ⟨S4x8192x128, .f32⟩
  | .hbm, ⟨75, _⟩ => ⟨S8192x4x128, .f32⟩
  | .hbm, ⟨76, _⟩ => ⟨S8192x512, .f32⟩
  | .hbm, ⟨77, _⟩ => ⟨S8192x4x128, .f32⟩
  | .hbm, ⟨78, _⟩ => ⟨S4x8192x128, .f32⟩
  | .hbm, ⟨79, _⟩ => ⟨S4x128x8192, .f32⟩
  | .hbm, ⟨80, _⟩ => ⟨S4x8192x128, .f32⟩
  | .hbm, ⟨81, _⟩ => ⟨S4x8192x8192, .f32⟩
  | .hbm, ⟨82, _⟩ => ⟨S4x8192x8192, .f32⟩
  | .hbm, ⟨83, _⟩ => ⟨S4x8192x8192, .f32⟩
  | .hbm, ⟨84, _⟩ => ⟨S4x8192x8192, .f32⟩
  | .hbm, ⟨85, _⟩ => ⟨S_, .f32⟩
  | .hbm, ⟨86, _⟩ => ⟨S4x8192, .f32⟩
  | .hbm, ⟨87, _⟩ => ⟨S4x8192x1, .f32⟩
  | .hbm, ⟨88, _⟩ => ⟨S4x8192x1, .f32⟩
  | .hbm, ⟨89, _⟩ => ⟨S4x8192x8192, .f32⟩
  | .hbm, ⟨90, _⟩ => ⟨S4x8192x8192, .f32⟩
  | .hbm, ⟨91, _⟩ => ⟨S_, .f32⟩
  | .hbm, ⟨92, _⟩ => ⟨S4x8192, .f32⟩
  | .hbm, ⟨93, _⟩ => ⟨S4x8192x8192, .f32⟩
  | .hbm, ⟨94, _⟩ => ⟨S4x8192x8192, .f32⟩
  | .hbm, ⟨95, _⟩ => ⟨S4x8192x8192, .f32⟩
  | .hbm, ⟨96, _⟩ => ⟨S_, .f32⟩
  | .hbm, ⟨97, _⟩ => ⟨S4x8192x8192, .f32⟩
  | .hbm, ⟨98, _⟩ => ⟨S4x8192x8192, .f32⟩
  | .hbm, ⟨99, _⟩ => ⟨S4x8192x8192, .f32⟩
  | .hbm, ⟨100, _⟩ => ⟨S_, .f32⟩
  | .hbm, ⟨101, _⟩ => ⟨S4x8192, .f32⟩
  | .hbm, ⟨102, _⟩ => ⟨S4x1x8192, .f32⟩
  | .hbm, ⟨103, _⟩ => ⟨S_, .f32⟩
  | .hbm, ⟨104, _⟩ => ⟨S4x8192, .f32⟩
  | .hbm, ⟨105, _⟩ => ⟨S8192x4, .f32⟩
  | .hbm, ⟨106, _⟩ => ⟨S_, .f32⟩
  | .hbm, ⟨107, _⟩ => ⟨S4x8192, .f32⟩
  | .hbm, ⟨108, _⟩ => ⟨S4x8192x1, .f32⟩
  | .hbm, ⟨109, _⟩ => ⟨S_, .f32⟩
  | .hbm, ⟨110, _⟩ => ⟨S4x8192, .f32⟩
  | .hbm, ⟨111, _⟩ => ⟨S8192x4, .f32⟩
  | .hbm, ⟨112, _⟩ => ⟨S8192x4, .f32⟩
  | .hbm, ⟨113, _⟩ => ⟨S4x8192x128, .f32⟩
  | .hbm, ⟨114, _⟩ => ⟨S4x8192x128, .f32⟩
  | .hbm, ⟨115, _⟩ => ⟨S_, .f32⟩
  | .hbm, ⟨116, _⟩ => ⟨S4x8192x128, .f32⟩
  | .hbm, ⟨117, _⟩ => ⟨S4x8192x128, .f32⟩
  | .hbm, ⟨118, _⟩ => ⟨S8192x4x128, .f32⟩
  | .hbm, ⟨119, _⟩ => ⟨S8192x512, .f32⟩
  | .hbm, ⟨120, _⟩ => ⟨S8192x4x128, .f32⟩
  | .hbm, ⟨121, _⟩ => ⟨S8192x512, .f32⟩
  | .hbm, ⟨122, _⟩ => ⟨S8192x4x128, .f32⟩
  | .hbm, ⟨123, _⟩ => ⟨S8192x512, .f32⟩
  | .hbm, ⟨124, _⟩ => ⟨S8192x512, .bf16⟩
  | .hbm, ⟨125, _⟩ => ⟨S8192x512, .bf16⟩
  | .hbm, ⟨126, _⟩ => ⟨S4x8192, .f32⟩
  | .hbm, ⟨127, _⟩ => ⟨S4x8192x1, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_call0_v0 : Ref sig .tc := ⟨.hbm, 30, rfl⟩
abbrev main_v23_1 : Ref sig .tc := ⟨.hbm, 31, rfl⟩
abbrev main_call0_v2 : Ref sig .tc := ⟨.hbm, 32, rfl⟩
abbrev main_v23_0 : Ref sig .tc := ⟨.hbm, 33, rfl⟩
abbrev main_call0_cst : Ref sig .tc := ⟨.hbm, 34, rfl⟩
abbrev main_v23_2 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_12 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_call1_cst : Ref sig .tc := ⟨.hbm, 96, rfl⟩
abbrev main_call1_v0 : Ref sig .tc := ⟨.hbm, 97, rfl⟩
abbrev main_v72 : Ref sig .tc := ⟨.hbm, 98, rfl⟩
abbrev main_v73 : Ref sig .tc := ⟨.hbm, 99, rfl⟩
abbrev main_cst_13 : Ref sig .tc := ⟨.hbm, 100, rfl⟩
abbrev main_v74 : Ref sig .tc := ⟨.hbm, 101, rfl⟩
abbrev main_v75 : Ref sig .tc := ⟨.hbm, 102, rfl⟩
abbrev main_cst_14 : Ref sig .tc := ⟨.hbm, 103, rfl⟩
abbrev main_v76 : Ref sig .tc := ⟨.hbm, 104, rfl⟩
abbrev main_v77 : Ref sig .tc := ⟨.hbm, 105, rfl⟩
abbrev main_cst_15 : Ref sig .tc := ⟨.hbm, 106, rfl⟩
abbrev main_v78 : Ref sig .tc := ⟨.hbm, 107, rfl⟩
abbrev main_v79 : Ref sig .tc := ⟨.hbm, 108, rfl⟩
abbrev main_cst_16 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_17 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩

abbrev nD : Nat := 1
abbrev τ : Topo := Topo.v7x

variable {F : FTy → Type} [FloatOps F]
-- ==== Proof.Fox.Step.lean ====
/-
One tile of the attention gradient: what the body leaves in its four running buffers.

A query tile is met once for every key tile at or before it. Over such a row of tiles the body carries four
arrays: the row sums of `p * dp`, the sum of `k^T (p * dp)`, the sum of `k^T p`, and the transposed cotangent
tile. `St` is the four together; `start`, `addOff` and `addDiag` are what the body does to them at the first
tile of a row, at a tile below the diagonal, and at the tile on it; `fin` is the gradient tile it writes at the end.
-/
module

public import proofs.«01_k».proof.Proof.Gen.KernelIdeal.Skeleton

@[expose] public section

set_option maxRecDepth 16384

noncomputable section

namespace Cert.KernelIdeal.Fox

open Cert.KernelIdeal Cert.KernelIdeal.Gen
open Idealize.ShloMosaic

variable {F : FTy → Type} [FloatOps F] [Named F]

/-- The running buffers of a row of tiles. -/
structure St (F : FTy → Type) where
  /-- row sums of `p * dp` -/
  dl : S1x1x1024.Idx → Elt F .f32
  /-- the sum of `k^T (p * dp)` -/
  acc : S128x1024.Idx → Elt F .f32
  /-- the sum of `k^T p` -/
  pk : S128x1024.Idx → Elt F .f32
  /-- the cotangent tile, transposed -/
  dot : S128x1024.Idx → Elt F .f32

/-- The tiles the body reads at a point: query, key, key bias, value, log-sum-exp. -/
structure Tiles (F : FTy → Type) where
  q : S1024x128.Idx → Elt F .f32
  k : S1024x128.Idx → Elt F .f32
  kx : S1x1024x128.Idx → Elt F .f32
  v : S1024x128.Idx → Elt F .f32
  lse : S1x1x1024.Idx → Elt F .f32

/-- At a row's first tile: zero sums, and the cotangent tile transposed. -/
def start (g : S1024x128.Idx → Elt F .f32) : St F := ⟨k0_pay2, k0_pay4, k0_pay3, k0_pay1 g⟩

/-- A tile below the diagonal added. -/
def addOff (x : Tiles F) (s : St F) : St F where
  dl := k0_pay14 x.q x.k x.kx x.lse x.v s.dot s.dl
  acc := k0_pay5 (k0_pay12 x.k) (k0_pay13 x.q x.k x.kx x.lse x.v s.dot) s.acc
  pk := k0_pay6 (k0_pay11 x.q x.k x.kx x.lse) (k0_pay12 x.k) s.pk
  dot := s.dot

/-- The tile on the diagonal added. -/
def addDiag (x : Tiles F) (s : St F) : St F where
  dl := k0_pay7 (k0_pay18 x.q x.k x.kx x.lse x.v s.dot s.dl)
  acc := k0_pay8 (k0_pay16 x.k) (k0_pay17 x.q x.k x.kx x.lse x.v s.dot) s.acc
  pk := k0_pay9 (k0_pay15 x.q x.k x.kx x.lse) (k0_pay16 x.k) s.pk
  dot := s.dot

/-- The gradient tile written at a row's last tile. -/
def fin (s : St F) : S1024x128.Idx → Elt F .bf16 := k0_pay10 s.acc s.dl s.pk

end Cert.KernelIdeal.Fox

end
-- ==== Proof.Fox.Run.lean ====
/-
The body of the attention gradient, run once on each of its four control paths.

A point is the first of its row or not, and the tile is on the diagonal or below it. (The diagonal tile is the last of its
row.) Each run is stated over any staging buffers and any table, so that it names no grid point.
-/
module

public import proofs.«01_k».proof.Proof.Fox.Step
public import proofs.«01_k».proof.Proof.Gen.KernelIdeal.Launch
public import Idealize.ShloMosaic.Lib.VecWindow
public import Idealize.ShloMosaic.Lib.Exec
public import Idealize.ShloMosaic.Lib.Tactic
public import Idealize.ShloMosaic.Lib.Pipeline.FrameBody
public import Idealize.ShloMosaic.Lib.Pipeline.TableIdle

@[expose] public section

set_option maxRecDepth 16384
set_option Elab.async false

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

theorem rep_S1024x128 {e : EltTy} (v : View sig .tc .vmem S1024x128 e) (x : S1024x128.Idx → Elt F e) :
    View.readAt (Elt F) v (Rect.unit ![0, 0] ![1024, 128] inb_S1024x128_S1024x128_0_0).toLoadRect (v.rep x) = x := View.readAt_rep_full v x _
theorem wr_S1024x128 {e : EltTy} (v : View sig .tc .vmem S1024x128 e) (f : v.ty.Contents (Elt F)) (w : S1024x128.Idx → Elt F e) (L : List (View.Piece (Elt F) S1024x128 e)) :
    View.read (Elt F) v (v.writes (Elt F) f (⟨Rect.unit ![0, 0] ![1024, 128] inb_S1024x128_S1024x128_0_0, w⟩ :: L)) = w := View.read_writes_full v f _ w L
theorem cov_S1024x128 {e : EltTy} (v : View sig .tc .vmem S1024x128 e) (w : S1024x128.Idx → Elt F e) (L : List (View.Piece (Elt F) S1024x128 e)) :
    v.readCov (⟨Rect.unit ![0, 0] ![1024, 128] inb_S1024x128_S1024x128_0_0, w⟩ :: L) (Rect.unit ![0, 0] ![1024, 128] inb_S1024x128_S1024x128_0_0).toLoadRect = w := View.readCov_full v _ _ w L
theorem rep_S1x1024x128 {e : EltTy} (v : View sig .tc .vmem S1x1024x128 e) (x : S1x1024x128.Idx → Elt F e) :
    View.readAt (Elt F) v (Rect.unit ![0, 0, 0] ![1, 1024, 128] inb_S1x1024x128_S1x1024x128_0_0_0).toLoadRect (v.rep x) = x := View.readAt_rep_full v x _
theorem wr_S1x1024x128 {e : EltTy} (v : View sig .tc .vmem S1x1024x128 e) (f : v.ty.Contents (Elt F)) (w : S1x1024x128.Idx → Elt F e) (L : List (View.Piece (Elt F) S1x1024x128 e)) :
    View.read (Elt F) v (v.writes (Elt F) f (⟨Rect.unit ![0, 0, 0] ![1, 1024, 128] inb_S1x1024x128_S1x1024x128_0_0_0, w⟩ :: L)) = w := View.read_writes_full v f _ w L
theorem cov_S1x1024x128 {e : EltTy} (v : View sig .tc .vmem S1x1024x128 e) (w : S1x1024x128.Idx → Elt F e) (L : List (View.Piece (Elt F) S1x1024x128 e)) :
    v.readCov (⟨Rect.unit ![0, 0, 0] ![1, 1024, 128] inb_S1x1024x128_S1x1024x128_0_0_0, w⟩ :: L) (Rect.unit ![0, 0, 0] ![1, 1024, 128] inb_S1x1024x128_S1x1024x128_0_0_0).toLoadRect = w := View.readCov_full v _ _ w L
theorem rep_S1x1x1024 {e : EltTy} (v : View sig .tc .vmem S1x1x1024 e) (x : S1x1x1024.Idx → Elt F e) :
    View.readAt (Elt F) v (Rect.unit ![0, 0, 0] ![1, 1, 1024] inb_S1x1x1024_S1x1x1024_0_0_0).toLoadRect (v.rep x) = x := View.readAt_rep_full v x _
theorem wr_S1x1x1024 {e : EltTy} (v : View sig .tc .vmem S1x1x1024 e) (f : v.ty.Contents (Elt F)) (w : S1x1x1024.Idx → Elt F e) (L : List (View.Piece (Elt F) S1x1x1024 e)) :
    View.read (Elt F) v (v.writes (Elt F) f (⟨Rect.unit ![0, 0, 0] ![1, 1, 1024] inb_S1x1x1024_S1x1x1024_0_0_0, w⟩ :: L)) = w := View.read_writes_full v f _ w L
theorem cov_S1x1x1024 {e : EltTy} (v : View sig .tc .vmem S1x1x1024 e) (w : S1x1x1024.Idx → Elt F e) (L : List (View.Piece (Elt F) S1x1x1024 e)) :
    v.readCov (⟨Rect.unit ![0, 0, 0] ![1, 1, 1024] inb_S1x1x1024_S1x1x1024_0_0_0, w⟩ :: L) (Rect.unit ![0, 0, 0] ![1, 1, 1024] inb_S1x1x1024_S1x1x1024_0_0_0).toLoadRect = w := View.readCov_full v _ _ w L
theorem rep_S128x1024 {e : EltTy} (v : View sig .tc .vmem S128x1024 e) (x : S128x1024.Idx → Elt F e) :
    View.readAt (Elt F) v (Rect.unit ![0, 0] ![128, 1024] inb_S128x1024_S128x1024_0_0).toLoadRect (v.rep x) = x := View.readAt_rep_full v x _
theorem wr_S128x1024 {e : EltTy} (v : View sig .tc .vmem S128x1024 e) (f : v.ty.Contents (Elt F)) (w : S128x1024.Idx → Elt F e) (L : List (View.Piece (Elt F) S128x1024 e)) :
    View.read (Elt F) v (v.writes (Elt F) f (⟨Rect.unit ![0, 0] ![128, 1024] inb_S128x1024_S128x1024_0_0, w⟩ :: L)) = w := View.read_writes_full v f _ w L
theorem cov_S128x1024 {e : EltTy} (v : View sig .tc .vmem S128x1024 e) (w : S128x1024.Idx → Elt F e) (L : List (View.Piece (Elt F) S128x1024 e)) :
    v.readCov (⟨Rect.unit ![0, 0] ![128, 1024] inb_S128x1024_S128x1024_0_0, w⟩ :: L) (Rect.unit ![0, 0] ![128, 1024] inb_S128x1024_S128x1024_0_0).toLoadRect = w := View.readCov_full v _ _ w L

/-- Eight copies of a tile, side by side. -/
def tiled (u : FVec F S1024x128 .f32) : FVec F S1024x1024 .f32 :=
  concatenate S1024x1024 1 [⟨S1024x128, u⟩, ⟨S1024x128, u⟩, ⟨S1024x128, u⟩, ⟨S1024x128, u⟩, ⟨S1024x128, u⟩, ⟨S1024x128, u⟩, ⟨S1024x128, u⟩, ⟨S1024x128, u⟩] concatenates_S1024x128_S1024x128_S1024x128_S1024x128_S1024x128_S1024x128_S1024x128_S1024x128_S1024x1024_d1
theorem tiled_fold (u : FVec F S1024x128 .f32) (h) :
    concatenate S1024x1024 1 [⟨S1024x128, u⟩, ⟨S1024x128, u⟩, ⟨S1024x128, u⟩, ⟨S1024x128, u⟩, ⟨S1024x128, u⟩, ⟨S1024x128, u⟩, ⟨S1024x128, u⟩, ⟨S1024x128, u⟩] h = tiled u := rfl

/-- The table the grid is steered by. -/
abbrev tab : Memref sig .tc .smem S5x36 .i32 := Memref.whole main_c

/-- Entry `off` of the table. -/
abbrev word (T : S5x36.Idx → Elt F .i32) (off : Fin 2 → ℕ) (h : ∀ a, off a + S1x1.size a ≤ S5x36.size a) : BitVec 32 :=
  View.readAt (Elt F) tab.view (Rect.unit (s := S5x36) off S1x1.size h).toLoadRect T (Shape.Idx.first (numel1_S1x1.symm ▸ Nat.one_pos))

/-- The point is the first of its row. -/
abbrev First (T : S5x36.Idx → Elt F .i32) (i : grid0.Coords) : Prop := k0_cond1 (word T (k0_off3 i) (k0_off3_inb i)) = 1#1
/-- The tile is below the diagonal. -/
abbrev Below (T : S5x36.Idx → Elt F .i32) (i : grid0.Coords) : Prop :=
  k0_cond2 (word T (k0_off1 i) (k0_off1_inb i)) (word T (k0_off2 i) (k0_off2_inb i)) = 1#1
/-- The tile is on the diagonal. -/
abbrev OnDiag (T : S5x36.Idx → Elt F .i32) (i : grid0.Coords) : Prop :=
  k0_cond3 (word T (k0_off1 i) (k0_off1_inb i)) (word T (k0_off2 i) (k0_off2_inb i)) = 1#1
/-- The point is the last of its row. -/
abbrev Last (T : S5x36.Idx → Elt F .i32) (i : grid0.Coords) : Prop := k0_cond4 (word T (k0_off4 i) (k0_off4_inb i)) = 1#1

variable (c : Dev nD)

/-- A memref held whole at contents that read `X`. -/
abbrev held {sp : Space} {s : Shape} {e : EltTy} (m : Memref sig .tc sp s e) (X : s.Idx → Elt F e) : sProp 𝕄 :=
  (m.view.loc (c : Thread nD τ) ↦[m.view.set]{fullShare} m.view.rep X)

/-- A memref held whole at some contents. -/
abbrev some {sp : Space} {s : Shape} {e : EltTy} (m : Memref sig .tc sp s e) : sProp 𝕄 :=
  iprop(∃ f : Buf (Elt F) (m.view.loc (c : Thread nD τ)), (m.view.loc (c : Thread nD τ) ↦[m.view.set]{fullShare} f))

variable (i : grid0.Coords) (arg3 : Memref sig .tc .vmem S1024x128 .f32) (harg3 : arg3.IsWhole) (arg4 : Memref sig .tc .vmem S1024x128 .f32) (harg4 : arg4.IsWhole) (arg5 : Memref sig .tc .vmem S1x1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1x1x1024 .f32) (harg9 : arg9.IsWhole) (arg10 : Memref sig .tc .vmem S1024x128 .bf16) (harg10 : arg10.IsWhole) (arg11 : Memref sig .tc .vmem S1x1x1024 .f32) (harg11 : arg11.IsWhole) (arg12 : Memref sig .tc .vmem S128x1024 .f32) (harg12 : arg12.IsWhole) (arg13 : Memref sig .tc .vmem S128x1024 .f32) (harg13 : arg13.IsWhole) (arg14 : Memref sig .tc .vmem S128x1024 .f32) (harg14 : arg14.IsWhole)

/-- The body on these memrefs. -/
abbrev body : Prog (TpuEff nD τ sig (Elt F) Λ₀ .tc) PUnit :=
  cc0_fox_bwd_dq i tab (Memref.isWhole_whole _) arg3 harg3 arg4 harg4 arg5 harg5 arg6 harg6 arg7 harg7 arg8 harg8 arg9 harg9 arg10 harg10 arg11 harg11 arg12 harg12 arg13 harg13 arg14 harg14

variable (T : S5x36.Idx → Elt F .i32) (x : Tiles F) (g o : S1024x128.Idx → Elt F .f32)

/-- The inputs' staging buffers at their tiles, and the table. -/
abbrev ins : sProp 𝕄 :=
  iprop(held c arg3 x.q ∗ held c arg4 x.k ∗ held c arg5 x.kx ∗ held c arg6 x.v ∗ held c arg7 g ∗ held c arg8 o ∗ held c arg9 x.lse
    ∗ (tab.view.loc (c : Thread nD τ) ↦{fullShare.right} T))

/-- The running buffers at a state. -/
abbrev runs (s : St F) : sProp 𝕄 :=
  iprop(held c arg11 s.dl ∗ held c arg12 s.acc ∗ held c arg13 s.pk ∗ held c arg14 s.dot)

/-- The running buffers at some contents. -/
abbrev junks : sProp 𝕄 :=
  iprop(some (F := F) c arg11 ∗ some (F := F) c arg12 ∗ some (F := F) c arg13 ∗ some (F := F) c arg14)

set_option maxHeartbeats 8000000 in
/-- A tile below the diagonal, not the first of its row. -/
theorem run_mid (h1 : ¬ First T i)
    (h2 : Below T i)
    (h3 : ¬ OnDiag T i)
    (h4 : ¬ Last T i)
    (s : St F) (K : PUnit → sProp 𝕄) :
    iprop(ins c arg3 arg4 arg5 arg6 arg7 arg8 arg9 T x g o ∗ runs c arg11 arg12 arg13 arg14 s
      ∗ (iprop(ins c arg3 arg4 arg5 arg6 arg7 arg8 arg9 T x g o ∗ runs c arg11 arg12 arg13 arg14 (addOff x s)) -∗ K ⟨⟩))
    ⊢ wp frame (wpE (defs₀ (F := F)) Variants.none c none) Set.univ (body i arg3 harg3 arg4 harg4 arg5 harg5 arg6 harg6 arg7 harg7 arg8 harg8 arg9 harg9 arg10 harg10 arg11 harg11 arg12 harg12 arg13 harg13 arg14 harg14) K := by
  unfold body
  rw [cc0_fox_bwd_dq_eq_skeleton]; unfold cc0_fox_bwd_dq_skel
  iintro ⟨⟨H3, H4, H5, H6, H7, H8, H9, HT⟩, ⟨H11, H12, H13, H14⟩, Hk⟩
  have hT0 : tab.IsWhole := Memref.isWhole_whole _
  sl_exec! (disch := first | (guard_target = ¬(k0_cond1 _ = _); exact h1) | (guard_target = k0_cond2 _ _ = _; exact h2) | (guard_target = ¬(k0_cond3 _ _ = _); exact h3) | (guard_target = ¬(k0_cond4 _ = _); exact h4))
  sl_step
  iapply Hk
  isplitl [H3 H4 H5 H6 H7 H8 H9 HT]
  · isplitl [H3]; · iexact H3
    isplitl [H4]; · iexact H4
    isplitl [H5]; · iexact H5
    isplitl [H6]; · iexact H6
    isplitl [H7]; · iexact H7
    isplitl [H8]; · iexact H8
    isplitl [H9]; · iexact H9
    iexact HT
  isplitl [H11]
  · iapply pointsTo_rep_of_read $$ H11
    delta run_mid.sl.H11_1 run_mid.sl.v51 run_mid.sl.v48 run_mid.sl.v47 run_mid.sl.v46 run_mid.sl.v45 run_mid.sl.v43 run_mid.sl.v40 run_mid.sl.v39 run_mid.sl.v38 run_mid.sl.v35 run_mid.sl.v34 run_mid.sl.v33 run_mid.sl.v32 run_mid.sl.v30 run_mid.sl.v29 run_mid.sl.v28 run_mid.sl.v26 run_mid.sl.v25 run_mid.sl.v23 run_mid.sl.v22 run_mid.sl.v21 run_mid.sl.cst_8 run_mid.sl.cst
    simp only [tiled_fold]
    simp only [rep_S1024x128, wr_S1024x128, cov_S1024x128, rep_S1x1024x128, wr_S1x1024x128, cov_S1x1024x128, rep_S1x1x1024, wr_S1x1x1024, cov_S1x1x1024, rep_S128x1024, wr_S128x1024, cov_S128x1024]
    rfl
  isplitl [H12]
  · iapply pointsTo_rep_of_read $$ H12
    delta run_mid.sl.H12_1 run_mid.sl.v43 run_mid.sl.v42 run_mid.sl.v40 run_mid.sl.v39 run_mid.sl.v38 run_mid.sl.v35 run_mid.sl.v34 run_mid.sl.v33 run_mid.sl.v32 run_mid.sl.v30 run_mid.sl.v29 run_mid.sl.v28 run_mid.sl.v26 run_mid.sl.v25 run_mid.sl.v23 run_mid.sl.v22 run_mid.sl.v21 run_mid.sl.cst_8 run_mid.sl.cst
    simp only [tiled_fold]
    simp only [rep_S1024x128, wr_S1024x128, cov_S1024x128, rep_S1x1024x128, wr_S1x1024x128, cov_S1x1024x128, rep_S1x1x1024, wr_S1x1x1024, cov_S1x1x1024, rep_S128x1024, wr_S128x1024, cov_S128x1024]
    rfl
  isplitl [H13]
  · iapply pointsTo_rep_of_read $$ H13
    delta run_mid.sl.H13_1 run_mid.sl.v42 run_mid.sl.v35 run_mid.sl.v34 run_mid.sl.v33 run_mid.sl.v32 run_mid.sl.v30 run_mid.sl.v29 run_mid.sl.v28 run_mid.sl.v26 run_mid.sl.v25 run_mid.sl.v23 run_mid.sl.v22 run_mid.sl.v21 run_mid.sl.cst_8 run_mid.sl.cst
    simp only [tiled_fold]
    simp only [rep_S1024x128, wr_S1024x128, cov_S1024x128, rep_S1x1024x128, wr_S1x1024x128, cov_S1x1024x128, rep_S1x1x1024, wr_S1x1x1024, cov_S1x1x1024, rep_S128x1024, wr_S128x1024, cov_S128x1024]
    rfl
  iexact H14

set_option maxHeartbeats 8000000 in
/-- A tile below the diagonal, the first of its row. -/
theorem run_first (h1 : First T i)
    (h2 : Below T i)
    (h3 : ¬ OnDiag T i)
    (h4 : ¬ Last T i)
    (K : PUnit → sProp 𝕄) :
    iprop(ins c arg3 arg4 arg5 arg6 arg7 arg8 arg9 T x g o ∗ junks (F := F) c arg11 arg12 arg13 arg14
      ∗ (iprop(ins c arg3 arg4 arg5 arg6 arg7 arg8 arg9 T x g o ∗ runs c arg11 arg12 arg13 arg14 (addOff x (start g))) -∗ K ⟨⟩))
    ⊢ wp frame (wpE (defs₀ (F := F)) Variants.none c none) Set.univ (body i arg3 harg3 arg4 harg4 arg5 harg5 arg6 harg6 arg7 harg7 arg8 harg8 arg9 harg9 arg10 harg10 arg11 harg11 arg12 harg12 arg13 harg13 arg14 harg14) K := by
  unfold body
  rw [cc0_fox_bwd_dq_eq_skeleton]; unfold cc0_fox_bwd_dq_skel
  iintro ⟨⟨H3, H4, H5, H6, H7, H8, H9, HT⟩, ⟨⟨%f11, H11⟩, ⟨%f12, H12⟩, ⟨%f13, H13⟩, ⟨%f14, H14⟩⟩, Hk⟩
  have hT0 : tab.IsWhole := Memref.isWhole_whole _
  sl_exec! (disch := first | (guard_target = k0_cond1 _ = _; exact h1) | (guard_target = k0_cond2 _ _ = _; exact h2) | (guard_target = ¬(k0_cond3 _ _ = _); exact h3) | (guard_target = ¬(k0_cond4 _ = _); exact h4))
  sl_step
  iapply Hk
  isplitl [H3 H4 H5 H6 H7 H8 H9 HT]
  · isplitl [H3]; · iexact H3
    isplitl [H4]; · iexact H4
    isplitl [H5]; · iexact H5
    isplitl [H6]; · iexact H6
    isplitl [H7]; · iexact H7
    isplitl [H8]; · iexact H8
    isplitl [H9]; · iexact H9
    iexact HT
  isplitl [H11]
  · iapply pointsTo_rep_of_read $$ H11
    delta run_first.sl.H11_2 run_first.sl.v51 run_first.sl.v48 run_first.sl.v47 run_first.sl.v46 run_first.sl.v45 run_first.sl.v44 run_first.sl.v43 run_first.sl.H11_1 run_first.sl.v40 run_first.sl.v39 run_first.sl.v38 run_first.sl.v37 run_first.sl.v35 run_first.sl.v34 run_first.sl.v33 run_first.sl.v32 run_first.sl.v30 run_first.sl.v29 run_first.sl.v28 run_first.sl.v26 run_first.sl.v25 run_first.sl.v23 run_first.sl.v22 run_first.sl.v21 run_first.sl.H14_1 run_first.sl.cst_8 run_first.sl.cst
    simp only [tiled_fold]
    simp only [rep_S1024x128, wr_S1024x128, cov_S1024x128, rep_S1x1024x128, wr_S1x1024x128, cov_S1x1024x128, rep_S1x1x1024, wr_S1x1x1024, cov_S1x1x1024, rep_S128x1024, wr_S128x1024, cov_S128x1024]
    rfl
  isplitl [H12]
  · iapply pointsTo_rep_of_read $$ H12
    delta run_first.sl.H12_2 run_first.sl.v52 run_first.sl.v43 run_first.sl.v42 run_first.sl.H12_1 run_first.sl.v40 run_first.sl.v39 run_first.sl.v38 run_first.sl.v37 run_first.sl.v35 run_first.sl.v34 run_first.sl.v33 run_first.sl.v32 run_first.sl.v30 run_first.sl.v29 run_first.sl.v28 run_first.sl.v26 run_first.sl.v25 run_first.sl.v23 run_first.sl.v22 run_first.sl.v21 run_first.sl.H14_1 run_first.sl.cst_8 run_first.sl.cst
    simp only [tiled_fold]
    simp only [rep_S1024x128, wr_S1024x128, cov_S1024x128, rep_S1x1024x128, wr_S1x1024x128, cov_S1x1024x128, rep_S1x1x1024, wr_S1x1x1024, cov_S1x1x1024, rep_S128x1024, wr_S128x1024, cov_S128x1024]
    rfl
  isplitl [H13]
  · iapply pointsTo_rep_of_read $$ H13
    delta run_first.sl.H13_2 run_first.sl.v60 run_first.sl.v42 run_first.sl.H13_1 run_first.sl.v35 run_first.sl.v34 run_first.sl.v33 run_first.sl.v32 run_first.sl.v30 run_first.sl.v29 run_first.sl.v28 run_first.sl.v26 run_first.sl.v25 run_first.sl.v23 run_first.sl.v22 run_first.sl.v21 run_first.sl.cst_8 run_first.sl.cst
    simp only [tiled_fold]
    simp only [rep_S1024x128, wr_S1024x128, cov_S1024x128, rep_S1x1024x128, wr_S1x1024x128, cov_S1x1024x128, rep_S1x1x1024, wr_S1x1x1024, cov_S1x1x1024, rep_S128x1024, wr_S128x1024, cov_S128x1024]
    rfl
  iapply pointsTo_rep_of_read $$ H14
  delta run_first.sl.H14_1; simp only [rep_S1024x128, wr_S1024x128, cov_S1024x128, rep_S1x1024x128, wr_S1x1024x128, cov_S1x1024x128, rep_S1x1x1024, wr_S1x1x1024, cov_S1x1x1024, rep_S128x1024, wr_S128x1024, cov_S128x1024]; rfl

set_option maxHeartbeats 8000000 in
/-- The tile on the diagonal, not the first of its row. -/
theorem run_last (h1 : ¬ First T i)
    (h2 : ¬ Below T i)
    (h3 : OnDiag T i)
    (h4 : Last T i)
    (s : St F) (K : PUnit → sProp 𝕄) :
    iprop(ins c arg3 arg4 arg5 arg6 arg7 arg8 arg9 T x g o ∗ some (F := F) c arg10 ∗ runs c arg11 arg12 arg13 arg14 s
      ∗ (iprop(ins c arg3 arg4 arg5 arg6 arg7 arg8 arg9 T x g o ∗ held c arg10 (fin (addDiag x s)) ∗ runs c arg11 arg12 arg13 arg14 (addDiag x s)) -∗ K ⟨⟩))
    ⊢ wp frame (wpE (defs₀ (F := F)) Variants.none c none) Set.univ (body i arg3 harg3 arg4 harg4 arg5 harg5 arg6 harg6 arg7 harg7 arg8 harg8 arg9 harg9 arg10 harg10 arg11 harg11 arg12 harg12 arg13 harg13 arg14 harg14) K := by
  unfold body
  rw [cc0_fox_bwd_dq_eq_skeleton]; unfold cc0_fox_bwd_dq_skel
  iintro ⟨⟨H3, H4, H5, H6, H7, H8, H9, HT⟩, ⟨%f10, H10⟩, ⟨H11, H12, H13, H14⟩, Hk⟩
  have hT0 : tab.IsWhole := Memref.isWhole_whole _
  sl_exec! (disch := first | (guard_target = ¬(k0_cond1 _ = _); exact h1) | (guard_target = ¬(k0_cond2 _ _ = _); exact h2) | (guard_target = k0_cond3 _ _ = _; exact h3) | (guard_target = k0_cond4 _ = _; exact h4))
  sl_step
  iapply Hk
  isplitl [H3 H4 H5 H6 H7 H8 H9 HT]
  · isplitl [H3]; · iexact H3
    isplitl [H4]; · iexact H4
    isplitl [H5]; · iexact H5
    isplitl [H6]; · iexact H6
    isplitl [H7]; · iexact H7
    isplitl [H8]; · iexact H8
    isplitl [H9]; · iexact H9
    iexact HT
  isplitl [H10]
  · iapply pointsTo_rep_of_read $$ H10
    delta run_last.sl.H10_1; delta run_last.sl.v23; delta run_last.sl.H13_1; delta run_last.sl.r_4; delta run_last.sl.v21; delta run_last.sl.H11_1; delta run_last.sl.r_7; delta run_last.sl.v20; delta run_last.sl.H12_1; delta run_last.sl.r_6; delta run_last.sl.r_5; simp only [rep_S1024x128, wr_S1024x128, cov_S1024x128, rep_S1x1024x128, wr_S1x1024x128, cov_S1x1024x128, rep_S1x1x1024, wr_S1x1x1024, cov_S1x1x1024, rep_S128x1024, wr_S128x1024, cov_S128x1024]; rfl
  isplitl [H11]
  · iapply pointsTo_rep_of_read $$ H11
    delta run_last.sl.H11_1; delta run_last.sl.r_7; simp only [rep_S1024x128, wr_S1024x128, cov_S1024x128, rep_S1x1024x128, wr_S1x1024x128, cov_S1x1024x128, rep_S1x1x1024, wr_S1x1x1024, cov_S1x1x1024, rep_S128x1024, wr_S128x1024, cov_S128x1024]; rfl
  isplitl [H12]
  · iapply pointsTo_rep_of_read $$ H12
    delta run_last.sl.H12_1; delta run_last.sl.r_6; delta run_last.sl.r_5; simp only [rep_S1024x128, wr_S1024x128, cov_S1024x128, rep_S1x1024x128, wr_S1x1024x128, cov_S1x1024x128, rep_S1x1x1024, wr_S1x1x1024, cov_S1x1x1024, rep_S128x1024, wr_S128x1024, cov_S128x1024]; rfl
  isplitl [H13]
  · iapply pointsTo_rep_of_read $$ H13
    delta run_last.sl.H13_1; delta run_last.sl.r_5; delta run_last.sl.r_4; simp only [rep_S1024x128, wr_S1024x128, cov_S1024x128, rep_S1x1024x128, wr_S1x1024x128, cov_S1x1024x128, rep_S1x1x1024, wr_S1x1x1024, cov_S1x1x1024, rep_S128x1024, wr_S128x1024, cov_S128x1024]; rfl
  iexact H14

set_option maxHeartbeats 8000000 in
/-- The tile on the diagonal, the first of its row. -/
theorem run_only (h1 : First T i)
    (h2 : ¬ Below T i)
    (h3 : OnDiag T i)
    (h4 : Last T i)
    (K : PUnit → sProp 𝕄) :
    iprop(ins c arg3 arg4 arg5 arg6 arg7 arg8 arg9 T x g o ∗ some (F := F) c arg10 ∗ junks (F := F) c arg11 arg12 arg13 arg14
      ∗ (iprop(ins c arg3 arg4 arg5 arg6 arg7 arg8 arg9 T x g o ∗ held c arg10 (fin (addDiag x (start g))) ∗ runs c arg11 arg12 arg13 arg14 (addDiag x (start g))) -∗ K ⟨⟩))
    ⊢ wp frame (wpE (defs₀ (F := F)) Variants.none c none) Set.univ (body i arg3 harg3 arg4 harg4 arg5 harg5 arg6 harg6 arg7 harg7 arg8 harg8 arg9 harg9 arg10 harg10 arg11 harg11 arg12 harg12 arg13 harg13 arg14 harg14) K := by
  unfold body
  rw [cc0_fox_bwd_dq_eq_skeleton]; unfold cc0_fox_bwd_dq_skel
  iintro ⟨⟨H3, H4, H5, H6, H7, H8, H9, HT⟩, ⟨%f10, H10⟩, ⟨⟨%f11, H11⟩, ⟨%f12, H12⟩, ⟨%f13, H13⟩, ⟨%f14, H14⟩⟩, Hk⟩
  have hT0 : tab.IsWhole := Memref.isWhole_whole _
  sl_exec! (disch := first | (guard_target = k0_cond1 _ = _; exact h1) | (guard_target = ¬(k0_cond2 _ _ = _); exact h2) | (guard_target = k0_cond3 _ _ = _; exact h3) | (guard_target = k0_cond4 _ = _; exact h4))
  sl_step
  iapply Hk
  isplitl [H3 H4 H5 H6 H7 H8 H9 HT]
  · isplitl [H3]; · iexact H3
    isplitl [H4]; · iexact H4
    isplitl [H5]; · iexact H5
    isplitl [H6]; · iexact H6
    isplitl [H7]; · iexact H7
    isplitl [H8]; · iexact H8
    isplitl [H9]; · iexact H9
    iexact HT
  isplitl [H10]
  · iapply pointsTo_rep_of_read $$ H10
    delta run_only.sl.H10_1; delta run_only.sl.v23; delta run_only.sl.H13_2; delta run_only.sl.v65; delta run_only.sl.H13_1; delta run_only.sl.r_4; delta run_only.sl.v21; delta run_only.sl.H11_2; delta run_only.sl.r_7; delta run_only.sl.v49; delta run_only.sl.H11_1; delta run_only.sl.v20; delta run_only.sl.H12_2; delta run_only.sl.v57; delta run_only.sl.H12_1; delta run_only.sl.r_6; delta run_only.sl.v42; delta run_only.sl.H14_1; delta run_only.sl.r_5; simp only [rep_S1024x128, wr_S1024x128, cov_S1024x128, rep_S1x1024x128, wr_S1x1024x128, cov_S1x1024x128, rep_S1x1x1024, wr_S1x1x1024, cov_S1x1x1024, rep_S128x1024, wr_S128x1024, cov_S128x1024]; rfl
  isplitl [H11]
  · iapply pointsTo_rep_of_read $$ H11
    delta run_only.sl.H11_2; delta run_only.sl.r_7; delta run_only.sl.v49; delta run_only.sl.H11_1; delta run_only.sl.v42; delta run_only.sl.H14_1; simp only [rep_S1024x128, wr_S1024x128, cov_S1024x128, rep_S1x1024x128, wr_S1x1024x128, cov_S1x1024x128, rep_S1x1x1024, wr_S1x1x1024, cov_S1x1x1024, rep_S128x1024, wr_S128x1024, cov_S128x1024]; rfl
  isplitl [H12]
  · iapply pointsTo_rep_of_read $$ H12
    delta run_only.sl.H12_2; delta run_only.sl.v57; delta run_only.sl.H12_1; delta run_only.sl.r_6; delta run_only.sl.v42; delta run_only.sl.H14_1; delta run_only.sl.r_5; simp only [rep_S1024x128, wr_S1024x128, cov_S1024x128, rep_S1x1024x128, wr_S1x1024x128, cov_S1x1024x128, rep_S1x1x1024, wr_S1x1x1024, cov_S1x1x1024, rep_S128x1024, wr_S128x1024, cov_S128x1024]; rfl
  isplitl [H13]
  · iapply pointsTo_rep_of_read $$ H13
    delta run_only.sl.H13_2; delta run_only.sl.v65; delta run_only.sl.H13_1; delta run_only.sl.r_5; delta run_only.sl.r_4; simp only [rep_S1024x128, wr_S1024x128, cov_S1024x128, rep_S1x1024x128, wr_S1x1024x128, cov_S1x1024x128, rep_S1x1x1024, wr_S1x1x1024, cov_S1x1x1024, rep_S128x1024, wr_S128x1024, cov_S128x1024]; rfl
  iapply pointsTo_rep_of_read $$ H14
  delta run_only.sl.H14_1; simp only [rep_S1024x128, wr_S1024x128, cov_S1024x128, rep_S1x1024x128, wr_S1x1024x128, cov_S1x1024x128, rep_S1x1x1024, wr_S1x1x1024, cov_S1x1x1024, rep_S128x1024, wr_S128x1024, cov_S128x1024]; rfl

end Cert.KernelIdeal.Fox

end
-- ==== Proof.Fox.Table.lean ====
/-
The table that steers the grid, and what each grid point does.

The grid has 36 points for each of the four heads: the pairs of a query tile and a key tile on or below the diagonal, row by
row. A row starts at its key tile 0 and ends on the diagonal, where the tile of the gradient is written back.
-/
module

public import proofs.«01_k».proof.Proof.Fox.Run
public import Idealize.ShloMosaic.Lib.Affine
public import Idealize.ShloMosaic.Lib.Pipeline.Quiescent

@[expose] public section

set_option maxRecDepth 16384
set_option Elab.async false

noncomputable section

namespace Cert.KernelIdeal.Fox

open Cert.KernelIdeal Cert.KernelIdeal.Gen
open Idealize.ShloMosaic
open Idealize.ShloMosaic.TcCoe Idealize.ShloMosaic.Tactic

variable {F : FTy → Type} [FloatOps F] [Named F]

/-- The table that the host hands over. -/
abbrev T0 : S5x36.Idx → Elt F .i32 := fun i => lit0 (S5x36.rowMajor i)

/-- The contents of the one prefetched table. -/
def pf : pre0.Contents (Elt F) := fun k => match k with
  | ⟨0, _⟩ => T0

theorem inb_0 : ∀ i : grid0.Coords, ∀ a, (cc0_transform_0 k0_off1_inb numel1_S1x1 (pf (F := F)) i a + 1) * S1024x128.size a ≤ S8192x512.size a :=
  of_decide_eq_true (by sl_kernel_rfl)
theorem inb_1 : ∀ i : grid0.Coords, ∀ a, (cc0_transform_1 k0_off2_inb numel1_S1x1 (pf (F := F)) i a + 1) * S1024x128.size a ≤ S8192x512.size a :=
  of_decide_eq_true (by sl_kernel_rfl)
theorem inb_2 : ∀ i : grid0.Coords, ∀ a, (cc0_transform_2 k0_off2_inb numel1_S1x1 (pf (F := F)) i a + 1) * S1x1024x128.size a ≤ S4x8192x128.size a :=
  of_decide_eq_true (by sl_kernel_rfl)
theorem inb_3 : ∀ i : grid0.Coords, ∀ a, (cc0_transform_3 k0_off2_inb numel1_S1x1 (pf (F := F)) i a + 1) * S1024x128.size a ≤ S8192x512.size a :=
  of_decide_eq_true (by sl_kernel_rfl)
theorem inb_4 : ∀ i : grid0.Coords, ∀ a, (cc0_transform_4 k0_off1_inb numel1_S1x1 (pf (F := F)) i a + 1) * S1024x128.size a ≤ S8192x512.size a :=
  of_decide_eq_true (by sl_kernel_rfl)
theorem inb_5 : ∀ i : grid0.Coords, ∀ a, (cc0_transform_5 k0_off1_inb numel1_S1x1 (pf (F := F)) i a + 1) * S1024x128.size a ≤ S8192x512.size a :=
  of_decide_eq_true (by sl_kernel_rfl)
theorem inb_6 : ∀ i : grid0.Coords, ∀ a, (cc0_transform_6 k0_off1_inb numel1_S1x1 (pf (F := F)) i a + 1) * S1x1x1024.size a ≤ S4x1x8192.size a :=
  of_decide_eq_true (by sl_kernel_rfl)
theorem inb_7 : ∀ i : grid0.Coords, ∀ a, (cc0_transform_7 k0_off1_inb numel1_S1x1 (pf (F := F)) i a + 1) * S1024x128.size a ≤ S8192x512.size a :=
  of_decide_eq_true (by sl_kernel_rfl)
theorem inb_8 : ∀ i : grid0.Coords, ∀ a, (cc0_transform_8 k0_off1_inb numel1_S1x1 (pf (F := F)) i a + 1) * S1x1x1024.size a ≤ S4x1x8192.size a :=
  of_decide_eq_true (by sl_kernel_rfl)

/-- Every block that the table names lies inside its array. -/
theorem ok_pf : ok0 (pf (F := F)) :=
  ⟨fun i => ⟨inb_0 i, .inl rfl⟩, fun i => ⟨inb_1 i, .inl rfl⟩, fun i => ⟨inb_2 i, .inl rfl⟩, fun i => ⟨inb_3 i, .inl rfl⟩,
    fun i => ⟨inb_4 i, .inl rfl⟩, fun i => ⟨inb_5 i, .inl rfl⟩, fun i => ⟨inb_6 i, .inl rfl⟩,
    fun i => ⟨inb_7 i, .inr (Affine.block_words_dvd (s := S8192x512) (p := EltTy.packing .bf16) (by decide) (by decide))⟩,
    fun i => ⟨inb_8 i, .inl rfl⟩⟩

/-- The table as the pipeline takes it, and the pipeline at it. -/
def adm : (pcfg0 (F := F)).Adm := ⟨pf, ok_pf⟩
abbrev cfgA (F : FTy → Type) [FloatOps F] [Named F] : Pipeline.Cfg sig Λ₀ := cfg0 (F := F) adm
abbrev pcs (F : FTy → Type) [FloatOps F] [Named F] : Fin 1 → Pipeline.Cfg sig Λ₀ := Pipeline.pin (pcfgs (F := F)) fun _ => adm

/-- The coordinates of a point. -/
abbrev crd (t : Fin (cfgA F).N) : grid0.Coords := (cfgA F).grid.coords t

/-- What happens at a point: a tile is below the diagonal or on it; on it, and only there, the row ends, the gradient's tile is
    stored, and both results are written back; a point that is not the first of its row follows one that wrote nothing back. -/
abbrev Sched (t : Fin (cfgA F).N) : Prop :=
  (Below (F := F) T0 (crd t) ↔ ¬ OnDiag (F := F) T0 (crd t)) ∧ (Last (F := F) T0 (crd t) ↔ OnDiag (F := F) T0 (crd t))
  ∧ (cfgA F).idle (7 : Fin 9) (crd t) = !decide (OnDiag (F := F) T0 (crd t))
  ∧ ((cfgA F).win (7 : Fin 9)).flushF t = decide (OnDiag (F := F) T0 (crd t))
  ∧ (cfgA F).idle (8 : Fin 9) (crd t) = false
  ∧ ((cfgA F).win (8 : Fin 9)).flushF t = decide (OnDiag (F := F) T0 (crd t))
  ∧ (First (F := F) T0 (crd t) ∨ (t.val ≠ 0 ∧ ((cfgA F).win (8 : Fin 9)).flushF ⟨t.val - 1, Nat.lt_of_le_of_lt (Nat.sub_le _ _) t.isLt⟩ = false))

set_option synthInstance.maxSize 65536 in
set_option synthInstance.maxHeartbeats 400000 in
theorem sched : ∀ t : Fin (cfgA F).N, Sched t := of_decide_eq_true (by sl_kernel_rfl)

end Cert.KernelIdeal.Fox

end
-- ==== Proof.Fox.Traj.lean ====
/-
What the buffers of the attention gradient hold, point by point.
-/
module

public import proofs.«01_k».proof.Proof.Fox.Table
public import Idealize.ShloMosaic.Lib.Pipeline.Frame
public import Idealize.ShloMosaic.Lib.Claim

@[expose] public section

set_option maxRecDepth 16384
set_option Elab.async false

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The memory at the call -/

/-- The host's operations before the call. -/
abbrev opss : List (List (HloOp τ sig (Elt F))) := [hostOps0, hostOps0_1, hostOps0_2]

/-- The buffers that the host's operations after the table write, in order. -/
abbrev written : List (Ref sig .tc) := [main_v0, main_v1, main_v2, main_cst, main_v3, main_v4, main_v5, main_v6, main_v7, main_v8, main_v9, main_v10, main_v11, main_v12, main_v13, main_v14, main_v15, main_v16, main_cst_0, main_call0_v0, main_call0_v1, main_call0_v2, main_v17, main_cst_1, main_v18, main_v19, main_v20, main_v21, main_v22, main_cst_2, main_v23, main_v24, main_v25, main_v26, main_v27, main_v28, main_v29, main_v30, main_v31, main_v32, main_v33, main_v34, main_v35, main_v36, main_v37, main_v38]

theorem fresh_ops : (opss (F := F)).Forall fun ops => ops.Forall fun op => op.fresh = ∅ :=
  ⟨StableHlo.forall_fresh_of_map rfl, StableHlo.forall_fresh_of_map rfl, StableHlo.forall_fresh_of_map rfl⟩

/-- The buffers when the call starts. -/
def V (c : Dev nD) (b : Ref sig .tc) : Buf (Elt F) ((c : Thread nD τ).loc b) :=
  StableHlo.after (opss (F := F)).flatten (fun b => m (c, b)) b

theorem writes_ops : ((opss (F := F)).flatten.tail).Forall fun op => op.writes ⊆ (written.map (Proc.devRef (τ := τ) .tc)).toFinset :=
  StableHlo.forall_writes_sub_of_map rfl

theorem V_table (c : Dev nD) : V m c main_c = T0 := by
  unfold V
  rw [show (opss (F := F)).flatten = StableHlo.nullary main_c (fun i => lit0 (S5x36.rowMajor i)) :: (opss (F := F)).flatten.tail from rfl, StableHlo.after_cons]
  refine (StableHlo.after_of_writes_sub _ _ writes_ops (by decide)).trans ?_
  exact StableHlo.nullary_result ..

theorem V_arg (c : Dev nD) (b : Ref sig .tc) (hb : b ∉ main_c :: written) : V m c b = m ((c : Thread nD τ).loc b) := by
  unfold V
  exact StableHlo.after_of_writes_sub _ _ (W := main_c :: written) (StableHlo.forall_writes_sub_of_map rfl) hb

/-! ## What the buffers hold, point by point -/

/-- Window `w`'s block at a point, read off its array at the call. -/
def iblk (c : Dev nD) (w : Fin (cfgA F).W) (t : Fin (cfgA F).N) : (((cfgA F).win w).xblock (crd t)).Idx → Elt F ((cfgA F).win w).elt :=
  (((cfgA F).win w).blk t).view.read (Elt F) (V m c (Pipeline.arrRef (cfgA F).spec w))

/-- The tiles the body reads at a point. -/
def tiles (c : Dev nD) (t : Fin (cfgA F).N) : Tiles F :=
  ⟨iblk m c (0 : Fin 9) t, iblk m c (1 : Fin 9) t, iblk m c (2 : Fin 9) t, iblk m c (3 : Fin 9) t, iblk m c (6 : Fin 9) t⟩

/-- The running buffers after a point, from those before it. -/
def next (c : Dev nD) (t : Fin (cfgA F).N) (s : St F) : St F :=
  if OnDiag (F := F) T0 (crd t) then addDiag (tiles m c t) (if First (F := F) T0 (crd t) then start (iblk m c (4 : Fin 9) t) else s)
  else addOff (tiles m c t) (if First (F := F) T0 (crd t) then start (iblk m c (4 : Fin 9) t) else s)

/-- The running buffers after a point. -/
def state (c : Dev nD) : (n : ℕ) → n < (cfgA F).N → St F
  | 0, h => next m c ⟨0, h⟩ (start (iblk m c (4 : Fin 9) ⟨0, h⟩))
  | n + 1, h => next m c ⟨n + 1, h⟩ (state c n (Nat.lt_of_succ_lt h))

theorem state_first (c : Dev nD) (t : Fin (cfgA F).N) (h : First (F := F) T0 (crd t)) :
    state m c t.val t.isLt = next m c t (start (iblk m c (4 : Fin 9) t)) := by
  obtain ⟨n, hn⟩ := t
  cases n with
  | zero => rfl
  | succ n => unfold state next; rw [if_pos h, if_pos h]

theorem state_succ (c : Dev nD) (t : Fin (cfgA F).N) (h : t.val ≠ 0) :
    state m c t.val t.isLt = next m c t (state m c (t.val - 1) (Nat.lt_of_le_of_lt (Nat.sub_le _ _) t.isLt)) := by
  obtain ⟨n, hn⟩ := t
  cases n with
  | zero => exact absurd rfl h
  | succ n => rfl

theorem next_only (c : Dev nD) (t : Fin (cfgA F).N) (s : St F) (hF : First (F := F) T0 (crd t)) (hD : OnDiag (F := F) T0 (crd t)) :
    next m c t s = addDiag (tiles m c t) (start (iblk m c (4 : Fin 9) t)) := by
  unfold next; rw [if_pos hD, if_pos hF]
theorem next_first (c : Dev nD) (t : Fin (cfgA F).N) (s : St F) (hF : First (F := F) T0 (crd t)) (hD : ¬OnDiag (F := F) T0 (crd t)) :
    next m c t s = addOff (tiles m c t) (start (iblk m c (4 : Fin 9) t)) := by
  unfold next; rw [if_neg hD, if_pos hF]
theorem next_last (c : Dev nD) (t : Fin (cfgA F).N) (s : St F) (hF : ¬First (F := F) T0 (crd t)) (hD : OnDiag (F := F) T0 (crd t)) :
    next m c t s = addDiag (tiles m c t) s := by
  unfold next; rw [if_pos hD, if_neg hF]
theorem next_mid (c : Dev nD) (t : Fin (cfgA F).N) (s : St F) (hF : ¬First (F := F) T0 (crd t)) (hD : ¬OnDiag (F := F) T0 (crd t)) :
    next m c t s = addOff (tiles m c t) s := by
  unfold next; rw [if_neg hD, if_neg hF]

/-- The scratch buffers. -/
abbrev sc0 : Memref sig .tc .vmem S128x1024 .f32 := Memref.whole cc0_scratch0
abbrev sc1 : Memref sig .tc .vmem S128x1024 .f32 := Memref.whole cc0_scratch1
abbrev sc2 : Memref sig .tc .vmem S128x1024 .f32 := Memref.whole cc0_scratch2

/-- The scratch buffers before a point: anything before the first, then what the point before left. -/
def scr (c : Dev nD) (n : ℕ) (h : n ≤ (cfgA F).N) : sProp 𝕄 :=
  if h0 : n = 0 then iprop(some (F := F) c sc0 ∗ some (F := F) c sc1 ∗ some (F := F) c sc2)
  else iprop(held c sc0 (state m c (n - 1) (by omega)).acc ∗ held c sc1 (state m c (n - 1) (by omega)).pk ∗ held c sc2 (state m c (n - 1) (by omega)).dot)

theorem scr_succ (c : Dev nD) (n : ℕ) (h : n + 1 ≤ (cfgA F).N) : scr m c (n + 1) h
    = iprop(held c sc0 (state m c n (Nat.lt_of_succ_le h)).acc ∗ held c sc1 (state m c n (Nat.lt_of_succ_le h)).pk ∗ held c sc2 (state m c n (Nat.lt_of_succ_le h)).dot) := by
  unfold scr; rw [dif_neg (Nat.succ_ne_zero n)]; simp only [Nat.add_sub_cancel]

theorem scr_pos (c : Dev nD) (n : ℕ) (h0 : n ≠ 0) (h : n ≤ (cfgA F).N) : scr m c n h
    = iprop(held c sc0 (state m c (n - 1) (Nat.lt_of_lt_of_le (Nat.sub_one_lt h0) h)).acc ∗ held c sc1 (state m c (n - 1) (Nat.lt_of_lt_of_le (Nat.sub_one_lt h0) h)).pk
      ∗ held c sc2 (state m c (n - 1) (Nat.lt_of_lt_of_le (Nat.sub_one_lt h0) h)).dot) := by
  unfold scr; rw [dif_neg h0]

theorem scr_some (c : Dev nD) (n : ℕ) (h : n ≤ (cfgA F).N) : scr m c n h ⊢ iprop(some (F := F) c sc0 ∗ some (F := F) c sc1 ∗ some (F := F) c sc2) := by
  unfold scr
  split
  · exact .rfl
  · iintro ⟨H0, H1, H2⟩
    isplitl [H0]; · iexists _; iexact H0
    isplitl [H1]; · iexists _; iexact H1
    iexists _; iexact H2

/-- The invariant before point `t`: the scratch buffers, the table's half, the generator. -/
def Phi (c : Dev nD) (t : Fin ((cfgA F).N + 1)) : sProp 𝕄 :=
  iprop(scr m c t.val (Nat.le_of_lt_succ t.isLt) ∗ (tab.view.loc (c : Thread nD τ) ↦{fullShare.right} T0 (F := F)) ∗ ∃ r, prngReg c r)

theorem Phi_succ (c : Dev nD) (t : Fin (cfgA F).N) : Phi m c t.succ
    = iprop((held c sc0 (state m c t.val t.isLt).acc ∗ held c sc1 (state m c t.val t.isLt).pk ∗ held c sc2 (state m c t.val t.isLt).dot)
      ∗ (tab.view.loc (c : Thread nD τ) ↦{fullShare.right} T0 (F := F)) ∗ ∃ r, prngReg c r) := by
  unfold Phi; simp only [Fin.val_succ]; rw [scr_succ]

theorem Phi_castSucc (c : Dev nD) (t : Fin (cfgA F).N) (h0 : t.val ≠ 0) : Phi m c t.castSucc
    = iprop((held c sc0 (state m c (t.val - 1) (Nat.lt_of_le_of_lt (Nat.sub_le _ _) t.isLt)).acc ∗ held c sc1 (state m c (t.val - 1) (Nat.lt_of_le_of_lt (Nat.sub_le _ _) t.isLt)).pk ∗ held c sc2 (state m c (t.val - 1) (Nat.lt_of_le_of_lt (Nat.sub_le _ _) t.isLt)).dot)
      ∗ (tab.view.loc (c : Thread nD τ) ↦{fullShare.right} T0 (F := F)) ∗ ∃ r, prngReg c r) := by
  unfold Phi; simp only [Fin.val_castSucc]; rw [scr_pos m c t.val h0]

theorem Phi_some (c : Dev nD) (t : Fin ((cfgA F).N + 1)) : Phi m c t
    ⊢ iprop((some (F := F) c sc0 ∗ some (F := F) c sc1 ∗ some (F := F) c sc2) ∗ (tab.view.loc (c : Thread nD τ) ↦{fullShare.right} T0 (F := F)) ∗ ∃ r, prngReg c r) := by
  unfold Phi
  iintro ⟨HS, HT⟩
  isplitl [HS]; · iapply (scr_some m c _ _); iexact HS
  iexact HT

/-- The proof data of the pipeline. -/
def dats (_ : Fin 1) (c : Dev nD) : Dat τ (Elt F) Unit ℕ (UR sig nD τ) ℕ (cfgA F) c where
  A w := V m c (Pipeline.arrRef (cfgA F).spec w)
  after w t := match w with
    | ⟨0, _⟩ => iblk m c (0 : Fin 9) t
    | ⟨1, _⟩ => iblk m c (1 : Fin 9) t
    | ⟨2, _⟩ => iblk m c (2 : Fin 9) t
    | ⟨3, _⟩ => iblk m c (3 : Fin 9) t
    | ⟨4, _⟩ => iblk m c (4 : Fin 9) t
    | ⟨5, _⟩ => iblk m c (5 : Fin 9) t
    | ⟨6, _⟩ => iblk m c (6 : Fin 9) t
    | ⟨7, _⟩ => fin (state m c t.val t.isLt)
    | ⟨8, _⟩ => (state m c t.val t.isLt).dl
  Φ := Phi m c
  q _ := fullShare
  owed _ := 0

theorem after_0 (c : Dev nD) (t : Fin (cfgA F).N) : (dats m 0 c).after (0 : Fin 9) t = iblk m c (0 : Fin 9) t := by dsimp only [dats]
theorem after_1 (c : Dev nD) (t : Fin (cfgA F).N) : (dats m 0 c).after (1 : Fin 9) t = iblk m c (1 : Fin 9) t := by dsimp only [dats]
theorem after_2 (c : Dev nD) (t : Fin (cfgA F).N) : (dats m 0 c).after (2 : Fin 9) t = iblk m c (2 : Fin 9) t := by dsimp only [dats]
theorem after_3 (c : Dev nD) (t : Fin (cfgA F).N) : (dats m 0 c).after (3 : Fin 9) t = iblk m c (3 : Fin 9) t := by dsimp only [dats]
theorem after_4 (c : Dev nD) (t : Fin (cfgA F).N) : (dats m 0 c).after (4 : Fin 9) t = iblk m c (4 : Fin 9) t := by dsimp only [dats]
theorem after_5 (c : Dev nD) (t : Fin (cfgA F).N) : (dats m 0 c).after (5 : Fin 9) t = iblk m c (5 : Fin 9) t := by dsimp only [dats]
theorem after_6 (c : Dev nD) (t : Fin (cfgA F).N) : (dats m 0 c).after (6 : Fin 9) t = iblk m c (6 : Fin 9) t := by dsimp only [dats]
theorem after_7 (c : Dev nD) (t : Fin (cfgA F).N) : (dats m 0 c).after (7 : Fin 9) t = fin (state m c t.val t.isLt) := by dsimp only [dats]
theorem after_8 (c : Dev nD) (t : Fin (cfgA F).N) : (dats m 0 c).after (8 : Fin 9) t = (state m c t.val t.isLt).dl := by dsimp only [dats]

theorem before_0 (c : Dev nD) (t : Fin (cfgA F).N) (d) : (dats m 0 c).before (0 : Fin 9) t d = iblk m c (0 : Fin 9) t :=
  ((dats m 0 c).before_in_eq_fetched (0 : Fin 9) rfl (fun _ => rfl) (fun _ _ _ => rfl) (fun t => by rw [after_0]; unfold Dat.blockOf iblk; rfl) t d).trans
    (by unfold Dat.fetched Dat.blockOf iblk; rfl)
theorem before_1 (c : Dev nD) (t : Fin (cfgA F).N) (d) : (dats m 0 c).before (1 : Fin 9) t d = iblk m c (1 : Fin 9) t :=
  ((dats m 0 c).before_in_eq_fetched (1 : Fin 9) rfl (fun _ => rfl) (fun _ _ _ => rfl) (fun t => by rw [after_1]; unfold Dat.blockOf iblk; rfl) t d).trans
    (by unfold Dat.fetched Dat.blockOf iblk; rfl)
theorem before_2 (c : Dev nD) (t : Fin (cfgA F).N) (d) : (dats m 0 c).before (2 : Fin 9) t d = iblk m c (2 : Fin 9) t :=
  ((dats m 0 c).before_in_eq_fetched (2 : Fin 9) rfl (fun _ => rfl) (fun _ _ _ => rfl) (fun t => by rw [after_2]; unfold Dat.blockOf iblk; rfl) t d).trans
    (by unfold Dat.fetched Dat.blockOf iblk; rfl)
theorem before_3 (c : Dev nD) (t : Fin (cfgA F).N) (d) : (dats m 0 c).before (3 : Fin 9) t d = iblk m c (3 : Fin 9) t :=
  ((dats m 0 c).before_in_eq_fetched (3 : Fin 9) rfl (fun _ => rfl) (fun _ _ _ => rfl) (fun t => by rw [after_3]; unfold Dat.blockOf iblk; rfl) t d).trans
    (by unfold Dat.fetched Dat.blockOf iblk; rfl)
theorem before_4 (c : Dev nD) (t : Fin (cfgA F).N) (d) : (dats m 0 c).before (4 : Fin 9) t d = iblk m c (4 : Fin 9) t :=
  ((dats m 0 c).before_in_eq_fetched (4 : Fin 9) rfl (fun _ => rfl) (fun _ _ _ => rfl) (fun t => by rw [after_4]; unfold Dat.blockOf iblk; rfl) t d).trans
    (by unfold Dat.fetched Dat.blockOf iblk; rfl)
theorem before_5 (c : Dev nD) (t : Fin (cfgA F).N) (d) : (dats m 0 c).before (5 : Fin 9) t d = iblk m c (5 : Fin 9) t :=
  ((dats m 0 c).before_in_eq_fetched (5 : Fin 9) rfl (fun _ => rfl) (fun _ _ _ => rfl) (fun t => by rw [after_5]; unfold Dat.blockOf iblk; rfl) t d).trans
    (by unfold Dat.fetched Dat.blockOf iblk; rfl)
theorem before_6 (c : Dev nD) (t : Fin (cfgA F).N) (d) : (dats m 0 c).before (6 : Fin 9) t d = iblk m c (6 : Fin 9) t :=
  ((dats m 0 c).before_in_eq_fetched (6 : Fin 9) rfl (fun _ => rfl) (fun _ _ _ => rfl) (fun t => by rw [after_6]; unfold Dat.blockOf iblk; rfl) t d).trans
    (by unfold Dat.fetched Dat.blockOf iblk; rfl)

/-- The row sums' buffer, at a point that is not the first of its row, holds what the point before left. -/
theorem before_8 (c : Dev nD) (t : Fin (cfgA F).N) (h0 : t.val ≠ 0)
    (hf : ((cfgA F).win (8 : Fin 9)).flush ⟨t.val - 1, Nat.lt_of_le_of_lt (Nat.sub_le _ _) t.isLt⟩ = false) (d) :
    (dats m 0 c).before (8 : Fin 9) t d = (state m c (t.val - 1) (Nat.lt_of_le_of_lt (Nat.sub_le _ _) t.isLt)).dl := by
  rw [(dats m 0 c).before_of_pos (8 : Fin 9) t h0 (((cfgA F).win (8 : Fin 9)).fetch_out rfl t), hf, if_neg Bool.false_ne_true]
  unfold Dat.left
  rw [(sched (F := F) ⟨t.val - 1, Nat.lt_of_le_of_lt (Nat.sub_le _ _) t.isLt⟩).2.2.2.2.1]
  rfl

end Cert.KernelIdeal.Fox

end
-- ==== Proof.Fox.Math.lean ====
/-
The gradient of causal attention with a key bias, with respect to the queries, over the real numbers.

One head: query, key, value and cotangent rows, a bias for each key, and the scale of the scores. `dq` is the
gradient as sums over all keys, in the form the tiles add up; `dq_eq_vjp` rewrites it into the form that
differentiating the softmax row by row gives.
-/
module

public import Mathlib.Analysis.SpecialFunctions.Log.Basic
public import Mathlib.Algebra.BigOperators.Fin
public import Mathlib.Algebra.BigOperators.Intervals
public import Mathlib.Algebra.BigOperators.Field
public import Mathlib.Tactic.FieldSimp
public import Mathlib.Tactic.Ring
public import Mathlib.Tactic.Linarith

@[expose] public section

noncomputable section

namespace Cert.FoxMath

open Finset

/-- One head: rows of queries, keys, values and cotangents, a bias for each position, the scale. -/
structure Head where
  q : ℕ → ℕ → ℝ
  k : ℕ → ℕ → ℝ
  v : ℕ → ℕ → ℝ
  g : ℕ → ℕ → ℝ
  c : ℕ → ℝ
  σ : ℝ

namespace Head

variable (H : Head)

/-- The score of a query against a key. -/
def sc (i j : ℕ) : ℝ := (∑ d : Fin 128, H.q i d * H.σ * H.k j d) + -H.c j
/-- The sum of the exponentials of a query's scores over the keys it sees. -/
def L (i : ℕ) : ℝ := ∑ j ∈ range (i + 1), Real.exp (H.sc i j)
/-- A query's weight on a key. -/
def p (i j : ℕ) : ℝ := if j ≤ i then Real.exp (H.sc i j - Real.log (H.L i)) else 0
/-- The cotangent of a weight. -/
def dp (i j : ℕ) : ℝ := ∑ d : Fin 128, H.v j d * H.g i d
/-- The three running sums over the first `n` keys. -/
def D (n i : ℕ) : ℝ := ∑ j ∈ range n, H.p i j * H.dp i j
def A (n i d : ℕ) : ℝ := ∑ j ∈ range n, H.k j d * (H.p i j * H.dp i j)
def B (n i d : ℕ) : ℝ := ∑ j ∈ range n, H.k j d * H.p i j
/-- The gradient with respect to a query. -/
def dq (n i d : ℕ) : ℝ := (H.A n i d - H.D n i * H.B n i d) * H.σ

theorem L_pos (i : ℕ) : 0 < H.L i :=
  sum_pos (fun _ _ => Real.exp_pos _) ⟨0, mem_range.2 (Nat.succ_pos i)⟩

theorem p_of_le {i j : ℕ} (h : j ≤ i) : H.p i j = Real.exp (H.sc i j - Real.log (H.L i)) := if_pos h
theorem p_of_lt {i j : ℕ} (h : i < j) : H.p i j = 0 := if_neg (Nat.not_le.2 h)

theorem D_add (b w i : ℕ) : H.D (b + w) i = H.D b i + ∑ j : Fin w, H.p i (b + j) * H.dp i (b + j) := by
  unfold D; rw [sum_range_add, sum_range (fun x => H.p i (b + x) * H.dp i (b + x))]
theorem A_add (b w i d : ℕ) : H.A (b + w) i d = H.A b i d + ∑ j : Fin w, H.k (b + j) d * (H.p i (b + j) * H.dp i (b + j)) := by
  unfold A; rw [sum_range_add, sum_range (fun x => H.k (b + x) d * (H.p i (b + x) * H.dp i (b + x)))]
theorem B_add (b w i d : ℕ) : H.B (b + w) i d = H.B b i d + ∑ j : Fin w, H.k (b + j) d * H.p i (b + j) := by
  unfold B; rw [sum_range_add, sum_range (fun x => H.k (b + x) d * H.p i (b + x))]

/-- Keys after the query add nothing. -/
theorem sum_cut (f : ℕ → ℝ) {n m i : ℕ} (hn : i < n) (hm : n ≤ m) (hf : ∀ j, i < j → f j = 0) :
    ∑ j ∈ range n, f j = ∑ j ∈ range m, f j := by
  refine sum_subset (range_mono hm) fun j _ hj => hf j ?_
  have := mt mem_range.2 hj
  omega

theorem dq_cut {n m i : ℕ} (hn : i < n) (hm : n ≤ m) (d : ℕ) : H.dq n i d = H.dq m i d := by
  unfold dq A B D
  rw [sum_cut _ hn hm (fun j hj => by rw [H.p_of_lt hj, zero_mul, mul_zero]),
    sum_cut _ hn hm (fun j hj => by rw [H.p_of_lt hj, zero_mul]),
    sum_cut _ hn hm (fun j hj => by rw [H.p_of_lt hj, mul_zero])]

/-- A shifted exponential, masked. -/
def E (M : ℝ) (i j : ℕ) : ℝ := if j ≤ i then Real.exp (H.sc i j - M) else 0

theorem E_eq (M : ℝ) (i j : ℕ) : H.E M i j = H.p i j * (H.L i * Real.exp (-M)) := by
  unfold E p
  split
  · rw [Real.exp_sub, Real.exp_sub, Real.exp_log (H.L_pos i), Real.exp_neg]
    have := (H.L_pos i).ne'
    field_simp
  · rw [zero_mul]

theorem sum_p {n i : ℕ} (hn : i < n) : ∑ j ∈ range n, H.p i j = 1 := by
  rw [← sum_cut (H.p i) (Nat.lt_succ_self i) (Nat.succ_le_of_lt hn) fun j hj => H.p_of_lt hj]
  have h : ∀ j ∈ range (i + 1), H.p i j = Real.exp (H.sc i j) / H.L i := fun j hj => by
    rw [H.p_of_le (Nat.lt_succ_iff.1 (mem_range.1 hj)), Real.exp_sub, Real.exp_log (H.L_pos i)]
  rw [sum_congr rfl h, ← sum_div]
  exact div_self (H.L_pos i).ne'

theorem sum_E (M : ℝ) {n i : ℕ} (hn : i < n) : ∑ j ∈ range n, H.E M i j = H.L i * Real.exp (-M) := by
  simp only [E_eq]; rw [← sum_mul, H.sum_p hn, one_mul]

theorem sum_E_pos (M : ℝ) {n i : ℕ} (hn : i < n) : 0 < ∑ j ∈ range n, H.E M i j := by
  rw [H.sum_E M hn]; exact mul_pos (H.L_pos i) (Real.exp_pos _)

/-- The logarithm of the sum of exponentials, shifted by any number. -/
theorem log_L (M : ℝ) {n i : ℕ} (hn : i < n) : M + Real.log (∑ j ∈ range n, H.E M i j) = Real.log (H.L i) := by
  rw [H.sum_E M hn, Real.log_mul (H.L_pos i).ne' (Real.exp_pos _).ne', Real.log_exp]; ring

/-- The gradient in the form that differentiating the softmax gives: the cotangent of a weight divided by the row's sum,
    less the row's sum of cotangents times exponentials over the square of that sum. -/
theorem dq_eq_vjp (M : ℝ) {n i : ℕ} (hn : i < n) (d : ℕ) :
    (∑ j ∈ range n, (H.dp i j / (∑ j ∈ range n, H.E M i j)
        + -(∑ l ∈ range n, H.dp i l * (1 / ((∑ j ∈ range n, H.E M i j) * (∑ j ∈ range n, H.E M i j))) * H.E M i l)) * H.E M i j
          * H.k j d) * H.σ
      = H.dq n i d := by
  have hS := (H.sum_E_pos M hn).ne'
  have hE : ∀ j, H.E M i j = H.p i j * (∑ j ∈ range n, H.E M i j) := fun j => by rw [H.sum_E M hn, ← E_eq]
  generalize (∑ j ∈ range n, H.E M i j) = S at hS hE ⊢
  have h1 : (∑ l ∈ range n, H.dp i l * (1 / (S * S)) * H.E M i l) = H.D n i / S := by
    unfold D; rw [sum_div]
    exact sum_congr rfl fun l _ => by rw [hE]; field_simp
  rw [h1]
  unfold dq A B
  congr 1
  rw [mul_sum, ← sum_sub_distrib]
  exact sum_congr rfl fun j _ => by rw [hE]; field_simp; ring

end Head

end Cert.FoxMath

end
-- ==== Proof.Fox.Real.lean ====
/-
Real numbers among the extended reals: sums, the masked scores, and one head of the arrays.
-/
module

public import proofs.«01_k».proof.Proof.Fox.Math
public import Idealize.ShloMosaic.PureOps.Ideal

@[expose] public section

set_option maxRecDepth 16384

noncomputable section

namespace Cert.FoxMath

open Idealize.ShloMosaic

/-- The scale of the scores. -/
def scale : ℝ := (Ideal.ofBits .f32 0x3DB504F3#32).toReal

theorem scale_eq : Ideal.ofBits .f32 0x3DB504F3#32 = ((scale : ℝ) : EReal) := by
  unfold scale
  refine (EReal.coe_toReal ?_ ?_).symm <;>
  · simp [Ideal.ofBits, Ideal.ieee, -EReal.coe_mul]

/-- A sum of reals, taken among the extended reals. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem bot_eq : Ideal.ofBits .f32 0xFF800000#32 = (⊥ : EReal) := by
  simp [Ideal.ofBits, Ideal.ieee]

/-- The greatest of a query's scores is a real number. -/
theorem max_real {n : ℕ} (i : Fin n) (r : ℕ → ℝ) :
    ∃ M : ℝ, Finset.univ.fold max (⊥ : EReal) (fun j : Fin n => if j.val ≤ i.val then ((r j : ℝ) : EReal) else ⊥) = ((M : ℝ) : EReal) := by
  set s := Finset.univ.fold max (⊥ : EReal) (fun j : Fin n => if j.val ≤ i.val then ((r j : ℝ) : EReal) else ⊥) with hs
  have hb : s ≠ ⊥ := fun h => by
    have : ((r i : ℝ) : EReal) ≤ s := Finset.le_fold_max _ |>.2 (.inr ⟨i, Finset.mem_univ _, by rw [if_pos le_rfl]⟩)
    rw [h] at this
    exact absurd (le_bot_iff.1 this) (EReal.coe_ne_bot _)
  have ht : s ≠ ⊤ := by
    have : s < ⊤ := (Finset.fold_max_lt _).2 ⟨bot_lt_top, fun j _ => by split; exacts [EReal.coe_lt_top _, bot_lt_top]⟩
    exact this.ne
  exact ⟨s.toReal, (EReal.coe_toReal ht hb).symm⟩

/-- The exponential of a masked score, shifted by a real number. -/
theorem exp_masked (H : Head) (i j : ℕ) (a M : ℝ) :
    Ideal.exp ((if j ≤ i then ((H.sc i j + a : ℝ) : EReal) else ⊥) - ((M : ℝ) : EReal)) = ((H.E (M - a) i j : ℝ) : EReal) := by
  unfold Head.E
  split
  · rw [← EReal.coe_sub, Ideal.exp_coe]; congr 2; ring
  · simp

/-- One head of the arrays. -/
def headOf (q k v g : Fin 8192 → Fin 512 → EReal) (c : Fin 8192 → Fin 4 → EReal) (h : Fin 4) : Head where
  q i d := (q ⟨i % 8192, Nat.mod_lt _ (by norm_num)⟩ ⟨(h * 128 + d) % 512, Nat.mod_lt _ (by norm_num)⟩).toReal
  k i d := (k ⟨i % 8192, Nat.mod_lt _ (by norm_num)⟩ ⟨(h * 128 + d) % 512, Nat.mod_lt _ (by norm_num)⟩).toReal
  v i d := (v ⟨i % 8192, Nat.mod_lt _ (by norm_num)⟩ ⟨(h * 128 + d) % 512, Nat.mod_lt _ (by norm_num)⟩).toReal
  g i d := (g ⟨i % 8192, Nat.mod_lt _ (by norm_num)⟩ ⟨(h * 128 + d) % 512, Nat.mod_lt _ (by norm_num)⟩).toReal
  c i := (c ⟨i % 8192, Nat.mod_lt _ (by norm_num)⟩ h).toReal
  σ := scale

/-- An entry of an array whose entries are real, read through the head's indices. -/
theorem entry_eq (x : Fin 8192 → Fin 512 → EReal) (hx : ∀ a b, x a b = (((x a b).toReal : ℝ) : EReal)) (h : Fin 4) (i : Fin 8192) (d : Fin 128)
    (e : h.val * 128 + d.val < 512) :
    x i ⟨h.val * 128 + d.val, e⟩
      = (((x ⟨i.val % 8192, Nat.mod_lt _ (by norm_num)⟩ ⟨(h.val * 128 + d.val) % 512, Nat.mod_lt _ (by norm_num)⟩).toReal : ℝ) : EReal) := by
  rw [← hx]
  congr 1
  · exact Fin.ext (Nat.mod_eq_of_lt i.isLt).symm
  · exact Fin.ext (Nat.mod_eq_of_lt e).symm

theorem bias_eq (x : Fin 8192 → Fin 4 → EReal) (hx : ∀ a b, x a b = (((x a b).toReal : ℝ) : EReal)) (h : Fin 4) (i : Fin 8192) :
    x i h = (((x ⟨i.val % 8192, Nat.mod_lt _ (by norm_num)⟩ h).toReal : ℝ) : EReal) := by
  rw [← hx]
  congr 1
  exact Fin.ext (Nat.mod_eq_of_lt i.isLt).symm

end Cert.FoxMath

end
-- ==== Proof.Fox.Point.lean ====
/-
What the body computes at a point, over the real numbers.
-/
module

public import proofs.«01_k».proof.Proof.Fox.Step
public import proofs.«01_k».proof.Proof.Fox.Real
public import Idealize.ShloMosaic.Lib.Pointwise
public import Idealize.ShloMosaic.Lib.WordCmp

@[expose] public section

set_option maxRecDepth 16384

noncomputable section

namespace Cert.KernelIdeal.Fox

open Cert.KernelIdeal Cert.KernelIdeal.Gen Cert.FoxMath
open Idealize.ShloMosaic

/-- The tiles of one head at a query offset `I` and a key offset `J`. -/
structure Reads (H : Head) (I J : ℕ) (x : Tiles Ideal) : Prop where
  q (i : Fin 1024) (d : Fin 128) : x.q (ix2 i d) = ((H.q (I + i) d : ℝ) : EReal)
  k (j : Fin 1024) (d : Fin 128) : x.k (ix2 j d) = ((H.k (J + j) d : ℝ) : EReal)
  kx (j : Fin 1024) (l : Fin 128) : x.kx (ix3 (0 : Fin 1) j l) = ((-H.c (J + j) : ℝ) : EReal)
  v (j : Fin 1024) (d : Fin 128) : x.v (ix2 j d) = ((H.v (J + j) d : ℝ) : EReal)
  lse (i : Fin 1024) : x.lse (ix3 (0 : Fin 1) (0 : Fin 1) i) = ((Real.log (H.L (I + i)) : ℝ) : EReal)

/-- The running buffers of one head at a query offset `I`, after the first `n` keys. -/
structure Holds (H : Head) (I n : ℕ) (s : St Ideal) : Prop where
  dl (i : Fin 1024) : s.dl (ix3 (0 : Fin 1) (0 : Fin 1) i) = ((H.D n (I + i) : ℝ) : EReal)
  acc (d : Fin 128) (i : Fin 1024) : s.acc (ix2 d i) = ((H.A n (I + i) d : ℝ) : EReal)
  pk (d : Fin 128) (i : Fin 1024) : s.pk (ix2 d i) = ((H.B n (I + i) d : ℝ) : EReal)
  dot (d : Fin 128) (i : Fin 1024) : s.dot (ix2 d i) = ((H.g (I + i) d : ℝ) : EReal)

/-- The weights of a tile below the diagonal. -/
theorem weight_off {H : Head} {I J : ℕ} {x : Tiles Ideal} (hx : Reads H I J x) (hσ : H.σ = scale) (j i : Fin 1024) (h : J + j.val ≤ I + i.val) :
    k0_pay11 x.q x.k x.kx x.lse (ix2 j i) = ((H.p (I + i) (J + j) : ℝ) : EReal) := by
  pointwise [k0_pay11]
  simp only [hx.kx, hx.q, hx.k, hx.lse, dite_eq_ite, ite_self, scale_eq, ← EReal.coe_mul, sum_coe, ← EReal.coe_add, ← EReal.coe_sub, Ideal.exp_coe]
  rw [H.p_of_le h]
  unfold Head.sc
  simp only [hσ, mul_comm]

/-- The weights of the tile on the diagonal: zero past the query. -/
theorem weight_diag {H : Head} {I : ℕ} {x : Tiles Ideal} (hx : Reads H I I x) (hσ : H.σ = scale) (j i : Fin 1024) :
    k0_pay15 x.q x.k x.kx x.lse (ix2 j i) = ((H.p (I + i) (I + j) : ℝ) : EReal) := by
  pointwise [k0_pay15]
  simp only [hx.kx, hx.q, hx.k, hx.lse, dite_eq_ite, ite_self, scale_eq, ← EReal.coe_mul, sum_coe, ← EReal.coe_add]
  have hc : IntOp.cmpi CmpIPredicate.sle (BitVec.ofNat 32 j.val) (BitVec.ofNat 32 i.val) = BitVec.ofBool (decide (j.val ≤ i.val)) :=
    WordCmp.cmpi_sle_ofNat (by omega) (by omega)
  rw [hc, show Named.named (F := Ideal) κ "mask" (φ := .f32) (4048155338#32) = (⊥ : EReal) from rfl]
  by_cases h : j.val ≤ i.val
  · rw [decide_eq_true h, H.p_of_le (Nat.add_le_add_left h I)]
    simp only [Scalar.select, ← EReal.coe_sub]
    unfold Head.sc
    simp only [hσ, mul_comm]
    rfl
  · rw [decide_eq_false h, H.p_of_lt (by omega)]
    simp [Scalar.select]

/-- The cotangent of the weights. -/
theorem pay13_read {H : Head} {I J : ℕ} {x : Tiles Ideal} {dot : S128x1024.Idx → Elt Ideal .f32} (hx : Reads H I J x)
    (hd : ∀ (d : Fin 128) (i : Fin 1024), dot (ix2 d i) = ((H.g (I + i) d : ℝ) : EReal)) (hσ : H.σ = scale) (j i : Fin 1024) (h : J + j.val ≤ I + i.val) :
    k0_pay13 x.q x.k x.kx x.lse x.v dot (ix2 j i) = ((H.p (I + i) (J + j) * H.dp (I + i) (J + j) : ℝ) : EReal) := by
  pointwise [k0_pay13]
  rw [weight_off hx hσ j i h]
  simp only [hx.v, hd, ← EReal.coe_mul, sum_coe]
  rfl

theorem pay17_read {H : Head} {I : ℕ} {x : Tiles Ideal} {dot : S128x1024.Idx → Elt Ideal .f32} (hx : Reads H I I x)
    (hd : ∀ (d : Fin 128) (i : Fin 1024), dot (ix2 d i) = ((H.g (I + i) d : ℝ) : EReal)) (hσ : H.σ = scale) (j i : Fin 1024) :
    k0_pay17 x.q x.k x.kx x.lse x.v dot (ix2 j i) = ((H.p (I + i) (I + j) * H.dp (I + i) (I + j) : ℝ) : EReal) := by
  pointwise [k0_pay17]
  rw [weight_diag hx hσ j i]
  simp only [hx.v, hd, ← EReal.coe_mul, sum_coe]
  rfl

/-- The empty sums at the first tile of a row. -/
theorem holds_start {H : Head} {I : ℕ} {g : S1024x128.Idx → Elt Ideal .f32}
    (hg : ∀ (i : Fin 1024) (d : Fin 128), g (ix2 i d) = ((H.g (I + i) d : ℝ) : EReal)) : Holds H I 0 (start g) where
  dl i := by
    show k0_pay2 (F := Ideal) (ix3 (0 : Fin 1) (0 : Fin 1) i) = _
    pointwise [k0_pay2]; simp [Head.D]
  acc d i := by
    show k0_pay4 (F := Ideal) (ix2 d i) = _
    pointwise [k0_pay4]; simp [Head.A]
  pk d i := by
    show k0_pay3 (F := Ideal) (ix2 d i) = _
    pointwise [k0_pay3]; simp [Head.B]
  dot d i := by
    show k0_pay1 g (ix2 d i) = _
    pointwise [k0_pay1]; exact hg i d

/-- A tile below the diagonal adds its keys to the sums. -/
theorem holds_off {H : Head} {I J : ℕ} {x : Tiles Ideal} {s : St Ideal} (hx : Reads H I J x) (hs : Holds H I J s) (hσ : H.σ = scale)
    (h : J + 1024 ≤ I) : Holds H I (J + 1024) (addOff x s) where
  dl i := by
    show k0_pay14 x.q x.k x.kx x.lse x.v s.dot s.dl (ix3 (0 : Fin 1) (0 : Fin 1) i) = _
    pointwise [k0_pay14]
    rw [hs.dl, H.D_add, EReal.coe_add, ← sum_coe]
    exact congrArg _ (Finset.sum_congr rfl fun j _ => pay13_read hx hs.dot hσ j i (by omega))
  acc d i := by
    show k0_pay5 (k0_pay12 x.k) (k0_pay13 x.q x.k x.kx x.lse x.v s.dot) s.acc (ix2 d i) = _
    pointwise [k0_pay5]
    rw [hs.acc, H.A_add, EReal.coe_add, ← sum_coe]
    refine congrArg _ (Finset.sum_congr rfl fun j _ => ?_)
    rw [pay13_read hx hs.dot hσ j i (by omega), show k0_pay12 x.k (ix2 d j) = x.k (ix2 j d) by pointwise [k0_pay12], hx.k, ← EReal.coe_mul]
  pk d i := by
    show k0_pay6 (k0_pay11 x.q x.k x.kx x.lse) (k0_pay12 x.k) s.pk (ix2 d i) = _
    pointwise [k0_pay6]
    rw [hs.pk, H.B_add, EReal.coe_add, ← sum_coe]
    refine congrArg _ (Finset.sum_congr rfl fun j _ => ?_)
    rw [weight_off hx hσ j i (by omega), show k0_pay12 x.k (ix2 d j) = x.k (ix2 j d) by pointwise [k0_pay12], hx.k, EReal.coe_mul]
  dot d i := hs.dot d i

/-- The tile on the diagonal does too. -/
theorem holds_diag {H : Head} {I : ℕ} {x : Tiles Ideal} {s : St Ideal} (hx : Reads H I I x) (hs : Holds H I I s) (hσ : H.σ = scale) :
    Holds H I (I + 1024) (addDiag x s) where
  dl i := by
    show k0_pay7 (k0_pay18 x.q x.k x.kx x.lse x.v s.dot s.dl) (ix3 (0 : Fin 1) (0 : Fin 1) i) = _
    pointwise [k0_pay7, k0_pay18]
    rw [hs.dl, H.D_add, EReal.coe_add, ← sum_coe]
    exact congrArg _ (Finset.sum_congr rfl fun j _ => pay17_read hx hs.dot hσ j i)
  acc d i := by
    show k0_pay8 (k0_pay16 x.k) (k0_pay17 x.q x.k x.kx x.lse x.v s.dot) s.acc (ix2 d i) = _
    pointwise [k0_pay8]
    rw [hs.acc, H.A_add, EReal.coe_add, ← sum_coe]
    refine congrArg _ (Finset.sum_congr rfl fun j _ => ?_)
    rw [pay17_read hx hs.dot hσ j i, show k0_pay16 x.k (ix2 d j) = x.k (ix2 j d) by pointwise [k0_pay16], hx.k, ← EReal.coe_mul]
  pk d i := by
    show k0_pay9 (k0_pay15 x.q x.k x.kx x.lse) (k0_pay16 x.k) s.pk (ix2 d i) = _
    pointwise [k0_pay9]
    rw [hs.pk, H.B_add, EReal.coe_add, ← sum_coe]
    refine congrArg _ (Finset.sum_congr rfl fun j _ => ?_)
    rw [weight_diag hx hσ j i, show k0_pay16 x.k (ix2 d j) = x.k (ix2 j d) by pointwise [k0_pay16], hx.k, EReal.coe_mul]
  dot d i := hs.dot d i

/-- The tile of the gradient, from the three sums. -/
theorem fin_read {H : Head} {I n : ℕ} {s : St Ideal} (hs : Holds H I n s) (hσ : H.σ = scale) (i : Fin 1024) (d : Fin 128) :
    fin s (ix2 i d) = ((H.dq n (I + i) d : ℝ) : EReal) := by
  show k0_pay10 s.acc s.dl s.pk (ix2 i d) = _
  pointwise [k0_pay10]
  rw [hs.acc, hs.dl, hs.pk, scale_eq, ← EReal.coe_mul, ← EReal.coe_sub, ← EReal.coe_mul]
  unfold Head.dq
  rw [hσ]

end Cert.KernelIdeal.Fox

end
-- ==== Proof.Fox.Host.lean ====
/-
What the host hands the call: the bias of each key, and the logarithms of the sums of exponentials.
-/
module

public import proofs.«01_k».proof.Proof.Fox.Traj
public import proofs.«01_k».proof.Proof.Fox.Point
public import Idealize.ShloMosaic.Lib.StableHlo.ReadAt

@[expose] public section

set_option maxRecDepth 16384

noncomputable section

namespace Cert.KernelIdeal.Fox

open Cert.KernelIdeal Cert.KernelIdeal.Gen Cert.FoxMath
open Idealize.ShloMosaic
open Idealize.ShloMosaic.TcCoe Idealize.ShloMosaic.Tactic

variable (m : (ℓ : Loc nD τ sig) → Buf (Elt Ideal) ℓ) (c : Dev nD)

/-- The five arguments. -/
def argQ (a : Fin 8192) (b : Fin 512) : EReal := m (c, Proc.tc.devRef main_arg0) (ix2 a b)
def argK (a : Fin 8192) (b : Fin 512) : EReal := m (c, Proc.tc.devRef main_arg1) (ix2 a b)
def argV (a : Fin 8192) (b : Fin 512) : EReal := m (c, Proc.tc.devRef main_arg2) (ix2 a b)
def argC (a : Fin 8192) (b : Fin 4) : EReal := m (c, Proc.tc.devRef main_arg3) (ix2 a b)
def argG (a : Fin 8192) (b : Fin 512) : EReal := m (c, Proc.tc.devRef main_arg4) (ix2 a b)

/-- Their entries are real. -/
structure RealArgs : Prop where
  q a b : argQ m c a b = (((argQ m c a b).toReal : ℝ) : EReal)
  k a b : argK m c a b = (((argK m c a b).toReal : ℝ) : EReal)
  v a b : argV m c a b = (((argV m c a b).toReal : ℝ) : EReal)
  g a b : argG m c a b = (((argG m c a b).toReal : ℝ) : EReal)
  c a b : argC m c a b = (((argC m c a b).toReal : ℝ) : EReal)

/-- One head of the arguments. -/
def hd (h : Fin 4) : Head := headOf (argQ m c) (argK m c) (argV m c) (argG m c) (argC m c) h

variable {m c}

theorem q_read (R : RealArgs m c) (h : Fin 4) (i : Fin 8192) (d : Fin 128) (e : h.val * 128 + d.val < 512) :
    argQ m c i ⟨h.val * 128 + d.val, e⟩ = (((hd m c h).q i d : ℝ) : EReal) := entry_eq _ R.q h i d e
theorem k_read (R : RealArgs m c) (h : Fin 4) (i : Fin 8192) (d : Fin 128) (e : h.val * 128 + d.val < 512) :
    argK m c i ⟨h.val * 128 + d.val, e⟩ = (((hd m c h).k i d : ℝ) : EReal) := entry_eq _ R.k h i d e
theorem v_read (R : RealArgs m c) (h : Fin 4) (i : Fin 8192) (d : Fin 128) (e : h.val * 128 + d.val < 512) :
    argV m c i ⟨h.val * 128 + d.val, e⟩ = (((hd m c h).v i d : ℝ) : EReal) := entry_eq _ R.v h i d e
theorem g_read (R : RealArgs m c) (h : Fin 4) (i : Fin 8192) (d : Fin 128) (e : h.val * 128 + d.val < 512) :
    argG m c i ⟨h.val * 128 + d.val, e⟩ = (((hd m c h).g i d : ℝ) : EReal) := entry_eq _ R.g h i d e
theorem c_read (R : RealArgs m c) (h : Fin 4) (i : Fin 8192) : argC m c i h = (((hd m c h).c i : ℝ) : EReal) := bias_eq _ R.c h i

/-- The key biases. -/
theorem kx_read (R : RealArgs m c) (h : Fin 4) (j : Fin 8192) (l : Fin 128) :
    (V m c main_v38 (ix3 h j l) : EReal) = ((-(hd m c h).c j : ℝ) : EReal) := by
  unfold V
  after_reads_at
  have e := c_read R h j
  unfold argC at e
  rw [e]
  rfl

/-- A query's score against a key, as the host computes it: below every number past the query. -/
def hostScore (m : (ℓ : Loc nD τ sig) → Buf (Elt Ideal) ℓ) (c : Dev nD) (h : Fin 4) (i x : Fin 8192) : EReal :=
  Scalar.select (IntOp.cmpi CmpIPredicate.sle (BitVec.ofNat 32 x.val) (BitVec.ofNat 32 i.val))
    (∑ d : Fin 128, argQ m c i ⟨h.val * 128 + d.val, by omega⟩ * Ideal.ofBits FTy.f32 1035273459#32 *
      argK m c x ⟨h.val * 128 + d.val, by omega⟩ - argC m c x h)
    (Ideal.ofBits FTy.f32 4286578688#32)

theorem hostScore_eq (R : RealArgs m c) (h : Fin 4) (i x : Fin 8192) :
    hostScore m c h i x = if x.val ≤ i.val then (((hd m c h).sc i x + 0 : ℝ) : EReal) else ⊥ := by
  unfold hostScore
  rw [WordCmp.cmpi_sle_ofNat (by omega) (by omega), bot_eq]
  by_cases hle : x.val ≤ i.val
  · rw [decide_eq_true hle, if_pos hle]
    simp only [q_read R, k_read R, c_read R, scale_eq, ← EReal.coe_mul, sum_coe, ← EReal.coe_sub]
    rw [add_zero]; rfl
  · rw [decide_eq_false hle, if_neg hle]; rfl

/-- The buffers before the host's last stretch of operations. -/
def V1 (m : (ℓ : Loc nD τ sig) → Buf (Elt Ideal) ℓ) (c : Dev nD) (b : DevRef τ sig) : Buf (Elt Ideal) (c, b) :=
  StableHlo.after (hostOps0 ++ hostOps0_1) (fun b => m (c, b)) b

theorem V_split (m : (ℓ : Loc nD τ sig) → Buf (Elt Ideal) ℓ) (c : Dev nD) (b : Ref sig .tc) :
    V m c b = StableHlo.after hostOps0_2 (V1 m c) b := by
  unfold V V1
  rw [show (opss (F := Ideal)).flatten = (hostOps0 ++ hostOps0_1) ++ hostOps0_2 from rfl, StableHlo.after_append]

/-- The score of a query against a key before the mask, and the mask. -/
theorem raw_read (m : (ℓ : Loc nD τ sig) → Buf (Elt Ideal) ℓ) (c : Dev nD) (h : Fin 4) (i x : Fin 8192) :
    (StableHlo.after hostOps0 (fun b => m (c, b)) main_v11 (ix3 h i x) : EReal)
      = ∑ d : Fin 128, argQ m c i ⟨h.val * 128 + d.val, by omega⟩ * Ideal.ofBits FTy.f32 1035273459#32 *
        argK m c x ⟨h.val * 128 + d.val, by omega⟩ - argC m c x h := by
  after_reads_at
  rfl

theorem mask_read (W : (b : DevRef τ sig) → b.ty.Contents (Elt Ideal)) (i x : Fin 8192) :
    (StableHlo.after hostOps0 W main_v16 (ix2 i x) : BitVec 1)
      = IntOp.cmpi CmpIPredicate.sle (BitVec.ofNat 32 x.val) (BitVec.ofNat 32 i.val) := by
  after_reads_at

theorem none_read (W : (b : DevRef τ sig) → b.ty.Contents (Elt Ideal)) :
    (StableHlo.after hostOps0 W main_cst_0 Idealize.ShloMosaic.ix0 : EReal) = Ideal.ofBits FTy.f32 4286578688#32 := by
  after_reads_at

theorem where_array (W : (b : DevRef τ sig) → b.ty.Contents (Elt Ideal)) :
    StableHlo.after hostOps0_1 W main_v17 = select (broadcastInDim S4x8192x8192 ![1, 2] bcast_S8192x8192_S4x8192x8192_1_2 (W main_v16))
      (W main_v11) (broadcastInDim S4x8192x8192 ![] bcast_S_S4x8192x8192 (W main_cst_0)) := by
  simp only [StableHlo.TRef.nullary, StableHlo.TRef.ternary, StableHlo.TRef.unary, StableHlo.TRef.toBuf, StableHlo.TRef.ofBuf, cast_eq]
  after_results_simp <;> rfl

theorem where_read (W : (b : DevRef τ sig) → b.ty.Contents (Elt Ideal)) (h : Fin 4) (i x : Fin 8192) :
    (StableHlo.after hostOps0_1 W main_v17 (ix3 h i x) : EReal)
      = Scalar.select (W main_v16 (ix2 i x) : BitVec 1) (W main_v11 (ix3 h i x) : EReal) (W main_cst_0 Idealize.ShloMosaic.ix0 : EReal) := by
  rw [where_array]
  generalize W main_v16 = a
  generalize W main_v11 = b
  generalize W main_cst_0 = d
  clean_types
  pointwise

theorem score_read (m : (ℓ : Loc nD τ sig) → Buf (Elt Ideal) ℓ) (c : Dev nD) (h : Fin 4) (i x : Fin 8192) :
    (V1 m c main_v17 (ix3 h i x) : EReal) = hostScore m c h i x := by
  unfold V1 hostScore
  rw [StableHlo.after_append, where_read, raw_read, mask_read, none_read]

/-- The greatest score of each query. -/
def hostMax (s : FVec Ideal S4x8192x8192 .f32) : FVec Ideal S4x8192 .f32 :=
  Host.reduce FloatOps.maximumf s (constant S_ .f32 0xFF800000#32) reducesTo_S4x8192x8192_S4x8192_d2 h_S_

theorem lse_array (W : (b : DevRef τ sig) → b.ty.Contents (Elt Ideal)) :
    StableHlo.after hostOps0_2 W main_v34 = transpose S4x1x8192 [0, 2, 1] (addf (broadcastInDim S4x8192x1 ![0, 1] bcast_S4x8192_S4x8192x1_0_1 (hostMax (W main_v17)))
      (Host.log (broadcastInDim S4x8192x1 ![0, 1] bcast_S4x8192_S4x8192x1_0_1 (Host.reduceAdd (Host.exp (subf (W main_v17)
        (broadcastInDim S4x8192x8192 ![0, 1, 2] bcast_S4x8192x1_S4x8192x8192_0_1_2 (broadcastInDim S4x8192x1 ![0, 1] bcast_S4x8192_S4x8192x1_0_1 (hostMax (W main_v17))))))
        (constant S_ .f32 0x00000000#32) reducesTo_S4x8192x8192_S4x8192_d2 h_S_)))) transposes_S4x8192x1_S4x1x8192_0_2_1 := by
  unfold hostMax
  after_results_simp <;> rfl

theorem max_read (s : FVec Ideal S4x8192x8192 .f32) (h : Fin 4) (i : Fin 8192) :
    (hostMax s (ix2 h i) : EReal) = Finset.univ.fold max (Ideal.ofBits FTy.f32 4286578688#32) (fun x : Fin 8192 => (s (ix3 h i x) : EReal)) := by
  unfold hostMax
  pointwise

theorem lse_term_read (s : FVec Ideal S4x8192x8192 .f32) (M : FVec Ideal S4x8192 .f32) (h : Fin 4) (i : Fin 8192) :
    (transpose S4x1x8192 [0, 2, 1] (addf (broadcastInDim S4x8192x1 ![0, 1] bcast_S4x8192_S4x8192x1_0_1 M)
      (Host.log (broadcastInDim S4x8192x1 ![0, 1] bcast_S4x8192_S4x8192x1_0_1 (Host.reduceAdd (Host.exp (subf s
        (broadcastInDim S4x8192x8192 ![0, 1, 2] bcast_S4x8192x1_S4x8192x8192_0_1_2 (broadcastInDim S4x8192x1 ![0, 1] bcast_S4x8192_S4x8192x1_0_1 M))))
        (constant S_ .f32 0x00000000#32) reducesTo_S4x8192x8192_S4x8192_d2 h_S_)))) transposes_S4x8192x1_S4x1x8192_0_2_1 (ix3 h (0 : Fin 1) i) : EReal)
      = M (ix2 h i) + Ideal.log (∑ x : Fin 8192, Ideal.exp (s (ix3 h i x) - M (ix2 h i))) := by
  pointwise

/-- The logarithm of the sum of a query's exponentials, from the greatest of its scores. -/
theorem lse_eq (R : RealArgs m c) (h : Fin 4) (i : Fin 8192) :
    Finset.univ.fold max (Ideal.ofBits FTy.f32 4286578688#32) (fun x : Fin 8192 => hostScore m c h i x)
      + Ideal.log (∑ x : Fin 8192, Ideal.exp (hostScore m c h i x
        - Finset.univ.fold max (Ideal.ofBits FTy.f32 4286578688#32) (fun x : Fin 8192 => hostScore m c h i x)))
      = ((Real.log ((hd m c h).L i) : ℝ) : EReal) := by
  simp only [hostScore_eq R, bot_eq]
  obtain ⟨M, hM⟩ := max_real i (fun j => (hd m c h).sc i j + 0)
  rw [hM]
  simp only [exp_masked, sum_coe, sub_zero]
  have hp := (hd m c h).sum_E_pos M i.isLt
  rw [Finset.sum_range] at hp
  rw [Ideal.log_coe, if_neg (not_le.2 hp), ← EReal.coe_add, ← Finset.sum_range, (hd m c h).log_L M i.isLt]

/-- The logarithms of the sums of exponentials. -/
theorem lse_read (R : RealArgs m c) (h : Fin 4) (i : Fin 8192) :
    (V m c main_v34 (ix3 h (0 : Fin 1) i) : EReal) = ((Real.log ((hd m c h).L i) : ℝ) : EReal) := by
  have hs : ∀ x : Fin 8192, (V1 m c main_v17 (ix3 h i x) : EReal) = hostScore m c h i x := fun x => score_read m c h i x
  have key := lse_eq R h i
  simp only [← hs] at key
  refine (congrFun ((V_split m c main_v34).trans (lse_array (V1 m c))) (ix3 h (0 : Fin 1) i)).trans ?_
  generalize V1 m c main_v17 = s at key ⊢
  refine (lse_term_read s (hostMax s) h i).trans ?_
  rw [max_read]
  exact key

end Cert.KernelIdeal.Fox

end
-- ==== Proof.Fox.Place.lean ====
/-
Where each grid point stands: its head, its query tile, its key tile, and the blocks of the arrays it takes.
-/
module

public import proofs.«01_k».proof.Proof.Fox.Host

@[expose] public section

set_option maxRecDepth 16384
set_option Elab.async false

noncomputable section

namespace Cert.KernelIdeal.Fox

open Cert.KernelIdeal Cert.KernelIdeal.Gen Cert.FoxMath
open Idealize.ShloMosaic
open Idealize.ShloMosaic.TcCoe Idealize.ShloMosaic.Tactic
open Idealize.ShloMosaic.Pipeline (Dat Cfg Window)

variable {F : FTy → Type} [FloatOps F] [Named F]

/-- The query tile, the key tile and the head of a point. -/
def qT (t : Fin (cfgA F).N) : ℕ := ((cfgA F).win (0 : Fin 9)).index t (0 : Fin 2)
def kT (t : Fin (cfgA F).N) : ℕ := ((cfgA F).win (1 : Fin 9)).index t (0 : Fin 2)
def hT (t : Fin (cfgA F).N) : ℕ := ((cfgA F).win (0 : Fin 9)).index t (1 : Fin 2)

/-- The blocks a point takes. -/
abbrev Blocks (t : Fin (cfgA F).N) : Prop :=
  qT t < 8 ∧ kT t < 8 ∧ hT t < 4
  ∧ ((cfgA F).win (1 : Fin 9)).index t (1 : Fin 2) = hT t
  ∧ (((cfgA F).win (2 : Fin 9)).index t (0 : Fin 3) = hT t ∧ ((cfgA F).win (2 : Fin 9)).index t (1 : Fin 3) = kT t ∧ ((cfgA F).win (2 : Fin 9)).index t (2 : Fin 3) = 0)
  ∧ (((cfgA F).win (3 : Fin 9)).index t (0 : Fin 2) = kT t ∧ ((cfgA F).win (3 : Fin 9)).index t (1 : Fin 2) = hT t)
  ∧ (((cfgA F).win (4 : Fin 9)).index t (0 : Fin 2) = qT t ∧ ((cfgA F).win (4 : Fin 9)).index t (1 : Fin 2) = hT t)
  ∧ (((cfgA F).win (6 : Fin 9)).index t (0 : Fin 3) = hT t ∧ ((cfgA F).win (6 : Fin 9)).index t (1 : Fin 3) = 0 ∧ ((cfgA F).win (6 : Fin 9)).index t (2 : Fin 3) = qT t)
  ∧ (((cfgA F).win (7 : Fin 9)).index t (0 : Fin 2) = qT t ∧ ((cfgA F).win (7 : Fin 9)).index t (1 : Fin 2) = hT t)

/-- The order of the points: the first of a row has key tile 0, every other follows the key tile before it in the same row, the
    diagonal is met where the tiles agree, and before it the key tile comes earlier. -/
abbrev Order (t : Fin (cfgA F).N) : Prop :=
  (First (F := F) T0 (crd t) → kT t = 0)
  ∧ (¬ First (F := F) T0 (crd t) → t.val ≠ 0 ∧ qT (F := F) ⟨t.val - 1, Nat.lt_of_le_of_lt (Nat.sub_le _ _) t.isLt⟩ = qT t
      ∧ hT (F := F) ⟨t.val - 1, Nat.lt_of_le_of_lt (Nat.sub_le _ _) t.isLt⟩ = hT t
      ∧ kT (F := F) ⟨t.val - 1, Nat.lt_of_le_of_lt (Nat.sub_le _ _) t.isLt⟩ + 1 = kT t)
  ∧ (OnDiag (F := F) T0 (crd t) → kT t = qT t) ∧ (¬ OnDiag (F := F) T0 (crd t) → kT t < qT t)

set_option synthInstance.maxSize 65536 in
set_option synthInstance.maxHeartbeats 400000 in
theorem blocks : ∀ t : Fin (cfgA F).N, Blocks t := of_decide_eq_true (by sl_kernel_rfl)

set_option synthInstance.maxSize 65536 in
set_option synthInstance.maxHeartbeats 400000 in
theorem order : ∀ t : Fin (cfgA F).N, Order t := of_decide_eq_true (by sl_kernel_rfl)

set_option synthInstance.maxSize 65536 in
set_option synthInstance.maxHeartbeats 400000 in
/-- Every query tile of every head has its point on the diagonal. -/
theorem reached : ∀ (a : Fin 8) (h : Fin 4), ∃ t : Fin (cfgA F).N, OnDiag (F := F) T0 (crd t) ∧ qT t = a.val ∧ hT t = h.val :=
  of_decide_eq_true (by sl_kernel_rfl)

end Cert.KernelIdeal.Fox

end
-- ==== Proof.Fox.Tile.lean ====
/-
The tiles of a point as entries of one head.
-/
module

public import proofs.«01_k».proof.Proof.Fox.Place
public import Idealize.ShloMosaic.Lib.Pipeline.Value

@[expose] public section

set_option maxRecDepth 16384

noncomputable section

namespace Cert.KernelIdeal.Fox

open Cert.KernelIdeal Cert.KernelIdeal.Gen Cert.FoxMath
open Idealize.ShloMosaic
open Idealize.ShloMosaic.TcCoe Idealize.ShloMosaic.Tactic
open Idealize.ShloMosaic.Pipeline (Dat Cfg Window)

variable {m : (ℓ : Loc nD τ sig) → Buf (Elt Ideal) ℓ} {c : Dev nD}

/-- The head of a point. -/
def hF (t : Fin (cfgA Ideal).N) : Fin 4 := ⟨hT t, (blocks t).2.2.1⟩

theorem hd_σ (h : Fin 4) : (hd m c h).σ = scale := rfl

/-- Where an entry of a block sits in its array. -/
theorem pos_0 (t : Fin (cfgA Ideal).N) (i : Fin 1024) (d : Fin 128) :
    (((cfgA Ideal).win (0 : Fin 9)).rect t).emb (ix2 i d)
      = ix2 (⟨qT t * 1024 + i, by have := (blocks t).1; omega⟩ : Fin 8192) (⟨(hF t).val * 128 + d, by omega⟩ : Fin 512) := by
  obtain ⟨h1, h2, h3, -⟩ := blocks t
  funext a
  fin_cases a
  · exact Fin.ext (((cfgA Ideal).win (0 : Fin 9)).rect_emb_val t (ix2 i d) (0 : Fin 2) rfl)
  · exact Fin.ext (((cfgA Ideal).win (0 : Fin 9)).rect_emb_val t (ix2 i d) (1 : Fin 2) rfl)

theorem q_tile (R : RealArgs m c) (t : Fin (cfgA Ideal).N) (i : Fin 1024) (d : Fin 128) :
    (iblk m c (0 : Fin 9) t (ix2 i d) : EReal) = (((hd m c (hF t)).q (qT t * 1024 + i) d : ℝ) : EReal) := by
  have e : ∀ f : Buf (Elt Ideal) ((c : Thread nD τ).loc main_arg0), (((cfgA Ideal).win (0 : Fin 9)).blk t).view.read (Elt Ideal) f (ix2 i d) = f ((((cfgA Ideal).win (0 : Fin 9)).rect t).emb (ix2 i d)) := fun f => rfl
  refine (e (V m c main_arg0)).trans ?_
  rw [V_arg m c main_arg0 (by decide), pos_0]
  exact q_read R (hF t) _ d _

theorem pos_1 (t : Fin (cfgA Ideal).N) (i : Fin 1024) (d : Fin 128) :
    (((cfgA Ideal).win (1 : Fin 9)).rect t).emb (ix2 i d)
      = ix2 (⟨kT t * 1024 + i, by obtain ⟨h1, h2, h3, -⟩ := blocks t; omega⟩ : Fin 8192) (⟨(hF t).val * 128 + d, by omega⟩ : Fin 512) := by
  obtain ⟨h1, h2, h3, b1, b2, b3, b4, b6, b7⟩ := blocks t
  funext a
  fin_cases a
  · exact Fin.ext ((((cfgA Ideal).win (1 : Fin 9)).rect_emb_val t (ix2 i d) (0 : Fin 2) rfl).trans (congrArg (fun n => n * 1024 + i.val) rfl))
  · exact Fin.ext ((((cfgA Ideal).win (1 : Fin 9)).rect_emb_val t (ix2 i d) (1 : Fin 2) rfl).trans (congrArg (fun n => n * 128 + d.val) b1))

theorem k_tile (R : RealArgs m c) (t : Fin (cfgA Ideal).N) (i : Fin 1024) (d : Fin 128) :
    (iblk m c (1 : Fin 9) t (ix2 i d) : EReal) = (((hd m c (hF t)).k (kT t * 1024 + i) d : ℝ) : EReal) := by
  have e : ∀ f : Buf (Elt Ideal) ((c : Thread nD τ).loc main_arg1), (((cfgA Ideal).win (1 : Fin 9)).blk t).view.read (Elt Ideal) f (ix2 i d) = f ((((cfgA Ideal).win (1 : Fin 9)).rect t).emb (ix2 i d)) := fun f => rfl
  refine (e (V m c main_arg1)).trans ?_
  rw [V_arg m c main_arg1 (by decide), pos_1]
  exact k_read R (hF t) _ d _

theorem pos_3 (t : Fin (cfgA Ideal).N) (i : Fin 1024) (d : Fin 128) :
    (((cfgA Ideal).win (3 : Fin 9)).rect t).emb (ix2 i d)
      = ix2 (⟨kT t * 1024 + i, by obtain ⟨h1, h2, h3, -⟩ := blocks t; omega⟩ : Fin 8192) (⟨(hF t).val * 128 + d, by omega⟩ : Fin 512) := by
  obtain ⟨h1, h2, h3, b1, b2, b3, b4, b6, b7⟩ := blocks t
  funext a
  fin_cases a
  · exact Fin.ext ((((cfgA Ideal).win (3 : Fin 9)).rect_emb_val t (ix2 i d) (0 : Fin 2) rfl).trans (congrArg (fun n => n * 1024 + i.val) b3.1))
  · exact Fin.ext ((((cfgA Ideal).win (3 : Fin 9)).rect_emb_val t (ix2 i d) (1 : Fin 2) rfl).trans (congrArg (fun n => n * 128 + d.val) b3.2))

theorem v_tile (R : RealArgs m c) (t : Fin (cfgA Ideal).N) (i : Fin 1024) (d : Fin 128) :
    (iblk m c (3 : Fin 9) t (ix2 i d) : EReal) = (((hd m c (hF t)).v (kT t * 1024 + i) d : ℝ) : EReal) := by
  have e : ∀ f : Buf (Elt Ideal) ((c : Thread nD τ).loc main_arg2), (((cfgA Ideal).win (3 : Fin 9)).blk t).view.read (Elt Ideal) f (ix2 i d) = f ((((cfgA Ideal).win (3 : Fin 9)).rect t).emb (ix2 i d)) := fun f => rfl
  refine (e (V m c main_arg2)).trans ?_
  rw [V_arg m c main_arg2 (by decide), pos_3]
  exact v_read R (hF t) _ d _

theorem pos_4 (t : Fin (cfgA Ideal).N) (i : Fin 1024) (d : Fin 128) :
    (((cfgA Ideal).win (4 : Fin 9)).rect t).emb (ix2 i d)
      = ix2 (⟨qT t * 1024 + i, by obtain ⟨h1, h2, h3, -⟩ := blocks t; omega⟩ : Fin 8192) (⟨(hF t).val * 128 + d, by omega⟩ : Fin 512) := by
  obtain ⟨h1, h2, h3, b1, b2, b3, b4, b6, b7⟩ := blocks t
  funext a
  fin_cases a
  · exact Fin.ext ((((cfgA Ideal).win (4 : Fin 9)).rect_emb_val t (ix2 i d) (0 : Fin 2) rfl).trans (congrArg (fun n => n * 1024 + i.val) b4.1))
  · exact Fin.ext ((((cfgA Ideal).win (4 : Fin 9)).rect_emb_val t (ix2 i d) (1 : Fin 2) rfl).trans (congrArg (fun n => n * 128 + d.val) b4.2))

theorem g_tile (R : RealArgs m c) (t : Fin (cfgA Ideal).N) (i : Fin 1024) (d : Fin 128) :
    (iblk m c (4 : Fin 9) t (ix2 i d) : EReal) = (((hd m c (hF t)).g (qT t * 1024 + i) d : ℝ) : EReal) := by
  have e : ∀ f : Buf (Elt Ideal) ((c : Thread nD τ).loc main_arg4), (((cfgA Ideal).win (4 : Fin 9)).blk t).view.read (Elt Ideal) f (ix2 i d) = f ((((cfgA Ideal).win (4 : Fin 9)).rect t).emb (ix2 i d)) := fun f => rfl
  refine (e (V m c main_arg4)).trans ?_
  rw [V_arg m c main_arg4 (by decide), pos_4]
  exact g_read R (hF t) _ d _

theorem pos_7 (t : Fin (cfgA Ideal).N) (i : Fin 1024) (d : Fin 128) :
    (((cfgA Ideal).win (7 : Fin 9)).rect t).emb (ix2 i d)
      = ix2 (⟨qT t * 1024 + i, by obtain ⟨h1, h2, h3, -⟩ := blocks t; omega⟩ : Fin 8192) (⟨(hF t).val * 128 + d, by omega⟩ : Fin 512) := by
  obtain ⟨h1, h2, h3, b1, b2, b3, b4, b6, b7⟩ := blocks t
  funext a
  fin_cases a
  · exact Fin.ext ((((cfgA Ideal).win (7 : Fin 9)).rect_emb_val t (ix2 i d) (0 : Fin 2) rfl).trans (congrArg (fun n => n * 1024 + i.val) b7.1))
  · exact Fin.ext ((((cfgA Ideal).win (7 : Fin 9)).rect_emb_val t (ix2 i d) (1 : Fin 2) rfl).trans (congrArg (fun n => n * 128 + d.val) b7.2))

theorem pos_2 (t : Fin (cfgA Ideal).N) (j : Fin 1024) (l : Fin 128) :
    (((cfgA Ideal).win (2 : Fin 9)).rect t).emb (ix3 (0 : Fin 1) j l)
      = ix3 (hF t) (⟨kT t * 1024 + j, by obtain ⟨h1, h2, h3, -⟩ := blocks t; omega⟩ : Fin 8192) l := by
  obtain ⟨h1, h2, h3, b1, b2, b3, b4, b6, b7⟩ := blocks t
  funext a
  fin_cases a
  · exact Fin.ext ((((cfgA Ideal).win (2 : Fin 9)).rect_emb_val t (ix3 (0 : Fin 1) j l) (0 : Fin 3) rfl).trans ((congrArg (fun n => n * 1 + 0) b2.1).trans (Nat.mul_one _)))
  · exact Fin.ext ((((cfgA Ideal).win (2 : Fin 9)).rect_emb_val t (ix3 (0 : Fin 1) j l) (1 : Fin 3) rfl).trans (congrArg (fun n => n * 1024 + j.val) b2.2.1))
  · exact Fin.ext ((((cfgA Ideal).win (2 : Fin 9)).rect_emb_val t (ix3 (0 : Fin 1) j l) (2 : Fin 3) rfl).trans ((congrArg (fun n => n * 128 + l.val) b2.2.2).trans (by show 0 * 128 + l.val = l.val; omega)))

theorem kx_tile (R : RealArgs m c) (t : Fin (cfgA Ideal).N) (j : Fin 1024) (l : Fin 128) :
    (iblk m c (2 : Fin 9) t (ix3 (0 : Fin 1) j l) : EReal) = ((-(hd m c (hF t)).c (kT t * 1024 + j) : ℝ) : EReal) := by
  have e : ∀ f : Buf (Elt Ideal) ((c : Thread nD τ).loc main_v38), (((cfgA Ideal).win (2 : Fin 9)).blk t).view.read (Elt Ideal) f (ix3 (0 : Fin 1) j l) = f ((((cfgA Ideal).win (2 : Fin 9)).rect t).emb (ix3 (0 : Fin 1) j l)) := fun f => rfl
  refine (e (V m c main_v38)).trans ?_
  rw [pos_2]
  exact kx_read R (hF t) _ l

theorem pos_6 (t : Fin (cfgA Ideal).N) (i : Fin 1024) :
    (((cfgA Ideal).win (6 : Fin 9)).rect t).emb (ix3 (0 : Fin 1) (0 : Fin 1) i)
      = ix3 (hF t) (0 : Fin 1) (⟨qT t * 1024 + i, by obtain ⟨h1, h2, h3, -⟩ := blocks t; omega⟩ : Fin 8192) := by
  obtain ⟨h1, h2, h3, b1, b2, b3, b4, b6, b7⟩ := blocks t
  funext a
  fin_cases a
  · exact Fin.ext ((((cfgA Ideal).win (6 : Fin 9)).rect_emb_val t (ix3 (0 : Fin 1) (0 : Fin 1) i) (0 : Fin 3) rfl).trans ((congrArg (fun n => n * 1 + 0) b6.1).trans (Nat.mul_one _)))
  · exact Fin.ext ((((cfgA Ideal).win (6 : Fin 9)).rect_emb_val t (ix3 (0 : Fin 1) (0 : Fin 1) i) (1 : Fin 3) rfl).trans (congrArg (fun n => n * 1 + 0) b6.2.1))
  · exact Fin.ext ((((cfgA Ideal).win (6 : Fin 9)).rect_emb_val t (ix3 (0 : Fin 1) (0 : Fin 1) i) (2 : Fin 3) rfl).trans (congrArg (fun n => n * 1024 + i.val) b6.2.2))

theorem lse_tile (R : RealArgs m c) (t : Fin (cfgA Ideal).N) (i : Fin 1024) :
    (iblk m c (6 : Fin 9) t (ix3 (0 : Fin 1) (0 : Fin 1) i) : EReal) = ((Real.log ((hd m c (hF t)).L (qT t * 1024 + i)) : ℝ) : EReal) := by
  have e : ∀ f : Buf (Elt Ideal) ((c : Thread nD τ).loc main_v34), (((cfgA Ideal).win (6 : Fin 9)).blk t).view.read (Elt Ideal) f (ix3 (0 : Fin 1) (0 : Fin 1) i) = f ((((cfgA Ideal).win (6 : Fin 9)).rect t).emb (ix3 (0 : Fin 1) (0 : Fin 1) i)) := fun f => rfl
  refine (e (V m c main_v34)).trans ?_
  rw [pos_6]
  exact lse_read R (hF t) _

end Cert.KernelIdeal.Fox

end
-- ==== Proof.Fox.Fold.lean ====
/-
The running buffers after each point.
-/
module

public import proofs.«01_k».proof.Proof.Fox.Tile
public import Idealize.ShloMosaic.Lib.Pipeline.Value

@[expose] public section

set_option maxRecDepth 16384

noncomputable section

namespace Cert.KernelIdeal.Fox

open Cert.KernelIdeal Cert.KernelIdeal.Gen Cert.FoxMath
open Idealize.ShloMosaic
open Idealize.ShloMosaic.TcCoe Idealize.ShloMosaic.Tactic
open Idealize.ShloMosaic.Pipeline (Dat Cfg Window)

variable {m : (ℓ : Loc nD τ sig) → Buf (Elt Ideal) ℓ} {c : Dev nD}

theorem Reads.of {H : Head} {I J : ℕ} {q k v : S1024x128.Idx → Elt Ideal .f32} {kx : S1x1024x128.Idx → Elt Ideal .f32} {l : S1x1x1024.Idx → Elt Ideal .f32}
    (hq : ∀ (i : Fin 1024) (d : Fin 128), (q (ix2 i d) : EReal) = ((H.q (I + i) d : ℝ) : EReal))
    (hk : ∀ (i : Fin 1024) (d : Fin 128), (k (ix2 i d) : EReal) = ((H.k (J + i) d : ℝ) : EReal))
    (hx : ∀ (j : Fin 1024) (d : Fin 128), (kx (ix3 (0 : Fin 1) j d) : EReal) = ((-H.c (J + j) : ℝ) : EReal))
    (hv : ∀ (i : Fin 1024) (d : Fin 128), (v (ix2 i d) : EReal) = ((H.v (J + i) d : ℝ) : EReal))
    (hl : ∀ i : Fin 1024, (l (ix3 (0 : Fin 1) (0 : Fin 1) i) : EReal) = ((Real.log (H.L (I + i)) : ℝ) : EReal)) :
    Reads H I J ⟨q, k, kx, v, l⟩ := ⟨hq, hk, hx, hv, hl⟩

/-- The tiles of a point are those of its head at its query and key tiles. -/
theorem reads (R : RealArgs m c) (t : Fin (cfgA Ideal).N) :
    Reads (hd m c (hF t)) (qT t * 1024) (kT t * 1024) (tiles m c t) := by
  have h1 := q_tile R t
  have h2 := k_tile R t
  have h3 := kx_tile R t
  have h4 := v_tile R t
  have h5 := lse_tile R t
  unfold tiles
  generalize hd m c (hF t) = H at h1 h2 h3 h4 h5 ⊢
  generalize qT t * 1024 = I at h1 h5 ⊢
  generalize kT t * 1024 = J at h2 h3 h4 ⊢
  exact Reads.of h1 h2 h3 h4 h5

theorem starts (R : RealArgs m c) (t : Fin (cfgA Ideal).N) :
    Holds (hd m c (hF t)) (qT t * 1024) 0 (start (iblk m c (4 : Fin 9) t)) := holds_start (g_tile R t)

/-- One point's step, from buffers that hold the keys before its key tile. -/
theorem step_holds (R : RealArgs m c) (t : Fin (cfgA Ideal).N) {s : St Ideal} (hs : Holds (hd m c (hF t)) (qT t * 1024) (kT t * 1024) s) :
    Holds (hd m c (hF t)) (qT t * 1024) (kT t * 1024 + 1024)
      (if OnDiag (F := Ideal) T0 (crd t) then addDiag (tiles m c t) s else addOff (tiles m c t) s) := by
  obtain ⟨-, -, ho, hb⟩ := order t
  split
  · rename_i hD
    have hr := reads R t
    rw [ho hD] at hr hs ⊢
    exact holds_diag hr hs rfl
  · rename_i hD
    have := hb hD
    exact holds_off (reads R t) hs rfl (by omega)

/-- After a point the buffers hold the keys up to the end of its key tile. -/
theorem state_holds (R : RealArgs m c) : ∀ (n : ℕ) (hn : n < (cfgA Ideal).N),
    Holds (hd m c (hF ⟨n, hn⟩)) (qT (F := Ideal) ⟨n, hn⟩ * 1024) (kT (F := Ideal) ⟨n, hn⟩ * 1024 + 1024) (state m c n hn) := by
  intro n
  induction n with
  | zero =>
    intro hn
    by_cases hF : First (F := Ideal) T0 (crd ⟨0, hn⟩)
    · rw [state_first m c ⟨0, hn⟩ hF]
      unfold next
      rw [if_pos hF]
      refine step_holds R ⟨0, hn⟩ ?_
      rw [(order (F := Ideal) ⟨0, hn⟩).1 hF, Nat.zero_mul]
      exact starts R _
    · exact absurd rfl ((order (F := Ideal) ⟨0, hn⟩).2.1 hF).1
  | succ n ih =>
    intro hn
    by_cases hF : First (F := Ideal) T0 (crd ⟨n + 1, hn⟩)
    · rw [state_first m c ⟨n + 1, hn⟩ hF]
      unfold next
      rw [if_pos hF]
      refine step_holds R ⟨n + 1, hn⟩ ?_
      rw [(order (F := Ideal) ⟨n + 1, hn⟩).1 hF, Nat.zero_mul]
      exact starts R _
    · obtain ⟨-, hq, hh, hk⟩ := (order (F := Ideal) ⟨n + 1, hn⟩).2.1 hF
      have hs := ih (Nat.lt_of_succ_lt hn)
      rw [show state m c (n + 1) hn = next m c ⟨n + 1, hn⟩ (state m c n (Nat.lt_of_succ_lt hn)) from rfl]
      unfold next
      rw [if_neg hF]
      refine step_holds R ⟨n + 1, hn⟩ ?_
      have hf : Fox.hF ⟨n + 1, hn⟩ = Fox.hF ⟨n, Nat.lt_of_succ_lt hn⟩ := Fin.ext hh.symm
      have e : kT (F := Ideal) ⟨n + 1, hn⟩ * 1024 = kT (F := Ideal) ⟨n, Nat.lt_of_succ_lt hn⟩ * 1024 + 1024 := by
        rw [← hk]; exact Nat.succ_mul _ _
      have e' : qT (F := Ideal) ⟨n + 1, hn⟩ = qT (F := Ideal) ⟨n, Nat.lt_of_succ_lt hn⟩ := hq.symm
      rw [e, e', hf]
      exact hs

/-- The tile written at a point on the diagonal is the gradient over all keys. -/
theorem fin_holds (R : RealArgs m c) (t : Fin (cfgA Ideal).N) (hD : OnDiag (F := Ideal) T0 (crd t)) (i : Fin 1024) (d : Fin 128) :
    (fin (state m c t.val t.isLt) (ix2 i d) : EReal) = (((hd m c (hF t)).dq 8192 (qT t * 1024 + i) d : ℝ) : EReal) := by
  have h : (fin (state m c t.val t.isLt) (ix2 i d) : EReal) = (((hd m c (hF t)).dq (kT t * 1024 + 1024) (qT t * 1024 + i) d : ℝ) : EReal) :=
    fin_read (state_holds R t.val t.isLt) rfl i d
  obtain ⟨h1, -⟩ := blocks t
  have hk := (order t).2.2.1 hD
  refine h.trans ?_
  rw [Head.dq_cut _ (n := kT t * 1024 + 1024) (m := 8192) (by omega) (by omega)]

/-- The gradient of the queries, entry by entry. -/
def dqArr (m : (ℓ : Loc nD τ sig) → Buf (Elt Ideal) ℓ) (c : Dev nD) : S8192x512.Idx → Elt Ideal .bf16 := fun x =>
  (((hd m c ⟨(x (1 : Fin 2)).val / 128, by have := (x (1 : Fin 2)).isLt; change _ < 512 at this; omega⟩).dq 8192 (x (0 : Fin 2)).val
    ((x (1 : Fin 2)).val % 128) : ℝ) : EReal)

theorem dqArr_read (h : Fin 4) (i : Fin 8192) (d : Fin 128) (e : h.val * 128 + d.val < 512) :
    dqArr m c (ix2 i ⟨h.val * 128 + d.val, e⟩) = (((hd m c h).dq 8192 i d : ℝ) : EReal) := by
  have h1 : (h.val * 128 + d.val) / 128 = h.val := by omega
  have h2 : (h.val * 128 + d.val) % 128 = d.val := by omega
  show (((hd m c ⟨(h.val * 128 + d.val) / 128, _⟩).dq 8192 i.val ((h.val * 128 + d.val) % 128) : ℝ) : EReal) = _
  simp only [h1, h2, Fin.eta]

end Cert.KernelIdeal.Fox

end
-- ==== Proof.Fox.Body.lean ====
/-
The body of the attention gradient at one point, against the trajectory.
-/
module

public import proofs.«01_k».proof.Proof.Fox.Traj
public import Idealize.ShloMosaic.Lib.Pipeline.Frame
public import Idealize.ShloMosaic.Lib.Claim

@[expose] public section

set_option maxRecDepth 16384
set_option Elab.async false

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body at a point -/

abbrev ms0 (t : Fin (cfgA F).N) : Memref sig .tc .vmem S1024x128 .f32 := spec0_0.stage ((cfgA F).slots t (0 : Fin 9))
abbrev hs0 (t : Fin (cfgA F).N) : (ms0 t).IsWhole := hstage0_0 (((cfgA F).slots t (0 : Fin 9)).cast nbuf0_0)
abbrev ms1 (t : Fin (cfgA F).N) : Memref sig .tc .vmem S1024x128 .f32 := spec0_1.stage ((cfgA F).slots t (1 : Fin 9))
abbrev hs1 (t : Fin (cfgA F).N) : (ms1 t).IsWhole := hstage0_1 (((cfgA F).slots t (1 : Fin 9)).cast nbuf0_1)
abbrev ms2 (t : Fin (cfgA F).N) : Memref sig .tc .vmem S1x1024x128 .f32 := spec0_2.stage ((cfgA F).slots t (2 : Fin 9))
abbrev hs2 (t : Fin (cfgA F).N) : (ms2 t).IsWhole := hstage0_2 (((cfgA F).slots t (2 : Fin 9)).cast nbuf0_2)
abbrev ms3 (t : Fin (cfgA F).N) : Memref sig .tc .vmem S1024x128 .f32 := spec0_3.stage ((cfgA F).slots t (3 : Fin 9))
abbrev hs3 (t : Fin (cfgA F).N) : (ms3 t).IsWhole := hstage0_3 (((cfgA F).slots t (3 : Fin 9)).cast nbuf0_3)
abbrev ms4 (t : Fin (cfgA F).N) : Memref sig .tc .vmem S1024x128 .f32 := spec0_4.stage ((cfgA F).slots t (4 : Fin 9))
abbrev hs4 (t : Fin (cfgA F).N) : (ms4 t).IsWhole := hstage0_4 (((cfgA F).slots t (4 : Fin 9)).cast nbuf0_4)
abbrev ms5 (t : Fin (cfgA F).N) : Memref sig .tc .vmem S1024x128 .f32 := spec0_5.stage ((cfgA F).slots t (5 : Fin 9))
abbrev hs5 (t : Fin (cfgA F).N) : (ms5 t).IsWhole := hstage0_5 (((cfgA F).slots t (5 : Fin 9)).cast nbuf0_5)
abbrev ms6 (t : Fin (cfgA F).N) : Memref sig .tc .vmem S1x1x1024 .f32 := spec0_6.stage ((cfgA F).slots t (6 : Fin 9))
abbrev hs6 (t : Fin (cfgA F).N) : (ms6 t).IsWhole := hstage0_6 (((cfgA F).slots t (6 : Fin 9)).cast nbuf0_6)
abbrev ms7 (t : Fin (cfgA F).N) : Memref sig .tc .vmem S1024x128 .bf16 := spec0_7.stage ((cfgA F).slots t (7 : Fin 9))
abbrev hs7 (t : Fin (cfgA F).N) : (ms7 t).IsWhole := hstage0_7 (((cfgA F).slots t (7 : Fin 9)).cast nbuf0_7)
abbrev ms8 (t : Fin (cfgA F).N) : Memref sig .tc .vmem S1x1x1024 .f32 := spec0_8.stage ((cfgA F).slots t (8 : Fin 9))
abbrev hs8 (t : Fin (cfgA F).N) : (ms8 t).IsWhole := hstage0_8 (((cfgA F).slots t (8 : Fin 9)).cast nbuf0_8)

/-- The body at a point. -/
abbrev bodyAt (t : Fin (cfgA F).N) : Prog (TpuEff nD τ sig (Elt F) Λ₀ .tc) PUnit :=
  body (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _)

set_option maxHeartbeats 6400000 in
theorem sound_body (c : Dev nD) (t : Fin (cfgA F).N) :
    iprop((dats m 0 c).Φ t.castSucc ∗ (dats m 0 c).owesAt () t.castSucc
        ∗ (∃ d, owns (c : Thread nD τ) (ms0 t) fullShare ((dats m 0 c).before (0 : Fin 9) t d))
        ∗ (∃ d, owns (c : Thread nD τ) (ms1 t) fullShare ((dats m 0 c).before (1 : Fin 9) t d))
        ∗ (∃ d, owns (c : Thread nD τ) (ms2 t) fullShare ((dats m 0 c).before (2 : Fin 9) t d))
        ∗ (∃ d, owns (c : Thread nD τ) (ms3 t) fullShare ((dats m 0 c).before (3 : Fin 9) t d))
        ∗ (∃ d, owns (c : Thread nD τ) (ms4 t) fullShare ((dats m 0 c).before (4 : Fin 9) t d))
        ∗ (∃ d, owns (c : Thread nD τ) (ms5 t) fullShare ((dats m 0 c).before (5 : Fin 9) t d))
        ∗ (∃ d, owns (c : Thread nD τ) (ms6 t) fullShare ((dats m 0 c).before (6 : Fin 9) t d))
        ∗ (∃ d, owns (c : Thread nD τ) (ms7 t) fullShare ((dats m 0 c).before (7 : Fin 9) t d))
        ∗ (∃ d, owns (c : Thread nD τ) (ms8 t) fullShare ((dats m 0 c).before (8 : Fin 9) t d)))
      ⊢ wp frame (wpE (defs₀ (F := F)) Variants.none c none) Set.univ (bodyAt t) fun _ =>
          iprop((dats m 0 c).Φ t.succ ∗ (dats m 0 c).owesAt () t.succ
            ∗ bigSep Finset.univ fun w : Fin (cfgA F).W =>
                match (cfgA F).idle w ((cfgA F).grid.coords t) with
                | true =>
                  match ((cfgA F).win w).flush t with
                  | false => iprop(∃ d, owns (c : Thread nD τ) (((cfgA F).win w).stage ((cfgA F).slots t w)) fullShare ((dats m 0 c).before w t d))
                  | true => owns (c : Thread nD τ) (((cfgA F).win w).stage ((cfgA F).slots t w)) fullShare ((dats m 0 c).after w t)
                | false => owns (c : Thread nD τ) (((cfgA F).win w).stage ((cfgA F).slots t w)) fullShare ((dats m 0 c).after w t)) := by
  rw [bigSep_W0]
  obtain ⟨hb, hl, i7, f7, i8, f8, hfst⟩ := sched (F := F) t
  rw [← Window.flush_eq_flushF] at f7 f8 hfst
  rewrite [show (dats m 0 c).Φ t.succ = Phi m c t.succ from rfl, show (dats m 0 c).Φ t.castSucc = Phi m c t.castSucc from rfl,
    show (dats m 0 c).owesAt () t.succ = (dats m 0 c).owesAt () t.castSucc from rfl]
  rewrite [i7, i8]
  simp only [before_0, before_1, before_2, before_3, before_4, before_5, before_6, after_0, after_1, after_2, after_3, after_4, after_5, after_6, after_7, after_8, f7, f8]
  rewrite [Phi_succ]
  by_cases hF : First (F := F) T0 (crd t)
  · rw [state_first m c t hF]
    by_cases hD : OnDiag (F := F) T0 (crd t)
    · simp only [decide_eq_true hD, Bool.not_true]
      rewrite [next_only m c t _ hF hD]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      ihave HS := (Phi_some m c _) $$ HS
      icases HS with ⟨⟨HS0, HS1, HS2⟩, HT, Hr⟩
      iapply (run_only c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) T0 (tiles m c t) (iblk m c (4 : Fin 9) t) (iblk m c (5 : Fin 9) t) hF (fun h => (hb.mp h) hD) hD (hl.mpr hD) _)
      isplitl [H0 H1 H2 H3 H4 H5 H6 HT]
      · isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [H6]; · iapply rep_of_owns; iexact H6
        iexact HT
      isplitl [H7]; · iexists _; iapply rep_of_owns; iexact H7
      isplitl [H8 HS0 HS1 HS2]
      · isplitl [H8]; · iexists _; iapply rep_of_owns; iexact H8
        isplitl [HS0]; · iexact HS0
        isplitl [HS1]; · iexact HS1
        iexact HS2
      iintro ⟨⟨H0, H1, H2, H3, H4, H5, H6, HT⟩, H7, ⟨H8, HS0, HS1, HS2⟩⟩
      isplitl [HS0 HS1 HS2 HT Hr]
      · isplitl [HS0 HS1 HS2]
        · isplitl [HS0]; · iexact HS0
          isplitl [HS1]; · iexact HS1
          iexact HS2
        isplitl [HT]; · iexact HT
        iexact Hr
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      isplitl [H6]; · iapply owns_of_rep; iexact H6
      isplitl [H7]; · iapply owns_of_rep; iexact H7
      iapply owns_of_rep; iexact H8
    · simp only [decide_eq_false hD, Bool.not_false]
      rewrite [next_first m c t _ hF hD]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      ihave HS := (Phi_some m c _) $$ HS
      icases HS with ⟨⟨HS0, HS1, HS2⟩, HT, Hr⟩
      iapply (run_first c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) T0 (tiles m c t) (iblk m c (4 : Fin 9) t) (iblk m c (5 : Fin 9) t) hF (hb.mpr hD) hD (fun h => hD (hl.mp h)) _)
      isplitl [H0 H1 H2 H3 H4 H5 H6 HT]
      · isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [H6]; · iapply rep_of_owns; iexact H6
        iexact HT
      isplitl [H8 HS0 HS1 HS2]
      · isplitl [H8]; · iexists _; iapply rep_of_owns; iexact H8
        isplitl [HS0]; · iexact HS0
        isplitl [HS1]; · iexact HS1
        iexact HS2
      iintro ⟨⟨H0, H1, H2, H3, H4, H5, H6, HT⟩, ⟨H8, HS0, HS1, HS2⟩⟩
      isplitl [HS0 HS1 HS2 HT Hr]
      · isplitl [HS0 HS1 HS2]
        · isplitl [HS0]; · iexact HS0
          isplitl [HS1]; · iexact HS1
          iexact HS2
        isplitl [HT]; · iexact HT
        iexact Hr
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      isplitl [H6]; · iapply owns_of_rep; iexact H6
      isplitl [H7]; · iexists d7; iexact H7
      iapply owns_of_rep; iexact H8
  · obtain ⟨h0, hf⟩ := hfst.resolve_left hF
    rw [state_succ m c t h0]
    simp only [before_8 m c t h0 hf]
    rewrite [Phi_castSucc m c t h0]
    by_cases hD : OnDiag (F := F) T0 (crd t)
    · simp only [decide_eq_true hD, Bool.not_true]
      rewrite [next_last m c t _ hF hD]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      icases HS with ⟨⟨HS0, HS1, HS2⟩, HT, Hr⟩
      iapply (run_last c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) T0 (tiles m c t) (iblk m c (4 : Fin 9) t) (iblk m c (5 : Fin 9) t) hF (fun h => (hb.mp h) hD) hD (hl.mpr hD) (state m c (t.val - 1) (Nat.lt_of_le_of_lt (Nat.sub_le _ _) t.isLt)) _)
      isplitl [H0 H1 H2 H3 H4 H5 H6 HT]
      · isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [H6]; · iapply rep_of_owns; iexact H6
        iexact HT
      isplitl [H7]; · iexists _; iapply rep_of_owns; iexact H7
      isplitl [H8 HS0 HS1 HS2]
      · isplitl [H8]; · iapply rep_of_owns; iexact H8
        isplitl [HS0]; · iexact HS0
        isplitl [HS1]; · iexact HS1
        iexact HS2
      iintro ⟨⟨H0, H1, H2, H3, H4, H5, H6, HT⟩, H7, ⟨H8, HS0, HS1, HS2⟩⟩
      isplitl [HS0 HS1 HS2 HT Hr]
      · isplitl [HS0 HS1 HS2]
        · isplitl [HS0]; · iexact HS0
          isplitl [HS1]; · iexact HS1
          iexact HS2
        isplitl [HT]; · iexact HT
        iexact Hr
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      isplitl [H6]; · iapply owns_of_rep; iexact H6
      isplitl [H7]; · iapply owns_of_rep; iexact H7
      iapply owns_of_rep; iexact H8
    · simp only [decide_eq_false hD, Bool.not_false]
      rewrite [next_mid m c t _ hF hD]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      icases HS with ⟨⟨HS0, HS1, HS2⟩, HT, Hr⟩
      iapply (run_mid c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) T0 (tiles m c t) (iblk m c (4 : Fin 9) t) (iblk m c (5 : Fin 9) t) hF (hb.mpr hD) hD (fun h => hD (hl.mp h)) (state m c (t.val - 1) (Nat.lt_of_le_of_lt (Nat.sub_le _ _) t.isLt)) _)
      isplitl [H0 H1 H2 H3 H4 H5 H6 HT]
      · isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [H6]; · iapply rep_of_owns; iexact H6
        iexact HT
      isplitl [H8 HS0 HS1 HS2]
      · isplitl [H8]; · iapply rep_of_owns; iexact H8
        isplitl [HS0]; · iexact HS0
        isplitl [HS1]; · iexact HS1
        iexact HS2
      iintro ⟨⟨H0, H1, H2, H3, H4, H5, H6, HT⟩, ⟨H8, HS0, HS1, HS2⟩⟩
      isplitl [HS0 HS1 HS2 HT Hr]
      · isplitl [HS0 HS1 HS2]
        · isplitl [HS0]; · iexact HS0
          isplitl [HS1]; · iexact HS1
          iexact HS2
        isplitl [HT]; · iexact HT
        iexact Hr
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      isplitl [H6]; · iapply owns_of_rep; iexact H6
      isplitl [H7]; · iexists d7; iexact H7
      iapply owns_of_rep; iexact H8

theorem body_obligation (c : Dev nD) : BodyObligation (dats m 0 c) (defs₀ (F := F)) Variants.none () Set.univ := fun t => by
  rw [bigSep_W0]
  exact sound_body m c t

end Cert.KernelIdeal.Fox

end
-- ==== Proof.Fox.Launch.lean ====
/-
The whole run of the attention gradient.
-/
module

public import proofs.«01_k».proof.Proof.Fox.Body
public import Idealize.ShloMosaic.Lib.Pipeline.Frame
public import Idealize.ShloMosaic.Lib.Claim

@[expose] public section

set_option maxRecDepth 16384
set_option Elab.async false

noncomputable section

namespace Cert.KernelIdeal.Fox

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The launch -/

theorem share_eq (c : Dev nD) (w : Fin (cfgA F).W) : (dats m 0 c).share w = fullShare := by unfold Dat.share; split <;> rfl

theorem prefHeld_eq (c : Dev nD) (q : Fin 1 → PosShare TreeShare) (v : pre0.Contents (Elt F)) :
    (Pipeline.prefHeld (Ix := Unit) (Name := ℕ) (U := UR sig nD τ) (Lvl := ℕ) pre0 c q v : sProp 𝕄)
      = iprop((((c : Thread nD τ).loc main_c) ↦{q 0} v 0)) := by
  unfold Pipeline.prefHeld
  rw [show (Finset.univ : Finset (Fin 1)) = {(0 : Fin 1)} from by decide, bigSep_singleton]
  rfl

theorem some_sc0 (c : Dev nD) : (some (F := F) c sc0 : sProp 𝕄) = iprop(∃ f : Buf (Elt F) ((c : Thread nD τ).loc cc0_scratch0), ((c : Thread nD τ).loc cc0_scratch0) ↦{fullShare} f) := by
  unfold some; rw [Memref.view_whole, View.set_whole]
theorem some_sc1 (c : Dev nD) : (some (F := F) c sc1 : sProp 𝕄) = iprop(∃ f : Buf (Elt F) ((c : Thread nD τ).loc cc0_scratch1), ((c : Thread nD τ).loc cc0_scratch1) ↦{fullShare} f) := by
  unfold some; rw [Memref.view_whole, View.set_whole]
theorem some_sc2 (c : Dev nD) : (some (F := F) c sc2 : sProp 𝕄) = iprop(∃ f : Buf (Elt F) ((c : Thread nD τ).loc cc0_scratch2), ((c : Thread nD τ).loc cc0_scratch2) ↦{fullShare} f) := by
  unfold some; rw [Memref.view_whole, View.set_whole]

theorem scr_zero (c : Dev nD) (h) : scr m c (0 : Fin ((cfgA F).N + 1)).val h = iprop(some (F := F) c sc0 ∗ some (F := F) c sc1 ∗ some (F := F) c sc2) := by
  unfold scr; exact dif_pos rfl

/-- The invariant before the first point, from the scratch buffers and the table. -/
theorem phi_in (c : Dev nD) : iprop(Pipeline.ΦA spec0 c ∗ Pipeline.ΦT pre0 (pf (F := F)) c) ⊢ (dats m 0 c).Φ 0 := by
  rw [show (dats m 0 c).Φ 0 = Phi m c 0 from rfl]
  unfold Pipeline.ΦA Pipeline.ΦT Phi
  rw [prefHeld_eq, scopedRest0_eq, scr_zero, some_sc0, some_sc1, some_sc2]
  iintro ⟨⟨HS, Hr⟩, HT⟩
  isplitl [HS]; · iexact HS
  isplitl [HT]; · iexact HT
  iexact Hr

/-- The scratch buffers handed back after the last point. -/
theorem phi_out (c : Dev nD) : (dats m 0 c).Φ (Fin.last (cfgA F).N) ⊢ Pipeline.ΦA spec0 c := by
  rw [show (dats m 0 c).Φ (Fin.last (cfgA F).N) = Phi m c (Fin.last _) from rfl]
  unfold Phi Pipeline.ΦA
  rw [scopedRest0_eq, ← some_sc0, ← some_sc1, ← some_sc2]
  iintro ⟨HS, -, Hr⟩
  isplitr [Hr]
  · iapply (scr_some m c _ _); iexact HS
  iexact Hr

set_option backward.isDefEq.respectTransparency.types false in
set_option maxHeartbeats 4000000 in
/-- Every execution ends, with each array at what the pipeline leaves in it and every other buffer as it was at the call. -/
theorem run_main : θ_run (defs (F := F)) (onTc (τ := τ) (main (F := F))) ⟨m, fun _ => 0, ρ⟩
    (fun r => Pipeline.FramePost (pcs F) (dats m) 0 (V m) r ∧ r.2.sem = fun _ => 0) :=
  Pipeline.θ_run_frameP_track (pcfgs (F := F)) (fun _ => adm) (dats m) 0 launch0 defs₀ Variants.none m ρ main
    (fun c => (body_obligation m c).loose) (share_eq m) (fun _ _ => rfl) (V m)
    (Pipeline.hmainP_prefixes pcfgs 0 defs₀ Variants.none m main opss ⟨hostOps0_sub, hostOps0_1_sub, hostOps0_2_sub⟩ fresh_ops main_chain)
    (fun _ _ => rfl) (fun c k => by fin_cases k; exact V_table m c) (phi_in m) (phi_out m)
    (Q' := fun r => Pipeline.FramePost (pcs F) (dats m) 0 (V m) r ∧ r.2.sem = fun _ => 0) (fun _ h => h)

theorem V_arg0 (c : Dev nD) : V m c main_arg0 = m ((c : Thread nD τ).loc main_arg0) := V_arg m c main_arg0 (by decide)
theorem V_arg1 (c : Dev nD) : V m c main_arg1 = m ((c : Thread nD τ).loc main_arg1) := V_arg m c main_arg1 (by decide)
theorem V_arg2 (c : Dev nD) : V m c main_arg2 = m ((c : Thread nD τ).loc main_arg2) := V_arg m c main_arg2 (by decide)
theorem V_arg3 (c : Dev nD) : V m c main_arg3 = m ((c : Thread nD τ).loc main_arg3) := V_arg m c main_arg3 (by decide)
theorem V_arg4 (c : Dev nD) : V m c main_arg4 = m ((c : Thread nD τ).loc main_arg4) := V_arg m c main_arg4 (by decide)

theorem rest_arg3 : main_arg3 ∈ Pipeline.restRefs sig spec0 := Pipeline.mem_restRefs_of main_arg3 rfl (by decide)

set_option maxHeartbeats 4000000 in
/-- What the call leaves in the array of gradients; the arguments are as they were. -/
theorem run_result : θ_run (defs (F := F)) (onTc (τ := τ) (main (F := F))) ⟨m, fun _ => 0, ρ⟩
    (fun r => (∀ c : Dev nD, r.2.mem ((c : Thread nD τ).loc main_v39_0) = (dats m 0 c).arrAt (7 : Fin 9) (cfgA F).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
      ∧ r.2.sem = fun _ => 0) :=
  (θ_run defs _ _).mono (fun r h => by
    refine ⟨fun c => ?_, h.2⟩
    obtain ⟨ha, hr⟩ := h.1 c
    refine ⟨ha (7 : Fin 9), ?_, ?_, ?_, ?_, ?_⟩
    · exact (ha (0 : Fin 9)).trans (((dats m 0 c).arrAt_in (0 : Fin 9) rfl _).trans (V_arg0 m c))
    · exact (ha (1 : Fin 9)).trans (((dats m 0 c).arrAt_in (1 : Fin 9) rfl _).trans (V_arg1 m c))
    · exact (ha (3 : Fin 9)).trans (((dats m 0 c).arrAt_in (3 : Fin 9) rfl _).trans (V_arg2 m c))
    · exact (hr main_arg3 rest_arg3).trans (V_arg3 m c)
    · exact (ha (4 : Fin 9)).trans (((dats m 0 c).arrAt_in (4 : Fin 9) rfl _).trans (V_arg4 m c))) (run_main m ρ)

end Cert.KernelIdeal.Fox

end
-- ==== Proof.Fox.Value.lean ====
/-
The array of gradients after the call.
-/
module

public import proofs.«01_k».proof.Proof.Fox.Fold
public import proofs.«01_k».proof.Proof.Fox.Launch

@[expose] public section

set_option maxRecDepth 16384

noncomputable section

namespace Cert.KernelIdeal.Fox

open Cert.KernelIdeal Cert.KernelIdeal.Gen Cert.FoxMath
open Idealize.ShloMosaic
open Idealize.ShloMosaic.TcCoe Idealize.ShloMosaic.Tactic
open Idealize.ShloMosaic.Pipeline (Dat Cfg Window)

variable {m : (ℓ : Loc nD τ sig) → Buf (Elt Ideal) ℓ} {c : Dev nD}

theorem flush_diag (t : Fin (cfgA Ideal).N) : ((cfgA Ideal).win (7 : Fin 9)).flush t = true ↔ OnDiag (F := Ideal) T0 (crd t) := by
  rw [Window.flush_eq_flushF, (sched t).2.2.2.1]
  exact decide_eq_true_iff

/-- The tile a point on the diagonal writes back is its part of the gradient. -/
theorem tile_eq (R : RealArgs m c) (t : Fin (cfgA Ideal).N) (hD : OnDiag (F := Ideal) T0 (crd t)) (i : Fin 1024) (d : Fin 128) :
    (fin (state m c t.val t.isLt) (ix2 i d) : EReal) = dqArr m c ((((cfgA Ideal).win (7 : Fin 9)).rect t).emb (ix2 i d)) := by
  have h1 := fin_holds R t hD i d
  have h2 := pos_7 t i d
  have h3 := dqArr_read (m := m) (c := c) (hF t) (⟨qT t * 1024 + i, by obtain ⟨h1, h2, h3, -⟩ := blocks t; omega⟩ : Fin 8192) d (by omega)
  generalize dqArr m c = G at h3 ⊢
  exact h1.trans (h3.symm.trans (congrArg G h2.symm))

theorem flushed_eq (R : RealArgs m c) (t : Fin (cfgA Ideal).N) (hf : ((cfgA Ideal).win (7 : Fin 9)).flush t = true) :
    (dats m 0 c).flushed (7 : Fin 9) t = (((cfgA Ideal).win (7 : Fin 9)).blk t).view.read (Elt Ideal) (dqArr m c) := by
  have hD := (flush_diag t).1 hf
  have e : (dats m 0 c).flushed (7 : Fin 9) t = (dats m 0 c).after (7 : Fin 9) t := rfl
  rw [e, after_7]
  have key := tile_eq R t hD
  generalize fin (state m c t.val t.isLt) = f at key ⊢
  have r : ∀ (G : S8192x512.Idx → Elt Ideal .bf16) (y : S1024x128.Idx), (((cfgA Ideal).win (7 : Fin 9)).blk t).view.read (Elt Ideal) G y = G ((((cfgA Ideal).win (7 : Fin 9)).rect t).emb y) := fun _ _ => rfl
  generalize dqArr m c = G at key ⊢
  funext y
  refine Eq.trans ?_ (r G y).symm
  have hy : (y : S1024x128.Idx) = ix2 (y (0 : Fin 2) : Fin 1024) (y (1 : Fin 2) : Fin 128) := by
    funext a; fin_cases a <;> rfl
  rw [hy]
  exact key _ _

/-- After the call the array holds the gradient. -/
theorem arr_eq (R : RealArgs m c) : (dats m 0 c).arrAt (7 : Fin 9) (cfgA Ideal).N = dqArr m c := by
  refine (dats m 0 c).arrAt_eq_of_cover (7 : Fin 9) (dqArr m c) (flushed_eq R) ?_
  intro x
  have h0 : (x (0 : Fin 2)).val < 8192 := (x (0 : Fin 2)).isLt
  have h1 : (x (1 : Fin 2)).val < 512 := (x (1 : Fin 2)).isLt
  obtain ⟨t, hD, ha, hh⟩ := reached (F := Ideal) ⟨(x (0 : Fin 2)).val / 1024, by omega⟩ ⟨(x (1 : Fin 2)).val / 128, by omega⟩
  refine ⟨t, (flush_diag t).2 hD, ?_⟩
  have hx : (((cfgA Ideal).win (7 : Fin 9)).rect t).emb (ix2 (⟨(x (0 : Fin 2)).val % 1024, Nat.mod_lt _ (by decide)⟩ : Fin 1024) (⟨(x (1 : Fin 2)).val % 128, Nat.mod_lt _ (by decide)⟩ : Fin 128)) = x := by
    rw [pos_7]
    funext a
    fin_cases a
    · exact Fin.ext (by
        show qT t * 1024 + (x (0 : Fin 2)).val % 1024 = (x (0 : Fin 2)).val
        rw [ha]; show (x (0 : Fin 2)).val / 1024 * 1024 + _ = _; omega)
    · exact Fin.ext (by
        show hT t * 128 + (x (1 : Fin 2)).val % 128 = (x (1 : Fin 2)).val
        rw [hh]; show (x (1 : Fin 2)).val / 128 * 128 + _ = _; omega)
  rw [← hx]
  exact View.emb_mem_set _ _

end Cert.KernelIdeal.Fox

end
-- ==== Proof.Fox.Ref.lean ====
/-
The reference's gradient of the queries, read at one entry.
-/
module

public import proofs.«01_k».proof.Proof.Gen.ReferenceIdeal.Read
public import proofs.«01_k».proof.Proof.Fox.Real
public import Idealize.ShloMosaic.Lib.Pointwise
public import Idealize.ShloMosaic.Lib.WordCmp

@[expose] public section

set_option maxRecDepth 16384

noncomputable section

namespace Cert.FoxRef

open Cert.ReferenceIdeal Cert.ReferenceIdeal.Gen Cert.ReferenceIdeal.Read Cert.FoxMath
open Idealize.ShloMosaic

/-- An array of entries of the extended reals, by its two axes. -/
abbrev Wide := (⟨S8192x512, .f32⟩ : BufTy).Contents (Elt Ideal)
abbrev Gate := (⟨S8192x4, .f32⟩ : BufTy).Contents (Elt Ideal)

/-- The arguments hold the heads `H`. -/
structure Args (H : Fin 4 → Head) (x0 x1 x2 : Wide) (x3 : Gate) (x4 : Wide) : Prop where
  q (h : Fin 4) (i : Fin 8192) (d : Fin 128) (e : h.val * 128 + d.val < 512) : (x0 (ix2 i ⟨h.val * 128 + d.val, e⟩) : EReal) = (((H h).q i d : ℝ) : EReal)
  k (h : Fin 4) (i : Fin 8192) (d : Fin 128) (e : h.val * 128 + d.val < 512) : (x1 (ix2 i ⟨h.val * 128 + d.val, e⟩) : EReal) = (((H h).k i d : ℝ) : EReal)
  v (h : Fin 4) (i : Fin 8192) (d : Fin 128) (e : h.val * 128 + d.val < 512) : (x2 (ix2 i ⟨h.val * 128 + d.val, e⟩) : EReal) = (((H h).v i d : ℝ) : EReal)
  g (h : Fin 4) (i : Fin 8192) (d : Fin 128) (e : h.val * 128 + d.val < 512) : (x4 (ix2 i ⟨h.val * 128 + d.val, e⟩) : EReal) = (((H h).g i d : ℝ) : EReal)
  c (h : Fin 4) (i : Fin 8192) : (x3 (ix2 i h) : EReal) = (((H h).c i : ℝ) : EReal)
  σ (h : Fin 4) : (H h).σ = scale

variable {H : Fin 4 → Head} {x0 x1 x2 x4 : Wide} {x3 : Gate}

theorem score (A : Args H x0 x1 x2 x3 x4) (h : Fin 4) (i j : Fin 8192) :
    (val_main_v23_0 (F := Ideal) x0 x1 x3 (ix3 h i j) : EReal) = if j.val ≤ i.val then (((H h).sc i j + (H h).c i : ℝ) : EReal) else ⊥ := by
  pointwise [val_main_v23_0, val_main_v23_1, val_main_v17, val_main_call0_v2, val_main_call0_v0, val_main_cst_0, val_main_v22, val_main_v21, val_main_v20, val_main_v19, val_main_v18, val_main_v6,
    val_main_v16, val_main_v15, val_main_v14, val_main_v13, val_main_v12, val_main_v11, val_main_v10, val_main_v9, val_main_v8, val_main_v7, val_main_cst, val_main_v3, val_main_v2, val_main_v1, val_main_v0]
  rw [WordCmp.cmpi_sle_ofNat (by omega) (by omega)]
  by_cases hle : j.val ≤ i.val
  · rw [decide_eq_true hle, if_pos hle]
    simp only [A.q, A.k, A.c, scale_eq, ← EReal.coe_mul, sum_coe, ← EReal.coe_sub, ← EReal.coe_add]
    unfold Head.sc
    rw [A.σ]
    refine congrArg (fun r : ℝ => (r : EReal)) ?_
    ring
  · rw [decide_eq_false hle, if_neg hle]; exact bot_eq

/-- The greatest score of each query. -/
def rowMax (s : FVec Ideal S4x8192x8192 .f32) : FVec Ideal S4x8192 .f32 :=
  Host.reduce FloatOps.maximumf s (constant S_ .f32 0xFF800000#32) reducesTo_S4x8192x8192_S4x8192_d2 h_S_

theorem max_read (s : FVec Ideal S4x8192x8192 .f32) (h : Fin 4) (i : Fin 8192) :
    (rowMax s (ix2 h i) : EReal) = Finset.univ.fold max (Ideal.ofBits FTy.f32 4286578688#32) (fun x : Fin 8192 => (s (ix3 h i x) : EReal)) := by
  unfold rowMax
  pointwise

theorem above (r : FVec Ideal S4x8192 .f32) (h : Fin 4) (i : Fin 8192) :
    (maximumf (val_main_v30 (F := Ideal)) r (ix2 h i) : EReal) = max (Ideal.ofBits FTy.f32 4286578688#32) (r (ix2 h i) : EReal) := by
  pointwise [val_main_v30, val_main_cst_3]

theorem top_array : val_main_v31 (F := Ideal) x0 x1 x3 = maximumf (val_main_v30 (F := Ideal)) (rowMax (val_main_v23_0 (F := Ideal) x0 x1 x3)) := by
  unfold val_main_v31 val_main_v24 val_main_cst_1 rowMax
  rfl

theorem top (A : Args H x0 x1 x2 x3 x4) (h : Fin 4) (i : Fin 8192) :
    ∃ M : ℝ, (val_main_v31 (F := Ideal) x0 x1 x3 (ix2 h i) : EReal) = (M : EReal) := by
  obtain ⟨M, hM⟩ := max_real i (fun j => (H h).sc i j + (H h).c i)
  refine ⟨M, ?_⟩
  have e : (val_main_v31 (F := Ideal) x0 x1 x3 (ix2 h i) : EReal) = max (Ideal.ofBits FTy.f32 4286578688#32)
      (Finset.univ.fold max (Ideal.ofBits FTy.f32 4286578688#32) (fun x : Fin 8192 => (val_main_v23_0 (F := Ideal) x0 x1 x3 (ix3 h i x) : EReal))) := by
    rw [top_array, above, max_read]
  rw [e]
  simp only [score A, bot_eq]
  rw [hM]
  exact max_eq_right bot_le

theorem expo (A : Args H x0 x1 x2 x3 x4) (h : Fin 4) (i j : Fin 8192) {M : ℝ} (hM : (val_main_v31 (F := Ideal) x0 x1 x3 (ix2 h i) : EReal) = (M : EReal)) :
    (val_main_v44 (F := Ideal) x0 x1 x3 (ix3 h i j) : EReal) = (((H h).E (M - (H h).c i) i j : ℝ) : EReal) := by
  pointwise [val_main_v44, val_main_v43, val_main_v42, val_main_v41]
  rw [score A, hM]
  exact exp_masked (H h) i j _ M

/-- The sum of a query's exponentials. -/
abbrev Z (H : Head) (M : ℝ) (i : ℕ) : ℝ := ∑ j ∈ Finset.range 8192, H.E M i j

theorem total (A : Args H x0 x1 x2 x3 x4) (h : Fin 4) (i : Fin 8192) {M : ℝ} (hM : (val_main_v31 (F := Ideal) x0 x1 x3 (ix2 h i) : EReal) = (M : EReal)) :
    (val_main_v45 (F := Ideal) x0 x1 x3 (ix2 h i) : EReal) = ((Z (H h) (M - (H h).c i) i : ℝ) : EReal) := by
  pointwise [val_main_v45, val_main_cst_9]
  simp only [expo A h i _ hM, sum_coe, Finset.sum_range]
  try simp

theorem dweight (A : Args H x0 x1 x2 x3 x4) (h : Fin 4) (i j : Fin 8192) :
    (val_main_v59 (F := Ideal) x2 x4 (ix3 h i j) : EReal) = (((H h).dp i j : ℝ) : EReal) := by
  pointwise [val_main_v59, val_main_v56, val_main_v55, val_main_v5, val_main_v4]
  simp only [A.g, A.v, ← EReal.coe_mul, sum_coe]
  unfold Head.dp
  simp only [mul_comm]

theorem inverse (A : Args H x0 x1 x2 x3 x4) (h : Fin 4) (i : Fin 8192) {M : ℝ} (hM : (val_main_v31 (F := Ideal) x0 x1 x3 (ix2 h i) : EReal) = (M : EReal)) :
    (val_main_v51 (F := Ideal) x0 x1 x3 (ix3 h i (0 : Fin 1)) : EReal) = ((1 / (Z (H h) (M - (H h).c i) i * Z (H h) (M - (H h).c i) i) : ℝ) : EReal) := by
  have hp : Z (H h) (M - (H h).c i) i ≠ 0 := ((H h).sum_E_pos _ i.isLt).ne'
  pointwise [val_main_v51, val_main_v50, val_main_cst_10, val_main_v49, val_main_v46]
  rw [total A h i hM, ← EReal.coe_mul, Ideal.div_coe (mul_ne_zero hp hp)]
  exact one_mul _

theorem moved (A : Args H x0 x1 x2 x3 x4) (h : Fin 4) (i : Fin 8192) {M : ℝ} (hM : (val_main_v31 (F := Ideal) x0 x1 x3 (ix2 h i) : EReal) = (M : EReal)) :
    (val_main_v68 (F := Ideal) x0 x1 x2 x3 x4 (ix2 h i) : EReal)
      = ((-(∑ l ∈ Finset.range 8192, (H h).dp i l * (1 / (Z (H h) (M - (H h).c i) i * Z (H h) (M - (H h).c i) i)) * (H h).E (M - (H h).c i) i l) : ℝ) : EReal) := by
  pointwise [val_main_v68, val_main_cst_12, val_main_v65, val_main_v64, val_main_v63, val_main_cst_11, val_main_v62, val_main_v61, val_main_v60]
  simp only [dweight A, inverse A h i hM, expo A h i _ hM, ← EReal.coe_mul, sum_coe, Finset.sum_range]
  rw [Fin.sum_univ_one, ← EReal.coe_neg]

theorem dscore (A : Args H x0 x1 x2 x3 x4) (h : Fin 4) (i j : Fin 8192) {M : ℝ} (hM : (val_main_v31 (F := Ideal) x0 x1 x3 (ix2 h i) : EReal) = (M : EReal)) :
    (val_main_v72 (F := Ideal) x0 x1 x2 x3 x4 (ix3 h i j) : EReal)
      = ((((H h).dp i j / Z (H h) (M - (H h).c i) i
        + -(∑ l ∈ Finset.range 8192, (H h).dp i l * (1 / (Z (H h) (M - (H h).c i) i * Z (H h) (M - (H h).c i) i)) * (H h).E (M - (H h).c i) i l))
          * (H h).E (M - (H h).c i) i j : ℝ) : EReal) := by
  have hp : Z (H h) (M - (H h).c i) i ≠ 0 := ((H h).sum_E_pos _ i.isLt).ne'
  pointwise [val_main_v72, val_main_v71, val_main_v70, val_main_v69, val_main_v67, val_main_v66, val_main_v46, val_main_call1_v0, val_main_call1_cst, val_main_v23_1, val_main_v22, val_main_v21, val_main_v20, val_main_v19, val_main_v18, val_main_v6]
  rw [dweight A, total A h i hM, moved A h i hM, expo A h i j hM, Ideal.div_coe hp, ← EReal.coe_mul, ← EReal.coe_add, ← EReal.coe_mul]
  rw [WordCmp.cmpi_sle_ofNat (by omega) (by omega)]
  rw [div_eq_mul_one_div ((H h).dp i j)]
  by_cases hle : j.val ≤ i.val
  · rw [decide_eq_true hle]; rfl
  · have hE : (H h).E (M - (H h).c i) i j = 0 := by unfold Head.E; exact if_neg hle
    rw [decide_eq_false hle, hE, mul_zero, EReal.coe_zero]; rfl

/-- The reference's result at one entry. -/
theorem result (A : Args H x0 x1 x2 x3 x4) (h : Fin 4) (i : Fin 8192) (d : Fin 128) (e : h.val * 128 + d.val < 512) :
    (val_main_v93 (F := Ideal) x0 x1 x2 x3 x4 (ix2 i ⟨h.val * 128 + d.val, e⟩) : EReal) = (((H h).dq 8192 i d : ℝ) : EReal) := by
  obtain ⟨M, hM⟩ := top A h i
  have r : (val_main_v93 (F := Ideal) x0 x1 x2 x3 x4 (ix2 i ⟨h.val * 128 + d.val, e⟩) : EReal)
      = (∑ j : Fin 8192, (val_main_v72 (F := Ideal) x0 x1 x2 x3 x4 (ix3 h i j) : EReal) * (x1 (ix2 j ⟨h.val * 128 + d.val, e⟩) : EReal)) * Ideal.ofBits FTy.f32 1035273459#32 := by
    unfold val_main_v93 val_main_v92 val_main_v91 val_main_v86 val_main_v84
    generalize val_main_v72 (F := Ideal) x0 x1 x2 x3 x4 = s
    pointwise [val_main_v85, val_main_cst_17, val_main_v3, val_main_v2]
  rw [r, ← (H h).dq_eq_vjp (M - (H h).c i) i.isLt d, A.σ]
  simp only [dscore A h i _ hM, A.k, scale_eq, ← EReal.coe_mul, sum_coe]
  symm
  exact congrArg (fun r : ℝ => ((r * scale : ℝ) : EReal)) (Finset.sum_range _)

end Cert.FoxRef

end
-- ==== Proof.Fox.Frames.lean ====
/-
The frames of the attention gradient, at bits and over the reals, and what the idealization kept.
-/
module

public import proofs.«01_k».proof.Proof.Fox.Launch
public import proofs.«01_k».proof.Defs
public import proofs.«01_k».proof.Proof.Gen.Kernel
public import proofs.«01_k».proof.Proof.Gen.ReferenceIdeal
public import proofs.«01_k».proof.Proof.Gen.Pre_finite
public import proofs.«01_k».proof.Proof.Gen.ReferenceIdeal.Run
public import Idealize.ShloMosaic.Lib.Tactic

@[expose] public section

set_option maxRecDepth 16384
set_option Elab.async false

noncomputable section

namespace Cert.KernelIdeal.Fox

open Idealize.ShloMosaic Idealize.SL.Sem Idealize.ShloMosaic.Tactic

/-- The kernel over the reals ends with its arguments unchanged. -/
theorem frame_ideal : Cert.quiescent_KernelIdeal := fun m ρ _ =>
  (θ_run Cert.KernelIdeal.defs _ _).mono (fun _ h => ⟨fun c => (h.1 c).2, h.2⟩) (run_result (F := Ideal) m ρ)

theorem frame_ideal_pre : Cert.quiescent_KernelIdeal_pre_finite := fun m ρ _ =>
  (θ_run Cert.KernelIdeal.defs _ _).mono (fun _ h => ⟨fun c => (h.1 c).2, h.2⟩) (run_result (F := Ideal) m ρ)

/-- At bits a named constant is the word it is printed with. -/
@[reducible] def namedBits : Named Bits where
  named _ _ {φ} bits := (FloatOps.ofBits φ bits : Bits φ)

/-- The run of the program with names, at bits. -/
def QuietBits : Prop :=
  letI := namedBits
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

theorem quiet_bits : QuietBits := fun m ρ _ =>
  letI := namedBits
  (θ_run (defs (F := Bits)) _ _).mono (fun _ h => ⟨fun c => (h.1 c).2, h.2⟩) (run_result (F := Bits) m ρ)

/-- The program without names is the same text. -/
theorem text_bits : QuietBits = Cert.quiescent_Kernel := by sl_kernel_rfl

/-- The kernel at bits ends with its arguments unchanged. -/
theorem frame_bits : Cert.quiescent_Kernel := Eq.mp text_bits quiet_bits

/-- The reference over the reals ends with its arguments unchanged. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves_constants : Cert.preserves_Kernel_KernelIdeal :=
  IdealRules.named_const.statement Cert.KernelIdeal.κ "mask" .f32 0xF149F2CA#32 ⊥ rfl

end Cert.KernelIdeal.Fox

end
-- ==== Proof.Fox.Equal.lean ====
/-
Kernel and reference end with the same gradient.
-/
module

public import proofs.«01_k».proof.Proof.Fox.Value
public import proofs.«01_k».proof.Proof.Fox.Ref
public import proofs.«01_k».proof.Proof.Fox.Frames

@[expose] public section

set_option maxRecDepth 16384

noncomputable section

namespace Cert.KernelIdeal.Fox

open Cert.FoxMath Cert.FoxRef
open Idealize.ShloMosaic Idealize.SL.Sem

/-! ## The precondition -/

theorem top_eq : Ideal.ofBits .f32 0x7F800000#32 = (⊤ : EReal) := by
  simp [Ideal.ofBits, Ideal.ieee]

/-- A number whose absolute value is less than infinity is real. -/
theorem real_of_lt {x : EReal} (h : max x (-x) < ⊤) : x = ((x.toReal : ℝ) : EReal) := by
  refine (EReal.coe_toReal (fun e => ?_) (fun e => ?_)).symm <;> · rw [e] at h; simp at h

theorem wide_real (x : FVec Ideal Cert.Pre_finite.S8192x512 .f32)
    (h : cmpf .olt (Host.absf x) (broadcastInDim Cert.Pre_finite.S8192x512 ![] Cert.Pre_finite.Gen.bcast_S_S8192x512 (constant Cert.Pre_finite.S_ .f32 0x7F800000#32)) = fun _ => 1#1)
    (a : Fin 8192) (b : Fin 512) : (x (ix2 a b) : EReal) = (((x (ix2 a b) : EReal).toReal : ℝ) : EReal) := by
  refine real_of_lt ?_
  have e := congrFun h (ix2 a b)
  have r : cmpf .olt (Host.absf x) (broadcastInDim Cert.Pre_finite.S8192x512 ![] Cert.Pre_finite.Gen.bcast_S_S8192x512 (constant Cert.Pre_finite.S_ .f32 0x7F800000#32)) (ix2 a b)
      = Ideal.cmp .olt (max (x (ix2 a b) : EReal) (-(x (ix2 a b) : EReal))) (Ideal.ofBits .f32 0x7F800000#32) := by
    pointwise
    rfl
  rw [r, top_eq] at e
  by_contra hn
  simp [Ideal.cmp, hn] at e

theorem gate_real (x : FVec Ideal Cert.Pre_finite.S8192x4 .f32)
    (h : cmpf .olt (Host.absf x) (broadcastInDim Cert.Pre_finite.S8192x4 ![] Cert.Pre_finite.Gen.bcast_S_S8192x4 (constant Cert.Pre_finite.S_ .f32 0x7F800000#32)) = fun _ => 1#1)
    (a : Fin 8192) (b : Fin 4) : (x (ix2 a b) : EReal) = (((x (ix2 a b) : EReal).toReal : ℝ) : EReal) := by
  refine real_of_lt ?_
  have e := congrFun h (ix2 a b)
  have r : cmpf .olt (Host.absf x) (broadcastInDim Cert.Pre_finite.S8192x4 ![] Cert.Pre_finite.Gen.bcast_S_S8192x4 (constant Cert.Pre_finite.S_ .f32 0x7F800000#32)) (ix2 a b)
      = Ideal.cmp .olt (max (x (ix2 a b) : EReal) (-(x (ix2 a b) : EReal))) (Ideal.ofBits .f32 0x7F800000#32) := by
    pointwise
    rfl
  rw [r, top_eq] at e
  by_contra hn
  simp [Ideal.cmp, hn] at e

/-- Under the precondition every entry of the arguments is real. -/
theorem real_args {m : (ℓ : Loc nD τ sig) → Buf (Elt Ideal) ℓ} (h : Cert.Pre_KernelIdeal_finite m) (c : Dev nD) : RealArgs m c := by
  obtain ⟨h0, h1, h2, h3, h4⟩ := h c
  exact ⟨wide_real _ h0, wide_real _ h1, wide_real _ h2, wide_real _ h4, gate_real _ h3⟩

/-! ## The two programs -/

theorem ref_args {m : (ℓ : Loc nD τ sig) → Buf (Elt Ideal) ℓ} {c : Dev nD} (R : RealArgs m c) :
    Args (hd m c) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) where
  q := q_read R
  k := k_read R
  v := v_read R
  g := g_read R
  c := c_read R
  σ _ := rfl

theorem ref_eq {m : (ℓ : Loc nD τ sig) → Buf (Elt Ideal) ℓ} {c : Dev nD} (R : RealArgs m c) :
    Cert.ReferenceIdeal.Read.val_main_v93 (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) = dqArr m c := by
  have A := ref_args R
  have hr := fun (h : Fin 4) (i : Fin 8192) (d : Fin 128) (e : h.val * 128 + d.val < 512) => (result A h i d e).trans (dqArr_read (m := m) (c := c) h i d e).symm
  generalize Cert.ReferenceIdeal.Read.val_main_v93 (F := Ideal) _ _ _ _ _ = f at hr ⊢
  generalize dqArr m c = g at hr ⊢
  funext x
  have h0 : (x (0 : Fin 2)).val < 8192 := (x (0 : Fin 2)).isLt
  have h1 : (x (1 : Fin 2)).val < 512 := (x (1 : Fin 2)).isLt
  have key := hr ⟨(x (1 : Fin 2)).val / 128, by omega⟩ ⟨(x (0 : Fin 2)).val, h0⟩ ⟨(x (1 : Fin 2)).val % 128, Nat.mod_lt _ (by decide)⟩
    (by show (x (1 : Fin 2)).val / 128 * 128 + (x (1 : Fin 2)).val % 128 < 512; omega)
  have hx : (ix2 (⟨(x (0 : Fin 2)).val, h0⟩ : Fin 8192) (⟨(x (1 : Fin 2)).val / 128 * 128 + (x (1 : Fin 2)).val % 128, by omega⟩ : Fin 512)) = x := by
    funext a
    fin_cases a
    · rfl
    · exact Fin.ext (by show (x (1 : Fin 2)).val / 128 * 128 + (x (1 : Fin 2)).val % 128 = (x (1 : Fin 2)).val; omega)
  exact (congrArg f hx).symm.trans (key.trans (congrArg g hx))

/-- From agreeing finite arguments both programs end with the gradient of the queries. -/
theorem equal : Cert.algebraic_KernelIdeal_ReferenceIdeal_pre_finite := by
  intro m ρ m' ρ' hp hm
  refine ⟨fun c => dqArr m c, ?_, ?_⟩
  · exact (θ_run Cert.KernelIdeal.defs _ _).mono (fun r h c => ⟨(h.1 c).1.trans (arr_eq (real_args hp c)), (h.1 c).2⟩) (run_result (F := Ideal) m ρ)
  · refine (θ_run Cert.ReferenceIdeal.defs _ _).mono (fun r h c => ⟨(h c).1.trans ?_, (h c).2⟩) (Cert.ReferenceIdeal.Value.run (F := Ideal) m' ρ')
    obtain ⟨e0, e1, e2, e3, e4⟩ := hm c
    rw [Cert.ReferenceIdeal.Read.val_main_v93_eq, e0, e1, e2, e3, e4]
    exact ref_eq (real_args hp c)

end Cert.KernelIdeal.Fox

end
-- ==== Proof.FoxKv.Step.lean ====
/-
One tile of the gradient of the keys, values and gates: what the body leaves in its three running buffers.

A key tile is met once for every query tile at or after it. Over such a row of tiles the body carries three arrays: the sum of
`ds^T q`, the sum of `p^T do`, and the sums of `ds` over queries that are equal modulo 128. `St` is the three together; `start`,
`addOff` and `addDiag` are what the body does to them at the first tile of a row, at a tile below the diagonal, and at the tile
on it; `finK`, `finV` and `finC` are the tiles it writes at the end.
-/
module

public import proofs.«01_k».proof.Proof.Gen.DkvIdeal.Skeleton

@[expose] public section

set_option maxRecDepth 16384

noncomputable section

namespace Cert.DkvIdeal.FoxKv

open Cert.DkvIdeal Cert.DkvIdeal.Gen
open Idealize.ShloMosaic

variable {F : FTy → Type} [FloatOps F] [Named F]

/-- The running buffers of a row of tiles. -/
structure St (F : FTy → Type) where
  /-- the sum of `ds^T q` -/
  dk : S1024x128.Idx → Elt F .f32
  /-- the sum of `p^T do` -/
  dv : S1024x128.Idx → Elt F .f32
  /-- the sums of `ds`, one for each lane -/
  dc : S1024x128.Idx → Elt F .f32

/-- The tiles the body reads at a point: query, key, key bias, value, cotangent, log-sum-exp, row sum. -/
structure Tiles (F : FTy → Type) where
  q : S1024x128.Idx → Elt F .f32
  k : S1024x128.Idx → Elt F .f32
  kx : S1x1024x128.Idx → Elt F .f32
  v : S1024x128.Idx → Elt F .f32
  g : S1024x128.Idx → Elt F .f32
  lse : S1x1x1024.Idx → Elt F .f32
  dl : S1x1x1024.Idx → Elt F .f32

/-- At a row's first tile: zero sums. -/
def start : St F := ⟨k0_pay1, k0_pay2, k0_pay3⟩

/-- A tile below the diagonal added. -/
def addOff (x : Tiles F) (s : St F) : St F where
  dk := k0_pay5 (k0_pay13 x.q) (k0_pay14 x.q x.k x.kx x.lse) (k0_pay16 x.v x.g) x.dl s.dk
  dv := k0_pay15 x.q x.k x.kx x.lse s.dv x.g
  dc := k0_pay6 (k0_pay14 x.q x.k x.kx x.lse) (k0_pay16 x.v x.g) x.dl s.dc

/-- The tile on the diagonal added. -/
def addDiag (x : Tiles F) (s : St F) : St F where
  dk := k0_pay8 (k0_pay17 x.q) (k0_pay18 x.q x.k x.kx x.lse) (k0_pay20 x.v) (k0_pay21 x.g) x.dl s.dk
  dv := k0_pay19 x.q x.k x.kx x.lse s.dv x.g
  dc := k0_pay9 (k0_pay18 x.q x.k x.kx x.lse) (k0_pay20 x.v) (k0_pay21 x.g) x.dl s.dc

/-- The tiles written at a row's last tile: of the keys' gradient, the values' and the gates'. -/
def finK (s : St F) : S1024x128.Idx → Elt F .bf16 := k0_pay10 s.dk
def finV (s : St F) : S1024x128.Idx → Elt F .bf16 := k0_pay11 s.dv
def finC (s : St F) : S1x1024x1.Idx → Elt F .f32 := k0_pay12 s.dc

end Cert.DkvIdeal.FoxKv

end
-- ==== Proof.FoxKv.Run.lean ====
/-
The body of the gradient of the keys, values and gates, run once on each of its four control paths.

A point is the last of its row or not, and the tile is on the diagonal or below it. (The diagonal tile is the first of its
row.) Each run is stated over any staging buffers and any table, so that it names no grid point.
-/
module

public import proofs.«01_k».proof.Proof.FoxKv.Step
public import proofs.«01_k».proof.Proof.Gen.DkvIdeal.Launch
public import Idealize.ShloMosaic.Lib.VecWindow
public import Idealize.ShloMosaic.Lib.Exec
public import Idealize.ShloMosaic.Lib.Tactic
public import Idealize.ShloMosaic.Lib.Pipeline.FrameBody
public import Idealize.ShloMosaic.Lib.Pipeline.TableIdle

@[expose] public section

set_option maxRecDepth 16384
set_option Elab.async false

noncomputable section

namespace Cert.DkvIdeal.FoxKv

open Cert.DkvIdeal Cert.DkvIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

theorem rep_S1024x128 {e : EltTy} (v : View sig .tc .vmem S1024x128 e) (x : S1024x128.Idx → Elt F e) :
    View.readAt (Elt F) v (Rect.unit ![0, 0] ![1024, 128] inb_S1024x128_S1024x128_0_0).toLoadRect (v.rep x) = x := View.readAt_rep_full v x _
theorem wr_S1024x128 {e : EltTy} (v : View sig .tc .vmem S1024x128 e) (f : v.ty.Contents (Elt F)) (w : S1024x128.Idx → Elt F e) (L : List (View.Piece (Elt F) S1024x128 e)) :
    View.read (Elt F) v (v.writes (Elt F) f (⟨Rect.unit ![0, 0] ![1024, 128] inb_S1024x128_S1024x128_0_0, w⟩ :: L)) = w := View.read_writes_full v f _ w L
theorem cov_S1024x128 {e : EltTy} (v : View sig .tc .vmem S1024x128 e) (w : S1024x128.Idx → Elt F e) (L : List (View.Piece (Elt F) S1024x128 e)) :
    v.readCov (⟨Rect.unit ![0, 0] ![1024, 128] inb_S1024x128_S1024x128_0_0, w⟩ :: L) (Rect.unit ![0, 0] ![1024, 128] inb_S1024x128_S1024x128_0_0).toLoadRect = w := View.readCov_full v _ _ w L
theorem rep_S1x1024x128 {e : EltTy} (v : View sig .tc .vmem S1x1024x128 e) (x : S1x1024x128.Idx → Elt F e) :
    View.readAt (Elt F) v (Rect.unit ![0, 0, 0] ![1, 1024, 128] inb_S1x1024x128_S1x1024x128_0_0_0).toLoadRect (v.rep x) = x := View.readAt_rep_full v x _
theorem wr_S1x1024x128 {e : EltTy} (v : View sig .tc .vmem S1x1024x128 e) (f : v.ty.Contents (Elt F)) (w : S1x1024x128.Idx → Elt F e) (L : List (View.Piece (Elt F) S1x1024x128 e)) :
    View.read (Elt F) v (v.writes (Elt F) f (⟨Rect.unit ![0, 0, 0] ![1, 1024, 128] inb_S1x1024x128_S1x1024x128_0_0_0, w⟩ :: L)) = w := View.read_writes_full v f _ w L
theorem cov_S1x1024x128 {e : EltTy} (v : View sig .tc .vmem S1x1024x128 e) (w : S1x1024x128.Idx → Elt F e) (L : List (View.Piece (Elt F) S1x1024x128 e)) :
    v.readCov (⟨Rect.unit ![0, 0, 0] ![1, 1024, 128] inb_S1x1024x128_S1x1024x128_0_0_0, w⟩ :: L) (Rect.unit ![0, 0, 0] ![1, 1024, 128] inb_S1x1024x128_S1x1024x128_0_0_0).toLoadRect = w := View.readCov_full v _ _ w L
theorem rep_S1x1x1024 {e : EltTy} (v : View sig .tc .vmem S1x1x1024 e) (x : S1x1x1024.Idx → Elt F e) :
    View.readAt (Elt F) v (Rect.unit ![0, 0, 0] ![1, 1, 1024] inb_S1x1x1024_S1x1x1024_0_0_0).toLoadRect (v.rep x) = x := View.readAt_rep_full v x _
theorem wr_S1x1x1024 {e : EltTy} (v : View sig .tc .vmem S1x1x1024 e) (f : v.ty.Contents (Elt F)) (w : S1x1x1024.Idx → Elt F e) (L : List (View.Piece (Elt F) S1x1x1024 e)) :
    View.read (Elt F) v (v.writes (Elt F) f (⟨Rect.unit ![0, 0, 0] ![1, 1, 1024] inb_S1x1x1024_S1x1x1024_0_0_0, w⟩ :: L)) = w := View.read_writes_full v f _ w L
theorem cov_S1x1x1024 {e : EltTy} (v : View sig .tc .vmem S1x1x1024 e) (w : S1x1x1024.Idx → Elt F e) (L : List (View.Piece (Elt F) S1x1x1024 e)) :
    v.readCov (⟨Rect.unit ![0, 0, 0] ![1, 1, 1024] inb_S1x1x1024_S1x1x1024_0_0_0, w⟩ :: L) (Rect.unit ![0, 0, 0] ![1, 1, 1024] inb_S1x1x1024_S1x1x1024_0_0_0).toLoadRect = w := View.readCov_full v _ _ w L
theorem rep_S1x1024x1 {e : EltTy} (v : View sig .tc .vmem S1x1024x1 e) (x : S1x1024x1.Idx → Elt F e) :
    View.readAt (Elt F) v (Rect.unit ![0, 0, 0] ![1, 1024, 1] inb_S1x1024x1_S1x1024x1_0_0_0).toLoadRect (v.rep x) = x := View.readAt_rep_full v x _
theorem wr_S1x1024x1 {e : EltTy} (v : View sig .tc .vmem S1x1024x1 e) (f : v.ty.Contents (Elt F)) (w : S1x1024x1.Idx → Elt F e) (L : List (View.Piece (Elt F) S1x1024x1 e)) :
    View.read (Elt F) v (v.writes (Elt F) f (⟨Rect.unit ![0, 0, 0] ![1, 1024, 1] inb_S1x1024x1_S1x1024x1_0_0_0, w⟩ :: L)) = w := View.read_writes_full v f _ w L
theorem cov_S1x1024x1 {e : EltTy} (v : View sig .tc .vmem S1x1024x1 e) (w : S1x1024x1.Idx → Elt F e) (L : List (View.Piece (Elt F) S1x1024x1 e)) :
    v.readCov (⟨Rect.unit ![0, 0, 0] ![1, 1024, 1] inb_S1x1024x1_S1x1024x1_0_0_0, w⟩ :: L) (Rect.unit ![0, 0, 0] ![1, 1024, 1] inb_S1x1024x1_S1x1024x1_0_0_0).toLoadRect = w := View.readCov_full v _ _ w L

/-- Eight copies of a tile, side by side. -/
def tiled (u : FVec F S1024x128 .f32) : FVec F S1024x1024 .f32 :=
  concatenate S1024x1024 1 [⟨S1024x128, u⟩, ⟨S1024x128, u⟩, ⟨S1024x128, u⟩, ⟨S1024x128, u⟩, ⟨S1024x128, u⟩, ⟨S1024x128, u⟩, ⟨S1024x128, u⟩, ⟨S1024x128, u⟩] concatenates_S1024x128_S1024x128_S1024x128_S1024x128_S1024x128_S1024x128_S1024x128_S1024x128_S1024x1024_d1
theorem tiled_fold (u : FVec F S1024x128 .f32) (h) :
    concatenate S1024x1024 1 [⟨S1024x128, u⟩, ⟨S1024x128, u⟩, ⟨S1024x128, u⟩, ⟨S1024x128, u⟩, ⟨S1024x128, u⟩, ⟨S1024x128, u⟩, ⟨S1024x128, u⟩, ⟨S1024x128, u⟩] h = tiled u := rfl

/-- The table the grid is steered by. -/
abbrev tab : Memref sig .tc .smem S5x36 .i32 := Memref.whole main_c

/-- Entry `off` of the table. -/
abbrev word (T : S5x36.Idx → Elt F .i32) (off : Fin 2 → ℕ) (h : ∀ a, off a + S1x1.size a ≤ S5x36.size a) : BitVec 32 :=
  View.readAt (Elt F) tab.view (Rect.unit (s := S5x36) off S1x1.size h).toLoadRect T (Shape.Idx.first (numel1_S1x1.symm ▸ Nat.one_pos))

/-- The point is the first of its row. -/
abbrev First (T : S5x36.Idx → Elt F .i32) (i : grid0.Coords) : Prop :=
  Scalar.cmpi .ne (Scalar.extui (Scalar.cmpi .eq (word T (k0_off3 i) (k0_off3_inb i)) 1#32)) 0#32 = 1#1
/-- The tile is below the diagonal. -/
abbrev Below (T : S5x36.Idx → Elt F .i32) (i : grid0.Coords) : Prop :=
  Scalar.cmpi .ne (Scalar.extui (Scalar.xori (Scalar.cmpi .eq (word T (k0_off1 i) (k0_off1_inb i)) (word T (k0_off2 i) (k0_off2_inb i))) 1#1)) 0#32 = 1#1
/-- The tile is on the diagonal. -/
abbrev OnDiag (T : S5x36.Idx → Elt F .i32) (i : grid0.Coords) : Prop :=
  Scalar.cmpi .ne (Scalar.extui (Scalar.cmpi .eq (word T (k0_off1 i) (k0_off1_inb i)) (word T (k0_off2 i) (k0_off2_inb i)))) 0#32 = 1#1
/-- The point is the last of its row. -/
abbrev Last (T : S5x36.Idx → Elt F .i32) (i : grid0.Coords) : Prop := k0_cond4 (word T (k0_off4 i) (k0_off4_inb i)) = 1#1

variable (c : Dev nD)

/-- A memref held whole at contents that read `X`. -/
abbrev held {sp : Space} {s : Shape} {e : EltTy} (m : Memref sig .tc sp s e) (X : s.Idx → Elt F e) : sProp 𝕄 :=
  (m.view.loc (c : Thread nD τ) ↦[m.view.set]{fullShare} m.view.rep X)

/-- A memref held whole at some contents. -/
abbrev some {sp : Space} {s : Shape} {e : EltTy} (m : Memref sig .tc sp s e) : sProp 𝕄 :=
  iprop(∃ f : Buf (Elt F) (m.view.loc (c : Thread nD τ)), (m.view.loc (c : Thread nD τ) ↦[m.view.set]{fullShare} f))

variable (i : grid0.Coords) (arg3 : Memref sig .tc .vmem S1024x128 .f32) (harg3 : arg3.IsWhole) (arg4 : Memref sig .tc .vmem S1024x128 .f32) (harg4 : arg4.IsWhole) (arg5 : Memref sig .tc .vmem S1x1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1024x128 .bf16) (harg10 : arg10.IsWhole) (arg11 : Memref sig .tc .vmem S1024x128 .bf16) (harg11 : arg11.IsWhole) (arg12 : Memref sig .tc .vmem S1x1024x1 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S1024x128 .f32) (harg15 : arg15.IsWhole)

/-- The body on these memrefs. -/
abbrev body : Prog (TpuEff nD τ sig (Elt F) Λ₀ .tc) PUnit :=
  cc0_fox_bwd_dkv i tab (Memref.isWhole_whole _) arg3 harg3 arg4 harg4 arg5 harg5 arg6 harg6 arg7 harg7 arg8 harg8 arg9 harg9 arg10 harg10 arg11 harg11 arg12 harg12 arg13 harg13 arg14 harg14 arg15 harg15

variable (T : S5x36.Idx → Elt F .i32) (x : Tiles F)

/-- The inputs' staging buffers at their tiles, and the table. -/
abbrev ins : sProp 𝕄 :=
  iprop(held c arg3 x.q ∗ held c arg4 x.k ∗ held c arg5 x.kx ∗ held c arg6 x.v ∗ held c arg7 x.g ∗ held c arg8 x.lse ∗ held c arg9 x.dl
    ∗ (tab.view.loc (c : Thread nD τ) ↦{fullShare.right} T))

/-- The running buffers at a state. -/
abbrev runs (s : St F) : sProp 𝕄 :=
  iprop(held c arg13 s.dk ∗ held c arg14 s.dv ∗ held c arg15 s.dc)

/-- The running buffers at some contents. -/
abbrev junks : sProp 𝕄 :=
  iprop(some (F := F) c arg13 ∗ some (F := F) c arg14 ∗ some (F := F) c arg15)

/-- The results' staging buffers at some contents. -/
abbrev outs : sProp 𝕄 :=
  iprop(some (F := F) c arg10 ∗ some (F := F) c arg11 ∗ some (F := F) c arg12)

/-- The results' staging buffers at the tiles of a state. -/
abbrev stored (s : St F) : sProp 𝕄 :=
  iprop(held c arg10 (finK s) ∗ held c arg11 (finV s) ∗ held c arg12 (finC s))

set_option maxHeartbeats 8000000 in
/-- A tile below the diagonal, not the last of its row. -/
theorem run_mid (h1 : ¬ First T i)
    (h2 : Below T i)
    (h3 : ¬ OnDiag T i)
    (h4 : ¬ Last T i)
    (s : St F) (K : PUnit → sProp 𝕄) :
    iprop(ins c arg3 arg4 arg5 arg6 arg7 arg8 arg9 T x ∗ runs c arg13 arg14 arg15 s
      ∗ (iprop(ins c arg3 arg4 arg5 arg6 arg7 arg8 arg9 T x ∗ runs c arg13 arg14 arg15 (addOff x s)) -∗ K ⟨⟩))
    ⊢ wp frame (wpE (defs₀ (F := F)) Variants.none c none) Set.univ (body i arg3 harg3 arg4 harg4 arg5 harg5 arg6 harg6 arg7 harg7 arg8 harg8 arg9 harg9 arg10 harg10 arg11 harg11 arg12 harg12 arg13 harg13 arg14 harg14 arg15 harg15) K := by
  unfold body
  rw [cc0_fox_bwd_dkv_eq_skeleton]; unfold cc0_fox_bwd_dkv_skel
  iintro ⟨⟨H3, H4, H5, H6, H7, H8, H9, HT⟩, ⟨H13, H14, H15⟩, Hk⟩
  have hT0 : tab.IsWhole := Memref.isWhole_whole _
  sl_exec! (disch := first | exact h1 | exact h2 | exact h3 | exact h4)
  sl_step
  iapply Hk
  isplitl [H3 H4 H5 H6 H7 H8 H9 HT]
  · isplitl [H3]; · iexact H3
    isplitl [H4]; · iexact H4
    isplitl [H5]; · iexact H5
    isplitl [H6]; · iexact H6
    isplitl [H7]; · iexact H7
    isplitl [H8]; · iexact H8
    isplitl [H9]; · iexact H9
    iexact HT
  isplitl [H13]
  · iapply pointsTo_rep_of_read $$ H13
    delta run_mid.sl.H13_1 run_mid.sl.cst run_mid.sl.cst_19 run_mid.sl.cst_8 run_mid.sl.r_4 run_mid.sl.v21 run_mid.sl.v22 run_mid.sl.v23 run_mid.sl.v25 run_mid.sl.v26 run_mid.sl.v28 run_mid.sl.v29 run_mid.sl.v30 run_mid.sl.v32 run_mid.sl.v33 run_mid.sl.v34 run_mid.sl.v35 run_mid.sl.v38 run_mid.sl.v39 run_mid.sl.v40 run_mid.sl.v41 run_mid.sl.v43 run_mid.sl.v44 run_mid.sl.v47 run_mid.sl.v48 run_mid.sl.v49 run_mid.sl.v50
    simp only [tiled_fold]
    simp only [rep_S1024x128, wr_S1024x128, cov_S1024x128, rep_S1x1024x128, wr_S1x1024x128, cov_S1x1024x128, rep_S1x1x1024, wr_S1x1x1024, cov_S1x1x1024, rep_S1x1024x1, wr_S1x1024x1, cov_S1x1024x1]
    rfl
  isplitl [H14]
  · iapply pointsTo_rep_of_read $$ H14
    delta run_mid.sl.H14_1 run_mid.sl.cst run_mid.sl.cst_19 run_mid.sl.cst_8 run_mid.sl.r_4 run_mid.sl.v21 run_mid.sl.v22 run_mid.sl.v23 run_mid.sl.v25 run_mid.sl.v26 run_mid.sl.v28 run_mid.sl.v29 run_mid.sl.v30 run_mid.sl.v32 run_mid.sl.v33 run_mid.sl.v34 run_mid.sl.v35 run_mid.sl.v38 run_mid.sl.v39 run_mid.sl.v40 run_mid.sl.v41 run_mid.sl.v43 run_mid.sl.v44 run_mid.sl.v47 run_mid.sl.v48 run_mid.sl.v49 run_mid.sl.v50
    simp only [tiled_fold]
    simp only [rep_S1024x128, wr_S1024x128, cov_S1024x128, rep_S1x1024x128, wr_S1x1024x128, cov_S1x1024x128, rep_S1x1x1024, wr_S1x1x1024, cov_S1x1x1024, rep_S1x1024x1, wr_S1x1024x1, cov_S1x1024x1]
    rfl
  iapply pointsTo_rep_of_read $$ H15
  delta run_mid.sl.H15_1 run_mid.sl.cst run_mid.sl.cst_19 run_mid.sl.cst_8 run_mid.sl.r_4 run_mid.sl.v21 run_mid.sl.v22 run_mid.sl.v23 run_mid.sl.v25 run_mid.sl.v26 run_mid.sl.v28 run_mid.sl.v29 run_mid.sl.v30 run_mid.sl.v32 run_mid.sl.v33 run_mid.sl.v34 run_mid.sl.v35 run_mid.sl.v38 run_mid.sl.v39 run_mid.sl.v40 run_mid.sl.v41 run_mid.sl.v43 run_mid.sl.v44 run_mid.sl.v47 run_mid.sl.v48 run_mid.sl.v49 run_mid.sl.v50
  simp only [tiled_fold]
  simp only [rep_S1024x128, wr_S1024x128, cov_S1024x128, rep_S1x1024x128, wr_S1x1024x128, cov_S1x1024x128, rep_S1x1x1024, wr_S1x1x1024, cov_S1x1x1024, rep_S1x1024x1, wr_S1x1024x1, cov_S1x1024x1]
  rfl

set_option maxHeartbeats 8000000 in
/-- The tile on the diagonal, not the last of its row. -/
theorem run_first (h1 : First T i)
    (h2 : ¬ Below T i)
    (h3 : OnDiag T i)
    (h4 : ¬ Last T i)
    (K : PUnit → sProp 𝕄) :
    iprop(ins c arg3 arg4 arg5 arg6 arg7 arg8 arg9 T x ∗ junks (F := F) c arg13 arg14 arg15
      ∗ (iprop(ins c arg3 arg4 arg5 arg6 arg7 arg8 arg9 T x ∗ runs c arg13 arg14 arg15 (addDiag x start)) -∗ K ⟨⟩))
    ⊢ wp frame (wpE (defs₀ (F := F)) Variants.none c none) Set.univ (body i arg3 harg3 arg4 harg4 arg5 harg5 arg6 harg6 arg7 harg7 arg8 harg8 arg9 harg9 arg10 harg10 arg11 harg11 arg12 harg12 arg13 harg13 arg14 harg14 arg15 harg15) K := by
  unfold body
  rw [cc0_fox_bwd_dkv_eq_skeleton]; unfold cc0_fox_bwd_dkv_skel
  iintro ⟨⟨H3, H4, H5, H6, H7, H8, H9, HT⟩, ⟨⟨%f13, H13⟩, ⟨%f14, H14⟩, ⟨%f15, H15⟩⟩, Hk⟩
  have hT0 : tab.IsWhole := Memref.isWhole_whole _
  sl_exec! (disch := first | exact h1 | exact h2 | exact h3 | exact h4)
  sl_step
  iapply Hk
  isplitl [H3 H4 H5 H6 H7 H8 H9 HT]
  · isplitl [H3]; · iexact H3
    isplitl [H4]; · iexact H4
    isplitl [H5]; · iexact H5
    isplitl [H6]; · iexact H6
    isplitl [H7]; · iexact H7
    isplitl [H8]; · iexact H8
    isplitl [H9]; · iexact H9
    iexact HT
  isplitl [H13]
  · iapply pointsTo_rep_of_read $$ H13
    delta run_first.sl.H13_2 run_first.sl.r_4 run_first.sl.r_5 run_first.sl.r_6 run_first.sl.r_7 run_first.sl.v61 run_first.sl.H13_1
    simp only [rep_S1024x128, wr_S1024x128, cov_S1024x128, rep_S1x1024x128, wr_S1x1024x128, cov_S1x1024x128, rep_S1x1x1024, wr_S1x1x1024, cov_S1x1x1024, rep_S1x1024x1, wr_S1x1024x1, cov_S1x1024x1]
    rfl
  isplitl [H14]
  · iapply pointsTo_rep_of_read $$ H14
    delta run_first.sl.H14_2 run_first.sl.v41 run_first.sl.H14_1
    simp only [rep_S1024x128, wr_S1024x128, cov_S1024x128, rep_S1x1024x128, wr_S1x1024x128, cov_S1x1024x128, rep_S1x1x1024, wr_S1x1x1024, cov_S1x1x1024, rep_S1x1024x1, wr_S1x1024x1, cov_S1x1024x1]
    rfl
  iapply pointsTo_rep_of_read $$ H15
  delta run_first.sl.H15_2 run_first.sl.r_5 run_first.sl.r_6 run_first.sl.r_7 run_first.sl.v68 run_first.sl.H15_1
  simp only [rep_S1024x128, wr_S1024x128, cov_S1024x128, rep_S1x1024x128, wr_S1x1024x128, cov_S1x1024x128, rep_S1x1x1024, wr_S1x1x1024, cov_S1x1x1024, rep_S1x1024x1, wr_S1x1024x1, cov_S1x1024x1]
  rfl

set_option maxHeartbeats 8000000 in
/-- A tile below the diagonal, the last of its row. -/
theorem run_last (h1 : ¬ First T i)
    (h2 : Below T i)
    (h3 : ¬ OnDiag T i)
    (h4 : Last T i)
    (s : St F) (K : PUnit → sProp 𝕄) :
    iprop(ins c arg3 arg4 arg5 arg6 arg7 arg8 arg9 T x ∗ outs (F := F) c arg10 arg11 arg12 ∗ runs c arg13 arg14 arg15 s
      ∗ (iprop(ins c arg3 arg4 arg5 arg6 arg7 arg8 arg9 T x ∗ stored c arg10 arg11 arg12 (addOff x s) ∗ runs c arg13 arg14 arg15 (addOff x s)) -∗ K ⟨⟩))
    ⊢ wp frame (wpE (defs₀ (F := F)) Variants.none c none) Set.univ (body i arg3 harg3 arg4 harg4 arg5 harg5 arg6 harg6 arg7 harg7 arg8 harg8 arg9 harg9 arg10 harg10 arg11 harg11 arg12 harg12 arg13 harg13 arg14 harg14 arg15 harg15) K := by
  unfold body
  rw [cc0_fox_bwd_dkv_eq_skeleton]; unfold cc0_fox_bwd_dkv_skel
  iintro ⟨⟨H3, H4, H5, H6, H7, H8, H9, HT⟩, ⟨⟨%f10, H10⟩, ⟨%f11, H11⟩, ⟨%f12, H12⟩⟩, ⟨H13, H14, H15⟩, Hk⟩
  have hT0 : tab.IsWhole := Memref.isWhole_whole _
  sl_exec! (disch := first | exact h1 | exact h2 | exact h3 | exact h4)
  sl_step
  iapply Hk
  isplitl [H3 H4 H5 H6 H7 H8 H9 HT]
  · isplitl [H3]; · iexact H3
    isplitl [H4]; · iexact H4
    isplitl [H5]; · iexact H5
    isplitl [H6]; · iexact H6
    isplitl [H7]; · iexact H7
    isplitl [H8]; · iexact H8
    isplitl [H9]; · iexact H9
    iexact HT
  isplitl [H10 H11 H12]
  · isplitl [H10]
    · iapply pointsTo_rep_of_read $$ H10
      delta run_last.sl.H10_1 run_last.sl.H13_1 run_last.sl.cst run_last.sl.cst_19 run_last.sl.cst_8 run_last.sl.r_4 run_last.sl.v20 run_last.sl.v21 run_last.sl.v22 run_last.sl.v23 run_last.sl.v23_1 run_last.sl.v25 run_last.sl.v26 run_last.sl.v26_1 run_last.sl.v28 run_last.sl.v29 run_last.sl.v30 run_last.sl.v32 run_last.sl.v33 run_last.sl.v34 run_last.sl.v35 run_last.sl.v38 run_last.sl.v39 run_last.sl.v40 run_last.sl.v41 run_last.sl.v43 run_last.sl.v44 run_last.sl.v47 run_last.sl.v48 run_last.sl.v49 run_last.sl.v50
      simp only [tiled_fold]
      simp only [rep_S1024x128, wr_S1024x128, cov_S1024x128, rep_S1x1024x128, wr_S1x1024x128, cov_S1x1024x128, rep_S1x1x1024, wr_S1x1x1024, cov_S1x1x1024, rep_S1x1024x1, wr_S1x1024x1, cov_S1x1024x1]
      rfl
    isplitl [H11]
    · iapply pointsTo_rep_of_read $$ H11
      delta run_last.sl.H11_1 run_last.sl.H14_1 run_last.sl.cst run_last.sl.cst_19 run_last.sl.cst_8 run_last.sl.r_4 run_last.sl.v20 run_last.sl.v21 run_last.sl.v22 run_last.sl.v23 run_last.sl.v23_1 run_last.sl.v25 run_last.sl.v26 run_last.sl.v26_1 run_last.sl.v28 run_last.sl.v29 run_last.sl.v30 run_last.sl.v32 run_last.sl.v33 run_last.sl.v34 run_last.sl.v35 run_last.sl.v38 run_last.sl.v39 run_last.sl.v40 run_last.sl.v41 run_last.sl.v43 run_last.sl.v44 run_last.sl.v47 run_last.sl.v48 run_last.sl.v49 run_last.sl.v50
      simp only [tiled_fold]
      simp only [rep_S1024x128, wr_S1024x128, cov_S1024x128, rep_S1x1024x128, wr_S1x1024x128, cov_S1x1024x128, rep_S1x1x1024, wr_S1x1x1024, cov_S1x1x1024, rep_S1x1024x1, wr_S1x1024x1, cov_S1x1024x1]
      rfl
    iapply pointsTo_rep_of_read $$ H12
    delta run_last.sl.H12_1 run_last.sl.H15_1 run_last.sl.cst run_last.sl.cst_19 run_last.sl.cst_8 run_last.sl.r_4 run_last.sl.v20 run_last.sl.v21 run_last.sl.v22 run_last.sl.v23 run_last.sl.v23_1 run_last.sl.v25 run_last.sl.v26 run_last.sl.v26_1 run_last.sl.v28 run_last.sl.v29 run_last.sl.v30 run_last.sl.v32 run_last.sl.v33 run_last.sl.v34 run_last.sl.v35 run_last.sl.v38 run_last.sl.v39 run_last.sl.v40 run_last.sl.v41 run_last.sl.v43 run_last.sl.v44 run_last.sl.v47 run_last.sl.v48 run_last.sl.v49 run_last.sl.v50
    simp only [tiled_fold]
    simp only [rep_S1024x128, wr_S1024x128, cov_S1024x128, rep_S1x1024x128, wr_S1x1024x128, cov_S1x1024x128, rep_S1x1x1024, wr_S1x1x1024, cov_S1x1x1024, rep_S1x1024x1, wr_S1x1024x1, cov_S1x1024x1]
    rfl
  isplitl [H13]
  · iapply pointsTo_rep_of_read $$ H13
    delta run_last.sl.H13_1 run_last.sl.cst run_last.sl.cst_19 run_last.sl.cst_8 run_last.sl.r_4 run_last.sl.v20 run_last.sl.v21 run_last.sl.v22 run_last.sl.v23 run_last.sl.v23_1 run_last.sl.v25 run_last.sl.v26 run_last.sl.v26_1 run_last.sl.v28 run_last.sl.v29 run_last.sl.v30 run_last.sl.v32 run_last.sl.v33 run_last.sl.v34 run_last.sl.v35 run_last.sl.v38 run_last.sl.v39 run_last.sl.v40 run_last.sl.v41 run_last.sl.v43 run_last.sl.v44 run_last.sl.v47 run_last.sl.v48 run_last.sl.v49 run_last.sl.v50
    simp only [tiled_fold]
    simp only [rep_S1024x128, wr_S1024x128, cov_S1024x128, rep_S1x1024x128, wr_S1x1024x128, cov_S1x1024x128, rep_S1x1x1024, wr_S1x1x1024, cov_S1x1x1024, rep_S1x1024x1, wr_S1x1024x1, cov_S1x1024x1]
    rfl
  isplitl [H14]
  · iapply pointsTo_rep_of_read $$ H14
    delta run_last.sl.H14_1 run_last.sl.cst run_last.sl.cst_19 run_last.sl.cst_8 run_last.sl.r_4 run_last.sl.v20 run_last.sl.v21 run_last.sl.v22 run_last.sl.v23 run_last.sl.v23_1 run_last.sl.v25 run_last.sl.v26 run_last.sl.v26_1 run_last.sl.v28 run_last.sl.v29 run_last.sl.v30 run_last.sl.v32 run_last.sl.v33 run_last.sl.v34 run_last.sl.v35 run_last.sl.v38 run_last.sl.v39 run_last.sl.v40 run_last.sl.v41 run_last.sl.v43 run_last.sl.v44 run_last.sl.v47 run_last.sl.v48 run_last.sl.v49 run_last.sl.v50
    simp only [tiled_fold]
    simp only [rep_S1024x128, wr_S1024x128, cov_S1024x128, rep_S1x1024x128, wr_S1x1024x128, cov_S1x1024x128, rep_S1x1x1024, wr_S1x1x1024, cov_S1x1x1024, rep_S1x1024x1, wr_S1x1024x1, cov_S1x1024x1]
    rfl
  iapply pointsTo_rep_of_read $$ H15
  delta run_last.sl.H15_1 run_last.sl.cst run_last.sl.cst_19 run_last.sl.cst_8 run_last.sl.r_4 run_last.sl.v20 run_last.sl.v21 run_last.sl.v22 run_last.sl.v23 run_last.sl.v23_1 run_last.sl.v25 run_last.sl.v26 run_last.sl.v26_1 run_last.sl.v28 run_last.sl.v29 run_last.sl.v30 run_last.sl.v32 run_last.sl.v33 run_last.sl.v34 run_last.sl.v35 run_last.sl.v38 run_last.sl.v39 run_last.sl.v40 run_last.sl.v41 run_last.sl.v43 run_last.sl.v44 run_last.sl.v47 run_last.sl.v48 run_last.sl.v49 run_last.sl.v50
  simp only [tiled_fold]
  simp only [rep_S1024x128, wr_S1024x128, cov_S1024x128, rep_S1x1024x128, wr_S1x1024x128, cov_S1x1024x128, rep_S1x1x1024, wr_S1x1x1024, cov_S1x1x1024, rep_S1x1024x1, wr_S1x1024x1, cov_S1x1024x1]
  rfl

set_option maxHeartbeats 8000000 in
/-- The tile on the diagonal, the last of its row. -/
theorem run_only (h1 : First T i)
    (h2 : ¬ Below T i)
    (h3 : OnDiag T i)
    (h4 : Last T i)
    (K : PUnit → sProp 𝕄) :
    iprop(ins c arg3 arg4 arg5 arg6 arg7 arg8 arg9 T x ∗ outs (F := F) c arg10 arg11 arg12 ∗ junks (F := F) c arg13 arg14 arg15
      ∗ (iprop(ins c arg3 arg4 arg5 arg6 arg7 arg8 arg9 T x ∗ stored c arg10 arg11 arg12 (addDiag x start) ∗ runs c arg13 arg14 arg15 (addDiag x start)) -∗ K ⟨⟩))
    ⊢ wp frame (wpE (defs₀ (F := F)) Variants.none c none) Set.univ (body i arg3 harg3 arg4 harg4 arg5 harg5 arg6 harg6 arg7 harg7 arg8 harg8 arg9 harg9 arg10 harg10 arg11 harg11 arg12 harg12 arg13 harg13 arg14 harg14 arg15 harg15) K := by
  unfold body
  rw [cc0_fox_bwd_dkv_eq_skeleton]; unfold cc0_fox_bwd_dkv_skel
  iintro ⟨⟨H3, H4, H5, H6, H7, H8, H9, HT⟩, ⟨⟨%f10, H10⟩, ⟨%f11, H11⟩, ⟨%f12, H12⟩⟩, ⟨⟨%f13, H13⟩, ⟨%f14, H14⟩, ⟨%f15, H15⟩⟩, Hk⟩
  have hT0 : tab.IsWhole := Memref.isWhole_whole _
  sl_exec! (disch := first | exact h1 | exact h2 | exact h3 | exact h4)
  sl_step
  iapply Hk
  isplitl [H3 H4 H5 H6 H7 H8 H9 HT]
  · isplitl [H3]; · iexact H3
    isplitl [H4]; · iexact H4
    isplitl [H5]; · iexact H5
    isplitl [H6]; · iexact H6
    isplitl [H7]; · iexact H7
    isplitl [H8]; · iexact H8
    isplitl [H9]; · iexact H9
    iexact HT
  isplitl [H10 H11 H12]
  · isplitl [H10]
    · iapply pointsTo_rep_of_read $$ H10
      delta run_only.sl.H10_1 run_only.sl.v20 run_only.sl.H13_2 run_only.sl.r_4 run_only.sl.r_5 run_only.sl.r_6 run_only.sl.r_7 run_only.sl.v61 run_only.sl.H13_1
      simp only [rep_S1024x128, wr_S1024x128, cov_S1024x128, rep_S1x1024x128, wr_S1x1024x128, cov_S1x1024x128, rep_S1x1x1024, wr_S1x1x1024, cov_S1x1x1024, rep_S1x1024x1, wr_S1x1024x1, cov_S1x1024x1]
      rfl
    isplitl [H11]
    · iapply pointsTo_rep_of_read $$ H11
      delta run_only.sl.H11_1 run_only.sl.v23 run_only.sl.H14_2 run_only.sl.v41 run_only.sl.H14_1
      simp only [rep_S1024x128, wr_S1024x128, cov_S1024x128, rep_S1x1024x128, wr_S1x1024x128, cov_S1x1024x128, rep_S1x1x1024, wr_S1x1x1024, cov_S1x1x1024, rep_S1x1024x1, wr_S1x1024x1, cov_S1x1024x1]
      rfl
    iapply pointsTo_rep_of_read $$ H12
    delta run_only.sl.H12_1 run_only.sl.v26 run_only.sl.H15_2 run_only.sl.r_5 run_only.sl.r_6 run_only.sl.r_7 run_only.sl.v68 run_only.sl.H15_1
    simp only [rep_S1024x128, wr_S1024x128, cov_S1024x128, rep_S1x1024x128, wr_S1x1024x128, cov_S1x1024x128, rep_S1x1x1024, wr_S1x1x1024, cov_S1x1x1024, rep_S1x1024x1, wr_S1x1024x1, cov_S1x1024x1]
    rfl
  isplitl [H13]
  · iapply pointsTo_rep_of_read $$ H13
    delta run_only.sl.H13_2 run_only.sl.r_4 run_only.sl.r_5 run_only.sl.r_6 run_only.sl.r_7 run_only.sl.v61 run_only.sl.H13_1
    simp only [rep_S1024x128, wr_S1024x128, cov_S1024x128, rep_S1x1024x128, wr_S1x1024x128, cov_S1x1024x128, rep_S1x1x1024, wr_S1x1x1024, cov_S1x1x1024, rep_S1x1024x1, wr_S1x1024x1, cov_S1x1024x1]
    rfl
  isplitl [H14]
  · iapply pointsTo_rep_of_read $$ H14
    delta run_only.sl.H14_2 run_only.sl.v41 run_only.sl.H14_1
    simp only [rep_S1024x128, wr_S1024x128, cov_S1024x128, rep_S1x1024x128, wr_S1x1024x128, cov_S1x1024x128, rep_S1x1x1024, wr_S1x1x1024, cov_S1x1x1024, rep_S1x1024x1, wr_S1x1024x1, cov_S1x1024x1]
    rfl
  iapply pointsTo_rep_of_read $$ H15
  delta run_only.sl.H15_2 run_only.sl.r_5 run_only.sl.r_6 run_only.sl.r_7 run_only.sl.v68 run_only.sl.H15_1
  simp only [rep_S1024x128, wr_S1024x128, cov_S1024x128, rep_S1x1024x128, wr_S1x1024x128, cov_S1x1024x128, rep_S1x1x1024, wr_S1x1x1024, cov_S1x1x1024, rep_S1x1024x1, wr_S1x1024x1, cov_S1x1024x1]
  rfl

end Cert.DkvIdeal.FoxKv

end
-- ==== Proof.FoxKv.Table.lean ====
/-
The table that steers the grid, and what each grid point does.

The grid has 36 points for each of the four heads: the pairs of a key tile and a query tile on or below the diagonal, key
tile by key tile. A row of the order starts on the diagonal and ends at the last query tile, where the tiles of the three
results are written back.
-/
module

public import proofs.«01_k».proof.Proof.FoxKv.Run
public import Idealize.ShloMosaic.Lib.Affine
public import Idealize.ShloMosaic.Lib.Pipeline.Quiescent

@[expose] public section

set_option maxRecDepth 16384
set_option Elab.async false

noncomputable section

namespace Cert.DkvIdeal.FoxKv

open Cert.DkvIdeal Cert.DkvIdeal.Gen
open Idealize.ShloMosaic
open Idealize.ShloMosaic.TcCoe Idealize.ShloMosaic.Tactic

variable {F : FTy → Type} [FloatOps F] [Named F]

/-- The table that the host hands over. -/
abbrev T0 : S5x36.Idx → Elt F .i32 := fun i => lit0 (S5x36.rowMajor i)

/-- The contents of the one prefetched table. -/
def pf : pre0.Contents (Elt F) := fun k => match k with
  | ⟨0, _⟩ => T0

theorem inb_0 : ∀ i : grid0.Coords, ∀ a, (cc0_transform_0 k0_off1_inb numel1_S1x1 (pf (F := F)) i a + 1) * S1024x128.size a ≤ S8192x512.size a :=
  of_decide_eq_true (by sl_kernel_rfl)
theorem inb_1 : ∀ i : grid0.Coords, ∀ a, (cc0_transform_1 k0_off2_inb numel1_S1x1 (pf (F := F)) i a + 1) * S1024x128.size a ≤ S8192x512.size a :=
  of_decide_eq_true (by sl_kernel_rfl)
theorem inb_2 : ∀ i : grid0.Coords, ∀ a, (cc0_transform_2 k0_off2_inb numel1_S1x1 (pf (F := F)) i a + 1) * S1x1024x128.size a ≤ S4x8192x128.size a :=
  of_decide_eq_true (by sl_kernel_rfl)
theorem inb_3 : ∀ i : grid0.Coords, ∀ a, (cc0_transform_3 k0_off2_inb numel1_S1x1 (pf (F := F)) i a + 1) * S1024x128.size a ≤ S8192x512.size a :=
  of_decide_eq_true (by sl_kernel_rfl)
theorem inb_4 : ∀ i : grid0.Coords, ∀ a, (cc0_transform_4 k0_off1_inb numel1_S1x1 (pf (F := F)) i a + 1) * S1024x128.size a ≤ S8192x512.size a :=
  of_decide_eq_true (by sl_kernel_rfl)
theorem inb_5 : ∀ i : grid0.Coords, ∀ a, (cc0_transform_5 k0_off1_inb numel1_S1x1 (pf (F := F)) i a + 1) * S1x1x1024.size a ≤ S4x1x8192.size a :=
  of_decide_eq_true (by sl_kernel_rfl)
theorem inb_6 : ∀ i : grid0.Coords, ∀ a, (cc0_transform_6 k0_off1_inb numel1_S1x1 (pf (F := F)) i a + 1) * S1x1x1024.size a ≤ S4x1x8192.size a :=
  of_decide_eq_true (by sl_kernel_rfl)
theorem inb_7 : ∀ i : grid0.Coords, ∀ a, (cc0_transform_7 k0_off2_inb numel1_S1x1 (pf (F := F)) i a + 1) * S1024x128.size a ≤ S8192x512.size a :=
  of_decide_eq_true (by sl_kernel_rfl)
theorem inb_8 : ∀ i : grid0.Coords, ∀ a, (cc0_transform_8 k0_off2_inb numel1_S1x1 (pf (F := F)) i a + 1) * S1024x128.size a ≤ S8192x512.size a :=
  of_decide_eq_true (by sl_kernel_rfl)
theorem inb_9 : ∀ i : grid0.Coords, ∀ a, (cc0_transform_9 k0_off2_inb numel1_S1x1 (pf (F := F)) i a + 1) * S1x1024x1.size a ≤ S4x8192x1.size a :=
  of_decide_eq_true (by sl_kernel_rfl)

/-- Every block that the table names lies inside its array. -/
theorem ok_pf : ok0 (pf (F := F)) :=
  ⟨fun i => ⟨inb_0 i, .inl rfl⟩, fun i => ⟨inb_1 i, .inl rfl⟩, fun i => ⟨inb_2 i, .inl rfl⟩, fun i => ⟨inb_3 i, .inl rfl⟩, fun i => ⟨inb_4 i, .inl rfl⟩, fun i => ⟨inb_5 i, .inl rfl⟩, fun i => ⟨inb_6 i, .inl rfl⟩,
    fun i => ⟨inb_7 i, .inr (Affine.block_words_dvd (s := S8192x512) (p := EltTy.packing .bf16) (by decide) (by decide))⟩, fun i => ⟨inb_8 i, .inr (Affine.block_words_dvd (s := S8192x512) (p := EltTy.packing .bf16) (by decide) (by decide))⟩,
    fun i => ⟨inb_9 i, .inl rfl⟩⟩

/-- The table as the pipeline takes it, and the pipeline at it. -/
def adm : (pcfg0 (F := F)).Adm := ⟨pf, ok_pf⟩
abbrev cfgA (F : FTy → Type) [FloatOps F] [Named F] : Pipeline.Cfg sig Λ₀ := cfg0 (F := F) adm
abbrev pcs (F : FTy → Type) [FloatOps F] [Named F] : Fin 1 → Pipeline.Cfg sig Λ₀ := Pipeline.pin (pcfgs (F := F)) fun _ => adm

/-- The coordinates of a point. -/
abbrev crd (t : Fin (cfgA F).N) : grid0.Coords := (cfgA F).grid.coords t

/-- What happens at a point: a tile is below the diagonal or on it; a row starts on the diagonal, and only there; where it ends,
    and only there, the three results are stored and written back; a point that is not the first of its row is not the first of
    all. -/
abbrev Sched (t : Fin (cfgA F).N) : Prop :=
  (Below (F := F) T0 (crd t) ↔ ¬ OnDiag (F := F) T0 (crd t)) ∧ (First (F := F) T0 (crd t) ↔ OnDiag (F := F) T0 (crd t))
  ∧ (cfgA F).idle (7 : Fin 10) (crd t) = !decide (Last (F := F) T0 (crd t))
  ∧ ((cfgA F).win (7 : Fin 10)).flushF t = decide (Last (F := F) T0 (crd t))
  ∧ (cfgA F).idle (8 : Fin 10) (crd t) = !decide (Last (F := F) T0 (crd t))
  ∧ ((cfgA F).win (8 : Fin 10)).flushF t = decide (Last (F := F) T0 (crd t))
  ∧ (cfgA F).idle (9 : Fin 10) (crd t) = !decide (Last (F := F) T0 (crd t))
  ∧ ((cfgA F).win (9 : Fin 10)).flushF t = decide (Last (F := F) T0 (crd t))
  ∧ (First (F := F) T0 (crd t) ∨ t.val ≠ 0)

set_option synthInstance.maxSize 65536 in
set_option synthInstance.maxHeartbeats 400000 in
theorem sched : ∀ t : Fin (cfgA F).N, Sched t := of_decide_eq_true (by sl_kernel_rfl)

end Cert.DkvIdeal.FoxKv

end
-- ==== Proof.FoxKv.Traj.lean ====
/-
What the buffers of the gradient of the keys, values and gates hold, point by point.
-/
module

public import proofs.«01_k».proof.Proof.FoxKv.Table
public import Idealize.ShloMosaic.Lib.Pipeline.Frame
public import Idealize.ShloMosaic.Lib.Claim

@[expose] public section

set_option maxRecDepth 16384
set_option Elab.async false

noncomputable section

namespace Cert.DkvIdeal.FoxKv

open Cert.DkvIdeal Cert.DkvIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The memory at the call -/

/-- The host's operations before the call. -/
abbrev opss : List (List (HloOp τ sig (Elt F))) := [hostOps0, hostOps0_1, hostOps0_2]

/-- The buffers that the host's operations after the table write, in order. -/
abbrev written : List (Ref sig .tc) := [main_v0, main_v1, main_v2, main_cst, main_v3, main_v4, main_v5, main_v6, main_v7, main_v8, main_v9, main_v10, main_v11, main_v12, main_v13, main_v14, main_v15, main_v16, main_cst_0, main_call0_v0, main_call0_v1, main_call0_v2, main_v17, main_cst_1, main_v18, main_v19, main_v20, main_v21, main_v22, main_cst_2, main_v23, main_v24, main_v25, main_v26, main_v27, main_v28, main_v29, main_v30, main_v31, main_v32, main_v33, main_v34, main_v35, main_v36, main_v37, main_v38, main_v39, main_cst_3, main_v40, main_v41, main_v42, main_v43, main_v44, main_v45]

theorem fresh_ops : (opss (F := F)).Forall fun ops => ops.Forall fun op => op.fresh = ∅ :=
  ⟨StableHlo.forall_fresh_of_map rfl, StableHlo.forall_fresh_of_map rfl, StableHlo.forall_fresh_of_map rfl⟩

/-- The buffers when the call starts. -/
def V (c : Dev nD) (b : Ref sig .tc) : Buf (Elt F) ((c : Thread nD τ).loc b) :=
  StableHlo.after (opss (F := F)).flatten (fun b => m (c, b)) b

theorem writes_ops : ((opss (F := F)).flatten.tail).Forall fun op => op.writes ⊆ (written.map (Proc.devRef (τ := τ) .tc)).toFinset :=
  StableHlo.forall_writes_sub_of_map rfl

theorem V_table (c : Dev nD) : V m c main_c = T0 := by
  unfold V
  rw [show (opss (F := F)).flatten = StableHlo.nullary main_c (fun i => lit0 (S5x36.rowMajor i)) :: (opss (F := F)).flatten.tail from rfl, StableHlo.after_cons]
  refine (StableHlo.after_of_writes_sub _ _ writes_ops (by decide)).trans ?_
  exact StableHlo.nullary_result ..

theorem V_arg (c : Dev nD) (b : Ref sig .tc) (hb : b ∉ main_c :: written) : V m c b = m ((c : Thread nD τ).loc b) := by
  unfold V
  exact StableHlo.after_of_writes_sub _ _ (W := main_c :: written) (StableHlo.forall_writes_sub_of_map rfl) hb

/-! ## What the buffers hold, point by point -/

/-- Window `w`'s block at a point, read off its array at the call. -/
def iblk (c : Dev nD) (w : Fin (cfgA F).W) (t : Fin (cfgA F).N) : (((cfgA F).win w).xblock (crd t)).Idx → Elt F ((cfgA F).win w).elt :=
  (((cfgA F).win w).blk t).view.read (Elt F) (V m c (Pipeline.arrRef (cfgA F).spec w))

/-- The tiles the body reads at a point. -/
def tiles (c : Dev nD) (t : Fin (cfgA F).N) : Tiles F :=
  ⟨iblk m c (0 : Fin 10) t, iblk m c (1 : Fin 10) t, iblk m c (2 : Fin 10) t, iblk m c (3 : Fin 10) t, iblk m c (4 : Fin 10) t, iblk m c (5 : Fin 10) t, iblk m c (6 : Fin 10) t⟩

/-- The running buffers after a point, from those before it. -/
def next (c : Dev nD) (t : Fin (cfgA F).N) (s : St F) : St F :=
  if OnDiag (F := F) T0 (crd t) then addDiag (tiles m c t) start else addOff (tiles m c t) s

/-- The running buffers after a point. -/
def state (c : Dev nD) : (n : ℕ) → n < (cfgA F).N → St F
  | 0, h => next m c ⟨0, h⟩ start
  | n + 1, h => next m c ⟨n + 1, h⟩ (state c n (Nat.lt_of_succ_lt h))

theorem next_diag (c : Dev nD) (t : Fin (cfgA F).N) (s : St F) (hD : OnDiag (F := F) T0 (crd t)) :
    next m c t s = addDiag (tiles m c t) start := by
  unfold next; rw [if_pos hD]
theorem next_off (c : Dev nD) (t : Fin (cfgA F).N) (s : St F) (hD : ¬OnDiag (F := F) T0 (crd t)) :
    next m c t s = addOff (tiles m c t) s := by
  unfold next; rw [if_neg hD]

theorem state_diag (c : Dev nD) (t : Fin (cfgA F).N) (hD : OnDiag (F := F) T0 (crd t)) :
    state m c t.val t.isLt = addDiag (tiles m c t) start := by
  obtain ⟨n, hn⟩ := t
  cases n with
  | zero => exact next_diag m c ⟨0, hn⟩ _ hD
  | succ n => exact next_diag m c ⟨n + 1, hn⟩ _ hD

theorem state_off (c : Dev nD) (t : Fin (cfgA F).N) (h : t.val ≠ 0) (hD : ¬OnDiag (F := F) T0 (crd t)) :
    state m c t.val t.isLt = addOff (tiles m c t) (state m c (t.val - 1) (Nat.lt_of_le_of_lt (Nat.sub_le _ _) t.isLt)) := by
  obtain ⟨n, hn⟩ := t
  cases n with
  | zero => exact absurd rfl h
  | succ n => exact next_off m c ⟨n + 1, hn⟩ _ hD

/-- The scratch buffers. -/
abbrev sc0 : Memref sig .tc .vmem S1024x128 .f32 := Memref.whole cc0_scratch0
abbrev sc1 : Memref sig .tc .vmem S1024x128 .f32 := Memref.whole cc0_scratch1
abbrev sc2 : Memref sig .tc .vmem S1024x128 .f32 := Memref.whole cc0_scratch2

/-- The scratch buffers before a point: anything before the first, then what the point before left. -/
def scr (c : Dev nD) (n : ℕ) (h : n ≤ (cfgA F).N) : sProp 𝕄 :=
  if h0 : n = 0 then iprop(some (F := F) c sc0 ∗ some (F := F) c sc1 ∗ some (F := F) c sc2)
  else iprop(held c sc0 (state m c (n - 1) (by omega)).dk ∗ held c sc1 (state m c (n - 1) (by omega)).dv ∗ held c sc2 (state m c (n - 1) (by omega)).dc)

theorem scr_succ (c : Dev nD) (n : ℕ) (h : n + 1 ≤ (cfgA F).N) : scr m c (n + 1) h
    = iprop(held c sc0 (state m c n (Nat.lt_of_succ_le h)).dk ∗ held c sc1 (state m c n (Nat.lt_of_succ_le h)).dv ∗ held c sc2 (state m c n (Nat.lt_of_succ_le h)).dc) := by
  unfold scr; rw [dif_neg (Nat.succ_ne_zero n)]; simp only [Nat.add_sub_cancel]

theorem scr_pos (c : Dev nD) (n : ℕ) (h0 : n ≠ 0) (h : n ≤ (cfgA F).N) : scr m c n h
    = iprop(held c sc0 (state m c (n - 1) (Nat.lt_of_lt_of_le (Nat.sub_one_lt h0) h)).dk ∗ held c sc1 (state m c (n - 1) (Nat.lt_of_lt_of_le (Nat.sub_one_lt h0) h)).dv
      ∗ held c sc2 (state m c (n - 1) (Nat.lt_of_lt_of_le (Nat.sub_one_lt h0) h)).dc) := by
  unfold scr; rw [dif_neg h0]

theorem scr_some (c : Dev nD) (n : ℕ) (h : n ≤ (cfgA F).N) : scr m c n h ⊢ iprop(some (F := F) c sc0 ∗ some (F := F) c sc1 ∗ some (F := F) c sc2) := by
  unfold scr
  split
  · exact .rfl
  · iintro ⟨H0, H1, H2⟩
    isplitl [H0]; · iexists _; iexact H0
    isplitl [H1]; · iexists _; iexact H1
    iexists _; iexact H2

/-- The invariant before point `t`: the scratch buffers, the table's half, the generator. -/
def Phi (c : Dev nD) (t : Fin ((cfgA F).N + 1)) : sProp 𝕄 :=
  iprop(scr m c t.val (Nat.le_of_lt_succ t.isLt) ∗ (tab.view.loc (c : Thread nD τ) ↦{fullShare.right} T0 (F := F)) ∗ ∃ r, prngReg c r)

theorem Phi_succ (c : Dev nD) (t : Fin (cfgA F).N) : Phi m c t.succ
    = iprop((held c sc0 (state m c t.val t.isLt).dk ∗ held c sc1 (state m c t.val t.isLt).dv ∗ held c sc2 (state m c t.val t.isLt).dc)
      ∗ (tab.view.loc (c : Thread nD τ) ↦{fullShare.right} T0 (F := F)) ∗ ∃ r, prngReg c r) := by
  unfold Phi; simp only [Fin.val_succ]; rw [scr_succ]

theorem Phi_castSucc (c : Dev nD) (t : Fin (cfgA F).N) (h0 : t.val ≠ 0) : Phi m c t.castSucc
    = iprop((held c sc0 (state m c (t.val - 1) (Nat.lt_of_le_of_lt (Nat.sub_le _ _) t.isLt)).dk ∗ held c sc1 (state m c (t.val - 1) (Nat.lt_of_le_of_lt (Nat.sub_le _ _) t.isLt)).dv ∗ held c sc2 (state m c (t.val - 1) (Nat.lt_of_le_of_lt (Nat.sub_le _ _) t.isLt)).dc)
      ∗ (tab.view.loc (c : Thread nD τ) ↦{fullShare.right} T0 (F := F)) ∗ ∃ r, prngReg c r) := by
  unfold Phi; simp only [Fin.val_castSucc]; rw [scr_pos m c t.val h0]

theorem Phi_some (c : Dev nD) (t : Fin ((cfgA F).N + 1)) : Phi m c t
    ⊢ iprop((some (F := F) c sc0 ∗ some (F := F) c sc1 ∗ some (F := F) c sc2) ∗ (tab.view.loc (c : Thread nD τ) ↦{fullShare.right} T0 (F := F)) ∗ ∃ r, prngReg c r) := by
  unfold Phi
  iintro ⟨HS, HT⟩
  isplitl [HS]; · iapply (scr_some m c _ _); iexact HS
  iexact HT

/-- The proof data of the pipeline. -/
def dats (_ : Fin 1) (c : Dev nD) : Dat τ (Elt F) Unit ℕ (UR sig nD τ) ℕ (cfgA F) c where
  A w := V m c (Pipeline.arrRef (cfgA F).spec w)
  after w t := match w with
    | ⟨0, _⟩ => iblk m c (0 : Fin 10) t
    | ⟨1, _⟩ => iblk m c (1 : Fin 10) t
    | ⟨2, _⟩ => iblk m c (2 : Fin 10) t
    | ⟨3, _⟩ => iblk m c (3 : Fin 10) t
    | ⟨4, _⟩ => iblk m c (4 : Fin 10) t
    | ⟨5, _⟩ => iblk m c (5 : Fin 10) t
    | ⟨6, _⟩ => iblk m c (6 : Fin 10) t
    | ⟨7, _⟩ => finK (state m c t.val t.isLt)
    | ⟨8, _⟩ => finV (state m c t.val t.isLt)
    | ⟨9, _⟩ => finC (state m c t.val t.isLt)
  Φ := Phi m c
  q _ := fullShare
  owed _ := 0

theorem after_0 (c : Dev nD) (t : Fin (cfgA F).N) : (dats m 0 c).after (0 : Fin 10) t = iblk m c (0 : Fin 10) t := by dsimp only [dats]
theorem after_1 (c : Dev nD) (t : Fin (cfgA F).N) : (dats m 0 c).after (1 : Fin 10) t = iblk m c (1 : Fin 10) t := by dsimp only [dats]
theorem after_2 (c : Dev nD) (t : Fin (cfgA F).N) : (dats m 0 c).after (2 : Fin 10) t = iblk m c (2 : Fin 10) t := by dsimp only [dats]
theorem after_3 (c : Dev nD) (t : Fin (cfgA F).N) : (dats m 0 c).after (3 : Fin 10) t = iblk m c (3 : Fin 10) t := by dsimp only [dats]
theorem after_4 (c : Dev nD) (t : Fin (cfgA F).N) : (dats m 0 c).after (4 : Fin 10) t = iblk m c (4 : Fin 10) t := by dsimp only [dats]
theorem after_5 (c : Dev nD) (t : Fin (cfgA F).N) : (dats m 0 c).after (5 : Fin 10) t = iblk m c (5 : Fin 10) t := by dsimp only [dats]
theorem after_6 (c : Dev nD) (t : Fin (cfgA F).N) : (dats m 0 c).after (6 : Fin 10) t = iblk m c (6 : Fin 10) t := by dsimp only [dats]
theorem after_7 (c : Dev nD) (t : Fin (cfgA F).N) : (dats m 0 c).after (7 : Fin 10) t = finK (state m c t.val t.isLt) := by dsimp only [dats]
theorem after_8 (c : Dev nD) (t : Fin (cfgA F).N) : (dats m 0 c).after (8 : Fin 10) t = finV (state m c t.val t.isLt) := by dsimp only [dats]
theorem after_9 (c : Dev nD) (t : Fin (cfgA F).N) : (dats m 0 c).after (9 : Fin 10) t = finC (state m c t.val t.isLt) := by dsimp only [dats]

theorem before_0 (c : Dev nD) (t : Fin (cfgA F).N) (d) : (dats m 0 c).before (0 : Fin 10) t d = iblk m c (0 : Fin 10) t :=
  ((dats m 0 c).before_in_eq_fetched (0 : Fin 10) rfl (fun _ => rfl) (fun _ _ _ => rfl) (fun t => by rw [after_0]; unfold Dat.blockOf iblk; rfl) t d).trans
    (by unfold Dat.fetched Dat.blockOf iblk; rfl)
theorem before_1 (c : Dev nD) (t : Fin (cfgA F).N) (d) : (dats m 0 c).before (1 : Fin 10) t d = iblk m c (1 : Fin 10) t :=
  ((dats m 0 c).before_in_eq_fetched (1 : Fin 10) rfl (fun _ => rfl) (fun _ _ _ => rfl) (fun t => by rw [after_1]; unfold Dat.blockOf iblk; rfl) t d).trans
    (by unfold Dat.fetched Dat.blockOf iblk; rfl)
theorem before_2 (c : Dev nD) (t : Fin (cfgA F).N) (d) : (dats m 0 c).before (2 : Fin 10) t d = iblk m c (2 : Fin 10) t :=
  ((dats m 0 c).before_in_eq_fetched (2 : Fin 10) rfl (fun _ => rfl) (fun _ _ _ => rfl) (fun t => by rw [after_2]; unfold Dat.blockOf iblk; rfl) t d).trans
    (by unfold Dat.fetched Dat.blockOf iblk; rfl)
theorem before_3 (c : Dev nD) (t : Fin (cfgA F).N) (d) : (dats m 0 c).before (3 : Fin 10) t d = iblk m c (3 : Fin 10) t :=
  ((dats m 0 c).before_in_eq_fetched (3 : Fin 10) rfl (fun _ => rfl) (fun _ _ _ => rfl) (fun t => by rw [after_3]; unfold Dat.blockOf iblk; rfl) t d).trans
    (by unfold Dat.fetched Dat.blockOf iblk; rfl)
theorem before_4 (c : Dev nD) (t : Fin (cfgA F).N) (d) : (dats m 0 c).before (4 : Fin 10) t d = iblk m c (4 : Fin 10) t :=
  ((dats m 0 c).before_in_eq_fetched (4 : Fin 10) rfl (fun _ => rfl) (fun _ _ _ => rfl) (fun t => by rw [after_4]; unfold Dat.blockOf iblk; rfl) t d).trans
    (by unfold Dat.fetched Dat.blockOf iblk; rfl)
theorem before_5 (c : Dev nD) (t : Fin (cfgA F).N) (d) : (dats m 0 c).before (5 : Fin 10) t d = iblk m c (5 : Fin 10) t :=
  ((dats m 0 c).before_in_eq_fetched (5 : Fin 10) rfl (fun _ => rfl) (fun _ _ _ => rfl) (fun t => by rw [after_5]; unfold Dat.blockOf iblk; rfl) t d).trans
    (by unfold Dat.fetched Dat.blockOf iblk; rfl)
theorem before_6 (c : Dev nD) (t : Fin (cfgA F).N) (d) : (dats m 0 c).before (6 : Fin 10) t d = iblk m c (6 : Fin 10) t :=
  ((dats m 0 c).before_in_eq_fetched (6 : Fin 10) rfl (fun _ => rfl) (fun _ _ _ => rfl) (fun t => by rw [after_6]; unfold Dat.blockOf iblk; rfl) t d).trans
    (by unfold Dat.fetched Dat.blockOf iblk; rfl)

end Cert.DkvIdeal.FoxKv

end
-- ==== Proof.FoxKv.Math.lean ====
/-
The gradients of causal attention with a key bias, with respect to the keys, the values and the biases, over the real
numbers: sums over the queries, in the form the tiles add up.
-/
module

public import proofs.«01_k».proof.Proof.Fox.Math

@[expose] public section

noncomputable section

namespace Cert.FoxMath.Head

open Finset

variable (H : Head)

/-- The cotangent of a score. -/
def ds (i j : ℕ) : ℝ := H.p i j * (H.dp i j - H.D 8192 i)
/-- The gradient of a key and of a value, over the first `n` queries. -/
def dk (n j d : ℕ) : ℝ := ∑ i ∈ range n, H.ds i j * (H.q i d * H.σ)
def dv (n j d : ℕ) : ℝ := ∑ i ∈ range n, H.p i j * H.g i d
/-- The cotangents of a key's scores in every 128th query, over the first `b` groups of 128. -/
def lane (b j l : ℕ) : ℝ := ∑ a ∈ range b, H.ds (a * 128 + l) j
/-- The gradient of a bias. -/
def dc (n j : ℕ) : ℝ := -∑ i ∈ range n, H.ds i j

theorem ds_of_lt {i j : ℕ} (h : i < j) : H.ds i j = 0 := by unfold ds; rw [H.p_of_lt h, zero_mul]

theorem dk_add (b w j d : ℕ) : H.dk (b + w) j d = H.dk b j d + ∑ i : Fin w, H.ds (b + i) j * (H.q (b + i) d * H.σ) := by
  unfold dk; rw [sum_range_add, sum_range (fun x => H.ds (b + x) j * (H.q (b + x) d * H.σ))]
theorem dv_add (b w j d : ℕ) : H.dv (b + w) j d = H.dv b j d + ∑ i : Fin w, H.p (b + i) j * H.g (b + i) d := by
  unfold dv; rw [sum_range_add, sum_range (fun x => H.p (b + x) j * H.g (b + x) d)]

/-- Queries before the key add nothing. -/
theorem dk_zero {n j : ℕ} (h : n ≤ j) (d : ℕ) : H.dk n j d = 0 :=
  sum_eq_zero fun i hi => by rw [H.ds_of_lt (by have := mem_range.1 hi; omega), zero_mul]
theorem dv_zero {n j : ℕ} (h : n ≤ j) (d : ℕ) : H.dv n j d = 0 :=
  sum_eq_zero fun i hi => by rw [H.p_of_lt (by have := mem_range.1 hi; omega), zero_mul]
theorem lane_zero {b j l : ℕ} (h : b * 128 ≤ j) (hl : l < 128) : H.lane b j l = 0 :=
  sum_eq_zero fun a ha => H.ds_of_lt (by have := mem_range.1 ha; omega)

/-- Eight further groups. -/
theorem lane_add (b j l : ℕ) : H.lane (b + 8) j l = H.lane b j l + (H.ds (b * 128 + l) j + H.ds (b * 128 + (128 + l)) j + H.ds (b * 128 + (256 + l)) j
    + H.ds (b * 128 + (384 + l)) j + H.ds (b * 128 + (512 + l)) j + H.ds (b * 128 + (640 + l)) j + H.ds (b * 128 + (768 + l)) j + H.ds (b * 128 + (896 + l)) j) := by
  have e : ∀ c, (b + c) * 128 + l = b * 128 + (c * 128 + l) := fun c => by ring
  unfold lane
  rw [sum_range_add]
  simp only [sum_range_succ, sum_range_zero, e, zero_add, Nat.zero_mul, Nat.reduceMul, Nat.one_mul]

/-- The groups together are all the queries. -/
theorem sum_lane (b j : ℕ) : ∑ l : Fin 128, H.lane b j l = ∑ i ∈ range (b * 128), H.ds i j := by
  unfold lane
  rw [sum_comm]
  induction b with
  | zero => simp
  | succ b ih =>
    rw [sum_range_succ, ih, Nat.succ_mul, sum_range_add, sum_range (fun x => H.ds (b * 128 + x) j)]

/-- A row of the cotangents of the scores has sum zero. -/
theorem sum_ds {i : ℕ} (hi : i < 8192) : ∑ j ∈ range 8192, H.ds i j = 0 := by
  have : ∀ j ∈ range 8192, H.ds i j = H.p i j * H.dp i j - H.p i j * H.D 8192 i := fun j _ => by unfold ds; ring
  rw [sum_congr rfl this, sum_sub_distrib, ← sum_mul, H.sum_p hi, one_mul]
  exact sub_self _

/-- The sum of the cotangents of a query's weights, from its output row. -/
theorem output_dot (i : ℕ) : ∑ d : Fin 128, (∑ j ∈ range 8192, H.p i j * H.v j d) * H.g i d = H.D 8192 i := by
  unfold D dp
  simp only [sum_mul, mul_sum]
  rw [sum_comm]
  exact sum_congr rfl fun j _ => sum_congr rfl fun d _ => by ring

/-- A weight is its exponential over the sum of them. -/
theorem E_div (M : ℝ) {i : ℕ} (hi : i < 8192) (j : ℕ) : H.E M i j / (∑ j ∈ range 8192, H.E M i j) = H.p i j := by
  have hS := (H.sum_E_pos M hi).ne'
  rw [div_eq_iff hS, H.sum_E M hi, H.E_eq]

/-- The cotangent of a score in the form that differentiating the softmax gives. -/
theorem ds_eq_vjp (M : ℝ) {i : ℕ} (hi : i < 8192) (j : ℕ) :
    (H.dp i j / (∑ j ∈ range 8192, H.E M i j)
        + -(∑ l ∈ range 8192, H.dp i l * (1 / ((∑ j ∈ range 8192, H.E M i j) * (∑ j ∈ range 8192, H.E M i j))) * H.E M i l)) * H.E M i j
      = H.ds i j := by
  have hS := (H.sum_E_pos M hi).ne'
  have hE : ∀ j, H.E M i j = H.p i j * (∑ j ∈ range 8192, H.E M i j) := fun j => by rw [H.sum_E M hi, ← E_eq]
  generalize (∑ j ∈ range 8192, H.E M i j) = S at hS hE ⊢
  have h1 : (∑ l ∈ range 8192, H.dp i l * (1 / (S * S)) * H.E M i l) = H.D 8192 i / S := by
    unfold D; rw [sum_div]
    exact sum_congr rfl fun l _ => by rw [hE]; field_simp
  rw [h1, hE]
  unfold ds
  field_simp
  ring

end Cert.FoxMath.Head

end
-- ==== Proof.FoxKv.Point.lean ====
/-
What the body of the gradient of the keys, values and gates computes at a point, over the real numbers.
-/
module

public import proofs.«01_k».proof.Proof.FoxKv.Step
public import proofs.«01_k».proof.Proof.FoxKv.Math
public import proofs.«01_k».proof.Proof.Fox.Real
public import Idealize.ShloMosaic.Lib.Pointwise
public import Idealize.ShloMosaic.Lib.WordCmp

@[expose] public section

set_option maxRecDepth 16384

noncomputable section

namespace Cert.DkvIdeal.FoxKv

open Cert.DkvIdeal Cert.DkvIdeal.Gen Cert.FoxMath
open Idealize.ShloMosaic

/-- The tiles of one head at a query offset `I` and a key offset `J`. -/
structure Reads (H : Head) (I J : ℕ) (x : Tiles Ideal) : Prop where
  q (i : Fin 1024) (d : Fin 128) : x.q (ix2 i d) = ((H.q (I + i) d : ℝ) : EReal)
  k (j : Fin 1024) (d : Fin 128) : x.k (ix2 j d) = ((H.k (J + j) d : ℝ) : EReal)
  kx (j : Fin 1024) (l : Fin 128) : x.kx (ix3 (0 : Fin 1) j l) = ((-H.c (J + j) : ℝ) : EReal)
  v (j : Fin 1024) (d : Fin 128) : x.v (ix2 j d) = ((H.v (J + j) d : ℝ) : EReal)
  g (i : Fin 1024) (d : Fin 128) : x.g (ix2 i d) = ((H.g (I + i) d : ℝ) : EReal)
  lse (i : Fin 1024) : x.lse (ix3 (0 : Fin 1) (0 : Fin 1) i) = ((Real.log (H.L (I + i)) : ℝ) : EReal)
  dl (i : Fin 1024) : x.dl (ix3 (0 : Fin 1) (0 : Fin 1) i) = ((H.D 8192 (I + i) : ℝ) : EReal)

/-- The running buffers of one head at a key offset `J`, after the first `b` groups of 128 queries. -/
structure Holds (H : Head) (J b : ℕ) (s : St Ideal) : Prop where
  dk (j : Fin 1024) (d : Fin 128) : s.dk (ix2 j d) = ((H.dk (b * 128) (J + j) d : ℝ) : EReal)
  dv (j : Fin 1024) (d : Fin 128) : s.dv (ix2 j d) = ((H.dv (b * 128) (J + j) d : ℝ) : EReal)
  dc (j : Fin 1024) (l : Fin 128) : s.dc (ix2 j l) = ((H.lane b (J + j) l : ℝ) : EReal)

/-- The weights of a tile below the diagonal. -/
theorem weight_off {H : Head} {I J : ℕ} {x : Tiles Ideal} (hx : Reads H I J x) (hσ : H.σ = scale) (j i : Fin 1024) (h : J + j.val ≤ I + i.val) :
    k0_pay14 x.q x.k x.kx x.lse (ix2 j i) = ((H.p (I + i) (J + j) : ℝ) : EReal) := by
  pointwise [k0_pay14, k0_pay13]
  simp only [hx.kx, hx.q, hx.k, hx.lse, dite_eq_ite, ite_self, scale_eq, ← EReal.coe_mul, sum_coe, ← EReal.coe_add, ← EReal.coe_sub, Ideal.exp_coe]
  rw [H.p_of_le h]
  unfold Head.sc
  simp only [hσ, mul_comm]

/-- The weights of the tile on the diagonal: zero past the query. -/
theorem weight_diag {H : Head} {I : ℕ} {x : Tiles Ideal} (hx : Reads H I I x) (hσ : H.σ = scale) (j i : Fin 1024) :
    k0_pay18 x.q x.k x.kx x.lse (ix2 j i) = ((H.p (I + i) (I + j) : ℝ) : EReal) := by
  pointwise [k0_pay18, k0_pay17]
  simp only [hx.kx, hx.q, hx.k, hx.lse, dite_eq_ite, ite_self, scale_eq, ← EReal.coe_mul, sum_coe, ← EReal.coe_add]
  have hc : IntOp.cmpi CmpIPredicate.sle (BitVec.ofNat 32 j.val) (BitVec.ofNat 32 i.val) = BitVec.ofBool (decide (j.val ≤ i.val)) :=
    WordCmp.cmpi_sle_ofNat (by omega) (by omega)
  rw [hc, show Named.named (F := Ideal) κ "mask" (φ := .f32) (4048155338#32) = (⊥ : EReal) from rfl]
  by_cases h : j.val ≤ i.val
  · rw [decide_eq_true h, H.p_of_le (Nat.add_le_add_left h I)]
    simp only [Scalar.select, ← EReal.coe_sub]
    unfold Head.sc
    simp only [hσ, mul_comm]
    rfl
  · rw [decide_eq_false h, H.p_of_lt (by omega)]
    simp [Scalar.select]

/-- The cotangent of the scores, below the diagonal and on it. -/
theorem ds_off {H : Head} {I J : ℕ} {x : Tiles Ideal} (hx : Reads H I J x) (hσ : H.σ = scale) (j i : Fin 1024) (h : J + j.val ≤ I + i.val) :
    k0_pay4 (k0_pay14 x.q x.k x.kx x.lse) (k0_pay16 x.v x.g) x.dl (ix2 j i) = ((H.ds (I + i) (J + j) : ℝ) : EReal) := by
  pointwise [k0_pay4, k0_pay16]
  rw [weight_off hx hσ j i h]
  simp only [hx.v, hx.g, hx.dl, ← EReal.coe_mul, sum_coe, ← EReal.coe_sub]
  rfl

theorem ds_diag {H : Head} {I : ℕ} {x : Tiles Ideal} (hx : Reads H I I x) (hσ : H.σ = scale) (j i : Fin 1024) :
    k0_pay7 (k0_pay18 x.q x.k x.kx x.lse) (k0_pay20 x.v) (k0_pay21 x.g) x.dl (ix2 j i) = ((H.ds (I + i) (I + j) : ℝ) : EReal) := by
  pointwise [k0_pay7, k0_pay20, k0_pay21]
  rw [weight_diag hx hσ j i]
  simp only [hx.v, hx.g, hx.dl, ← EReal.coe_mul, sum_coe, ← EReal.coe_sub]
  rfl

/-- The empty sums at the diagonal: earlier queries add nothing. -/
theorem holds_start {H : Head} {b : ℕ} : Holds H (b * 128) b start where
  dk j d := by
    show k0_pay1 (F := Ideal) (ix2 j d) = _
    pointwise [k0_pay1]; rw [H.dk_zero (by omega)]; simp
  dv j d := by
    show k0_pay2 (F := Ideal) (ix2 j d) = _
    pointwise [k0_pay2]; rw [H.dv_zero (by omega)]; simp
  dc j l := by
    show k0_pay3 (F := Ideal) (ix2 j l) = _
    pointwise [k0_pay3]; rw [H.lane_zero (by omega) l.isLt]; simp

/-- The eight slices of a tile, added. -/
theorem slices_off (P R : FVec Ideal S1024x1024 .f32) (dl : Vec Ideal S1x1x1024 .f32) (s : Vec Ideal S1024x128 .f32) (j : Fin 1024) (l : Fin 128) :
    (k0_pay6 P R dl s (ix2 j l) : EReal) = s (ix2 j l) + (k0_pay4 P R dl (ix2 j ⟨l.val, by omega⟩) + k0_pay4 P R dl (ix2 j ⟨128 + l.val, by omega⟩)
      + k0_pay4 P R dl (ix2 j ⟨256 + l.val, by omega⟩) + k0_pay4 P R dl (ix2 j ⟨384 + l.val, by omega⟩) + k0_pay4 P R dl (ix2 j ⟨512 + l.val, by omega⟩)
      + k0_pay4 P R dl (ix2 j ⟨640 + l.val, by omega⟩) + k0_pay4 P R dl (ix2 j ⟨768 + l.val, by omega⟩) + k0_pay4 P R dl (ix2 j ⟨896 + l.val, by omega⟩) : EReal) := by
  unfold k0_pay6
  generalize k0_pay4 P R dl = X
  pointwise

theorem slices_diag (P : FVec Ideal S1024x1024 .f32) (v : FVec Ideal S1024x128 .bf16) (g : FVec Ideal S128x1024 .bf16) (dl : Vec Ideal S1x1x1024 .f32) (s : Vec Ideal S1024x128 .f32) (j : Fin 1024) (l : Fin 128) :
    (k0_pay9 P v g dl s (ix2 j l) : EReal) = s (ix2 j l) + (k0_pay7 P v g dl (ix2 j ⟨l.val, by omega⟩) + k0_pay7 P v g dl (ix2 j ⟨128 + l.val, by omega⟩)
      + k0_pay7 P v g dl (ix2 j ⟨256 + l.val, by omega⟩) + k0_pay7 P v g dl (ix2 j ⟨384 + l.val, by omega⟩) + k0_pay7 P v g dl (ix2 j ⟨512 + l.val, by omega⟩)
      + k0_pay7 P v g dl (ix2 j ⟨640 + l.val, by omega⟩) + k0_pay7 P v g dl (ix2 j ⟨768 + l.val, by omega⟩) + k0_pay7 P v g dl (ix2 j ⟨896 + l.val, by omega⟩) : EReal) := by
  unfold k0_pay9
  generalize k0_pay7 P v g dl = X
  pointwise

/-- A tile below the diagonal adds its queries to the sums. -/
theorem holds_off {H : Head} {b J : ℕ} {x : Tiles Ideal} {s : St Ideal} (hx : Reads H (b * 128) J x) (hs : Holds H J b s) (hσ : H.σ = scale)
    (h : J + 1024 ≤ b * 128) : Holds H J (b + 8) (addOff x s) where
  dk j d := by
    show k0_pay5 (k0_pay13 x.q) (k0_pay14 x.q x.k x.kx x.lse) (k0_pay16 x.v x.g) x.dl s.dk (ix2 j d) = _
    pointwise [k0_pay5]
    rw [hs.dk, show (b + 8) * 128 = b * 128 + 1024 by ring, H.dk_add, EReal.coe_add, ← sum_coe]
    refine congrArg _ (Finset.sum_congr rfl fun i _ => ?_)
    rw [ds_off hx hσ j i (by omega), show (k0_pay13 x.q (ix2 i d) : EReal) = x.q (ix2 i d) * Ideal.ofBits FTy.f32 1035273459#32 by pointwise [k0_pay13], hx.q, scale_eq, hσ, EReal.coe_mul, EReal.coe_mul]
  dv j d := by
    show k0_pay15 x.q x.k x.kx x.lse s.dv x.g (ix2 j d) = _
    pointwise [k0_pay15]
    rw [hs.dv, show (b + 8) * 128 = b * 128 + 1024 by ring, H.dv_add, EReal.coe_add, ← sum_coe]
    refine congrArg _ (Finset.sum_congr rfl fun i _ => ?_)
    rw [weight_off hx hσ j i (by omega), hx.g, EReal.coe_mul]
  dc j l := by
    show k0_pay6 (k0_pay14 x.q x.k x.kx x.lse) (k0_pay16 x.v x.g) x.dl s.dc (ix2 j l) = _
    rw [slices_off, hs.dc, H.lane_add]
    simp only [EReal.coe_add]
    have e := fun i : Fin 1024 => ds_off hx hσ j i (by omega)
    rw [e, e, e, e, e, e, e, e]

/-- The tile on the diagonal does too. -/
theorem holds_diag {H : Head} {b : ℕ} {x : Tiles Ideal} {s : St Ideal} (hx : Reads H (b * 128) (b * 128) x) (hs : Holds H (b * 128) b s) (hσ : H.σ = scale) :
    Holds H (b * 128) (b + 8) (addDiag x s) where
  dk j d := by
    show k0_pay8 (k0_pay17 x.q) (k0_pay18 x.q x.k x.kx x.lse) (k0_pay20 x.v) (k0_pay21 x.g) x.dl s.dk (ix2 j d) = _
    pointwise [k0_pay8]
    rw [hs.dk, show (b + 8) * 128 = b * 128 + 1024 by ring, H.dk_add, EReal.coe_add, ← sum_coe]
    refine congrArg _ (Finset.sum_congr rfl fun i _ => ?_)
    rw [ds_diag hx hσ j i, show (k0_pay17 x.q (ix2 i d) : EReal) = x.q (ix2 i d) * Ideal.ofBits FTy.f32 1035273459#32 by pointwise [k0_pay17], hx.q, scale_eq, hσ, EReal.coe_mul, EReal.coe_mul]
  dv j d := by
    show k0_pay19 x.q x.k x.kx x.lse s.dv x.g (ix2 j d) = _
    pointwise [k0_pay19]
    rw [hs.dv, show (b + 8) * 128 = b * 128 + 1024 by ring, H.dv_add, EReal.coe_add, ← sum_coe]
    refine congrArg _ (Finset.sum_congr rfl fun i _ => ?_)
    rw [weight_diag hx hσ j i, hx.g, EReal.coe_mul]
  dc j l := by
    show k0_pay9 (k0_pay18 x.q x.k x.kx x.lse) (k0_pay20 x.v) (k0_pay21 x.g) x.dl s.dc (ix2 j l) = _
    rw [slices_diag, hs.dc, H.lane_add]
    simp only [EReal.coe_add]
    have e := fun i : Fin 1024 => ds_diag hx hσ j i
    rw [e, e, e, e, e, e, e, e]

/-- The tiles of the three gradients, from the sums. -/
theorem finK_read {H : Head} {J b : ℕ} {s : St Ideal} (hs : Holds H J b s) (j : Fin 1024) (d : Fin 128) :
    finK s (ix2 j d) = ((H.dk (b * 128) (J + j) d : ℝ) : EReal) := by
  show k0_pay10 s.dk (ix2 j d) = _
  pointwise [k0_pay10]
  exact hs.dk j d

theorem finV_read {H : Head} {J b : ℕ} {s : St Ideal} (hs : Holds H J b s) (j : Fin 1024) (d : Fin 128) :
    finV s (ix2 j d) = ((H.dv (b * 128) (J + j) d : ℝ) : EReal) := by
  show k0_pay11 s.dv (ix2 j d) = _
  pointwise [k0_pay11]
  exact hs.dv j d

theorem finC_read {H : Head} {J b : ℕ} {s : St Ideal} (hs : Holds H J b s) (j : Fin 1024) :
    finC s (ix3 (0 : Fin 1) j (0 : Fin 1)) = ((H.dc (b * 128) (J + j) : ℝ) : EReal) := by
  show k0_pay12 s.dc (ix3 (0 : Fin 1) j (0 : Fin 1)) = _
  pointwise [k0_pay12]
  simp only [hs.dc, sum_coe]
  rw [H.sum_lane]
  unfold Head.dc
  simp

end Cert.DkvIdeal.FoxKv

end
-- ==== Proof.FoxKv.Host.lean ====
/-
What the host hands the call: the bias of each key, the logarithms of the sums of exponentials, and the products of the
attention output with its cotangent.
-/
module

public import proofs.«01_k».proof.Proof.FoxKv.Traj
public import proofs.«01_k».proof.Proof.FoxKv.Point
public import Idealize.ShloMosaic.Lib.StableHlo.ReadAt

@[expose] public section

set_option maxRecDepth 16384

noncomputable section

namespace Cert.DkvIdeal.FoxKv

open Cert.DkvIdeal Cert.DkvIdeal.Gen Cert.FoxMath
open Idealize.ShloMosaic
open Idealize.ShloMosaic.TcCoe Idealize.ShloMosaic.Tactic

variable (m : (ℓ : Loc nD τ sig) → Buf (Elt Ideal) ℓ) (c : Dev nD)

/-- The five arguments. -/
def argQ (a : Fin 8192) (b : Fin 512) : EReal := m (c, Proc.tc.devRef main_arg0) (ix2 a b)
def argK (a : Fin 8192) (b : Fin 512) : EReal := m (c, Proc.tc.devRef main_arg1) (ix2 a b)
def argV (a : Fin 8192) (b : Fin 512) : EReal := m (c, Proc.tc.devRef main_arg2) (ix2 a b)
def argC (a : Fin 8192) (b : Fin 4) : EReal := m (c, Proc.tc.devRef main_arg3) (ix2 a b)
def argG (a : Fin 8192) (b : Fin 512) : EReal := m (c, Proc.tc.devRef main_arg4) (ix2 a b)

/-- Their entries are real. -/
structure RealArgs : Prop where
  q a b : argQ m c a b = (((argQ m c a b).toReal : ℝ) : EReal)
  k a b : argK m c a b = (((argK m c a b).toReal : ℝ) : EReal)
  v a b : argV m c a b = (((argV m c a b).toReal : ℝ) : EReal)
  g a b : argG m c a b = (((argG m c a b).toReal : ℝ) : EReal)
  c a b : argC m c a b = (((argC m c a b).toReal : ℝ) : EReal)

/-- One head of the arguments. -/
def hd (h : Fin 4) : Head := headOf (argQ m c) (argK m c) (argV m c) (argG m c) (argC m c) h

variable {m c}

theorem q_read (R : RealArgs m c) (h : Fin 4) (i : Fin 8192) (d : Fin 128) (e : h.val * 128 + d.val < 512) :
    argQ m c i ⟨h.val * 128 + d.val, e⟩ = (((hd m c h).q i d : ℝ) : EReal) := entry_eq _ R.q h i d e
theorem k_read (R : RealArgs m c) (h : Fin 4) (i : Fin 8192) (d : Fin 128) (e : h.val * 128 + d.val < 512) :
    argK m c i ⟨h.val * 128 + d.val, e⟩ = (((hd m c h).k i d : ℝ) : EReal) := entry_eq _ R.k h i d e
theorem v_read (R : RealArgs m c) (h : Fin 4) (i : Fin 8192) (d : Fin 128) (e : h.val * 128 + d.val < 512) :
    argV m c i ⟨h.val * 128 + d.val, e⟩ = (((hd m c h).v i d : ℝ) : EReal) := entry_eq _ R.v h i d e
theorem g_read (R : RealArgs m c) (h : Fin 4) (i : Fin 8192) (d : Fin 128) (e : h.val * 128 + d.val < 512) :
    argG m c i ⟨h.val * 128 + d.val, e⟩ = (((hd m c h).g i d : ℝ) : EReal) := entry_eq _ R.g h i d e
theorem c_read (R : RealArgs m c) (h : Fin 4) (i : Fin 8192) : argC m c i h = (((hd m c h).c i : ℝ) : EReal) := bias_eq _ R.c h i

/-- The key biases. -/
theorem kx_read (R : RealArgs m c) (h : Fin 4) (j : Fin 8192) (l : Fin 128) :
    (V m c main_v45 (ix3 h j l) : EReal) = ((-(hd m c h).c j : ℝ) : EReal) := by
  unfold V
  after_reads_at
  have e := c_read R h j
  unfold argC at e
  rw [e]
  rfl

/-- A query's score against a key, as the host computes it: below every number past the query. -/
def hostScore (m : (ℓ : Loc nD τ sig) → Buf (Elt Ideal) ℓ) (c : Dev nD) (h : Fin 4) (i x : Fin 8192) : EReal :=
  Scalar.select (IntOp.cmpi CmpIPredicate.sle (BitVec.ofNat 32 x.val) (BitVec.ofNat 32 i.val))
    (∑ d : Fin 128, argQ m c i ⟨h.val * 128 + d.val, by omega⟩ * Ideal.ofBits FTy.f32 1035273459#32 *
      argK m c x ⟨h.val * 128 + d.val, by omega⟩ - argC m c x h)
    (Ideal.ofBits FTy.f32 4286578688#32)

theorem hostScore_eq (R : RealArgs m c) (h : Fin 4) (i x : Fin 8192) :
    hostScore m c h i x = if x.val ≤ i.val then (((hd m c h).sc i x + 0 : ℝ) : EReal) else ⊥ := by
  unfold hostScore
  rw [WordCmp.cmpi_sle_ofNat (by omega) (by omega), bot_eq]
  by_cases hle : x.val ≤ i.val
  · rw [decide_eq_true hle, if_pos hle]
    simp only [q_read R, k_read R, c_read R, scale_eq, ← EReal.coe_mul, sum_coe, ← EReal.coe_sub]
    rw [add_zero]; rfl
  · rw [decide_eq_false hle, if_neg hle]; rfl

/-- The buffers before the host's last stretch of operations. -/
def V1 (m : (ℓ : Loc nD τ sig) → Buf (Elt Ideal) ℓ) (c : Dev nD) (b : DevRef τ sig) : Buf (Elt Ideal) (c, b) :=
  StableHlo.after (hostOps0 ++ hostOps0_1) (fun b => m (c, b)) b

theorem V_split (m : (ℓ : Loc nD τ sig) → Buf (Elt Ideal) ℓ) (c : Dev nD) (b : Ref sig .tc) :
    V m c b = StableHlo.after hostOps0_2 (V1 m c) b := by
  unfold V V1
  rw [show (opss (F := Ideal)).flatten = (hostOps0 ++ hostOps0_1) ++ hostOps0_2 from rfl, StableHlo.after_append]

/-- The score of a query against a key before the mask, and the mask. -/
theorem raw_read (m : (ℓ : Loc nD τ sig) → Buf (Elt Ideal) ℓ) (c : Dev nD) (h : Fin 4) (i x : Fin 8192) :
    (StableHlo.after hostOps0 (fun b => m (c, b)) main_v11 (ix3 h i x) : EReal)
      = ∑ d : Fin 128, argQ m c i ⟨h.val * 128 + d.val, by omega⟩ * Ideal.ofBits FTy.f32 1035273459#32 *
        argK m c x ⟨h.val * 128 + d.val, by omega⟩ - argC m c x h := by
  after_reads_at
  rfl

theorem mask_read (W : (b : DevRef τ sig) → b.ty.Contents (Elt Ideal)) (i x : Fin 8192) :
    (StableHlo.after hostOps0 W main_v16 (ix2 i x) : BitVec 1)
      = IntOp.cmpi CmpIPredicate.sle (BitVec.ofNat 32 x.val) (BitVec.ofNat 32 i.val) := by
  after_reads_at

theorem none_read (W : (b : DevRef τ sig) → b.ty.Contents (Elt Ideal)) :
    (StableHlo.after hostOps0 W main_cst_0 Idealize.ShloMosaic.ix0 : EReal) = Ideal.ofBits FTy.f32 4286578688#32 := by
  after_reads_at

theorem where_array (W : (b : DevRef τ sig) → b.ty.Contents (Elt Ideal)) :
    StableHlo.after hostOps0_1 W main_v17 = select (broadcastInDim S4x8192x8192 ![1, 2] bcast_S8192x8192_S4x8192x8192_1_2 (W main_v16))
      (W main_v11) (broadcastInDim S4x8192x8192 ![] bcast_S_S4x8192x8192 (W main_cst_0)) := by
  simp only [StableHlo.TRef.nullary, StableHlo.TRef.ternary, StableHlo.TRef.unary, StableHlo.TRef.toBuf, StableHlo.TRef.ofBuf, cast_eq]
  after_results_simp <;> rfl

theorem where_read (W : (b : DevRef τ sig) → b.ty.Contents (Elt Ideal)) (h : Fin 4) (i x : Fin 8192) :
    (StableHlo.after hostOps0_1 W main_v17 (ix3 h i x) : EReal)
      = Scalar.select (W main_v16 (ix2 i x) : BitVec 1) (W main_v11 (ix3 h i x) : EReal) (W main_cst_0 Idealize.ShloMosaic.ix0 : EReal) := by
  rw [where_array]
  generalize W main_v16 = a
  generalize W main_v11 = b
  generalize W main_cst_0 = d
  clean_types
  pointwise

theorem score_read (m : (ℓ : Loc nD τ sig) → Buf (Elt Ideal) ℓ) (c : Dev nD) (h : Fin 4) (i x : Fin 8192) :
    (V1 m c main_v17 (ix3 h i x) : EReal) = hostScore m c h i x := by
  unfold V1 hostScore
  rw [StableHlo.after_append, where_read, raw_read, mask_read, none_read]

/-- The greatest score of each query. -/
def hostMax (s : FVec Ideal S4x8192x8192 .f32) : FVec Ideal S4x8192 .f32 :=
  Host.reduce FloatOps.maximumf s (constant S_ .f32 0xFF800000#32) reducesTo_S4x8192x8192_S4x8192_d2 h_S_

theorem lse_array (W : (b : DevRef τ sig) → b.ty.Contents (Elt Ideal)) :
    StableHlo.after hostOps0_2 W main_v34 = transpose S4x1x8192 [0, 2, 1] (addf (broadcastInDim S4x8192x1 ![0, 1] bcast_S4x8192_S4x8192x1_0_1 (hostMax (W main_v17)))
      (Host.log (broadcastInDim S4x8192x1 ![0, 1] bcast_S4x8192_S4x8192x1_0_1 (Host.reduceAdd (Host.exp (subf (W main_v17)
        (broadcastInDim S4x8192x8192 ![0, 1, 2] bcast_S4x8192x1_S4x8192x8192_0_1_2 (broadcastInDim S4x8192x1 ![0, 1] bcast_S4x8192_S4x8192x1_0_1 (hostMax (W main_v17))))))
        (constant S_ .f32 0x00000000#32) reducesTo_S4x8192x8192_S4x8192_d2 h_S_)))) transposes_S4x8192x1_S4x1x8192_0_2_1 := by
  unfold hostMax
  after_results_simp <;> rfl

theorem max_read (s : FVec Ideal S4x8192x8192 .f32) (h : Fin 4) (i : Fin 8192) :
    (hostMax s (ix2 h i) : EReal) = Finset.univ.fold max (Ideal.ofBits FTy.f32 4286578688#32) (fun x : Fin 8192 => (s (ix3 h i x) : EReal)) := by
  unfold hostMax
  pointwise

theorem lse_term_read (s : FVec Ideal S4x8192x8192 .f32) (M : FVec Ideal S4x8192 .f32) (h : Fin 4) (i : Fin 8192) :
    (transpose S4x1x8192 [0, 2, 1] (addf (broadcastInDim S4x8192x1 ![0, 1] bcast_S4x8192_S4x8192x1_0_1 M)
      (Host.log (broadcastInDim S4x8192x1 ![0, 1] bcast_S4x8192_S4x8192x1_0_1 (Host.reduceAdd (Host.exp (subf s
        (broadcastInDim S4x8192x8192 ![0, 1, 2] bcast_S4x8192x1_S4x8192x8192_0_1_2 (broadcastInDim S4x8192x1 ![0, 1] bcast_S4x8192_S4x8192x1_0_1 M))))
        (constant S_ .f32 0x00000000#32) reducesTo_S4x8192x8192_S4x8192_d2 h_S_)))) transposes_S4x8192x1_S4x1x8192_0_2_1 (ix3 h (0 : Fin 1) i) : EReal)
      = M (ix2 h i) + Ideal.log (∑ x : Fin 8192, Ideal.exp (s (ix3 h i x) - M (ix2 h i))) := by
  pointwise

/-- The logarithm of the sum of a query's exponentials, from the greatest of its scores. -/
theorem lse_eq (R : RealArgs m c) (h : Fin 4) (i : Fin 8192) :
    Finset.univ.fold max (Ideal.ofBits FTy.f32 4286578688#32) (fun x : Fin 8192 => hostScore m c h i x)
      + Ideal.log (∑ x : Fin 8192, Ideal.exp (hostScore m c h i x
        - Finset.univ.fold max (Ideal.ofBits FTy.f32 4286578688#32) (fun x : Fin 8192 => hostScore m c h i x)))
      = ((Real.log ((hd m c h).L i) : ℝ) : EReal) := by
  simp only [hostScore_eq R, bot_eq]
  obtain ⟨M, hM⟩ := max_real i (fun j => (hd m c h).sc i j + 0)
  rw [hM]
  simp only [exp_masked, sum_coe, sub_zero]
  have hp := (hd m c h).sum_E_pos M i.isLt
  rw [Finset.sum_range] at hp
  rw [Ideal.log_coe, if_neg (not_le.2 hp), ← EReal.coe_add, ← Finset.sum_range, (hd m c h).log_L M i.isLt]

/-- The logarithms of the sums of exponentials. -/
theorem lse_read (R : RealArgs m c) (h : Fin 4) (i : Fin 8192) :
    (V m c main_v34 (ix3 h (0 : Fin 1) i) : EReal) = ((Real.log ((hd m c h).L i) : ℝ) : EReal) := by
  have hs : ∀ x : Fin 8192, (V1 m c main_v17 (ix3 h i x) : EReal) = hostScore m c h i x := fun x => score_read m c h i x
  have key := lse_eq R h i
  simp only [← hs] at key
  refine (congrFun ((V_split m c main_v34).trans (lse_array (V1 m c))) (ix3 h (0 : Fin 1) i)).trans ?_
  generalize V1 m c main_v17 = s at key ⊢
  refine (lse_term_read s (hostMax s) h i).trans ?_
  rw [max_read]
  exact key

/-- A matrix of four heads side by side, head by head. -/
def byHead (x : FVec Ideal S8192x512 .f32) : FVec Ideal S4x8192x128 .f32 :=
  transpose S4x8192x128 [1, 0, 2] (shapeCast S8192x4x128 x shapeCasts_S8192x512_S8192x4x128) transposes_S8192x4x128_S4x8192x128_1_0_2

/-- The attention output from the scores and the values. -/
def hostOut (s : FVec Ideal S4x8192x8192 .f32) (M : FVec Ideal S4x8192 .f32) (x : FVec Ideal S8192x512 .f32) : FVec Ideal S8192x512 .f32 :=
  let e : FVec Ideal S4x8192x8192 .f32 := Host.exp (subf s (broadcastInDim S4x8192x8192 ![0, 1, 2] bcast_S4x8192x1_S4x8192x8192_0_1_2 (broadcastInDim S4x8192x1 ![0, 1] bcast_S4x8192_S4x8192x1_0_1 M)))
  shapeCast S8192x512 (transpose S8192x4x128 [1, 0, 2] (Host.dotGeneral dot_S4x8192x8192_S4x8192x128_S4x8192x128_2_1_1_2_0_0 none
    (Host.divf e (broadcastInDim S4x8192x8192 ![0, 1, 2] bcast_S4x8192x1_S4x8192x8192_0_1_2 (broadcastInDim S4x8192x1 ![0, 1] bcast_S4x8192_S4x8192x1_0_1
      (Host.reduceAdd e (constant S_ .f32 0x00000000#32) reducesTo_S4x8192x8192_S4x8192_d2 h_S_)))) (byHead x)) transposes_S4x8192x128_S8192x4x128_1_0_2) shapeCasts_S8192x4x128_S8192x512

/-- The products of a matrix and another, row by row in each head. -/
def hostDelta (o g : FVec Ideal S8192x512 .f32) : FVec Ideal S4x1x8192 .f32 :=
  broadcastInDim S4x1x8192 ![0, 2] bcast_S4x8192_S4x1x8192_0_2 (Host.reduceAdd (mulf (byHead o) (byHead g)) (constant S_ .f32 0x00000000#32) reducesTo_S4x8192x128_S4x8192_d2 h_S_)

theorem delta_array (W : (b : DevRef τ sig) → b.ty.Contents (Elt Ideal)) :
    StableHlo.after hostOps0_2 W main_v41 = hostDelta (hostOut (W main_v17) (hostMax (W main_v17)) (W main_arg2)) (W main_arg4) := by
  unfold hostDelta hostOut hostMax byHead
  after_results_simp <;> rfl

theorem delta_term_read (o g : FVec Ideal S8192x512 .f32) (h : Fin 4) (i : Fin 8192) :
    (hostDelta o g (ix3 h (0 : Fin 1) i) : EReal) = ∑ d : Fin 128, (o (ix2 i ⟨h.val * 128 + d.val, by omega⟩) : EReal) * g (ix2 i ⟨h.val * 128 + d.val, by omega⟩) := by
  unfold hostDelta byHead
  pointwise

theorem out_read (s : FVec Ideal S4x8192x8192 .f32) (M : FVec Ideal S4x8192 .f32) (x : FVec Ideal S8192x512 .f32) (h : Fin 4) (i : Fin 8192) (d : Fin 128) (e : h.val * 128 + d.val < 512) :
    (hostOut s M x (ix2 i ⟨h.val * 128 + d.val, e⟩) : EReal) = ∑ j : Fin 8192, Ideal.div (Ideal.exp (s (ix3 h i j) - M (ix2 h i))) (∑ y : Fin 8192, Ideal.exp (s (ix3 h i y) - M (ix2 h i)))
      * x (ix2 j ⟨h.val * 128 + d.val, by omega⟩) := by
  unfold hostOut byHead
  pointwise

/-- The values and the cotangent are as they were before the last stretch. -/
theorem V1_arg2 (m : (ℓ : Loc nD τ sig) → Buf (Elt Ideal) ℓ) (c : Dev nD) : V1 m c main_arg2 = m ((c : Thread nD τ).loc main_arg2) := by
  unfold V1
  exact StableHlo.after_of_writes_sub _ _ (W := main_c :: written.take 23) (StableHlo.forall_writes_sub_of_map rfl) (by decide)
theorem V1_arg4 (m : (ℓ : Loc nD τ sig) → Buf (Elt Ideal) ℓ) (c : Dev nD) : V1 m c main_arg4 = m ((c : Thread nD τ).loc main_arg4) := by
  unfold V1
  exact StableHlo.after_of_writes_sub _ _ (W := main_c :: written.take 23) (StableHlo.forall_writes_sub_of_map rfl) (by decide)

/-- A query's attention output times its cotangent, from the greatest of its scores. -/
theorem delta_eq (R : RealArgs m c) (h : Fin 4) (i : Fin 8192) (M : EReal)
    (hM : M = Finset.univ.fold max (Ideal.ofBits FTy.f32 4286578688#32) (fun x : Fin 8192 => hostScore m c h i x)) :
    (∑ d : Fin 128, (∑ j : Fin 8192, Ideal.div (Ideal.exp (hostScore m c h i j - M)) (∑ y : Fin 8192, Ideal.exp (hostScore m c h i y - M))
      * argV m c j ⟨h.val * 128 + d.val, by omega⟩) * argG m c i ⟨h.val * 128 + d.val, by omega⟩) = (((hd m c h).D 8192 i : ℝ) : EReal) := by
  simp only [hostScore_eq R, bot_eq] at hM ⊢
  obtain ⟨N, hN⟩ := max_real i (fun j => (hd m c h).sc i j + 0)
  rw [hN] at hM
  have hp := (hd m c h).sum_E_pos N i.isLt
  rw [Finset.sum_range] at hp
  subst hM
  simp only [exp_masked, sum_coe, sub_zero]
  have hd' : ∀ j : Fin 8192, Ideal.div ((((hd m c h).E N i j : ℝ)) : EReal) (((∑ y : Fin 8192, (hd m c h).E N i y : ℝ)) : EReal) = (((hd m c h).p i j : ℝ) : EReal) := by
    intro j
    rw [Ideal.div_coe hp.ne', ← EReal.coe_mul, mul_one_div, ← Finset.sum_range, (hd m c h).E_div N i.isLt]
  simp only [hd', v_read R, g_read R, ← EReal.coe_mul, sum_coe]
  rw [← (hd m c h).output_dot]
  simp only [Finset.sum_range]

/-- The attention outputs times their cotangent. -/
theorem delta_read (R : RealArgs m c) (h : Fin 4) (i : Fin 8192) :
    (V m c main_v41 (ix3 h (0 : Fin 1) i) : EReal) = (((hd m c h).D 8192 i : ℝ) : EReal) := by
  have hs : ∀ x : Fin 8192, (V1 m c main_v17 (ix3 h i x) : EReal) = hostScore m c h i x := fun x => score_read m c h i x
  have key := delta_eq R h i _ rfl
  have a2 := V1_arg2 m c
  have a4 := V1_arg4 m c
  unfold argV argG at key
  simp only [← hs] at key
  refine (congrFun ((V_split m c main_v41).trans (delta_array (V1 m c))) (ix3 h (0 : Fin 1) i)).trans ?_
  generalize V1 m c main_v17 = s at key ⊢
  generalize V1 m c main_arg2 = y at a2 ⊢
  generalize V1 m c main_arg4 = z at a4 ⊢
  subst a2 a4
  refine (delta_term_read _ _ h i).trans ?_
  simp only [out_read, max_read]
  exact key

end Cert.DkvIdeal.FoxKv

end
-- ==== Proof.FoxKv.Place.lean ====
/-
Where each grid point stands: its head, its query tile, its key tile, and the blocks of the arrays it takes.
-/
module

public import proofs.«01_k».proof.Proof.FoxKv.Host

@[expose] public section

set_option maxRecDepth 16384
set_option Elab.async false

noncomputable section

namespace Cert.DkvIdeal.FoxKv

open Cert.DkvIdeal Cert.DkvIdeal.Gen Cert.FoxMath
open Idealize.ShloMosaic
open Idealize.ShloMosaic.TcCoe Idealize.ShloMosaic.Tactic
open Idealize.ShloMosaic.Pipeline (Dat Cfg Window)

variable {F : FTy → Type} [FloatOps F] [Named F]

/-- The query tile, the key tile and the head of a point. -/
def qT (t : Fin (cfgA F).N) : ℕ := ((cfgA F).win (0 : Fin 10)).index t (0 : Fin 2)
def kT (t : Fin (cfgA F).N) : ℕ := ((cfgA F).win (1 : Fin 10)).index t (0 : Fin 2)
def hT (t : Fin (cfgA F).N) : ℕ := ((cfgA F).win (0 : Fin 10)).index t (1 : Fin 2)

/-- The blocks a point takes. -/
abbrev Blocks (t : Fin (cfgA F).N) : Prop :=
  qT t < 8 ∧ kT t < 8 ∧ hT t < 4
  ∧ ((cfgA F).win (1 : Fin 10)).index t (1 : Fin 2) = hT t
  ∧ (((cfgA F).win (2 : Fin 10)).index t (0 : Fin 3) = hT t ∧ ((cfgA F).win (2 : Fin 10)).index t (1 : Fin 3) = kT t ∧ ((cfgA F).win (2 : Fin 10)).index t (2 : Fin 3) = 0)
  ∧ (((cfgA F).win (3 : Fin 10)).index t (0 : Fin 2) = kT t ∧ ((cfgA F).win (3 : Fin 10)).index t (1 : Fin 2) = hT t)
  ∧ (((cfgA F).win (4 : Fin 10)).index t (0 : Fin 2) = qT t ∧ ((cfgA F).win (4 : Fin 10)).index t (1 : Fin 2) = hT t)
  ∧ (((cfgA F).win (5 : Fin 10)).index t (0 : Fin 3) = hT t ∧ ((cfgA F).win (5 : Fin 10)).index t (1 : Fin 3) = 0 ∧ ((cfgA F).win (5 : Fin 10)).index t (2 : Fin 3) = qT t)
  ∧ (((cfgA F).win (6 : Fin 10)).index t (0 : Fin 3) = hT t ∧ ((cfgA F).win (6 : Fin 10)).index t (1 : Fin 3) = 0 ∧ ((cfgA F).win (6 : Fin 10)).index t (2 : Fin 3) = qT t)
  ∧ (((cfgA F).win (7 : Fin 10)).index t (0 : Fin 2) = kT t ∧ ((cfgA F).win (7 : Fin 10)).index t (1 : Fin 2) = hT t)
  ∧ (((cfgA F).win (8 : Fin 10)).index t (0 : Fin 2) = kT t ∧ ((cfgA F).win (8 : Fin 10)).index t (1 : Fin 2) = hT t)
  ∧ (((cfgA F).win (9 : Fin 10)).index t (0 : Fin 3) = hT t ∧ ((cfgA F).win (9 : Fin 10)).index t (1 : Fin 3) = kT t ∧ ((cfgA F).win (9 : Fin 10)).index t (2 : Fin 3) = 0)

/-- The point before. -/
abbrev prev (t : Fin (cfgA F).N) : Fin (cfgA F).N := ⟨t.val - 1, Nat.lt_of_le_of_lt (Nat.sub_le _ _) t.isLt⟩

/-- The order of the points: one off the diagonal follows the query tile before it for the same keys, the diagonal is met where
    the tiles agree and past it the query tile comes later, and the last point of a row is at the last query tile. -/
abbrev Order (t : Fin (cfgA F).N) : Prop :=
  (OnDiag (F := F) T0 (crd t) → kT t = qT t)
  ∧ (¬ OnDiag (F := F) T0 (crd t) → t.val ≠ 0 ∧ kT (prev t) = kT t ∧ hT (prev t) = hT t ∧ qT (prev t) + 1 = qT t ∧ kT t < qT t)
  ∧ (Last (F := F) T0 (crd t) → qT t = 7)

set_option synthInstance.maxSize 65536 in
set_option synthInstance.maxHeartbeats 400000 in
theorem blocks : ∀ t : Fin (cfgA F).N, Blocks t := of_decide_eq_true (by sl_kernel_rfl)

set_option synthInstance.maxSize 65536 in
set_option synthInstance.maxHeartbeats 400000 in
theorem order : ∀ t : Fin (cfgA F).N, Order t := of_decide_eq_true (by sl_kernel_rfl)

/-- Every key tile of every head has its last point. -/
theorem reached : ∀ (a : Fin 8) (h : Fin 4), ∃ t : Fin (cfgA F).N, Last (F := F) T0 (crd t) ∧ kT t = a.val ∧ hT t = h.val :=
  of_decide_eq_true (by sl_kernel_rfl)

end Cert.DkvIdeal.FoxKv

end
-- ==== Proof.FoxKv.Tile.lean ====
/-
The tiles of a point as entries of one head.
-/
module

public import proofs.«01_k».proof.Proof.FoxKv.Place
public import Idealize.ShloMosaic.Lib.Pipeline.Value

@[expose] public section

set_option maxRecDepth 16384

noncomputable section

namespace Cert.DkvIdeal.FoxKv

open Cert.DkvIdeal Cert.DkvIdeal.Gen Cert.FoxMath
open Idealize.ShloMosaic
open Idealize.ShloMosaic.TcCoe Idealize.ShloMosaic.Tactic
open Idealize.ShloMosaic.Pipeline (Dat Cfg Window)

variable {m : (ℓ : Loc nD τ sig) → Buf (Elt Ideal) ℓ} {c : Dev nD}

/-- The head of a point. -/
def hF (t : Fin (cfgA Ideal).N) : Fin 4 := ⟨hT t, (blocks t).2.2.1⟩

theorem hd_σ (h : Fin 4) : (hd m c h).σ = scale := rfl

/-- Where an entry of a block sits in its array. -/
theorem pos_0 (t : Fin (cfgA Ideal).N) (i : Fin 1024) (d : Fin 128) :
    (((cfgA Ideal).win (0 : Fin 10)).rect t).emb (ix2 i d)
      = ix2 (⟨qT t * 1024 + i, by have := (blocks t).1; omega⟩ : Fin 8192) (⟨(hF t).val * 128 + d, by omega⟩ : Fin 512) := by
  obtain ⟨h1, h2, h3, -⟩ := blocks t
  funext a
  fin_cases a
  · exact Fin.ext (((cfgA Ideal).win (0 : Fin 10)).rect_emb_val t (ix2 i d) (0 : Fin 2) rfl)
  · exact Fin.ext (((cfgA Ideal).win (0 : Fin 10)).rect_emb_val t (ix2 i d) (1 : Fin 2) rfl)

theorem q_tile (R : RealArgs m c) (t : Fin (cfgA Ideal).N) (i : Fin 1024) (d : Fin 128) :
    (iblk m c (0 : Fin 10) t (ix2 i d) : EReal) = (((hd m c (hF t)).q (qT t * 1024 + i) d : ℝ) : EReal) := by
  have e : ∀ f : Buf (Elt Ideal) ((c : Thread nD τ).loc main_arg0), (((cfgA Ideal).win (0 : Fin 10)).blk t).view.read (Elt Ideal) f (ix2 i d) = f ((((cfgA Ideal).win (0 : Fin 10)).rect t).emb (ix2 i d)) := fun f => rfl
  refine (e (V m c main_arg0)).trans ?_
  rw [V_arg m c main_arg0 (by decide), pos_0]
  exact q_read R (hF t) _ d _

theorem pos_1 (t : Fin (cfgA Ideal).N) (i : Fin 1024) (d : Fin 128) :
    (((cfgA Ideal).win (1 : Fin 10)).rect t).emb (ix2 i d)
      = ix2 (⟨kT t * 1024 + i, by obtain ⟨h1, h2, h3, -⟩ := blocks t; omega⟩ : Fin 8192) (⟨(hF t).val * 128 + d, by omega⟩ : Fin 512) := by
  obtain ⟨h1, h2, h3, b1, b2, b3, b4, b5, b6, b7, b8, b9⟩ := blocks t
  funext a
  fin_cases a
  · exact Fin.ext ((((cfgA Ideal).win (1 : Fin 10)).rect_emb_val t (ix2 i d) (0 : Fin 2) rfl).trans (congrArg (fun n => n * 1024 + i.val) rfl))
  · exact Fin.ext ((((cfgA Ideal).win (1 : Fin 10)).rect_emb_val t (ix2 i d) (1 : Fin 2) rfl).trans (congrArg (fun n => n * 128 + d.val) b1))

theorem k_tile (R : RealArgs m c) (t : Fin (cfgA Ideal).N) (i : Fin 1024) (d : Fin 128) :
    (iblk m c (1 : Fin 10) t (ix2 i d) : EReal) = (((hd m c (hF t)).k (kT t * 1024 + i) d : ℝ) : EReal) := by
  have e : ∀ f : Buf (Elt Ideal) ((c : Thread nD τ).loc main_arg1), (((cfgA Ideal).win (1 : Fin 10)).blk t).view.read (Elt Ideal) f (ix2 i d) = f ((((cfgA Ideal).win (1 : Fin 10)).rect t).emb (ix2 i d)) := fun f => rfl
  refine (e (V m c main_arg1)).trans ?_
  rw [V_arg m c main_arg1 (by decide), pos_1]
  exact k_read R (hF t) _ d _

theorem pos_3 (t : Fin (cfgA Ideal).N) (i : Fin 1024) (d : Fin 128) :
    (((cfgA Ideal).win (3 : Fin 10)).rect t).emb (ix2 i d)
      = ix2 (⟨kT t * 1024 + i, by obtain ⟨h1, h2, h3, -⟩ := blocks t; omega⟩ : Fin 8192) (⟨(hF t).val * 128 + d, by omega⟩ : Fin 512) := by
  obtain ⟨h1, h2, h3, b1, b2, b3, b4, b5, b6, b7, b8, b9⟩ := blocks t
  funext a
  fin_cases a
  · exact Fin.ext ((((cfgA Ideal).win (3 : Fin 10)).rect_emb_val t (ix2 i d) (0 : Fin 2) rfl).trans (congrArg (fun n => n * 1024 + i.val) b3.1))
  · exact Fin.ext ((((cfgA Ideal).win (3 : Fin 10)).rect_emb_val t (ix2 i d) (1 : Fin 2) rfl).trans (congrArg (fun n => n * 128 + d.val) b3.2))

theorem v_tile (R : RealArgs m c) (t : Fin (cfgA Ideal).N) (i : Fin 1024) (d : Fin 128) :
    (iblk m c (3 : Fin 10) t (ix2 i d) : EReal) = (((hd m c (hF t)).v (kT t * 1024 + i) d : ℝ) : EReal) := by
  have e : ∀ f : Buf (Elt Ideal) ((c : Thread nD τ).loc main_arg2), (((cfgA Ideal).win (3 : Fin 10)).blk t).view.read (Elt Ideal) f (ix2 i d) = f ((((cfgA Ideal).win (3 : Fin 10)).rect t).emb (ix2 i d)) := fun f => rfl
  refine (e (V m c main_arg2)).trans ?_
  rw [V_arg m c main_arg2 (by decide), pos_3]
  exact v_read R (hF t) _ d _

theorem pos_4 (t : Fin (cfgA Ideal).N) (i : Fin 1024) (d : Fin 128) :
    (((cfgA Ideal).win (4 : Fin 10)).rect t).emb (ix2 i d)
      = ix2 (⟨qT t * 1024 + i, by obtain ⟨h1, h2, h3, -⟩ := blocks t; omega⟩ : Fin 8192) (⟨(hF t).val * 128 + d, by omega⟩ : Fin 512) := by
  obtain ⟨h1, h2, h3, b1, b2, b3, b4, b5, b6, b7, b8, b9⟩ := blocks t
  funext a
  fin_cases a
  · exact Fin.ext ((((cfgA Ideal).win (4 : Fin 10)).rect_emb_val t (ix2 i d) (0 : Fin 2) rfl).trans (congrArg (fun n => n * 1024 + i.val) b4.1))
  · exact Fin.ext ((((cfgA Ideal).win (4 : Fin 10)).rect_emb_val t (ix2 i d) (1 : Fin 2) rfl).trans (congrArg (fun n => n * 128 + d.val) b4.2))

theorem g_tile (R : RealArgs m c) (t : Fin (cfgA Ideal).N) (i : Fin 1024) (d : Fin 128) :
    (iblk m c (4 : Fin 10) t (ix2 i d) : EReal) = (((hd m c (hF t)).g (qT t * 1024 + i) d : ℝ) : EReal) := by
  have e : ∀ f : Buf (Elt Ideal) ((c : Thread nD τ).loc main_arg4), (((cfgA Ideal).win (4 : Fin 10)).blk t).view.read (Elt Ideal) f (ix2 i d) = f ((((cfgA Ideal).win (4 : Fin 10)).rect t).emb (ix2 i d)) := fun f => rfl
  refine (e (V m c main_arg4)).trans ?_
  rw [V_arg m c main_arg4 (by decide), pos_4]
  exact g_read R (hF t) _ d _

theorem pos_7 (t : Fin (cfgA Ideal).N) (i : Fin 1024) (d : Fin 128) :
    (((cfgA Ideal).win (7 : Fin 10)).rect t).emb (ix2 i d)
      = ix2 (⟨kT t * 1024 + i, by obtain ⟨h1, h2, h3, -⟩ := blocks t; omega⟩ : Fin 8192) (⟨(hF t).val * 128 + d, by omega⟩ : Fin 512) := by
  obtain ⟨h1, h2, h3, b1, b2, b3, b4, b5, b6, b7, b8, b9⟩ := blocks t
  funext a
  fin_cases a
  · exact Fin.ext ((((cfgA Ideal).win (7 : Fin 10)).rect_emb_val t (ix2 i d) (0 : Fin 2) rfl).trans (congrArg (fun n => n * 1024 + i.val) b7.1))
  · exact Fin.ext ((((cfgA Ideal).win (7 : Fin 10)).rect_emb_val t (ix2 i d) (1 : Fin 2) rfl).trans (congrArg (fun n => n * 128 + d.val) b7.2))

theorem pos_8 (t : Fin (cfgA Ideal).N) (i : Fin 1024) (d : Fin 128) :
    (((cfgA Ideal).win (8 : Fin 10)).rect t).emb (ix2 i d)
      = ix2 (⟨kT t * 1024 + i, by obtain ⟨h1, h2, h3, -⟩ := blocks t; omega⟩ : Fin 8192) (⟨(hF t).val * 128 + d, by omega⟩ : Fin 512) := by
  obtain ⟨h1, h2, h3, b1, b2, b3, b4, b5, b6, b8, b8, b9⟩ := blocks t
  funext a
  fin_cases a
  · exact Fin.ext ((((cfgA Ideal).win (8 : Fin 10)).rect_emb_val t (ix2 i d) (0 : Fin 2) rfl).trans (congrArg (fun n => n * 1024 + i.val) b8.1))
  · exact Fin.ext ((((cfgA Ideal).win (8 : Fin 10)).rect_emb_val t (ix2 i d) (1 : Fin 2) rfl).trans (congrArg (fun n => n * 128 + d.val) b8.2))

theorem pos_2 (t : Fin (cfgA Ideal).N) (j : Fin 1024) (l : Fin 128) :
    (((cfgA Ideal).win (2 : Fin 10)).rect t).emb (ix3 (0 : Fin 1) j l)
      = ix3 (hF t) (⟨kT t * 1024 + j, by obtain ⟨h1, h2, h3, -⟩ := blocks t; omega⟩ : Fin 8192) l := by
  obtain ⟨h1, h2, h3, b1, b2, b3, b4, b5, b6, b7, b8, b9⟩ := blocks t
  funext a
  fin_cases a
  · exact Fin.ext ((((cfgA Ideal).win (2 : Fin 10)).rect_emb_val t (ix3 (0 : Fin 1) j l) (0 : Fin 3) rfl).trans ((congrArg (fun n => n * 1 + 0) b2.1).trans (Nat.mul_one _)))
  · exact Fin.ext ((((cfgA Ideal).win (2 : Fin 10)).rect_emb_val t (ix3 (0 : Fin 1) j l) (1 : Fin 3) rfl).trans (congrArg (fun n => n * 1024 + j.val) b2.2.1))
  · exact Fin.ext ((((cfgA Ideal).win (2 : Fin 10)).rect_emb_val t (ix3 (0 : Fin 1) j l) (2 : Fin 3) rfl).trans ((congrArg (fun n => n * 128 + l.val) b2.2.2).trans (by show 0 * 128 + l.val = l.val; omega)))

theorem kx_tile (R : RealArgs m c) (t : Fin (cfgA Ideal).N) (j : Fin 1024) (l : Fin 128) :
    (iblk m c (2 : Fin 10) t (ix3 (0 : Fin 1) j l) : EReal) = ((-(hd m c (hF t)).c (kT t * 1024 + j) : ℝ) : EReal) := by
  have e : ∀ f : Buf (Elt Ideal) ((c : Thread nD τ).loc main_v45), (((cfgA Ideal).win (2 : Fin 10)).blk t).view.read (Elt Ideal) f (ix3 (0 : Fin 1) j l) = f ((((cfgA Ideal).win (2 : Fin 10)).rect t).emb (ix3 (0 : Fin 1) j l)) := fun f => rfl
  refine (e (V m c main_v45)).trans ?_
  rw [pos_2]
  exact kx_read R (hF t) _ l

theorem pos_5 (t : Fin (cfgA Ideal).N) (i : Fin 1024) :
    (((cfgA Ideal).win (5 : Fin 10)).rect t).emb (ix3 (0 : Fin 1) (0 : Fin 1) i)
      = ix3 (hF t) (0 : Fin 1) (⟨qT t * 1024 + i, by obtain ⟨h1, h2, h3, -⟩ := blocks t; omega⟩ : Fin 8192) := by
  obtain ⟨h1, h2, h3, b1, b2, b3, b4, b5, b6, b7, b8, b9⟩ := blocks t
  funext a
  fin_cases a
  · exact Fin.ext ((((cfgA Ideal).win (5 : Fin 10)).rect_emb_val t (ix3 (0 : Fin 1) (0 : Fin 1) i) (0 : Fin 3) rfl).trans ((congrArg (fun n => n * 1 + 0) b5.1).trans (Nat.mul_one _)))
  · exact Fin.ext ((((cfgA Ideal).win (5 : Fin 10)).rect_emb_val t (ix3 (0 : Fin 1) (0 : Fin 1) i) (1 : Fin 3) rfl).trans (congrArg (fun n => n * 1 + 0) b5.2.1))
  · exact Fin.ext ((((cfgA Ideal).win (5 : Fin 10)).rect_emb_val t (ix3 (0 : Fin 1) (0 : Fin 1) i) (2 : Fin 3) rfl).trans (congrArg (fun n => n * 1024 + i.val) b5.2.2))

theorem lse_tile (R : RealArgs m c) (t : Fin (cfgA Ideal).N) (i : Fin 1024) :
    (iblk m c (5 : Fin 10) t (ix3 (0 : Fin 1) (0 : Fin 1) i) : EReal) = ((Real.log ((hd m c (hF t)).L (qT t * 1024 + i)) : ℝ) : EReal) := by
  have e : ∀ f : Buf (Elt Ideal) ((c : Thread nD τ).loc main_v34), (((cfgA Ideal).win (5 : Fin 10)).blk t).view.read (Elt Ideal) f (ix3 (0 : Fin 1) (0 : Fin 1) i) = f ((((cfgA Ideal).win (5 : Fin 10)).rect t).emb (ix3 (0 : Fin 1) (0 : Fin 1) i)) := fun f => rfl
  refine (e (V m c main_v34)).trans ?_
  rw [pos_5]
  exact lse_read R (hF t) _

theorem pos_6 (t : Fin (cfgA Ideal).N) (i : Fin 1024) :
    (((cfgA Ideal).win (6 : Fin 10)).rect t).emb (ix3 (0 : Fin 1) (0 : Fin 1) i)
      = ix3 (hF t) (0 : Fin 1) (⟨qT t * 1024 + i, by obtain ⟨h1, h2, h3, -⟩ := blocks t; omega⟩ : Fin 8192) := by
  obtain ⟨h1, h2, h3, b1, b2, b3, b4, b5, b6, b7, b8, b9⟩ := blocks t
  funext a
  fin_cases a
  · exact Fin.ext ((((cfgA Ideal).win (6 : Fin 10)).rect_emb_val t (ix3 (0 : Fin 1) (0 : Fin 1) i) (0 : Fin 3) rfl).trans ((congrArg (fun n => n * 1 + 0) b6.1).trans (Nat.mul_one _)))
  · exact Fin.ext ((((cfgA Ideal).win (6 : Fin 10)).rect_emb_val t (ix3 (0 : Fin 1) (0 : Fin 1) i) (1 : Fin 3) rfl).trans (congrArg (fun n => n * 1 + 0) b6.2.1))
  · exact Fin.ext ((((cfgA Ideal).win (6 : Fin 10)).rect_emb_val t (ix3 (0 : Fin 1) (0 : Fin 1) i) (2 : Fin 3) rfl).trans (congrArg (fun n => n * 1024 + i.val) b6.2.2))

theorem dl_tile (R : RealArgs m c) (t : Fin (cfgA Ideal).N) (i : Fin 1024) :
    (iblk m c (6 : Fin 10) t (ix3 (0 : Fin 1) (0 : Fin 1) i) : EReal) = (((hd m c (hF t)).D 8192 (qT t * 1024 + i) : ℝ) : EReal) := by
  have e : ∀ f : Buf (Elt Ideal) ((c : Thread nD τ).loc main_v41), (((cfgA Ideal).win (6 : Fin 10)).blk t).view.read (Elt Ideal) f (ix3 (0 : Fin 1) (0 : Fin 1) i) = f ((((cfgA Ideal).win (6 : Fin 10)).rect t).emb (ix3 (0 : Fin 1) (0 : Fin 1) i)) := fun f => rfl
  refine (e (V m c main_v41)).trans ?_
  rw [pos_6]
  exact delta_read R (hF t) _

theorem pos_9 (t : Fin (cfgA Ideal).N) (j : Fin 1024) :
    (((cfgA Ideal).win (9 : Fin 10)).rect t).emb (ix3 (0 : Fin 1) j (0 : Fin 1))
      = ix3 (hF t) (⟨kT t * 1024 + j, by obtain ⟨h1, h2, h3, -⟩ := blocks t; omega⟩ : Fin 8192) (0 : Fin 1) := by
  obtain ⟨h1, h2, h3, b1, b2, b3, b4, b5, b6, b7, b8, b9⟩ := blocks t
  funext a
  fin_cases a
  · exact Fin.ext ((((cfgA Ideal).win (9 : Fin 10)).rect_emb_val t (ix3 (0 : Fin 1) j (0 : Fin 1)) (0 : Fin 3) rfl).trans ((congrArg (fun n => n * 1 + 0) b9.1).trans (Nat.mul_one _)))
  · exact Fin.ext ((((cfgA Ideal).win (9 : Fin 10)).rect_emb_val t (ix3 (0 : Fin 1) j (0 : Fin 1)) (1 : Fin 3) rfl).trans (congrArg (fun n => n * 1024 + j.val) b9.2.1))
  · exact Fin.ext ((((cfgA Ideal).win (9 : Fin 10)).rect_emb_val t (ix3 (0 : Fin 1) j (0 : Fin 1)) (2 : Fin 3) rfl).trans (congrArg (fun n => n * 1 + 0) b9.2.2))

end Cert.DkvIdeal.FoxKv

end
-- ==== Proof.FoxKv.Fold.lean ====
/-
The running buffers after each point.
-/
module

public import proofs.«01_k».proof.Proof.FoxKv.Tile
public import Idealize.ShloMosaic.Lib.Pipeline.Value

@[expose] public section

set_option maxRecDepth 16384

noncomputable section

namespace Cert.DkvIdeal.FoxKv

open Cert.DkvIdeal Cert.DkvIdeal.Gen Cert.FoxMath
open Idealize.ShloMosaic
open Idealize.ShloMosaic.TcCoe Idealize.ShloMosaic.Tactic
open Idealize.ShloMosaic.Pipeline (Dat Cfg Window)

variable {m : (ℓ : Loc nD τ sig) → Buf (Elt Ideal) ℓ} {c : Dev nD}

theorem Reads.of {H : Head} {I J : ℕ} {q k v g : S1024x128.Idx → Elt Ideal .f32} {kx : S1x1024x128.Idx → Elt Ideal .f32} {l e : S1x1x1024.Idx → Elt Ideal .f32}
    (hq : ∀ (i : Fin 1024) (d : Fin 128), (q (ix2 i d) : EReal) = ((H.q (I + i) d : ℝ) : EReal))
    (hk : ∀ (i : Fin 1024) (d : Fin 128), (k (ix2 i d) : EReal) = ((H.k (J + i) d : ℝ) : EReal))
    (hx : ∀ (j : Fin 1024) (d : Fin 128), (kx (ix3 (0 : Fin 1) j d) : EReal) = ((-H.c (J + j) : ℝ) : EReal))
    (hv : ∀ (i : Fin 1024) (d : Fin 128), (v (ix2 i d) : EReal) = ((H.v (J + i) d : ℝ) : EReal))
    (hg : ∀ (i : Fin 1024) (d : Fin 128), (g (ix2 i d) : EReal) = ((H.g (I + i) d : ℝ) : EReal))
    (hl : ∀ i : Fin 1024, (l (ix3 (0 : Fin 1) (0 : Fin 1) i) : EReal) = ((Real.log (H.L (I + i)) : ℝ) : EReal))
    (he : ∀ i : Fin 1024, (e (ix3 (0 : Fin 1) (0 : Fin 1) i) : EReal) = ((H.D 8192 (I + i) : ℝ) : EReal)) :
    Reads H I J ⟨q, k, kx, v, g, l, e⟩ := ⟨hq, hk, hx, hv, hg, hl, he⟩

/-- The tiles of a point are those of its head at its query and key tiles. -/
theorem reads (R : RealArgs m c) (t : Fin (cfgA Ideal).N) :
    Reads (hd m c (hF t)) (qT t * 8 * 128) (kT t * 1024) (tiles m c t) := by
  have h1 := q_tile R t
  have h2 := k_tile R t
  have h3 := kx_tile R t
  have h4 := v_tile R t
  have h5 := g_tile R t
  have h6 := lse_tile R t
  have h7 := dl_tile R t
  rw [show qT t * 8 * 128 = qT t * 1024 from Nat.mul_assoc _ 8 128]
  unfold tiles
  generalize hd m c (hF t) = H at h1 h2 h3 h4 h5 h6 h7 ⊢
  generalize qT t * 1024 = I at h1 h5 h6 h7 ⊢
  generalize kT t * 1024 = J at h2 h3 h4 ⊢
  exact Reads.of h1 h2 h3 h4 h5 h6 h7

/-- What the buffers hold after a point. -/
abbrev After (m : (ℓ : Loc nD τ sig) → Buf (Elt Ideal) ℓ) (c : Dev nD) (t : Fin (cfgA Ideal).N) (s : St Ideal) : Prop :=
  Holds (hd m c (hF t)) (kT t * 1024) (qT t * 8 + 8) s

/-- A point on the diagonal starts from nothing. -/
theorem diag_holds (R : RealArgs m c) (t : Fin (cfgA Ideal).N) (hD : OnDiag (F := Ideal) T0 (crd t)) :
    After m c t (addDiag (tiles m c t) start) := by
  have hr := reads R t
  have e : kT t * 1024 = qT t * 8 * 128 := by rw [(order t).1 hD]; exact (Nat.mul_assoc _ 8 128).symm
  unfold After
  rw [e] at hr ⊢
  exact holds_diag hr holds_start rfl

/-- A point below the diagonal adds to what the point before left. -/
theorem off_holds (R : RealArgs m c) (t : Fin (cfgA Ideal).N) (hD : ¬ OnDiag (F := Ideal) T0 (crd t)) {s : St Ideal} (hs : After m c (prev t) s) :
    After m c t (addOff (tiles m c t) s) := by
  obtain ⟨-, hk, hh, hq, hl⟩ := (order t).2.1 hD
  have hr := reads R t
  have hf : hF (prev t) = hF t := Fin.ext hh
  have e : qT (prev t) * 8 + 8 = qT t * 8 := by rw [← hq]; exact (Nat.succ_mul _ 8).symm
  unfold After at hs ⊢
  rw [hf, hk, e] at hs
  exact holds_off hr hs rfl (by omega)

/-- After a point the buffers hold the queries up to the end of its query tile. -/
theorem state_holds (R : RealArgs m c) : ∀ (n : ℕ) (hn : n < (cfgA Ideal).N), After m c ⟨n, hn⟩ (state m c n hn) := by
  intro n
  induction n with
  | zero =>
    intro hn
    by_cases hD : OnDiag (F := Ideal) T0 (crd ⟨0, hn⟩)
    · rw [state_diag m c ⟨0, hn⟩ hD]
      exact diag_holds R _ hD
    · exact absurd rfl ((order (F := Ideal) ⟨0, hn⟩).2.1 hD).1
  | succ n ih =>
    intro hn
    by_cases hD : OnDiag (F := Ideal) T0 (crd ⟨n + 1, hn⟩)
    · rw [state_diag m c ⟨n + 1, hn⟩ hD]
      exact diag_holds R _ hD
    · rw [state_off m c ⟨n + 1, hn⟩ (Nat.succ_ne_zero n) hD]
      exact off_holds R ⟨n + 1, hn⟩ hD (ih (Nat.lt_of_succ_lt hn))

/-- At the last point of a row they hold all queries. -/
theorem last_holds (R : RealArgs m c) (t : Fin (cfgA Ideal).N) (hL : Last (F := Ideal) T0 (crd t)) :
    Holds (hd m c (hF t)) (kT t * 1024) 64 (state m c t.val t.isLt) := by
  have h := state_holds R t.val t.isLt
  have e : qT t * 8 + 8 = 64 := by rw [(order t).2.2 hL]
  unfold After at h
  rw [← e]
  exact h

/-- A gradient that is a matrix, entry by entry. -/
def wideArr (f : Head → ℕ → ℕ → ℝ) (m : (ℓ : Loc nD τ sig) → Buf (Elt Ideal) ℓ) (c : Dev nD) : S8192x512.Idx → Elt Ideal .bf16 := fun x =>
  ((f (hd m c ⟨(x (1 : Fin 2)).val / 128, by have := (x (1 : Fin 2)).isLt; change _ < 512 at this; omega⟩) (x (0 : Fin 2)).val
    ((x (1 : Fin 2)).val % 128) : ℝ) : EReal)

theorem wideArr_read (f : Head → ℕ → ℕ → ℝ) (h : Fin 4) (i : Fin 8192) (d : Fin 128) (e : h.val * 128 + d.val < 512) :
    wideArr f m c (ix2 i ⟨h.val * 128 + d.val, e⟩) = ((f (hd m c h) i d : ℝ) : EReal) := by
  have h1 : (h.val * 128 + d.val) / 128 = h.val := by omega
  have h2 : (h.val * 128 + d.val) % 128 = d.val := by omega
  show ((f (hd m c ⟨(h.val * 128 + d.val) / 128, _⟩) i.val ((h.val * 128 + d.val) % 128) : ℝ) : EReal) = _
  simp only [h1, h2, Fin.eta]

/-- The gradients of the keys, the values and the gates. -/
abbrev dkArr := wideArr fun H => H.dk 8192
abbrev dvArr := wideArr fun H => H.dv 8192
def dcArr (m : (ℓ : Loc nD τ sig) → Buf (Elt Ideal) ℓ) (c : Dev nD) : S4x8192x1.Idx → Elt Ideal .f32 := fun x =>
  (((hd m c (x (0 : Fin 3))).dc 8192 (x (1 : Fin 3)).val : ℝ) : EReal)

end Cert.DkvIdeal.FoxKv

end
-- ==== Proof.FoxKv.Body.lean ====
/-
The body of the gradient of the keys, values and gates at one point, against the trajectory.
-/
module

public import proofs.«01_k».proof.Proof.FoxKv.Traj
public import Idealize.ShloMosaic.Lib.Pipeline.Frame
public import Idealize.ShloMosaic.Lib.Claim

@[expose] public section

set_option maxRecDepth 16384
set_option Elab.async false

noncomputable section

namespace Cert.DkvIdeal.FoxKv

open Cert.DkvIdeal Cert.DkvIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body at a point -/

abbrev ms0 (t : Fin (cfgA F).N) : Memref sig .tc .vmem S1024x128 .f32 := spec0_0.stage ((cfgA F).slots t (0 : Fin 10))
abbrev hs0 (t : Fin (cfgA F).N) : (ms0 t).IsWhole := hstage0_0 (((cfgA F).slots t (0 : Fin 10)).cast nbuf0_0)
abbrev ms1 (t : Fin (cfgA F).N) : Memref sig .tc .vmem S1024x128 .f32 := spec0_1.stage ((cfgA F).slots t (1 : Fin 10))
abbrev hs1 (t : Fin (cfgA F).N) : (ms1 t).IsWhole := hstage0_1 (((cfgA F).slots t (1 : Fin 10)).cast nbuf0_1)
abbrev ms2 (t : Fin (cfgA F).N) : Memref sig .tc .vmem S1x1024x128 .f32 := spec0_2.stage ((cfgA F).slots t (2 : Fin 10))
abbrev hs2 (t : Fin (cfgA F).N) : (ms2 t).IsWhole := hstage0_2 (((cfgA F).slots t (2 : Fin 10)).cast nbuf0_2)
abbrev ms3 (t : Fin (cfgA F).N) : Memref sig .tc .vmem S1024x128 .f32 := spec0_3.stage ((cfgA F).slots t (3 : Fin 10))
abbrev hs3 (t : Fin (cfgA F).N) : (ms3 t).IsWhole := hstage0_3 (((cfgA F).slots t (3 : Fin 10)).cast nbuf0_3)
abbrev ms4 (t : Fin (cfgA F).N) : Memref sig .tc .vmem S1024x128 .f32 := spec0_4.stage ((cfgA F).slots t (4 : Fin 10))
abbrev hs4 (t : Fin (cfgA F).N) : (ms4 t).IsWhole := hstage0_4 (((cfgA F).slots t (4 : Fin 10)).cast nbuf0_4)
abbrev ms5 (t : Fin (cfgA F).N) : Memref sig .tc .vmem S1x1x1024 .f32 := spec0_5.stage ((cfgA F).slots t (5 : Fin 10))
abbrev hs5 (t : Fin (cfgA F).N) : (ms5 t).IsWhole := hstage0_5 (((cfgA F).slots t (5 : Fin 10)).cast nbuf0_5)
abbrev ms6 (t : Fin (cfgA F).N) : Memref sig .tc .vmem S1x1x1024 .f32 := spec0_6.stage ((cfgA F).slots t (6 : Fin 10))
abbrev hs6 (t : Fin (cfgA F).N) : (ms6 t).IsWhole := hstage0_6 (((cfgA F).slots t (6 : Fin 10)).cast nbuf0_6)
abbrev ms7 (t : Fin (cfgA F).N) : Memref sig .tc .vmem S1024x128 .bf16 := spec0_7.stage ((cfgA F).slots t (7 : Fin 10))
abbrev hs7 (t : Fin (cfgA F).N) : (ms7 t).IsWhole := hstage0_7 (((cfgA F).slots t (7 : Fin 10)).cast nbuf0_7)
abbrev ms8 (t : Fin (cfgA F).N) : Memref sig .tc .vmem S1024x128 .bf16 := spec0_8.stage ((cfgA F).slots t (8 : Fin 10))
abbrev hs8 (t : Fin (cfgA F).N) : (ms8 t).IsWhole := hstage0_8 (((cfgA F).slots t (8 : Fin 10)).cast nbuf0_8)
abbrev ms9 (t : Fin (cfgA F).N) : Memref sig .tc .vmem S1x1024x1 .f32 := spec0_9.stage ((cfgA F).slots t (9 : Fin 10))
abbrev hs9 (t : Fin (cfgA F).N) : (ms9 t).IsWhole := hstage0_9 (((cfgA F).slots t (9 : Fin 10)).cast nbuf0_9)

/-- The body at a point. -/
abbrev bodyAt (t : Fin (cfgA F).N) : Prog (TpuEff nD τ sig (Elt F) Λ₀ .tc) PUnit :=
  body (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _)

set_option maxHeartbeats 6400000 in
theorem sound_body (c : Dev nD) (t : Fin (cfgA F).N) :
    iprop((dats m 0 c).Φ t.castSucc ∗ (dats m 0 c).owesAt () t.castSucc
        ∗ (∃ d, owns (c : Thread nD τ) (ms0 t) fullShare ((dats m 0 c).before (0 : Fin 10) t d))
        ∗ (∃ d, owns (c : Thread nD τ) (ms1 t) fullShare ((dats m 0 c).before (1 : Fin 10) t d))
        ∗ (∃ d, owns (c : Thread nD τ) (ms2 t) fullShare ((dats m 0 c).before (2 : Fin 10) t d))
        ∗ (∃ d, owns (c : Thread nD τ) (ms3 t) fullShare ((dats m 0 c).before (3 : Fin 10) t d))
        ∗ (∃ d, owns (c : Thread nD τ) (ms4 t) fullShare ((dats m 0 c).before (4 : Fin 10) t d))
        ∗ (∃ d, owns (c : Thread nD τ) (ms5 t) fullShare ((dats m 0 c).before (5 : Fin 10) t d))
        ∗ (∃ d, owns (c : Thread nD τ) (ms6 t) fullShare ((dats m 0 c).before (6 : Fin 10) t d))
        ∗ (∃ d, owns (c : Thread nD τ) (ms7 t) fullShare ((dats m 0 c).before (7 : Fin 10) t d))
        ∗ (∃ d, owns (c : Thread nD τ) (ms8 t) fullShare ((dats m 0 c).before (8 : Fin 10) t d))
        ∗ (∃ d, owns (c : Thread nD τ) (ms9 t) fullShare ((dats m 0 c).before (9 : Fin 10) t d)))
      ⊢ wp frame (wpE (defs₀ (F := F)) Variants.none c none) Set.univ (bodyAt t) fun _ =>
          iprop((dats m 0 c).Φ t.succ ∗ (dats m 0 c).owesAt () t.succ
            ∗ bigSep Finset.univ fun w : Fin (cfgA F).W =>
                match (cfgA F).idle w ((cfgA F).grid.coords t) with
                | true =>
                  match ((cfgA F).win w).flush t with
                  | false => iprop(∃ d, owns (c : Thread nD τ) (((cfgA F).win w).stage ((cfgA F).slots t w)) fullShare ((dats m 0 c).before w t d))
                  | true => owns (c : Thread nD τ) (((cfgA F).win w).stage ((cfgA F).slots t w)) fullShare ((dats m 0 c).after w t)
                | false => owns (c : Thread nD τ) (((cfgA F).win w).stage ((cfgA F).slots t w)) fullShare ((dats m 0 c).after w t)) := by
  rw [bigSep_W0]
  obtain ⟨hb, hfd, i7, f7, i8, f8, i9, f9, hfst⟩ := sched (F := F) t
  rw [← Window.flush_eq_flushF] at f7 f8 f9
  rewrite [show (dats m 0 c).Φ t.succ = Phi m c t.succ from rfl, show (dats m 0 c).Φ t.castSucc = Phi m c t.castSucc from rfl,
    show (dats m 0 c).owesAt () t.succ = (dats m 0 c).owesAt () t.castSucc from rfl]
  rewrite [i7]
  simp only [before_0, before_1, before_2, before_3, before_4, before_5, before_6, after_0, after_1, after_2, after_3, after_4, after_5, after_6, after_7, after_8, after_9, f7, f8, f9]
  rewrite [Phi_succ]
  by_cases hD : OnDiag (F := F) T0 (crd t)
  · rw [state_diag m c t hD]
    by_cases hL : Last (F := F) T0 (crd t)
    · simp only [decide_eq_true hL, Bool.not_true]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      ihave HS := (Phi_some m c _) $$ HS
      icases HS with ⟨⟨HS0, HS1, HS2⟩, HT, Hr⟩
      iapply (run_only c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) T0 (tiles m c t) (hfd.mpr hD) (fun h => (hb.mp h) hD) hD hL _)
      isplitl [H0 H1 H2 H3 H4 H5 H6 HT]
      · isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [H6]; · iapply rep_of_owns; iexact H6
        iexact HT
      isplitl [H7 H8 H9]
      · isplitl [H7]; · iexists _; iapply rep_of_owns; iexact H7
        isplitl [H8]; · iexists _; iapply rep_of_owns; iexact H8
        iexists _; iapply rep_of_owns; iexact H9
      isplitl [HS0 HS1 HS2]
      · isplitl [HS0]; · iexact HS0
        isplitl [HS1]; · iexact HS1
        iexact HS2
      iintro ⟨⟨H0, H1, H2, H3, H4, H5, H6, HT⟩, ⟨H7, H8, H9⟩, ⟨HS0, HS1, HS2⟩⟩
      isplitl [HS0 HS1 HS2 HT Hr]
      · isplitl [HS0 HS1 HS2]
        · isplitl [HS0]; · iexact HS0
          isplitl [HS1]; · iexact HS1
          iexact HS2
        isplitl [HT]; · iexact HT
        iexact Hr
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      isplitl [H6]; · iapply owns_of_rep; iexact H6
      isplitl [H7]; · iapply owns_of_rep; iexact H7
      isplitl [H8]; · iapply owns_of_rep; iexact H8
      iapply owns_of_rep; iexact H9
    · simp only [decide_eq_false hL, Bool.not_false]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      ihave HS := (Phi_some m c _) $$ HS
      icases HS with ⟨⟨HS0, HS1, HS2⟩, HT, Hr⟩
      iapply (run_first c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) T0 (tiles m c t) (hfd.mpr hD) (fun h => (hb.mp h) hD) hD hL _)
      isplitl [H0 H1 H2 H3 H4 H5 H6 HT]
      · isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [H6]; · iapply rep_of_owns; iexact H6
        iexact HT
      isplitl [HS0 HS1 HS2]
      · isplitl [HS0]; · iexact HS0
        isplitl [HS1]; · iexact HS1
        iexact HS2
      iintro ⟨⟨H0, H1, H2, H3, H4, H5, H6, HT⟩, ⟨HS0, HS1, HS2⟩⟩
      isplitl [HS0 HS1 HS2 HT Hr]
      · isplitl [HS0 HS1 HS2]
        · isplitl [HS0]; · iexact HS0
          isplitl [HS1]; · iexact HS1
          iexact HS2
        isplitl [HT]; · iexact HT
        iexact Hr
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      isplitl [H6]; · iapply owns_of_rep; iexact H6
      isplitl [H7]; · iexists d7; iexact H7
      isplitl [H8]; · iexists d8; iexact H8
      iexists d9; iexact H9
  · have h0 := hfst.resolve_left (fun h => hD (hfd.mp h))
    rw [state_off m c t h0 hD]
    rewrite [Phi_castSucc m c t h0]
    by_cases hL : Last (F := F) T0 (crd t)
    · simp only [decide_eq_true hL, Bool.not_true]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      icases HS with ⟨⟨HS0, HS1, HS2⟩, HT, Hr⟩
      iapply (run_last c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) T0 (tiles m c t) (fun h => hD (hfd.mp h)) (hb.mpr hD) hD hL (state m c (t.val - 1) (Nat.lt_of_le_of_lt (Nat.sub_le _ _) t.isLt)) _)
      isplitl [H0 H1 H2 H3 H4 H5 H6 HT]
      · isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [H6]; · iapply rep_of_owns; iexact H6
        iexact HT
      isplitl [H7 H8 H9]
      · isplitl [H7]; · iexists _; iapply rep_of_owns; iexact H7
        isplitl [H8]; · iexists _; iapply rep_of_owns; iexact H8
        iexists _; iapply rep_of_owns; iexact H9
      isplitl [HS0 HS1 HS2]
      · isplitl [HS0]; · iexact HS0
        isplitl [HS1]; · iexact HS1
        iexact HS2
      iintro ⟨⟨H0, H1, H2, H3, H4, H5, H6, HT⟩, ⟨H7, H8, H9⟩, ⟨HS0, HS1, HS2⟩⟩
      isplitl [HS0 HS1 HS2 HT Hr]
      · isplitl [HS0 HS1 HS2]
        · isplitl [HS0]; · iexact HS0
          isplitl [HS1]; · iexact HS1
          iexact HS2
        isplitl [HT]; · iexact HT
        iexact Hr
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      isplitl [H6]; · iapply owns_of_rep; iexact H6
      isplitl [H7]; · iapply owns_of_rep; iexact H7
      isplitl [H8]; · iapply owns_of_rep; iexact H8
      iapply owns_of_rep; iexact H9
    · simp only [decide_eq_false hL, Bool.not_false]
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      icases HS with ⟨⟨HS0, HS1, HS2⟩, HT, Hr⟩
      iapply (run_mid c (crd t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) T0 (tiles m c t) (fun h => hD (hfd.mp h)) (hb.mpr hD) hD hL (state m c (t.val - 1) (Nat.lt_of_le_of_lt (Nat.sub_le _ _) t.isLt)) _)
      isplitl [H0 H1 H2 H3 H4 H5 H6 HT]
      · isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [H6]; · iapply rep_of_owns; iexact H6
        iexact HT
      isplitl [HS0 HS1 HS2]
      · isplitl [HS0]; · iexact HS0
        isplitl [HS1]; · iexact HS1
        iexact HS2
      iintro ⟨⟨H0, H1, H2, H3, H4, H5, H6, HT⟩, ⟨HS0, HS1, HS2⟩⟩
      isplitl [HS0 HS1 HS2 HT Hr]
      · isplitl [HS0 HS1 HS2]
        · isplitl [HS0]; · iexact HS0
          isplitl [HS1]; · iexact HS1
          iexact HS2
        isplitl [HT]; · iexact HT
        iexact Hr
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      isplitl [H6]; · iapply owns_of_rep; iexact H6
      isplitl [H7]; · iexists d7; iexact H7
      isplitl [H8]; · iexists d8; iexact H8
      iexists d9; iexact H9

theorem body_obligation (c : Dev nD) : BodyObligation (dats m 0 c) (defs₀ (F := F)) Variants.none () Set.univ := fun t => by
  rw [bigSep_W0]
  exact sound_body m c t

end Cert.DkvIdeal.FoxKv

end
-- ==== Proof.FoxKv.Launch.lean ====
/-
The whole run of the gradient of the keys, values and gates.
-/
module

public import proofs.«01_k».proof.Proof.FoxKv.Body
public import Idealize.ShloMosaic.Lib.Pipeline.Frame
public import Idealize.ShloMosaic.Lib.Claim

@[expose] public section

set_option maxRecDepth 16384
set_option Elab.async false

noncomputable section

namespace Cert.DkvIdeal.FoxKv

open Cert.DkvIdeal Cert.DkvIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The launch -/

theorem share_eq (c : Dev nD) (w : Fin (cfgA F).W) : (dats m 0 c).share w = fullShare := by unfold Dat.share; split <;> rfl

theorem prefHeld_eq (c : Dev nD) (q : Fin 1 → PosShare TreeShare) (v : pre0.Contents (Elt F)) :
    (Pipeline.prefHeld (Ix := Unit) (Name := ℕ) (U := UR sig nD τ) (Lvl := ℕ) pre0 c q v : sProp 𝕄)
      = iprop((((c : Thread nD τ).loc main_c) ↦{q 0} v 0)) := by
  unfold Pipeline.prefHeld
  rw [show (Finset.univ : Finset (Fin 1)) = {(0 : Fin 1)} from by decide, bigSep_singleton]
  rfl

theorem some_sc0 (c : Dev nD) : (some (F := F) c sc0 : sProp 𝕄) = iprop(∃ f : Buf (Elt F) ((c : Thread nD τ).loc cc0_scratch0), ((c : Thread nD τ).loc cc0_scratch0) ↦{fullShare} f) := by
  unfold some; rw [Memref.view_whole, View.set_whole]
theorem some_sc1 (c : Dev nD) : (some (F := F) c sc1 : sProp 𝕄) = iprop(∃ f : Buf (Elt F) ((c : Thread nD τ).loc cc0_scratch1), ((c : Thread nD τ).loc cc0_scratch1) ↦{fullShare} f) := by
  unfold some; rw [Memref.view_whole, View.set_whole]
theorem some_sc2 (c : Dev nD) : (some (F := F) c sc2 : sProp 𝕄) = iprop(∃ f : Buf (Elt F) ((c : Thread nD τ).loc cc0_scratch2), ((c : Thread nD τ).loc cc0_scratch2) ↦{fullShare} f) := by
  unfold some; rw [Memref.view_whole, View.set_whole]

theorem scr_zero (c : Dev nD) (h) : scr m c (0 : Fin ((cfgA F).N + 1)).val h = iprop(some (F := F) c sc0 ∗ some (F := F) c sc1 ∗ some (F := F) c sc2) := by
  unfold scr; exact dif_pos rfl

/-- The invariant before the first point, from the scratch buffers and the table. -/
theorem phi_in (c : Dev nD) : iprop(Pipeline.ΦA spec0 c ∗ Pipeline.ΦT pre0 (pf (F := F)) c) ⊢ (dats m 0 c).Φ 0 := by
  rw [show (dats m 0 c).Φ 0 = Phi m c 0 from rfl]
  unfold Pipeline.ΦA Pipeline.ΦT Phi
  rw [prefHeld_eq, scopedRest0_eq, scr_zero, some_sc0, some_sc1, some_sc2]
  iintro ⟨⟨HS, Hr⟩, HT⟩
  isplitl [HS]; · iexact HS
  isplitl [HT]; · iexact HT
  iexact Hr

/-- The scratch buffers handed back after the last point. -/
theorem phi_out (c : Dev nD) : (dats m 0 c).Φ (Fin.last (cfgA F).N) ⊢ Pipeline.ΦA spec0 c := by
  rw [show (dats m 0 c).Φ (Fin.last (cfgA F).N) = Phi m c (Fin.last _) from rfl]
  unfold Phi Pipeline.ΦA
  rw [scopedRest0_eq, ← some_sc0, ← some_sc1, ← some_sc2]
  iintro ⟨HS, -, Hr⟩
  isplitr [Hr]
  · iapply (scr_some m c _ _); iexact HS
  iexact Hr

set_option backward.isDefEq.respectTransparency.types false in
set_option maxHeartbeats 4000000 in
/-- Every execution ends, with each array at what the pipeline leaves in it and every other buffer as it was at the call. -/
theorem run_main : θ_run (defs (F := F)) (onTc (τ := τ) (main (F := F))) ⟨m, fun _ => 0, ρ⟩
    (fun r => Pipeline.FramePost (pcs F) (dats m) 0 (V m) r ∧ r.2.sem = fun _ => 0) :=
  Pipeline.θ_run_frameP_track (pcfgs (F := F)) (fun _ => adm) (dats m) 0 launch0 defs₀ Variants.none m ρ main
    (fun c => (body_obligation m c).loose) (share_eq m) (fun _ _ => rfl) (V m)
    (Pipeline.hmainP_prefixes pcfgs 0 defs₀ Variants.none m main opss ⟨hostOps0_sub, hostOps0_1_sub, hostOps0_2_sub⟩ fresh_ops main_chain)
    (fun _ _ => rfl) (fun c k => by fin_cases k; exact V_table m c) (phi_in m) (phi_out m)
    (Q' := fun r => Pipeline.FramePost (pcs F) (dats m) 0 (V m) r ∧ r.2.sem = fun _ => 0) (fun _ h => h)

theorem V_arg0 (c : Dev nD) : V m c main_arg0 = m ((c : Thread nD τ).loc main_arg0) := V_arg m c main_arg0 (by decide)
theorem V_arg1 (c : Dev nD) : V m c main_arg1 = m ((c : Thread nD τ).loc main_arg1) := V_arg m c main_arg1 (by decide)
theorem V_arg2 (c : Dev nD) : V m c main_arg2 = m ((c : Thread nD τ).loc main_arg2) := V_arg m c main_arg2 (by decide)
theorem V_arg3 (c : Dev nD) : V m c main_arg3 = m ((c : Thread nD τ).loc main_arg3) := V_arg m c main_arg3 (by decide)
theorem V_arg4 (c : Dev nD) : V m c main_arg4 = m ((c : Thread nD τ).loc main_arg4) := V_arg m c main_arg4 (by decide)

theorem rest_arg3 : main_arg3 ∈ Pipeline.restRefs sig spec0 := Pipeline.mem_restRefs_of main_arg3 rfl (by decide)

set_option maxHeartbeats 4000000 in
/-- What the call leaves in the arrays of gradients; the arguments are as they were. -/
theorem run_result : θ_run (defs (F := F)) (onTc (τ := τ) (main (F := F))) ⟨m, fun _ => 0, ρ⟩
    (fun r => (∀ c : Dev nD, r.2.mem ((c : Thread nD τ).loc main_v46_0) = (dats m 0 c).arrAt (7 : Fin 10) (cfgA F).N
      ∧ r.2.mem ((c : Thread nD τ).loc main_v46_1) = (dats m 0 c).arrAt (8 : Fin 10) (cfgA F).N
      ∧ r.2.mem ((c : Thread nD τ).loc main_v46_2) = (dats m 0 c).arrAt (9 : Fin 10) (cfgA F).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
      ∧ r.2.sem = fun _ => 0) :=
  (θ_run defs _ _).mono (fun r h => by
    refine ⟨fun c => ?_, h.2⟩
    obtain ⟨ha, hr⟩ := h.1 c
    refine ⟨ha (7 : Fin 10), ha (8 : Fin 10), ha (9 : Fin 10), ?_, ?_, ?_, ?_, ?_⟩
    · exact (ha (0 : Fin 10)).trans (((dats m 0 c).arrAt_in (0 : Fin 10) rfl _).trans (V_arg0 m c))
    · exact (ha (1 : Fin 10)).trans (((dats m 0 c).arrAt_in (1 : Fin 10) rfl _).trans (V_arg1 m c))
    · exact (ha (3 : Fin 10)).trans (((dats m 0 c).arrAt_in (3 : Fin 10) rfl _).trans (V_arg2 m c))
    · exact (hr main_arg3 rest_arg3).trans (V_arg3 m c)
    · exact (ha (4 : Fin 10)).trans (((dats m 0 c).arrAt_in (4 : Fin 10) rfl _).trans (V_arg4 m c))) (run_main m ρ)

end Cert.DkvIdeal.FoxKv

end
-- ==== Proof.FoxKv.Value.lean ====
/-
The arrays of gradients after the call.
-/
module

public import proofs.«01_k».proof.Proof.FoxKv.Fold
public import proofs.«01_k».proof.Proof.FoxKv.Launch

@[expose] public section

set_option maxRecDepth 16384

noncomputable section

namespace Cert.DkvIdeal.FoxKv

open Cert.DkvIdeal Cert.DkvIdeal.Gen Cert.FoxMath
open Idealize.ShloMosaic
open Idealize.ShloMosaic.TcCoe Idealize.ShloMosaic.Tactic
open Idealize.ShloMosaic.Pipeline (Dat Cfg Window)

variable {m : (ℓ : Loc nD τ sig) → Buf (Elt Ideal) ℓ} {c : Dev nD}

theorem flush_last (t : Fin (cfgA Ideal).N) : ((cfgA Ideal).win (7 : Fin 10)).flush t = true ↔ Last (F := Ideal) T0 (crd t) := by
  rw [Window.flush_eq_flushF, (sched t).2.2.2.1]
  exact decide_eq_true_iff
theorem flush_last_v (t : Fin (cfgA Ideal).N) : ((cfgA Ideal).win (8 : Fin 10)).flush t = true ↔ Last (F := Ideal) T0 (crd t) := by
  rw [Window.flush_eq_flushF, (sched t).2.2.2.2.2.1]
  exact decide_eq_true_iff
theorem flush_last_c (t : Fin (cfgA Ideal).N) : ((cfgA Ideal).win (9 : Fin 10)).flush t = true ↔ Last (F := Ideal) T0 (crd t) := by
  rw [Window.flush_eq_flushF, (sched t).2.2.2.2.2.2.2.1]
  exact decide_eq_true_iff

/-- The tile the last point of a row writes back is its part of the gradient of the keys. -/
theorem tile_k (R : RealArgs m c) (t : Fin (cfgA Ideal).N) (hL : Last (F := Ideal) T0 (crd t)) (i : Fin 1024) (d : Fin 128) :
    (finK (state m c t.val t.isLt) (ix2 i d) : EReal) = dkArr m c ((((cfgA Ideal).win (7 : Fin 10)).rect t).emb (ix2 i d)) := by
  have h1 := finK_read (last_holds R t hL) i d
  have h2 := pos_7 t i d
  have h3 := wideArr_read (m := m) (c := c) (fun H => H.dk 8192) (hF t) (⟨kT t * 1024 + i, by obtain ⟨h1, h2, h3, -⟩ := blocks t; omega⟩ : Fin 8192) d (by omega)
  show _ = wideArr (fun H => H.dk 8192) m c _
  generalize wideArr (fun H => H.dk 8192) m c = G at h3 ⊢
  exact h1.trans (h3.symm.trans (congrArg G h2.symm))

theorem flushed_k (R : RealArgs m c) (t : Fin (cfgA Ideal).N) (hf : ((cfgA Ideal).win (7 : Fin 10)).flush t = true) :
    (dats m 0 c).flushed (7 : Fin 10) t = (((cfgA Ideal).win (7 : Fin 10)).blk t).view.read (Elt Ideal) (dkArr m c) := by
  have hL := (flush_last t).1 hf
  have e : (dats m 0 c).flushed (7 : Fin 10) t = (dats m 0 c).after (7 : Fin 10) t := rfl
  rw [e, after_7]
  have key := tile_k R t hL
  generalize finK (state m c t.val t.isLt) = f at key ⊢
  have r : ∀ (G : S8192x512.Idx → Elt Ideal .bf16) (y : S1024x128.Idx), (((cfgA Ideal).win (7 : Fin 10)).blk t).view.read (Elt Ideal) G y = G ((((cfgA Ideal).win (7 : Fin 10)).rect t).emb y) := fun _ _ => rfl
  generalize dkArr m c = G at key ⊢
  funext y
  refine Eq.trans ?_ (r G y).symm
  have hy : (y : S1024x128.Idx) = ix2 (y (0 : Fin 2) : Fin 1024) (y (1 : Fin 2) : Fin 128) := by
    funext a; fin_cases a <;> rfl
  rw [hy]
  exact key _ _

/-- After the call the array holds the gradient of the keys. -/
theorem arr_k (R : RealArgs m c) : (dats m 0 c).arrAt (7 : Fin 10) (cfgA Ideal).N = dkArr m c := by
  refine (dats m 0 c).arrAt_eq_of_cover (7 : Fin 10) (dkArr m c) (flushed_k R) ?_
  intro x
  have h0 : (x (0 : Fin 2)).val < 8192 := (x (0 : Fin 2)).isLt
  have h1 : (x (1 : Fin 2)).val < 512 := (x (1 : Fin 2)).isLt
  obtain ⟨t, hL, ha, hh⟩ := reached (F := Ideal) ⟨(x (0 : Fin 2)).val / 1024, by omega⟩ ⟨(x (1 : Fin 2)).val / 128, by omega⟩
  refine ⟨t, (flush_last t).2 hL, ?_⟩
  have hx : (((cfgA Ideal).win (7 : Fin 10)).rect t).emb (ix2 (⟨(x (0 : Fin 2)).val % 1024, Nat.mod_lt _ (by decide)⟩ : Fin 1024) (⟨(x (1 : Fin 2)).val % 128, Nat.mod_lt _ (by decide)⟩ : Fin 128)) = x := by
    rw [pos_7]
    funext a
    fin_cases a
    · exact Fin.ext (by
        show kT t * 1024 + (x (0 : Fin 2)).val % 1024 = (x (0 : Fin 2)).val
        rw [ha]; show (x (0 : Fin 2)).val / 1024 * 1024 + _ = _; omega)
    · exact Fin.ext (by
        show hT t * 128 + (x (1 : Fin 2)).val % 128 = (x (1 : Fin 2)).val
        rw [hh]; show (x (1 : Fin 2)).val / 128 * 128 + _ = _; omega)
  rw [← hx]
  exact View.emb_mem_set _ _

/-- The tile the last point of a row writes back is its part of the gradient of the values. -/
theorem tile_v (R : RealArgs m c) (t : Fin (cfgA Ideal).N) (hL : Last (F := Ideal) T0 (crd t)) (i : Fin 1024) (d : Fin 128) :
    (finV (state m c t.val t.isLt) (ix2 i d) : EReal) = dvArr m c ((((cfgA Ideal).win (8 : Fin 10)).rect t).emb (ix2 i d)) := by
  have h1 := finV_read (last_holds R t hL) i d
  have h2 := pos_8 t i d
  have h3 := wideArr_read (m := m) (c := c) (fun H => H.dv 8192) (hF t) (⟨kT t * 1024 + i, by obtain ⟨h1, h2, h3, -⟩ := blocks t; omega⟩ : Fin 8192) d (by omega)
  show _ = wideArr (fun H => H.dv 8192) m c _
  generalize wideArr (fun H => H.dv 8192) m c = G at h3 ⊢
  exact h1.trans (h3.symm.trans (congrArg G h2.symm))

theorem flushed_v (R : RealArgs m c) (t : Fin (cfgA Ideal).N) (hf : ((cfgA Ideal).win (8 : Fin 10)).flush t = true) :
    (dats m 0 c).flushed (8 : Fin 10) t = (((cfgA Ideal).win (8 : Fin 10)).blk t).view.read (Elt Ideal) (dvArr m c) := by
  have hL := (flush_last_v t).1 hf
  have e : (dats m 0 c).flushed (8 : Fin 10) t = (dats m 0 c).after (8 : Fin 10) t := rfl
  rw [e, after_8]
  have key := tile_v R t hL
  generalize finV (state m c t.val t.isLt) = f at key ⊢
  have r : ∀ (G : S8192x512.Idx → Elt Ideal .bf16) (y : S1024x128.Idx), (((cfgA Ideal).win (8 : Fin 10)).blk t).view.read (Elt Ideal) G y = G ((((cfgA Ideal).win (8 : Fin 10)).rect t).emb y) := fun _ _ => rfl
  generalize dvArr m c = G at key ⊢
  funext y
  refine Eq.trans ?_ (r G y).symm
  have hy : (y : S1024x128.Idx) = ix2 (y (0 : Fin 2) : Fin 1024) (y (1 : Fin 2) : Fin 128) := by
    funext a; fin_cases a <;> rfl
  rw [hy]
  exact key _ _

/-- After the call the array holds the gradient of the values. -/
theorem arr_v (R : RealArgs m c) : (dats m 0 c).arrAt (8 : Fin 10) (cfgA Ideal).N = dvArr m c := by
  refine (dats m 0 c).arrAt_eq_of_cover (8 : Fin 10) (dvArr m c) (flushed_v R) ?_
  intro x
  have h0 : (x (0 : Fin 2)).val < 8192 := (x (0 : Fin 2)).isLt
  have h1 : (x (1 : Fin 2)).val < 512 := (x (1 : Fin 2)).isLt
  obtain ⟨t, hL, ha, hh⟩ := reached (F := Ideal) ⟨(x (0 : Fin 2)).val / 1024, by omega⟩ ⟨(x (1 : Fin 2)).val / 128, by omega⟩
  refine ⟨t, (flush_last_v t).2 hL, ?_⟩
  have hx : (((cfgA Ideal).win (8 : Fin 10)).rect t).emb (ix2 (⟨(x (0 : Fin 2)).val % 1024, Nat.mod_lt _ (by decide)⟩ : Fin 1024) (⟨(x (1 : Fin 2)).val % 128, Nat.mod_lt _ (by decide)⟩ : Fin 128)) = x := by
    rw [pos_8]
    funext a
    fin_cases a
    · exact Fin.ext (by
        show kT t * 1024 + (x (0 : Fin 2)).val % 1024 = (x (0 : Fin 2)).val
        rw [ha]; show (x (0 : Fin 2)).val / 1024 * 1024 + _ = _; omega)
    · exact Fin.ext (by
        show hT t * 128 + (x (1 : Fin 2)).val % 128 = (x (1 : Fin 2)).val
        rw [hh]; show (x (1 : Fin 2)).val / 128 * 128 + _ = _; omega)
  rw [← hx]
  exact View.emb_mem_set _ _

/-- The tile the last point of a row writes back is its part of the gradient of the gates. -/
theorem tile_c (R : RealArgs m c) (t : Fin (cfgA Ideal).N) (hL : Last (F := Ideal) T0 (crd t)) (j : Fin 1024) :
    (finC (state m c t.val t.isLt) (ix3 (0 : Fin 1) j (0 : Fin 1)) : EReal) = dcArr m c ((((cfgA Ideal).win (9 : Fin 10)).rect t).emb (ix3 (0 : Fin 1) j (0 : Fin 1))) := by
  have h1 := finC_read (last_holds R t hL) j
  have h2 := pos_9 t j
  have h3 : dcArr m c (ix3 (hF t) (⟨kT t * 1024 + j, by obtain ⟨h1, h2, h3, -⟩ := blocks t; omega⟩ : Fin 8192) (0 : Fin 1))
      = (((hd m c (hF t)).dc 8192 (kT t * 1024 + j) : ℝ) : EReal) := rfl
  generalize dcArr m c = G at h3 ⊢
  exact h1.trans (h3.symm.trans (congrArg G h2.symm))

theorem flushed_c (R : RealArgs m c) (t : Fin (cfgA Ideal).N) (hf : ((cfgA Ideal).win (9 : Fin 10)).flush t = true) :
    (dats m 0 c).flushed (9 : Fin 10) t = (((cfgA Ideal).win (9 : Fin 10)).blk t).view.read (Elt Ideal) (dcArr m c) := by
  have hL := (flush_last_c t).1 hf
  have e : (dats m 0 c).flushed (9 : Fin 10) t = (dats m 0 c).after (9 : Fin 10) t := rfl
  rw [e, after_9]
  have key := tile_c R t hL
  generalize finC (state m c t.val t.isLt) = f at key ⊢
  have r : ∀ (G : S4x8192x1.Idx → Elt Ideal .f32) (y : S1x1024x1.Idx), (((cfgA Ideal).win (9 : Fin 10)).blk t).view.read (Elt Ideal) G y = G ((((cfgA Ideal).win (9 : Fin 10)).rect t).emb y) := fun _ _ => rfl
  generalize dcArr m c = G at key ⊢
  funext y
  refine Eq.trans ?_ (r G y).symm
  have hy : (y : S1x1024x1.Idx) = ix3 (0 : Fin 1) (y (1 : Fin 3) : Fin 1024) (0 : Fin 1) := by
    funext a
    fin_cases a
    · exact Subsingleton.elim (α := Fin 1) _ _
    · rfl
    · exact Subsingleton.elim (α := Fin 1) _ _
  rw [hy]
  exact key _

/-- After the call the array holds the gradient of the gates. -/
theorem arr_c (R : RealArgs m c) : (dats m 0 c).arrAt (9 : Fin 10) (cfgA Ideal).N = dcArr m c := by
  refine (dats m 0 c).arrAt_eq_of_cover (9 : Fin 10) (dcArr m c) (flushed_c R) ?_
  intro x
  have h0 : (x (0 : Fin 3)).val < 4 := (x (0 : Fin 3)).isLt
  have h1 : (x (1 : Fin 3)).val < 8192 := (x (1 : Fin 3)).isLt
  obtain ⟨t, hL, ha, hh⟩ := reached (F := Ideal) ⟨(x (1 : Fin 3)).val / 1024, by omega⟩ ⟨(x (0 : Fin 3)).val, h0⟩
  refine ⟨t, (flush_last_c t).2 hL, ?_⟩
  have hx : (((cfgA Ideal).win (9 : Fin 10)).rect t).emb (ix3 (0 : Fin 1) (⟨(x (1 : Fin 3)).val % 1024, Nat.mod_lt _ (by decide)⟩ : Fin 1024) (0 : Fin 1)) = x := by
    rw [pos_9]
    funext a
    fin_cases a
    · exact Fin.ext hh
    · exact Fin.ext (by
        show kT t * 1024 + (x (1 : Fin 3)).val % 1024 = (x (1 : Fin 3)).val
        rw [ha]; show (x (1 : Fin 3)).val / 1024 * 1024 + _ = _; omega)
    · exact Subsingleton.elim (α := Fin 1) _ _
  rw [← hx]
  exact View.emb_mem_set _ _

end Cert.DkvIdeal.FoxKv

end
-- ==== Proof.FoxKv.Ref.lean ====
/-
The reference's gradients of the keys, values and gates, read at one entry.
-/
module

public import proofs.«01_k».proof.Proof.Gen.DkvRefIdeal.Read
public import proofs.«01_k».proof.Proof.Fox.Real
public import proofs.«01_k».proof.Proof.FoxKv.Math
public import Idealize.ShloMosaic.Lib.Pointwise
public import Idealize.ShloMosaic.Lib.WordCmp

@[expose] public section

set_option maxRecDepth 16384

noncomputable section

namespace Cert.FoxKvRef

open Cert.DkvRefIdeal Cert.DkvRefIdeal.Gen Cert.DkvRefIdeal.Read Cert.FoxMath
open Idealize.ShloMosaic

/-- An array of entries of the extended reals, by its two axes. -/
abbrev Wide := (⟨S8192x512, .f32⟩ : BufTy).Contents (Elt Ideal)
abbrev Gate := (⟨S8192x4, .f32⟩ : BufTy).Contents (Elt Ideal)

/-- The arguments hold the heads `H`. -/
structure Args (H : Fin 4 → Head) (x0 x1 x2 : Wide) (x3 : Gate) (x4 : Wide) : Prop where
  q (h : Fin 4) (i : Fin 8192) (d : Fin 128) (e : h.val * 128 + d.val < 512) : (x0 (ix2 i ⟨h.val * 128 + d.val, e⟩) : EReal) = (((H h).q i d : ℝ) : EReal)
  k (h : Fin 4) (i : Fin 8192) (d : Fin 128) (e : h.val * 128 + d.val < 512) : (x1 (ix2 i ⟨h.val * 128 + d.val, e⟩) : EReal) = (((H h).k i d : ℝ) : EReal)
  v (h : Fin 4) (i : Fin 8192) (d : Fin 128) (e : h.val * 128 + d.val < 512) : (x2 (ix2 i ⟨h.val * 128 + d.val, e⟩) : EReal) = (((H h).v i d : ℝ) : EReal)
  g (h : Fin 4) (i : Fin 8192) (d : Fin 128) (e : h.val * 128 + d.val < 512) : (x4 (ix2 i ⟨h.val * 128 + d.val, e⟩) : EReal) = (((H h).g i d : ℝ) : EReal)
  c (h : Fin 4) (i : Fin 8192) : (x3 (ix2 i h) : EReal) = (((H h).c i : ℝ) : EReal)
  σ (h : Fin 4) : (H h).σ = scale

variable {H : Fin 4 → Head} {x0 x1 x2 x4 : Wide} {x3 : Gate}

theorem score (A : Args H x0 x1 x2 x3 x4) (h : Fin 4) (i j : Fin 8192) :
    (val_main_v23_0 (F := Ideal) x0 x1 x3 (ix3 h i j) : EReal) = if j.val ≤ i.val then (((H h).sc i j + (H h).c i : ℝ) : EReal) else ⊥ := by
  pointwise [val_main_v23_0, val_main_v23_1, val_main_v17, val_main_call0_v2, val_main_call0_v0, val_main_cst_0, val_main_v22, val_main_v21, val_main_v20, val_main_v19, val_main_v18, val_main_v6,
    val_main_v16, val_main_v15, val_main_v14, val_main_v13, val_main_v12, val_main_v11, val_main_v10, val_main_v9, val_main_v8, val_main_v7, val_main_cst, val_main_v3, val_main_v2, val_main_v1, val_main_v0]
  rw [WordCmp.cmpi_sle_ofNat (by omega) (by omega)]
  by_cases hle : j.val ≤ i.val
  · rw [decide_eq_true hle, if_pos hle]
    simp only [A.q, A.k, A.c, scale_eq, ← EReal.coe_mul, sum_coe, ← EReal.coe_sub, ← EReal.coe_add]
    unfold Head.sc
    rw [A.σ]
    refine congrArg (fun r : ℝ => (r : EReal)) ?_
    ring
  · rw [decide_eq_false hle, if_neg hle]; exact bot_eq

/-- The greatest score of each query. -/
def rowMax (s : FVec Ideal S4x8192x8192 .f32) : FVec Ideal S4x8192 .f32 :=
  Host.reduce FloatOps.maximumf s (constant S_ .f32 0xFF800000#32) reducesTo_S4x8192x8192_S4x8192_d2 h_S_

theorem max_read (s : FVec Ideal S4x8192x8192 .f32) (h : Fin 4) (i : Fin 8192) :
    (rowMax s (ix2 h i) : EReal) = Finset.univ.fold max (Ideal.ofBits FTy.f32 4286578688#32) (fun x : Fin 8192 => (s (ix3 h i x) : EReal)) := by
  unfold rowMax
  pointwise

theorem above (r : FVec Ideal S4x8192 .f32) (h : Fin 4) (i : Fin 8192) :
    (maximumf (val_main_v30 (F := Ideal)) r (ix2 h i) : EReal) = max (Ideal.ofBits FTy.f32 4286578688#32) (r (ix2 h i) : EReal) := by
  pointwise [val_main_v30, val_main_cst_3]

theorem top_array : val_main_v31 (F := Ideal) x0 x1 x3 = maximumf (val_main_v30 (F := Ideal)) (rowMax (val_main_v23_0 (F := Ideal) x0 x1 x3)) := by
  unfold val_main_v31 val_main_v24 val_main_cst_1 rowMax
  rfl

theorem top (A : Args H x0 x1 x2 x3 x4) (h : Fin 4) (i : Fin 8192) :
    ∃ M : ℝ, (val_main_v31 (F := Ideal) x0 x1 x3 (ix2 h i) : EReal) = (M : EReal) := by
  obtain ⟨M, hM⟩ := max_real i (fun j => (H h).sc i j + (H h).c i)
  refine ⟨M, ?_⟩
  have e : (val_main_v31 (F := Ideal) x0 x1 x3 (ix2 h i) : EReal) = max (Ideal.ofBits FTy.f32 4286578688#32)
      (Finset.univ.fold max (Ideal.ofBits FTy.f32 4286578688#32) (fun x : Fin 8192 => (val_main_v23_0 (F := Ideal) x0 x1 x3 (ix3 h i x) : EReal))) := by
    rw [top_array, above, max_read]
  rw [e]
  simp only [score A, bot_eq]
  rw [hM]
  exact max_eq_right bot_le

theorem expo (A : Args H x0 x1 x2 x3 x4) (h : Fin 4) (i j : Fin 8192) {M : ℝ} (hM : (val_main_v31 (F := Ideal) x0 x1 x3 (ix2 h i) : EReal) = (M : EReal)) :
    (val_main_v44 (F := Ideal) x0 x1 x3 (ix3 h i j) : EReal) = (((H h).E (M - (H h).c i) i j : ℝ) : EReal) := by
  pointwise [val_main_v44, val_main_v43, val_main_v42, val_main_v41]
  rw [score A, hM]
  exact exp_masked (H h) i j _ M

/-- The sum of a query's exponentials. -/
abbrev Z (H : Head) (M : ℝ) (i : ℕ) : ℝ := ∑ j ∈ Finset.range 8192, H.E M i j

theorem total (A : Args H x0 x1 x2 x3 x4) (h : Fin 4) (i : Fin 8192) {M : ℝ} (hM : (val_main_v31 (F := Ideal) x0 x1 x3 (ix2 h i) : EReal) = (M : EReal)) :
    (val_main_v45 (F := Ideal) x0 x1 x3 (ix2 h i) : EReal) = ((Z (H h) (M - (H h).c i) i : ℝ) : EReal) := by
  pointwise [val_main_v45, val_main_cst_9]
  simp only [expo A h i _ hM, sum_coe, Finset.sum_range]
  try simp

theorem dweight (A : Args H x0 x1 x2 x3 x4) (h : Fin 4) (i j : Fin 8192) :
    (val_main_v59 (F := Ideal) x2 x4 (ix3 h i j) : EReal) = (((H h).dp i j : ℝ) : EReal) := by
  pointwise [val_main_v59, val_main_v56, val_main_v55, val_main_v5, val_main_v4]
  simp only [A.g, A.v, ← EReal.coe_mul, sum_coe]
  unfold Head.dp
  simp only [mul_comm]

theorem inverse (A : Args H x0 x1 x2 x3 x4) (h : Fin 4) (i : Fin 8192) {M : ℝ} (hM : (val_main_v31 (F := Ideal) x0 x1 x3 (ix2 h i) : EReal) = (M : EReal)) :
    (val_main_v51 (F := Ideal) x0 x1 x3 (ix3 h i (0 : Fin 1)) : EReal) = ((1 / (Z (H h) (M - (H h).c i) i * Z (H h) (M - (H h).c i) i) : ℝ) : EReal) := by
  have hp : Z (H h) (M - (H h).c i) i ≠ 0 := ((H h).sum_E_pos _ i.isLt).ne'
  pointwise [val_main_v51, val_main_v50, val_main_cst_10, val_main_v49, val_main_v46]
  rw [total A h i hM, ← EReal.coe_mul, Ideal.div_coe (mul_ne_zero hp hp)]
  exact one_mul _

theorem moved (A : Args H x0 x1 x2 x3 x4) (h : Fin 4) (i : Fin 8192) {M : ℝ} (hM : (val_main_v31 (F := Ideal) x0 x1 x3 (ix2 h i) : EReal) = (M : EReal)) :
    (val_main_v68 (F := Ideal) x0 x1 x2 x3 x4 (ix2 h i) : EReal)
      = ((-(∑ l ∈ Finset.range 8192, (H h).dp i l * (1 / (Z (H h) (M - (H h).c i) i * Z (H h) (M - (H h).c i) i)) * (H h).E (M - (H h).c i) i l) : ℝ) : EReal) := by
  pointwise [val_main_v68, val_main_cst_12, val_main_v65, val_main_v64, val_main_v63, val_main_cst_11, val_main_v62, val_main_v61, val_main_v60]
  simp only [dweight A, inverse A h i hM, expo A h i _ hM, ← EReal.coe_mul, sum_coe, Finset.sum_range]
  rw [Fin.sum_univ_one, ← EReal.coe_neg]

theorem dscore (A : Args H x0 x1 x2 x3 x4) (h : Fin 4) (i j : Fin 8192) {M : ℝ} (hM : (val_main_v31 (F := Ideal) x0 x1 x3 (ix2 h i) : EReal) = (M : EReal)) :
    (val_main_v72 (F := Ideal) x0 x1 x2 x3 x4 (ix3 h i j) : EReal)
      = ((((H h).dp i j / Z (H h) (M - (H h).c i) i
        + -(∑ l ∈ Finset.range 8192, (H h).dp i l * (1 / (Z (H h) (M - (H h).c i) i * Z (H h) (M - (H h).c i) i)) * (H h).E (M - (H h).c i) i l))
          * (H h).E (M - (H h).c i) i j : ℝ) : EReal) := by
  have hp : Z (H h) (M - (H h).c i) i ≠ 0 := ((H h).sum_E_pos _ i.isLt).ne'
  pointwise [val_main_v72, val_main_v71, val_main_v70, val_main_v69, val_main_v67, val_main_v66, val_main_v46, val_main_call1_v0, val_main_call1_cst, val_main_v23_1, val_main_v22, val_main_v21, val_main_v20, val_main_v19, val_main_v18, val_main_v6]
  rw [dweight A, total A h i hM, moved A h i hM, expo A h i j hM, Ideal.div_coe hp, ← EReal.coe_mul, ← EReal.coe_add, ← EReal.coe_mul]
  rw [WordCmp.cmpi_sle_ofNat (by omega) (by omega)]
  rw [div_eq_mul_one_div ((H h).dp i j)]
  by_cases hle : j.val ≤ i.val
  · rw [decide_eq_true hle]; rfl
  · have hE : (H h).E (M - (H h).c i) i j = 0 := by unfold Head.E; exact if_neg hle
    rw [decide_eq_false hle, hE, mul_zero, EReal.coe_zero]; rfl

theorem dscore_eq (A : Args H x0 x1 x2 x3 x4) (h : Fin 4) (i j : Fin 8192) :
    (val_main_v72 (F := Ideal) x0 x1 x2 x3 x4 (ix3 h i j) : EReal) = (((H h).ds i j : ℝ) : EReal) := by
  obtain ⟨M, hM⟩ := top A h i
  rw [dscore A h i j hM, (H h).ds_eq_vjp _ i.isLt]

theorem weight (A : Args H x0 x1 x2 x3 x4) (h : Fin 4) (i j : Fin 8192) :
    (val_main_v48 (F := Ideal) x0 x1 x3 (ix3 h i j) : EReal) = (((H h).p i j : ℝ) : EReal) := by
  obtain ⟨M, hM⟩ := top A h i
  have hp : Z (H h) (M - (H h).c i) i ≠ 0 := ((H h).sum_E_pos _ i.isLt).ne'
  pointwise [val_main_v48, val_main_v47, val_main_v46]
  rw [expo A h i j hM, total A h i hM, Ideal.div_coe hp, ← EReal.coe_mul, mul_one_div, (H h).E_div _ i.isLt]

/-- The gradient of the keys at one entry. -/
theorem result_k (A : Args H x0 x1 x2 x3 x4) (h : Fin 4) (j : Fin 8192) (d : Fin 128) (e : h.val * 128 + d.val < 512) :
    (val_main_v93 (F := Ideal) x0 x1 x2 x3 x4 (ix2 j ⟨h.val * 128 + d.val, e⟩) : EReal) = (((H h).dk 8192 j d : ℝ) : EReal) := by
  have r : (val_main_v93 (F := Ideal) x0 x1 x2 x3 x4 (ix2 j ⟨h.val * 128 + d.val, e⟩) : EReal)
      = ∑ i : Fin 8192, (val_main_v72 (F := Ideal) x0 x1 x2 x3 x4 (ix3 h i j) : EReal) * ((x0 (ix2 i ⟨h.val * 128 + d.val, e⟩) : EReal) * Ideal.ofBits FTy.f32 1035273459#32) := by
    unfold val_main_v93 val_main_v90 val_main_v89 val_main_v83
    generalize val_main_v72 (F := Ideal) x0 x1 x2 x3 x4 = s
    pointwise [val_main_v8, val_main_v7, val_main_cst, val_main_v1, val_main_v0]
  rw [r]
  simp only [dscore_eq A h, A.q, scale_eq, ← EReal.coe_mul, sum_coe]
  unfold Head.dk
  rw [A.σ, Finset.sum_range]

/-- The gradient of the values at one entry. -/
theorem result_v (A : Args H x0 x1 x2 x3 x4) (h : Fin 4) (j : Fin 8192) (d : Fin 128) (e : h.val * 128 + d.val < 512) :
    (val_main_v94 (F := Ideal) x0 x1 x3 x4 (ix2 j ⟨h.val * 128 + d.val, e⟩) : EReal) = (((H h).dv 8192 j d : ℝ) : EReal) := by
  have r : (val_main_v94 (F := Ideal) x0 x1 x3 x4 (ix2 j ⟨h.val * 128 + d.val, e⟩) : EReal)
      = ∑ i : Fin 8192, (x4 (ix2 i ⟨h.val * 128 + d.val, e⟩) : EReal) * (val_main_v48 (F := Ideal) x0 x1 x3 (ix3 h i j) : EReal) := by
    unfold val_main_v94 val_main_v88 val_main_v87 val_main_v58 val_main_v57
    generalize val_main_v48 (F := Ideal) x0 x1 x3 = s
    pointwise [val_main_v56, val_main_v55]
  rw [r]
  simp only [weight A h, A.g, ← EReal.coe_mul, sum_coe]
  unfold Head.dv
  rw [Finset.sum_range]
  simp only [mul_comm]

/-- The gradient of the gates at one entry. -/
theorem result_c (A : Args H x0 x1 x2 x3 x4) (h : Fin 4) (j : Fin 8192) :
    (val_main_v96 (F := Ideal) x0 x1 x2 x3 x4 (ix3 h j (0 : Fin 1)) : EReal) = (((H h).dc 8192 j : ℝ) : EReal) := by
  have r : (val_main_v96 (F := Ideal) x0 x1 x2 x3 x4 (ix3 h j (0 : Fin 1)) : EReal)
      = (∑ _z : Fin 1, ∑ i : Fin 8192, -(val_main_v72 (F := Ideal) x0 x1 x2 x3 x4 (ix3 h i j) : EReal))
        + ∑ _z : Fin 1, ∑ i : Fin 8192, (val_main_v72 (F := Ideal) x0 x1 x2 x3 x4 (ix3 h j i) : EReal) := by
    unfold val_main_v96 val_main_v95 val_main_v82 val_main_v77 val_main_v76 val_main_v75 val_main_v74 val_main_v73 val_main_v81 val_main_v80 val_main_v79 val_main_v78
    generalize val_main_v72 (F := Ideal) x0 x1 x2 x3 x4 = s
    pointwise [val_main_cst_13, val_main_cst_14, val_main_cst_15, val_main_cst_16]
  rw [r]
  simp only [dscore_eq A h, ← EReal.coe_neg, sum_coe, ← EReal.coe_add]
  refine congrArg (fun r : ℝ => (r : EReal)) ?_
  rw [Fin.sum_univ_one, Fin.sum_univ_one, ← Finset.sum_range (fun i => (H h).ds j i), (H h).sum_ds j.isLt, add_zero, Finset.sum_neg_distrib]
  unfold Head.dc
  rw [Finset.sum_range]

end Cert.FoxKvRef

end
-- ==== Proof.FoxKv.Frames.lean ====
/-
The frames of the gradient of the keys, values and gates, at bits and over the reals, and what the idealization kept.
-/
module

public import proofs.«01_k».proof.Proof.FoxKv.Launch
public import proofs.«01_k».proof.Defs
public import proofs.«01_k».proof.Proof.Gen.Dkv
public import proofs.«01_k».proof.Proof.Gen.DkvRefIdeal
public import proofs.«01_k».proof.Proof.Gen.Pre_finite
public import proofs.«01_k».proof.Proof.Gen.DkvRefIdeal.Run
public import Idealize.ShloMosaic.Lib.Tactic

@[expose] public section

set_option maxRecDepth 16384
set_option Elab.async false

noncomputable section

namespace Cert.DkvIdeal.FoxKv

open Idealize.ShloMosaic Idealize.SL.Sem Idealize.ShloMosaic.Tactic

/-- The kernel over the reals ends with its arguments unchanged. -/
theorem frame_ideal : Cert.quiescent_DkvIdeal := fun m ρ _ =>
  (θ_run Cert.DkvIdeal.defs _ _).mono (fun _ h => ⟨fun c => (h.1 c).2.2.2, h.2⟩) (run_result (F := Ideal) m ρ)

theorem frame_ideal_pre : Cert.quiescent_DkvIdeal_pre_finite := fun m ρ _ =>
  (θ_run Cert.DkvIdeal.defs _ _).mono (fun _ h => ⟨fun c => (h.1 c).2.2.2, h.2⟩) (run_result (F := Ideal) m ρ)

/-- At bits a named constant is the word it is printed with. -/
@[reducible] def namedBits : Named Bits where
  named _ _ {φ} bits := (FloatOps.ofBits φ bits : Bits φ)

/-- The run of the program with names, at bits. -/
def QuietBits : Prop :=
  letI := namedBits
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

theorem quiet_bits : QuietBits := fun m ρ _ =>
  letI := namedBits
  (θ_run (defs (F := Bits)) _ _).mono (fun _ h => ⟨fun c => (h.1 c).2.2.2, h.2⟩) (run_result (F := Bits) m ρ)

/-- The program without names is the same text. -/
theorem text_bits : QuietBits = Cert.quiescent_Dkv := by sl_kernel_rfl

/-- The kernel at bits ends with its arguments unchanged. -/
theorem frame_bits : Cert.quiescent_Dkv := Eq.mp text_bits quiet_bits

/-- The reference over the reals ends with its arguments unchanged. -/
theorem frame_reference : Cert.quiescent_DkvRefIdeal := fun m ρ _ =>
  (θ_run Cert.DkvRefIdeal.defs _ _).mono (fun r h => ⟨fun c => (h c).2.2.2, sem_eq_zero_of_no_sems (by decide) r.2⟩)
    (Cert.DkvRefIdeal.Value.run (F := Ideal) m ρ)

theorem frame_reference_pre : Cert.quiescent_DkvRefIdeal_pre_finite := fun m ρ _ =>
  (θ_run Cert.DkvRefIdeal.defs _ _).mono (fun r h => ⟨fun c => (h c).2.2.2, sem_eq_zero_of_no_sems (by decide) r.2⟩)
    (Cert.DkvRefIdeal.Value.run (F := Ideal) m ρ)

theorem preserves_constants : Cert.preserves_Dkv_DkvIdeal :=
  IdealRules.named_const.statement Cert.DkvIdeal.κ "mask" .f32 0xF149F2CA#32 ⊥ rfl

end Cert.DkvIdeal.FoxKv

end
-- ==== Proof.FoxKv.Equal.lean ====
/-
Kernel and reference end with the same gradients of the keys, values and gates.
-/
module

public import proofs.«01_k».proof.Proof.FoxKv.Value
public import proofs.«01_k».proof.Proof.FoxKv.Ref
public import proofs.«01_k».proof.Proof.FoxKv.Frames
public import proofs.«01_k».proof.Proof.Fox.Equal

@[expose] public section

set_option maxRecDepth 16384

noncomputable section

namespace Cert.DkvIdeal.FoxKv

open Cert.FoxMath Cert.FoxKvRef
open Idealize.ShloMosaic Idealize.SL.Sem

/-- Under the precondition every entry of the arguments is real. -/
theorem real_args {m : (ℓ : Loc nD τ sig) → Buf (Elt Ideal) ℓ} (h : Cert.Pre_DkvIdeal_finite m) (c : Dev nD) : RealArgs m c := by
  obtain ⟨h0, h1, h2, h3, h4⟩ := h c
  exact ⟨Cert.KernelIdeal.Fox.wide_real _ h0, Cert.KernelIdeal.Fox.wide_real _ h1, Cert.KernelIdeal.Fox.wide_real _ h2, Cert.KernelIdeal.Fox.wide_real _ h4, Cert.KernelIdeal.Fox.gate_real _ h3⟩

/-! ## The two programs -/

theorem ref_args {m : (ℓ : Loc nD τ sig) → Buf (Elt Ideal) ℓ} {c : Dev nD} (R : RealArgs m c) :
    Args (hd m c) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) where
  q := q_read R
  k := k_read R
  v := v_read R
  g := g_read R
  c := c_read R
  σ _ := rfl

theorem ref_k {m : (ℓ : Loc nD τ sig) → Buf (Elt Ideal) ℓ} {c : Dev nD} (R : RealArgs m c) :
    Cert.DkvRefIdeal.Read.val_main_v93 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = dkArr m c := by
  have A := ref_args R
  have hr := fun (h : Fin 4) (i : Fin 8192) (d : Fin 128) (e : h.val * 128 + d.val < 512) => (result_k A h i d e).trans (wideArr_read (m := m) (c := c) (fun H => H.dk 8192) h i d e).symm
  generalize Cert.DkvRefIdeal.Read.val_main_v93 (F := Ideal) _ _ _ _ _ = f at hr ⊢
  show _ = wideArr (fun H => H.dk 8192) m c
  generalize wideArr (fun H => H.dk 8192) m c = g at hr ⊢
  funext x
  have h0 : (x (0 : Fin 2)).val < 8192 := (x (0 : Fin 2)).isLt
  have h1 : (x (1 : Fin 2)).val < 512 := (x (1 : Fin 2)).isLt
  have key := hr ⟨(x (1 : Fin 2)).val / 128, by omega⟩ ⟨(x (0 : Fin 2)).val, h0⟩ ⟨(x (1 : Fin 2)).val % 128, Nat.mod_lt _ (by decide)⟩
    (by show (x (1 : Fin 2)).val / 128 * 128 + (x (1 : Fin 2)).val % 128 < 512; omega)
  have hx : (ix2 (⟨(x (0 : Fin 2)).val, h0⟩ : Fin 8192) (⟨(x (1 : Fin 2)).val / 128 * 128 + (x (1 : Fin 2)).val % 128, by omega⟩ : Fin 512)) = x := by
    funext a
    fin_cases a
    · rfl
    · exact Fin.ext (by show (x (1 : Fin 2)).val / 128 * 128 + (x (1 : Fin 2)).val % 128 = (x (1 : Fin 2)).val; omega)
  exact (congrArg f hx).symm.trans (key.trans (congrArg g hx))

theorem ref_v {m : (ℓ : Loc nD τ sig) → Buf (Elt Ideal) ℓ} {c : Dev nD} (R : RealArgs m c) :
    Cert.DkvRefIdeal.Read.val_main_v94 (F := Ideal) (m ((c.tc : Thread nD τ).loc main_arg0)) (m ((c.tc : Thread nD τ).loc main_arg1)) (m ((c.tc : Thread nD τ).loc main_arg3)) (m ((c.tc : Thread nD τ).loc main_arg4)) = dvArr m c := by
  have A := ref_args R
  have hr := fun (h : Fin 4) (i : Fin 8192) (d : Fin 128) (e : h.val * 128 + d.val < 512) => (result_v A h i d e).trans (wideArr_read (m := m) (c := c) (fun H => H.dv 8192) h i d e).symm
  generalize Cert.DkvRefIdeal.Read.val_main_v94 (F := Ideal) _ _ _ _ = f at hr ⊢
  show _ = wideArr (fun H => H.dv 8192) m c
  generalize wideArr (fun H => H.dv 8192) m c = g at hr ⊢
  funext x
  have h0 : (x (0 : Fin 2)).val < 8192 := (x (0 : Fin 2)).isLt
  have h1 : (x (1 : Fin 2)).val < 512 := (x (1 : Fin 2)).isLt
  have key := hr ⟨(x (1 : Fin 2)).val / 128, by omega⟩ ⟨(x (0 : Fin 2)).val, h0⟩ ⟨(x (1 : Fin 2)).val % 128, Nat.mod_lt _ (by decide)⟩
    (by show (x (1 : Fin 2)).val / 128 * 128 + (x (1 : Fin 2)).val % 128 < 512; omega)
  have hx : (ix2 (⟨(x (0 : Fin 2)).val, h0⟩ : Fin 8192) (⟨(x (1 : Fin 2)).val / 128 * 128 + (x (1 : Fin 2)).val % 128, by omega⟩ : Fin 512)) = x := by
    funext a
    fin_cases a
    · rfl
    · exact Fin.ext (by show (x (1 : Fin 2)).val / 128 * 128 + (x (1 : Fin 2)).val % 128 = (x (1 : Fin 2)).val; omega)
  exact (congrArg f hx).symm.trans (key.trans (congrArg g hx))

theorem ref_c {m : (ℓ : Loc nD τ sig) → Buf (Elt Ideal) ℓ} {c : Dev nD} (R : RealArgs m c) :
    Cert.DkvRefIdeal.Read.val_main_v96 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = dcArr m c := by
  have A := ref_args R
  have hr := fun (h : Fin 4) (i : Fin 8192) => result_c A h i
  have hg : ∀ (h : Fin 4) (i : Fin 8192), dcArr m c (ix3 h i (0 : Fin 1)) = (((hd m c h).dc 8192 i : ℝ) : EReal) := fun _ _ => rfl
  generalize Cert.DkvRefIdeal.Read.val_main_v96 (F := Ideal) _ _ _ _ _ = f at hr ⊢
  generalize dcArr m c = g at hg ⊢
  funext x
  have hx : (ix3 (x (0 : Fin 3) : Fin 4) (x (1 : Fin 3) : Fin 8192) (0 : Fin 1)) = x := by
    funext a
    fin_cases a
    · rfl
    · rfl
    · exact Subsingleton.elim (α := Fin 1) _ _
  exact (congrArg f hx).symm.trans (((hr _ _).trans (hg _ _).symm).trans (congrArg g hx))

/-- From agreeing finite arguments both programs end with the gradients of the keys, the values and the gates. -/
theorem equal : Cert.algebraic_DkvIdeal_DkvRefIdeal_pre_finite := by
  intro m ρ m' ρ' hp hm
  refine ⟨fun c => dkArr m c, fun c => dvArr m c, fun c => dcArr m c, ?_, ?_⟩
  · exact (θ_run Cert.DkvIdeal.defs _ _).mono (fun r h c => ⟨(h.1 c).1.trans (arr_k (real_args hp c)), (h.1 c).2.1.trans (arr_v (real_args hp c)),
      (h.1 c).2.2.1.trans (arr_c (real_args hp c)), (h.1 c).2.2.2⟩) (run_result (F := Ideal) m ρ)
  · refine (θ_run Cert.DkvRefIdeal.defs _ _).mono (fun r h c => ⟨(h c).1.trans ?_, (h c).2.1.trans ?_, (h c).2.2.1.trans ?_, (h c).2.2.2⟩) (Cert.DkvRefIdeal.Value.run (F := Ideal) m' ρ')
    · obtain ⟨e0, e1, e2, e3, e4⟩ := hm c
      rw [Cert.DkvRefIdeal.Read.val_main_v93_eq, e0, e1, e2, e3, e4]
      exact ref_k (real_args hp c)
    · obtain ⟨e0, e1, e2, e3, e4⟩ := hm c
      rw [Cert.DkvRefIdeal.Read.val_main_v94_eq, e0, e1, e3, e4]
      exact ref_v (real_args hp c)
    · obtain ⟨e0, e1, e2, e3, e4⟩ := hm c
      rw [Cert.DkvRefIdeal.Read.val_main_v96_eq, e0, e1, e2, e3, e4]
      exact ref_c (real_args hp c)

end Cert.DkvIdeal.FoxKv

end
-- ==== Proof.Dense.UpDx.lean ====
/-
The gradient of the up projection's input.  A tile of the result is the sum, over four consecutive grid points, of the products of
a block of one operand by a block of the other.  The gradient arrives as two arrays, the halves of its columns: a point
multiplies the block of the half it is in.
-/
module

public import proofs.«01_k».proof.Defs
public import proofs.«01_k».proof.Proof.Gen.UpDx
public import proofs.«01_k».proof.Proof.Gen.UpDxIdeal.Frame
public import proofs.«01_k».proof.Proof.Gen.UpDxIdeal.Value
public import proofs.«01_k».proof.Proof.Gen.UpDxRefIdeal.Run
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384
set_option Elab.async false

noncomputable section

namespace Cert.UpDxRefIdeal.Dense

open Cert.UpDxRefIdeal Cert.UpDxRefIdeal.Gen
open Idealize.ShloMosaic

/-- What the reference computes from its arguments. -/
def value (x0 : FVec Ideal S2048x11264 .bf16) (x1 : FVec Ideal S8192x5632 .bf16) (x2 : FVec Ideal S8192x5632 .bf16) : FVec Ideal S8192x2048 .f32 :=
  Host.dotGeneral dot_S8192x11264_S2048x11264_S8192x2048_1_1_0_0_n_n none (extf .f32 (concatenate S8192x11264 1 [⟨S8192x5632, x1⟩, ⟨S8192x5632, x2⟩] concatenates_S8192x5632_S8192x5632_S8192x11264_d1) bitsLt_bf16_f32) (extf .f32 x0 bitsLt_bf16_f32)

end Cert.UpDxRefIdeal.Dense

namespace Cert.UpDxIdeal.Dense

open Cert.UpDxIdeal Cert.UpDxIdeal.Gen
open Idealize.ShloMosaic Idealize.SL.Sem Idealize.ShloMosaic.Tactic
open Idealize.ShloMosaic.TcCoe

variable (m : (ℓ : Loc nD τ sig) → Buf (Elt Ideal) ℓ) (c : Dev nD)

/-- The reference's value on this program's arguments. -/
def want : FVec Ideal S8192x2048 .f32 :=
  Cert.UpDxRefIdeal.Dense.value (m ((c.tc : Thread nD τ).loc main_arg0)) (m ((c.tc : Thread nD τ).loc main_arg1)) (m ((c.tc : Thread nD τ).loc main_arg2))

theorem at_0 : ∀ t : Fin cfg0.N, win0_0.index t = ![t.val / 8, min (t.val % 4) 1] := (by decide +kernel : ∀ t : Fin grid0.N, _)
theorem at_1 : ∀ t : Fin cfg0.N, win0_1.index t = ![t.val / 4 % 2, t.val % 4] := (by decide +kernel : ∀ t : Fin grid0.N, _)
theorem at_2 : ∀ t : Fin cfg0.N, win0_2.index t = ![t.val / 8, t.val % 4 - 2] := (by decide +kernel : ∀ t : Fin grid0.N, _)
theorem at_3 : ∀ t : Fin cfg0.N, win0_3.index t = ![t.val / 8, t.val / 4 % 2] := (by decide +kernel : ∀ t : Fin grid0.N, _)

/-- The block of the gradient a point multiplies: of the first half of the columns, and then of the second. -/
def half (t : Fin cfg0.N) : FVec Ideal S1024x2816 .bf16 := if t.val % 4 ≤ 1 then iblk m c 0 t else iblk m c 2 t

theorem half_first (t : Fin cfg0.N) (h : t.val % 4 ≤ 1) : half m c t = iblk m c 0 t := if_pos h
theorem half_second (t : Fin cfg0.N) (h : ¬t.val % 4 ≤ 1) : half m c t = iblk m c 2 t := if_neg h

/-- The product of two blocks, at an entry of the tile. -/
def part (a : FVec Ideal S1024x2816 .bf16) (b : FVec Ideal S1024x2816 .bf16) (j : S1024x1024.Idx) : EReal :=
  ∑ k : Fin 2816, (a (ix2 (j 0 : Fin 1024) k) : EReal) * (b (ix2 (j 1 : Fin 1024) k) : EReal)

theorem step_first (v : FVec Ideal S1024x1024 .f32) (a : FVec Ideal S1024x2816 .bf16) (b : FVec Ideal S1024x2816 .bf16) (j : S1024x1024.Idx) :
    (k0_pay2 (F := Ideal) v a b j : EReal) = v j + part a b j := by
  unfold part
  pointwise [k0_pay2]

theorem step_second (v : FVec Ideal S1024x1024 .f32) (a : FVec Ideal S1024x2816 .bf16) (b : FVec Ideal S1024x2816 .bf16) (j : S1024x1024.Idx) :
    (k0_pay3 (F := Ideal) v a b j : EReal) = v j + part a b j := by
  unfold part
  pointwise [k0_pay3]

theorem start_at (j : S1024x1024.Idx) : (k0_pay1 (F := Ideal) j : EReal) = 0 := by
  pointwise [k0_pay1]

/-- At a point that writes back, the tile written is the accumulator after that point. -/
theorem written (t : Fin cfg0.N) (h : t.val % 4 = 3) (j : S1024x1024.Idx) :
    ((outsAt0 m c t.val t.isLt).1 j : EReal) = (outsAt0 m c t.val t.isLt).2 j := by
  have h2 : (outsAt0 m c t.val t.isLt).2 = k0_pay3 (outsAt0 m c (t.val - 1) (Nat.lt_of_le_of_lt (Nat.sub_le _ _) t.isLt)).2 (iblk m c 2 t) (iblk m c 1 t) := by
    rw [outsAt0_D m c t (by omega) (by omega) (by omega) h]; frame_out; simp only [read_unread_whole]
  rw [h2, outsAt0_D m c t (by omega) (by omega) (by omega) h]
  frame_out; simp only [read_unread_whole]

/-- The accumulator at a point that writes back: the products of the four points of its run. -/
theorem total (t : Fin cfg0.N) (h : t.val % 4 = 3) (j : S1024x1024.Idx) :
    ((outsAt0 m c t.val t.isLt).2 j : EReal)
      = 0 + ∑ s : Fin 4, part (half m c ⟨4 * (t.val / 4) + s, Pipeline.run_point_lt_of_flush t h s⟩) (iblk m c 1 ⟨4 * (t.val / 4) + s, Pipeline.run_point_lt_of_flush t h s⟩) j := by
  rw [Pipeline.eq_sum_fin_of_reset_step_apply_of_flush (fun n h => (outsAt0 m c n h).2) 4 (fun _ => (0 : EReal))
    (fun t j => part (half m c t) (iblk m c 1 t) j)
    (fun t h j => by
      show ((outsAt0 m c t.val t.isLt).2 j : EReal) = _
      rw [outsAt0_A m c t h (by omega) (by omega) (by omega)]; frame_out; rw [step_first, start_at, half_first m c t (by omega)])
    (fun t h j => by
      show ((outsAt0 m c t.val t.isLt).2 j : EReal) = _
      by_cases h1 : t.val % 4 ≤ 1
      · rw [outsAt0_B m c t h h1 (by omega) (by omega)]; frame_out; simp only [read_unread_whole]; rw [step_first, half_first m c t h1]
      · by_cases h3 : t.val % 4 = 3
        · rw [outsAt0_D m c t h h1 (by omega) h3]; frame_out; simp only [read_unread_whole]; rw [step_second, half_second m c t h1]
        · rw [outsAt0_C m c t h h1 (by omega) h3]; frame_out; simp only [read_unread_whole]; rw [step_second, half_second m c t h1]) t h j]

/-- A sum of four terms in two halves. -/
theorem two_halves (f : Fin 4 → EReal) :
    ∑ s, f s = (∑ s : Fin 2, f ⟨s.val, by omega⟩) + ∑ s : Fin 2, f ⟨2 + s.val, by omega⟩ := by
  rw [Fin.sum_univ_four, Fin.sum_univ_two, Fin.sum_univ_two, add_assoc (f 0 + f 1)]
  rfl

/-- The array the call leaves. -/
theorem left : (dats m 0 c).arrAt 3 cfg0.N = want m c := by
  refine (dats m 0 c).arrAt_eq_of_covers 3 _ (by decide +kernel) fun t hf y => ?_
  have h := (flush0_3 t).mp hf
  blk_simp
  rw [after0_3]
  refine (written m c t h y).trans ((total m c t h y).trans ?_)
  rw [zero_add]
  unfold want part
  pointwise [Cert.UpDxRefIdeal.Dense.value]
  have hN : t.val < 64 := lt_of_lt_of_eq t.isLt N_0
  have hN' : cfg0.N = 64 := N_0
  refine (two_halves _).trans (congrArg₂ (· + ·) ?_ ?_)
  · refine Fin.sum_mul_add_congr fun s k hl => ?_
    rw [half_first m c _ (by show (4 * (t.val / 4) + s.val) % 4 ≤ 1; omega)]
    blk_point [iblk, V, at_3 t, at_0 ⟨4 * (t.val / 4) + s.val, by omega⟩, at_1 ⟨4 * (t.val / 4) + s.val, by omega⟩, at_2 ⟨4 * (t.val / 4) + s.val, by omega⟩]
  · refine Fin.sum_mul_add_congr fun s k hl => ?_
    rw [half_second m c _ (by show ¬(4 * (t.val / 4) + (2 + s.val)) % 4 ≤ 1; omega)]
    blk_point [iblk, V, at_3 t, at_0 ⟨4 * (t.val / 4) + (2 + s.val), by omega⟩, at_1 ⟨4 * (t.val / 4) + (2 + s.val), by omega⟩, at_2 ⟨4 * (t.val / 4) + (2 + s.val), by omega⟩]

/-- The kernel over the reals ends with its arguments unchanged. -/
theorem frame_ideal : Cert.quiescent_UpDxIdeal := fun m ρ _ => Gen.frame (F := Ideal) m ρ

/-- The run at bits. -/
def QuietBits : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem text_bits : QuietBits = Cert.quiescent_UpDx := by sl_kernel_rfl

/-- The kernel at bits ends with its arguments unchanged. -/
theorem frame_bits : Cert.quiescent_UpDx := Eq.mp text_bits fun m ρ _ => Gen.frame (F := Bits) m ρ

/-- The reference over the reals ends with its arguments unchanged. -/
theorem frame_reference : Cert.quiescent_UpDxRefIdeal := fun m ρ _ =>
  (θ_run Cert.UpDxRefIdeal.defs _ _).mono (fun r h => ⟨fun c => (h c).2, sem_eq_zero_of_no_sems (by decide) r.2⟩)
    (Cert.UpDxRefIdeal.Value.run (F := Ideal) m ρ)

theorem same_text : Cert.preserves_UpDx_UpDxIdeal := trivial

/-- The kernel's result is the reference's. -/
theorem equal : Cert.algebraic_UpDxIdeal_UpDxRefIdeal := by
  intro m ρ m' ρ' _ agree
  refine ⟨fun c => want m c, (θ_run Cert.UpDxIdeal.defs _ _).mono (fun r h c => ⟨(h c).1.trans (left m c), (h c).2⟩)
    (Cert.UpDxIdeal.Value.run_blocks (F := Ideal) m ρ), ?_⟩
  refine (θ_run Cert.UpDxRefIdeal.defs _ _).mono (fun r h c => ⟨(h c).1.trans ?_, (h c).2⟩)
    (Cert.UpDxRefIdeal.Value.run (F := Ideal) m' ρ')
  obtain ⟨e0, e1, e2⟩ := agree c
  rw [e0, e1, e2]
  rfl

end Cert.UpDxIdeal.Dense

end
-- ==== Proof.Dense.UpDw.lean ====
/-
The gradient of the up projection's weight.  A tile of the result is the sum, over four consecutive grid points, of the products of
a block of one operand by a block of the other.  The gradient arrives as two arrays, the halves of its columns: a point
multiplies the block of the half it is in.
-/
module

public import proofs.«01_k».proof.Defs
public import proofs.«01_k».proof.Proof.Gen.UpDw
public import proofs.«01_k».proof.Proof.Gen.UpDwIdeal.Frame
public import proofs.«01_k».proof.Proof.Gen.UpDwIdeal.Value
public import proofs.«01_k».proof.Proof.Gen.UpDwRefIdeal.Run
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384
set_option Elab.async false

noncomputable section

namespace Cert.UpDwRefIdeal.Dense

open Cert.UpDwRefIdeal Cert.UpDwRefIdeal.Gen
open Idealize.ShloMosaic

/-- What the reference computes from its arguments. -/
def value (x0 : FVec Ideal S8192x2048 .bf16) (x1 : FVec Ideal S8192x5632 .bf16) (x2 : FVec Ideal S8192x5632 .bf16) : FVec Ideal S2048x11264 .bf16 :=
  truncf .bf16 (transpose S2048x11264 [1, 0] (Host.dotGeneral dot_S8192x11264_S8192x2048_S11264x2048_0_0_1_1_n_n none (extf .f32 (concatenate S8192x11264 1 [⟨S8192x5632, x1⟩, ⟨S8192x5632, x2⟩] concatenates_S8192x5632_S8192x5632_S8192x11264_d1) bitsLt_bf16_f32) (extf .f32 x0 bitsLt_bf16_f32)) transposes_S11264x2048_S2048x11264_1_0) bitsLt_bf16_f32

end Cert.UpDwRefIdeal.Dense

namespace Cert.UpDwIdeal.Dense

open Cert.UpDwIdeal Cert.UpDwIdeal.Gen
open Idealize.ShloMosaic Idealize.SL.Sem Idealize.ShloMosaic.Tactic
open Idealize.ShloMosaic.TcCoe

variable (m : (ℓ : Loc nD τ sig) → Buf (Elt Ideal) ℓ) (c : Dev nD)

/-- The reference's value on this program's arguments. -/
def want : FVec Ideal S2048x11264 .bf16 :=
  Cert.UpDwRefIdeal.Dense.value (m ((c.tc : Thread nD τ).loc main_arg0)) (m ((c.tc : Thread nD τ).loc main_arg1)) (m ((c.tc : Thread nD τ).loc main_arg2))

theorem at_0 : ∀ t : Fin cfg0.N, win0_0.index t = ![t.val % 4, t.val / 32] := (by decide +kernel : ∀ t : Fin grid0.N, _)
theorem at_1 : ∀ t : Fin cfg0.N, win0_1.index t = ![t.val % 4, min (t.val / 4 % 8) 3] := (by decide +kernel : ∀ t : Fin grid0.N, _)
theorem at_2 : ∀ t : Fin cfg0.N, win0_2.index t = ![t.val % 4, t.val / 4 % 8 - 4] := (by decide +kernel : ∀ t : Fin grid0.N, _)
theorem at_3 : ∀ t : Fin cfg0.N, win0_3.index t = ![t.val / 32, t.val / 4 % 8] := (by decide +kernel : ∀ t : Fin grid0.N, _)

/-- The block of the gradient a point multiplies: of the first array for the first half of the columns, of the second
    for the others. -/
def half (t : Fin cfg0.N) : FVec Ideal S2048x1408 .bf16 := if t.val / 4 % 8 ≤ 3 then iblk m c 1 t else iblk m c 2 t

theorem half_first (t : Fin cfg0.N) (h : t.val / 4 % 8 ≤ 3) : half m c t = iblk m c 1 t := if_pos h
theorem half_second (t : Fin cfg0.N) (h : ¬t.val / 4 % 8 ≤ 3) : half m c t = iblk m c 2 t := if_neg h

/-- The product of two blocks, at an entry of the tile. -/
def part (a : FVec Ideal S2048x1024 .bf16) (b : FVec Ideal S2048x1408 .bf16) (j : S1024x1408.Idx) : EReal :=
  ∑ k : Fin 2048, (a (ix2 k (j 0 : Fin 1024)) : EReal) * (b (ix2 k (j 1 : Fin 1408)) : EReal)

theorem step_first (v : FVec Ideal S1024x1408 .f32) (a : FVec Ideal S2048x1024 .bf16) (b : FVec Ideal S2048x1408 .bf16) (j : S1024x1408.Idx) :
    (k0_pay2 (F := Ideal) v a b j : EReal) = v j + part a b j := by
  unfold part
  pointwise [k0_pay2]

theorem step_second (v : FVec Ideal S1024x1408 .f32) (a : FVec Ideal S2048x1024 .bf16) (b : FVec Ideal S2048x1408 .bf16) (j : S1024x1408.Idx) :
    (k0_pay3 (F := Ideal) v a b j : EReal) = v j + part a b j := by
  unfold part
  pointwise [k0_pay3]

theorem start_at (j : S1024x1408.Idx) : (k0_pay1 (F := Ideal) j : EReal) = 0 := by
  pointwise [k0_pay1]

theorem round_at (v : FVec Ideal S1024x1408 .f32) (j : S1024x1408.Idx) : (k0_pay4 (F := Ideal) v j : EReal) = v j := by
  pointwise [k0_pay4]

/-- At a point that writes back, the tile written is the accumulator after that point. -/
theorem written (t : Fin cfg0.N) (h : t.val % 4 = 3) (j : S1024x1408.Idx) :
    ((outsAt0 m c t.val t.isLt).1 j : EReal) = (outsAt0 m c t.val t.isLt).2 j := by
  by_cases h1 : t.val / 4 % 8 ≤ 3
  · have h2 : (outsAt0 m c t.val t.isLt).2 = k0_pay2 (outsAt0 m c (t.val - 1) (Nat.lt_of_le_of_lt (Nat.sub_le _ _) t.isLt)).2 (iblk m c 0 t) (iblk m c 1 t) := by
      rw [outsAt0_C m c t (by omega) h1 (by omega) h]; frame_out; simp only [read_unread_whole]
    rw [h2, outsAt0_C m c t (by omega) h1 (by omega) h]
    frame_out; simp only [read_unread_whole]
    exact round_at _ j
  · have h2 : (outsAt0 m c t.val t.isLt).2 = k0_pay3 (outsAt0 m c (t.val - 1) (Nat.lt_of_le_of_lt (Nat.sub_le _ _) t.isLt)).2 (iblk m c 0 t) (iblk m c 2 t) := by
      rw [outsAt0_F m c t (by omega) h1 (by omega) h]; frame_out; simp only [read_unread_whole]
    rw [h2, outsAt0_F m c t (by omega) h1 (by omega) h]
    frame_out; simp only [read_unread_whole]
    exact round_at _ j

/-- The accumulator at a point that writes back: the products of the four points of its run. -/
theorem total (t : Fin cfg0.N) (h : t.val % 4 = 3) (j : S1024x1408.Idx) :
    ((outsAt0 m c t.val t.isLt).2 j : EReal)
      = 0 + ∑ s : Fin 4, part (iblk m c 0 ⟨4 * (t.val / 4) + s, Pipeline.run_point_lt_of_flush t h s⟩) (half m c ⟨4 * (t.val / 4) + s, Pipeline.run_point_lt_of_flush t h s⟩) j := by
  rw [Pipeline.eq_sum_fin_of_reset_step_apply_of_flush (fun n h => (outsAt0 m c n h).2) 4 (fun _ => (0 : EReal))
    (fun t j => part (iblk m c 0 t) (half m c t) j)
    (fun t h j => by
      show ((outsAt0 m c t.val t.isLt).2 j : EReal) = _
      by_cases h1 : t.val / 4 % 8 ≤ 3
      · rw [outsAt0_A m c t h h1 (by omega) (by omega)]; frame_out; rw [step_first, start_at, half_first m c t h1]
      · rw [outsAt0_D m c t h h1 (by omega) (by omega)]; frame_out; rw [step_second, start_at, half_second m c t h1])
    (fun t h j => by
      show ((outsAt0 m c t.val t.isLt).2 j : EReal) = _
      by_cases h1 : t.val / 4 % 8 ≤ 3
      · by_cases h3 : t.val % 4 = 3
        · rw [outsAt0_C m c t h h1 (by omega) h3]; frame_out; simp only [read_unread_whole]; rw [step_first, half_first m c t h1]
        · rw [outsAt0_B m c t h h1 (by omega) h3]; frame_out; simp only [read_unread_whole]; rw [step_first, half_first m c t h1]
      · by_cases h3 : t.val % 4 = 3
        · rw [outsAt0_F m c t h h1 (by omega) h3]; frame_out; simp only [read_unread_whole]; rw [step_second, half_second m c t h1]
        · rw [outsAt0_E m c t h h1 (by omega) h3]; frame_out; simp only [read_unread_whole]; rw [step_second, half_second m c t h1]) t h j]

/-- The array the call leaves. -/
theorem left : (dats m 0 c).arrAt 3 cfg0.N = want m c := by
  refine (dats m 0 c).arrAt_eq_of_covers 3 _ (by decide +kernel) fun t hf y => ?_
  have h := (flush0_3 t).mp hf
  blk_simp
  rw [after0_3]
  refine (written m c t h y).trans ((total m c t h y).trans ?_)
  rw [zero_add]
  unfold want part
  pointwise [Cert.UpDwRefIdeal.Dense.value]
  have hN : t.val < 64 := lt_of_lt_of_eq t.isLt N_0
  have hN' : cfg0.N = 64 := N_0
  have hcol : (((View.whole main_v0).slice (win0_3.rect t)).emb y 1).val = t.val / 4 % 8 * 1408 + (y 1).val := by blk_simp [at_3 t]
  have hy : (y 1).val < 1408 := (y 1).isLt
  refine Fin.sum_mul_add_congr fun s k hl => (mul_comm (_ : EReal) _).trans ?_
  by_cases h1 : t.val / 4 % 8 ≤ 3
  · rw [half_first m c _ (by show (4 * (t.val / 4) + s.val) / 4 % 8 ≤ 3; omega), dif_pos (by rw [hcol]; omega)]
    blk_point [iblk, V, at_3 t, at_0 ⟨4 * (t.val / 4) + s.val, by omega⟩, at_1 ⟨4 * (t.val / 4) + s.val, by omega⟩, at_2 ⟨4 * (t.val / 4) + s.val, by omega⟩]
  · rw [half_second m c _ (by show ¬(4 * (t.val / 4) + s.val) / 4 % 8 ≤ 3; omega), dif_neg (by rw [hcol]; omega)]
    blk_point [iblk, V, at_3 t, at_0 ⟨4 * (t.val / 4) + s.val, by omega⟩, at_1 ⟨4 * (t.val / 4) + s.val, by omega⟩, at_2 ⟨4 * (t.val / 4) + s.val, by omega⟩]

/-- The kernel over the reals ends with its arguments unchanged. -/
theorem frame_ideal : Cert.quiescent_UpDwIdeal := fun m ρ _ => Gen.frame (F := Ideal) m ρ

/-- The run at bits. -/
def QuietBits : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem text_bits : QuietBits = Cert.quiescent_UpDw := by sl_kernel_rfl

/-- The kernel at bits ends with its arguments unchanged. -/
theorem frame_bits : Cert.quiescent_UpDw := Eq.mp text_bits fun m ρ _ => Gen.frame (F := Bits) m ρ

/-- The reference over the reals ends with its arguments unchanged. -/
theorem frame_reference : Cert.quiescent_UpDwRefIdeal := fun m ρ _ =>
  (θ_run Cert.UpDwRefIdeal.defs _ _).mono (fun r h => ⟨fun c => (h c).2, sem_eq_zero_of_no_sems (by decide) r.2⟩)
    (Cert.UpDwRefIdeal.Value.run (F := Ideal) m ρ)

theorem same_text : Cert.preserves_UpDw_UpDwIdeal := trivial

/-- The kernel's result is the reference's. -/
theorem equal : Cert.algebraic_UpDwIdeal_UpDwRefIdeal := by
  intro m ρ m' ρ' _ agree
  refine ⟨fun c => want m c, (θ_run Cert.UpDwIdeal.defs _ _).mono (fun r h c => ⟨(h c).1.trans (left m c), (h c).2⟩)
    (Cert.UpDwIdeal.Value.run_blocks (F := Ideal) m ρ), ?_⟩
  refine (θ_run Cert.UpDwRefIdeal.defs _ _).mono (fun r h c => ⟨(h c).1.trans ?_, (h c).2⟩)
    (Cert.UpDwRefIdeal.Value.run (F := Ideal) m' ρ')
  obtain ⟨e0, e1, e2⟩ := agree c
  rw [e0, e1, e2]
  rfl

end Cert.UpDwIdeal.Dense

end
-- ==== Proof.Dense.DownDx.lean ====
/-
The gradient of the down projection's input.  Each grid point multiplies a block of one operand by a block of the other over the whole inner axis;
the blocks tile the result.
-/
module

public import proofs.«01_k».proof.Defs
public import proofs.«01_k».proof.Proof.Gen.DownDx
public import proofs.«01_k».proof.Proof.Gen.DownDxIdeal.Frame
public import proofs.«01_k».proof.Proof.Gen.DownDxIdeal.Value
public import proofs.«01_k».proof.Proof.Gen.DownDxRefIdeal.Run
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384
set_option Elab.async false

noncomputable section

namespace Cert.DownDxRefIdeal.Dense

open Cert.DownDxRefIdeal Cert.DownDxRefIdeal.Gen
open Idealize.ShloMosaic

/-- What the reference computes from its arguments. -/
def value (x0 : FVec Ideal S5632x2048 .bf16) (x1 : FVec Ideal S8192x2048 .bf16) : FVec Ideal S8192x5632 .f32 :=
  Host.dotGeneral dot_S8192x2048_S5632x2048_S8192x5632_1_1_0_0_n_n none (extf .f32 x1 bitsLt_bf16_f32) (extf .f32 x0 bitsLt_bf16_f32)

end Cert.DownDxRefIdeal.Dense

namespace Cert.DownDxIdeal.Dense

open Cert.DownDxIdeal Cert.DownDxIdeal.Gen
open Idealize.ShloMosaic Idealize.SL.Sem Idealize.ShloMosaic.Tactic
open Idealize.ShloMosaic.TcCoe

variable (m : (ℓ : Loc nD τ sig) → Buf (Elt Ideal) ℓ) (c : Dev nD)

/-- The reference's value on this program's arguments. -/
def want : FVec Ideal S8192x5632 .f32 :=
  Cert.DownDxRefIdeal.Dense.value (m ((c.tc : Thread nD τ).loc main_arg0)) (m ((c.tc : Thread nD τ).loc main_arg1))

theorem at_0 : ∀ t : Fin cfg0.N, win0_0.index t = ![t.val / 4, 0] := (by decide +kernel : ∀ t : Fin grid0.N, _)
theorem at_1 : ∀ t : Fin cfg0.N, win0_1.index t = ![t.val % 4, 0] := (by decide +kernel : ∀ t : Fin grid0.N, _)
theorem at_2 : ∀ t : Fin cfg0.N, win0_2.index t = ![t.val / 4, t.val % 4] := (by decide +kernel : ∀ t : Fin grid0.N, _)

/-- The array the call leaves. -/
theorem left : (dats m 0 c).arrAt 2 cfg0.N = want m c := by
  refine (dats m 0 c).arrAt_eq_of_covers 2 _ (by decide +kernel) fun t hf y => ?_
  blk_simp
  rw [after0_2]
  unfold outsAt0
  frame_out
  unfold want
  pointwise [k0_pay1, Cert.DownDxRefIdeal.Dense.value]
  blk_point [iblk, V, at_0 t, at_1 t, at_2 t]

/-- The kernel over the reals ends with its arguments unchanged. -/
theorem frame_ideal : Cert.quiescent_DownDxIdeal := fun m ρ _ => Gen.frame (F := Ideal) m ρ

/-- The run at bits. -/
def QuietBits : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem text_bits : QuietBits = Cert.quiescent_DownDx := by sl_kernel_rfl

/-- The kernel at bits ends with its arguments unchanged. -/
theorem frame_bits : Cert.quiescent_DownDx := Eq.mp text_bits fun m ρ _ => Gen.frame (F := Bits) m ρ

/-- The reference over the reals ends with its arguments unchanged. -/
theorem frame_reference : Cert.quiescent_DownDxRefIdeal := fun m ρ _ =>
  (θ_run Cert.DownDxRefIdeal.defs _ _).mono (fun r h => ⟨fun c => (h c).2, sem_eq_zero_of_no_sems (by decide) r.2⟩)
    (Cert.DownDxRefIdeal.Value.run (F := Ideal) m ρ)

theorem same_text : Cert.preserves_DownDx_DownDxIdeal := trivial

/-- The kernel's result is the reference's. -/
theorem equal : Cert.algebraic_DownDxIdeal_DownDxRefIdeal := by
  intro m ρ m' ρ' _ agree
  refine ⟨fun c => want m c, (θ_run Cert.DownDxIdeal.defs _ _).mono (fun r h c => ⟨(h c).1.trans (left m c), (h c).2⟩)
    (Cert.DownDxIdeal.Value.run_blocks (F := Ideal) m ρ), ?_⟩
  refine (θ_run Cert.DownDxRefIdeal.defs _ _).mono (fun r h c => ⟨(h c).1.trans ?_, (h c).2⟩)
    (Cert.DownDxRefIdeal.Value.run (F := Ideal) m' ρ')
  obtain ⟨e0, e1⟩ := agree c
  rw [e0, e1]
  rfl

end Cert.DownDxIdeal.Dense

end
-- ==== Proof.Dense.DownDw.lean ====
/-
The gradient of the down projection's weight.  A tile of the result is the sum, over 4 consecutive grid points, of the products of a block of one
operand by a block of the other.
-/
module

public import proofs.«01_k».proof.Defs
public import proofs.«01_k».proof.Proof.Gen.DownDw
public import proofs.«01_k».proof.Proof.Gen.DownDwIdeal.Frame
public import proofs.«01_k».proof.Proof.Gen.DownDwIdeal.Value
public import proofs.«01_k».proof.Proof.Gen.DownDwRefIdeal.Run
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384
set_option Elab.async false

noncomputable section

namespace Cert.DownDwRefIdeal.Dense

open Cert.DownDwRefIdeal Cert.DownDwRefIdeal.Gen
open Idealize.ShloMosaic

/-- What the reference computes from its arguments. -/
def value (x0 : FVec Ideal S8192x5632 .bf16) (x1 : FVec Ideal S8192x2048 .bf16) : FVec Ideal S5632x2048 .bf16 :=
  truncf .bf16 (transpose S5632x2048 [1, 0] (Host.dotGeneral dot_S8192x2048_S8192x5632_S2048x5632_0_0_1_1_n_n none (extf .f32 x1 bitsLt_bf16_f32) (extf .f32 x0 bitsLt_bf16_f32)) transposes_S2048x5632_S5632x2048_1_0) bitsLt_bf16_f32

theorem value_at (x0 : FVec Ideal S8192x5632 .bf16) (x1 : FVec Ideal S8192x2048 .bf16) (j : S5632x2048.Idx) :
    (value x0 x1 j : EReal) = ∑ k : Fin 8192, (x0 (ix2 k (j 0 : Fin 5632)) : EReal) * (x1 (ix2 k (j 1 : Fin 2048)) : EReal) := by
  pointwise [value]
  exact Finset.sum_congr rfl fun k _ => mul_comm (_ : EReal) _

end Cert.DownDwRefIdeal.Dense

namespace Cert.DownDwIdeal.Dense

open Cert.DownDwIdeal Cert.DownDwIdeal.Gen
open Idealize.ShloMosaic Idealize.SL.Sem Idealize.ShloMosaic.Tactic
open Idealize.ShloMosaic.TcCoe

variable (m : (ℓ : Loc nD τ sig) → Buf (Elt Ideal) ℓ) (c : Dev nD)

/-- The reference's value on this program's arguments. -/
def want : FVec Ideal S5632x2048 .bf16 :=
  Cert.DownDwRefIdeal.Dense.value (m ((c.tc : Thread nD τ).loc main_arg0)) (m ((c.tc : Thread nD τ).loc main_arg1))

theorem at_0 : ∀ t : Fin cfg0.N, win0_0.index t = ![t.val % 4, t.val / 8] := (by decide +kernel : ∀ t : Fin grid0.N, _)
theorem at_1 : ∀ t : Fin cfg0.N, win0_1.index t = ![t.val % 4, t.val / 4 % 2] := (by decide +kernel : ∀ t : Fin grid0.N, _)
theorem at_2 : ∀ t : Fin cfg0.N, win0_2.index t = ![t.val / 8, t.val / 4 % 2] := (by decide +kernel : ∀ t : Fin grid0.N, _)

/-- The product of two blocks, at an entry of the tile. -/
def part (a : FVec Ideal S2048x1408 .bf16) (b : FVec Ideal S2048x1024 .bf16) (j : S1408x1024.Idx) : EReal :=
  ∑ k : Fin 2048, (a (ix2 k (j 0 : Fin 1408)) : EReal) * (b (ix2 k (j 1 : Fin 1024)) : EReal)

theorem step_at (v : FVec Ideal S1408x1024 .f32) (a : FVec Ideal S2048x1408 .bf16) (b : FVec Ideal S2048x1024 .bf16) (j : S1408x1024.Idx) :
    (k0_pay2 (F := Ideal) v a b j : EReal) = v j + part a b j := by
  unfold part
  pointwise [k0_pay2]

theorem start_at (j : S1408x1024.Idx) : (k0_pay1 (F := Ideal) j : EReal) = 0 := by
  pointwise [k0_pay1]

theorem round_at (v : FVec Ideal S1408x1024 .f32) (j : S1408x1024.Idx) : (k0_pay3 (F := Ideal) v j : EReal) = v j := by
  pointwise [k0_pay3]

/-- At a point that writes back, the tile written is the accumulator after that point. -/
theorem written (t : Fin cfg0.N) (h : t.val % 4 = 3) (j : S1408x1024.Idx) :
    ((outsAt0 m c t.val t.isLt).1 j : EReal) = (outsAt0 m c t.val t.isLt).2 j := by
  have h2 : (outsAt0 m c t.val t.isLt).2 = k0_pay2 (outsAt0 m c (t.val - 1) (Nat.lt_of_le_of_lt (Nat.sub_le _ _) t.isLt)).2 (iblk m c 0 t) (iblk m c 1 t) := by
    rw [outsAt0_C m c t (by omega) h]; frame_out; simp only [read_unread_whole]
  rw [h2, outsAt0_C m c t (by omega) h]
  frame_out
  simp only [read_unread_whole]
  exact round_at _ j

/-- The accumulator at a point that writes back: the products of the 4 points of its run. -/
theorem total (t : Fin cfg0.N) (h : t.val % 4 = 3) (j : S1408x1024.Idx) :
    ((outsAt0 m c t.val t.isLt).2 j : EReal)
      = 0 + ∑ s : Fin 4, part (iblk m c 0 ⟨4 * (t.val / 4) + s, Pipeline.run_point_lt_of_flush t h s⟩) (iblk m c 1 ⟨4 * (t.val / 4) + s, Pipeline.run_point_lt_of_flush t h s⟩) j := by
  rw [Pipeline.eq_sum_fin_of_reset_step_apply_of_flush (fun n h => (outsAt0 m c n h).2) 4 (fun _ => (0 : EReal))
    (fun t j => part (iblk m c 0 t) (iblk m c 1 t) j)
    (fun t h j => by
      show ((outsAt0 m c t.val t.isLt).2 j : EReal) = _
      rw [outsAt0_A m c t h (by omega)]; frame_out; rw [step_at, start_at])
    (fun t h j => by
      show ((outsAt0 m c t.val t.isLt).2 j : EReal) = _
      by_cases h3 : t.val % 4 = 3
      · rw [outsAt0_C m c t h h3]; frame_out; simp only [read_unread_whole]; rw [step_at]
      · rw [outsAt0_B m c t h h3]; frame_out; simp only [read_unread_whole]; rw [step_at]) t h j]

/-- The array the call leaves. -/
theorem left : (dats m 0 c).arrAt 2 cfg0.N = want m c := by
  refine (dats m 0 c).arrAt_eq_of_covers 2 _ (by decide +kernel) fun t hf y => ?_
  have h := (flush0_2 t).mp hf
  blk_simp
  rw [after0_2]
  refine (written m c t h y).trans ((total m c t h y).trans ?_)
  rw [zero_add]
  unfold want part
  rw [Cert.DownDwRefIdeal.Dense.value_at]
  refine Fin.sum_mul_add_congr fun s k hl => ?_
  blk_point [iblk, V, at_0 t, at_1 t, at_2 t, at_0 ⟨_, Pipeline.run_point_lt_of_flush t h s⟩, at_1 ⟨_, Pipeline.run_point_lt_of_flush t h s⟩]

/-- The kernel over the reals ends with its arguments unchanged. -/
theorem frame_ideal : Cert.quiescent_DownDwIdeal := fun m ρ _ => Gen.frame (F := Ideal) m ρ

/-- The run at bits. -/
def QuietBits : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem text_bits : QuietBits = Cert.quiescent_DownDw := by sl_kernel_rfl

/-- The kernel at bits ends with its arguments unchanged. -/
theorem frame_bits : Cert.quiescent_DownDw := Eq.mp text_bits fun m ρ _ => Gen.frame (F := Bits) m ρ

/-- The reference over the reals ends with its arguments unchanged. -/
theorem frame_reference : Cert.quiescent_DownDwRefIdeal := fun m ρ _ =>
  (θ_run Cert.DownDwRefIdeal.defs _ _).mono (fun r h => ⟨fun c => (h c).2, sem_eq_zero_of_no_sems (by decide) r.2⟩)
    (Cert.DownDwRefIdeal.Value.run (F := Ideal) m ρ)

theorem same_text : Cert.preserves_DownDw_DownDwIdeal := trivial

/-- The kernel's result is the reference's. -/
theorem equal : Cert.algebraic_DownDwIdeal_DownDwRefIdeal := by
  intro m ρ m' ρ' _ agree
  refine ⟨fun c => want m c, (θ_run Cert.DownDwIdeal.defs _ _).mono (fun r h c => ⟨(h c).1.trans (left m c), (h c).2⟩)
    (Cert.DownDwIdeal.Value.run_blocks (F := Ideal) m ρ), ?_⟩
  refine (θ_run Cert.DownDwRefIdeal.defs _ _).mono (fun r h c => ⟨(h c).1.trans ?_, (h c).2⟩)
    (Cert.DownDwRefIdeal.Value.run (F := Ideal) m' ρ')
  obtain ⟨e0, e1⟩ := agree c
  rw [e0, e1]
  rfl

end Cert.DownDwIdeal.Dense

end
-- ==== Proof.Dense.InDx.lean ====
/-
The gradient of the attention input projection's input.  Each grid point multiplies a block of one operand by a block of the other over the whole inner axis;
the blocks tile the result.
-/
module

public import proofs.«01_k».proof.Defs
public import proofs.«01_k».proof.Proof.Gen.InDx
public import proofs.«01_k».proof.Proof.Gen.InDxIdeal.Frame
public import proofs.«01_k».proof.Proof.Gen.InDxIdeal.Value
public import proofs.«01_k».proof.Proof.Gen.InDxRefIdeal.Run
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384
set_option Elab.async false

noncomputable section

namespace Cert.InDxRefIdeal.Dense

open Cert.InDxRefIdeal Cert.InDxRefIdeal.Gen
open Idealize.ShloMosaic

/-- What the reference computes from its arguments. -/
def value (x0 : FVec Ideal S2048x6272 .bf16) (x1 : FVec Ideal S8192x6272 .bf16) : FVec Ideal S8192x2048 .f32 :=
  Host.dotGeneral dot_S8192x6272_S2048x6272_S8192x2048_1_1_0_0_n_n none (extf .f32 x1 bitsLt_bf16_f32) (extf .f32 x0 bitsLt_bf16_f32)

end Cert.InDxRefIdeal.Dense

namespace Cert.InDxIdeal.Dense

open Cert.InDxIdeal Cert.InDxIdeal.Gen
open Idealize.ShloMosaic Idealize.SL.Sem Idealize.ShloMosaic.Tactic
open Idealize.ShloMosaic.TcCoe

variable (m : (ℓ : Loc nD τ sig) → Buf (Elt Ideal) ℓ) (c : Dev nD)

/-- The reference's value on this program's arguments. -/
def want : FVec Ideal S8192x2048 .f32 :=
  Cert.InDxRefIdeal.Dense.value (m ((c.tc : Thread nD τ).loc main_arg0)) (m ((c.tc : Thread nD τ).loc main_arg1))

theorem at_0 : ∀ t : Fin cfg0.N, win0_0.index t = ![t.val / 2, 0] := (by decide +kernel : ∀ t : Fin grid0.N, _)
theorem at_1 : ∀ t : Fin cfg0.N, win0_1.index t = ![t.val % 2, 0] := (by decide +kernel : ∀ t : Fin grid0.N, _)
theorem at_2 : ∀ t : Fin cfg0.N, win0_2.index t = ![t.val / 2, t.val % 2] := (by decide +kernel : ∀ t : Fin grid0.N, _)

/-- The array the call leaves. -/
theorem left : (dats m 0 c).arrAt 2 cfg0.N = want m c := by
  refine (dats m 0 c).arrAt_eq_of_covers 2 _ (by decide +kernel) fun t hf y => ?_
  blk_simp
  rw [after0_2]
  unfold outsAt0
  frame_out
  unfold want
  pointwise [k0_pay1, Cert.InDxRefIdeal.Dense.value]
  blk_point [iblk, V, at_0 t, at_1 t, at_2 t]

/-- The kernel over the reals ends with its arguments unchanged. -/
theorem frame_ideal : Cert.quiescent_InDxIdeal := fun m ρ _ => Gen.frame (F := Ideal) m ρ

/-- The run at bits. -/
def QuietBits : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem text_bits : QuietBits = Cert.quiescent_InDx := by sl_kernel_rfl

/-- The kernel at bits ends with its arguments unchanged. -/
theorem frame_bits : Cert.quiescent_InDx := Eq.mp text_bits fun m ρ _ => Gen.frame (F := Bits) m ρ

/-- The reference over the reals ends with its arguments unchanged. -/
theorem frame_reference : Cert.quiescent_InDxRefIdeal := fun m ρ _ =>
  (θ_run Cert.InDxRefIdeal.defs _ _).mono (fun r h => ⟨fun c => (h c).2, sem_eq_zero_of_no_sems (by decide) r.2⟩)
    (Cert.InDxRefIdeal.Value.run (F := Ideal) m ρ)

theorem same_text : Cert.preserves_InDx_InDxIdeal := trivial

/-- The kernel's result is the reference's. -/
theorem equal : Cert.algebraic_InDxIdeal_InDxRefIdeal := by
  intro m ρ m' ρ' _ agree
  refine ⟨fun c => want m c, (θ_run Cert.InDxIdeal.defs _ _).mono (fun r h c => ⟨(h c).1.trans (left m c), (h c).2⟩)
    (Cert.InDxIdeal.Value.run_blocks (F := Ideal) m ρ), ?_⟩
  refine (θ_run Cert.InDxRefIdeal.defs _ _).mono (fun r h c => ⟨(h c).1.trans ?_, (h c).2⟩)
    (Cert.InDxRefIdeal.Value.run (F := Ideal) m' ρ')
  obtain ⟨e0, e1⟩ := agree c
  rw [e0, e1]
  rfl

end Cert.InDxIdeal.Dense

end
-- ==== Proof.Dense.InDw.lean ====
/-
The gradient of the attention input projection's weight.  Each grid point multiplies a block of one operand by a block of the other over the whole inner axis;
the blocks tile the result.
-/
module

public import proofs.«01_k».proof.Defs
public import proofs.«01_k».proof.Proof.Gen.InDw
public import proofs.«01_k».proof.Proof.Gen.InDwIdeal.Frame
public import proofs.«01_k».proof.Proof.Gen.InDwIdeal.Value
public import proofs.«01_k».proof.Proof.Gen.InDwRefIdeal.Run
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384
set_option Elab.async false

noncomputable section

namespace Cert.InDwRefIdeal.Dense

open Cert.InDwRefIdeal Cert.InDwRefIdeal.Gen
open Idealize.ShloMosaic

/-- What the reference computes from its arguments. -/
def value (x0 : FVec Ideal S8192x2048 .bf16) (x1 : FVec Ideal S8192x6272 .bf16) : FVec Ideal S2048x6272 .bf16 :=
  truncf .bf16 (transpose S2048x6272 [1, 0] (Host.dotGeneral dot_S8192x6272_S8192x2048_S6272x2048_0_0_1_1_n_n none (extf .f32 x1 bitsLt_bf16_f32) (extf .f32 x0 bitsLt_bf16_f32)) transposes_S6272x2048_S2048x6272_1_0) bitsLt_bf16_f32

theorem value_at (x0 : FVec Ideal S8192x2048 .bf16) (x1 : FVec Ideal S8192x6272 .bf16) (j : S2048x6272.Idx) :
    (value x0 x1 j : EReal) = ∑ k : Fin 8192, (x0 (ix2 k (j 0 : Fin 2048)) : EReal) * (x1 (ix2 k (j 1 : Fin 6272)) : EReal) := by
  pointwise [value]
  exact Finset.sum_congr rfl fun k _ => mul_comm (_ : EReal) _

end Cert.InDwRefIdeal.Dense

namespace Cert.InDwIdeal.Dense

open Cert.InDwIdeal Cert.InDwIdeal.Gen
open Idealize.ShloMosaic Idealize.SL.Sem Idealize.ShloMosaic.Tactic
open Idealize.ShloMosaic.TcCoe

variable (m : (ℓ : Loc nD τ sig) → Buf (Elt Ideal) ℓ) (c : Dev nD)

/-- The reference's value on this program's arguments. -/
def want : FVec Ideal S2048x6272 .bf16 :=
  Cert.InDwRefIdeal.Dense.value (m ((c.tc : Thread nD τ).loc main_arg0)) (m ((c.tc : Thread nD τ).loc main_arg1))

theorem at_0 : ∀ t : Fin cfg0.N, win0_0.index t = ![0, t.val / 7] := (by decide +kernel : ∀ t : Fin grid0.N, _)
theorem at_1 : ∀ t : Fin cfg0.N, win0_1.index t = ![0, t.val % 7] := (by decide +kernel : ∀ t : Fin grid0.N, _)
theorem at_2 : ∀ t : Fin cfg0.N, win0_2.index t = ![t.val / 7, t.val % 7] := (by decide +kernel : ∀ t : Fin grid0.N, _)

/-- The array the call leaves. -/
theorem left : (dats m 0 c).arrAt 2 cfg0.N = want m c := by
  refine (dats m 0 c).arrAt_eq_of_covers 2 _ (by decide +kernel) fun t hf y => ?_
  blk_simp
  rw [after0_2]
  unfold outsAt0
  frame_out
  unfold want
  rw [Cert.InDwRefIdeal.Dense.value_at]
  pointwise [k0_pay1]
  blk_point [iblk, V, at_0 t, at_1 t, at_2 t]

/-- The kernel over the reals ends with its arguments unchanged. -/
theorem frame_ideal : Cert.quiescent_InDwIdeal := fun m ρ _ => Gen.frame (F := Ideal) m ρ

/-- The run at bits. -/
def QuietBits : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem text_bits : QuietBits = Cert.quiescent_InDw := by sl_kernel_rfl

/-- The kernel at bits ends with its arguments unchanged. -/
theorem frame_bits : Cert.quiescent_InDw := Eq.mp text_bits fun m ρ _ => Gen.frame (F := Bits) m ρ

/-- The reference over the reals ends with its arguments unchanged. -/
theorem frame_reference : Cert.quiescent_InDwRefIdeal := fun m ρ _ =>
  (θ_run Cert.InDwRefIdeal.defs _ _).mono (fun r h => ⟨fun c => (h c).2, sem_eq_zero_of_no_sems (by decide) r.2⟩)
    (Cert.InDwRefIdeal.Value.run (F := Ideal) m ρ)

theorem same_text : Cert.preserves_InDw_InDwIdeal := trivial

/-- The kernel's result is the reference's. -/
theorem equal : Cert.algebraic_InDwIdeal_InDwRefIdeal := by
  intro m ρ m' ρ' _ agree
  refine ⟨fun c => want m c, (θ_run Cert.InDwIdeal.defs _ _).mono (fun r h c => ⟨(h c).1.trans (left m c), (h c).2⟩)
    (Cert.InDwIdeal.Value.run_blocks (F := Ideal) m ρ), ?_⟩
  refine (θ_run Cert.InDwRefIdeal.defs _ _).mono (fun r h c => ⟨(h c).1.trans ?_, (h c).2⟩)
    (Cert.InDwRefIdeal.Value.run (F := Ideal) m' ρ')
  obtain ⟨e0, e1⟩ := agree c
  rw [e0, e1]
  rfl

end Cert.InDwIdeal.Dense

end
-- ==== Proof.Dense.OutDx.lean ====
/-
The gradient of the attention output projection's input.  Each grid point multiplies a block of one operand by a block of the other over the whole inner axis;
the blocks tile the result.
-/
module

public import proofs.«01_k».proof.Defs
public import proofs.«01_k».proof.Proof.Gen.OutDx
public import proofs.«01_k».proof.Proof.Gen.OutDxIdeal.Frame
public import proofs.«01_k».proof.Proof.Gen.OutDxIdeal.Value
public import proofs.«01_k».proof.Proof.Gen.OutDxRefIdeal.Run
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384
set_option Elab.async false

noncomputable section

namespace Cert.OutDxRefIdeal.Dense

open Cert.OutDxRefIdeal Cert.OutDxRefIdeal.Gen
open Idealize.ShloMosaic

/-- What the reference computes from its arguments. -/
def value (x0 : FVec Ideal S2048x2048 .bf16) (x1 : FVec Ideal S8192x2048 .bf16) : FVec Ideal S8192x2048 .f32 :=
  Host.dotGeneral dot_S8192x2048_S2048x2048_S8192x2048_1_1_0_0_n_n none (extf .f32 x1 bitsLt_bf16_f32) (extf .f32 x0 bitsLt_bf16_f32)

end Cert.OutDxRefIdeal.Dense

namespace Cert.OutDxIdeal.Dense

open Cert.OutDxIdeal Cert.OutDxIdeal.Gen
open Idealize.ShloMosaic Idealize.SL.Sem Idealize.ShloMosaic.Tactic
open Idealize.ShloMosaic.TcCoe

variable (m : (ℓ : Loc nD τ sig) → Buf (Elt Ideal) ℓ) (c : Dev nD)

/-- The reference's value on this program's arguments. -/
def want : FVec Ideal S8192x2048 .f32 :=
  Cert.OutDxRefIdeal.Dense.value (m ((c.tc : Thread nD τ).loc main_arg0)) (m ((c.tc : Thread nD τ).loc main_arg1))

theorem at_0 : ∀ t : Fin cfg0.N, win0_0.index t = ![t.val / 2, 0] := (by decide +kernel : ∀ t : Fin grid0.N, _)
theorem at_1 : ∀ t : Fin cfg0.N, win0_1.index t = ![t.val % 2, 0] := (by decide +kernel : ∀ t : Fin grid0.N, _)
theorem at_2 : ∀ t : Fin cfg0.N, win0_2.index t = ![t.val / 2, t.val % 2] := (by decide +kernel : ∀ t : Fin grid0.N, _)

/-- The array the call leaves. -/
theorem left : (dats m 0 c).arrAt 2 cfg0.N = want m c := by
  refine (dats m 0 c).arrAt_eq_of_covers 2 _ (by decide +kernel) fun t hf y => ?_
  blk_simp
  rw [after0_2]
  unfold outsAt0
  frame_out
  unfold want
  pointwise [k0_pay1, Cert.OutDxRefIdeal.Dense.value]
  blk_point [iblk, V, at_0 t, at_1 t, at_2 t]

/-- The kernel over the reals ends with its arguments unchanged. -/
theorem frame_ideal : Cert.quiescent_OutDxIdeal := fun m ρ _ => Gen.frame (F := Ideal) m ρ

/-- The run at bits. -/
def QuietBits : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem text_bits : QuietBits = Cert.quiescent_OutDx := by sl_kernel_rfl

/-- The kernel at bits ends with its arguments unchanged. -/
theorem frame_bits : Cert.quiescent_OutDx := Eq.mp text_bits fun m ρ _ => Gen.frame (F := Bits) m ρ

/-- The reference over the reals ends with its arguments unchanged. -/
theorem frame_reference : Cert.quiescent_OutDxRefIdeal := fun m ρ _ =>
  (θ_run Cert.OutDxRefIdeal.defs _ _).mono (fun r h => ⟨fun c => (h c).2, sem_eq_zero_of_no_sems (by decide) r.2⟩)
    (Cert.OutDxRefIdeal.Value.run (F := Ideal) m ρ)

theorem same_text : Cert.preserves_OutDx_OutDxIdeal := trivial

/-- The kernel's result is the reference's. -/
theorem equal : Cert.algebraic_OutDxIdeal_OutDxRefIdeal := by
  intro m ρ m' ρ' _ agree
  refine ⟨fun c => want m c, (θ_run Cert.OutDxIdeal.defs _ _).mono (fun r h c => ⟨(h c).1.trans (left m c), (h c).2⟩)
    (Cert.OutDxIdeal.Value.run_blocks (F := Ideal) m ρ), ?_⟩
  refine (θ_run Cert.OutDxRefIdeal.defs _ _).mono (fun r h c => ⟨(h c).1.trans ?_, (h c).2⟩)
    (Cert.OutDxRefIdeal.Value.run (F := Ideal) m' ρ')
  obtain ⟨e0, e1⟩ := agree c
  rw [e0, e1]
  rfl

end Cert.OutDxIdeal.Dense

end
-- ==== Proof.Dense.OutDw.lean ====
/-
The gradient of the attention output projection's weight.  A tile of the result is the sum, over 4 consecutive grid points, of the products of a block of one
operand by a block of the other.
-/
module

public import proofs.«01_k».proof.Defs
public import proofs.«01_k».proof.Proof.Gen.OutDw
public import proofs.«01_k».proof.Proof.Gen.OutDwIdeal.Frame
public import proofs.«01_k».proof.Proof.Gen.OutDwIdeal.Value
public import proofs.«01_k».proof.Proof.Gen.OutDwRefIdeal.Run
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384
set_option Elab.async false

noncomputable section

namespace Cert.OutDwRefIdeal.Dense

open Cert.OutDwRefIdeal Cert.OutDwRefIdeal.Gen
open Idealize.ShloMosaic

/-- What the reference computes from its arguments. -/
def value (x0 : FVec Ideal S8192x2048 .bf16) (x1 : FVec Ideal S8192x2048 .bf16) : FVec Ideal S2048x2048 .bf16 :=
  truncf .bf16 (transpose S2048x2048 [1, 0] (Host.dotGeneral dot_S8192x2048_S8192x2048_S2048x2048_0_0_1_1_n_n none (extf .f32 x1 bitsLt_bf16_f32) (extf .f32 x0 bitsLt_bf16_f32)) transposes_S2048x2048_S2048x2048_1_0) bitsLt_bf16_f32

theorem value_at (x0 : FVec Ideal S8192x2048 .bf16) (x1 : FVec Ideal S8192x2048 .bf16) (j : S2048x2048.Idx) :
    (value x0 x1 j : EReal) = ∑ k : Fin 8192, (x0 (ix2 k (j 0 : Fin 2048)) : EReal) * (x1 (ix2 k (j 1 : Fin 2048)) : EReal) := by
  pointwise [value]
  exact Finset.sum_congr rfl fun k _ => mul_comm (_ : EReal) _

end Cert.OutDwRefIdeal.Dense

namespace Cert.OutDwIdeal.Dense

open Cert.OutDwIdeal Cert.OutDwIdeal.Gen
open Idealize.ShloMosaic Idealize.SL.Sem Idealize.ShloMosaic.Tactic
open Idealize.ShloMosaic.TcCoe

variable (m : (ℓ : Loc nD τ sig) → Buf (Elt Ideal) ℓ) (c : Dev nD)

/-- The reference's value on this program's arguments. -/
def want : FVec Ideal S2048x2048 .bf16 :=
  Cert.OutDwRefIdeal.Dense.value (m ((c.tc : Thread nD τ).loc main_arg0)) (m ((c.tc : Thread nD τ).loc main_arg1))

theorem at_0 : ∀ t : Fin cfg0.N, win0_0.index t = ![t.val % 4, t.val / 8] := (by decide +kernel : ∀ t : Fin grid0.N, _)
theorem at_1 : ∀ t : Fin cfg0.N, win0_1.index t = ![t.val % 4, t.val / 4 % 2] := (by decide +kernel : ∀ t : Fin grid0.N, _)
theorem at_2 : ∀ t : Fin cfg0.N, win0_2.index t = ![t.val / 8, t.val / 4 % 2] := (by decide +kernel : ∀ t : Fin grid0.N, _)

/-- The product of two blocks, at an entry of the tile. -/
def part (a : FVec Ideal S2048x1024 .bf16) (b : FVec Ideal S2048x1024 .bf16) (j : S1024x1024.Idx) : EReal :=
  ∑ k : Fin 2048, (a (ix2 k (j 0 : Fin 1024)) : EReal) * (b (ix2 k (j 1 : Fin 1024)) : EReal)

theorem step_at (v : FVec Ideal S1024x1024 .f32) (a : FVec Ideal S2048x1024 .bf16) (b : FVec Ideal S2048x1024 .bf16) (j : S1024x1024.Idx) :
    (k0_pay2 (F := Ideal) v a b j : EReal) = v j + part a b j := by
  unfold part
  pointwise [k0_pay2]

theorem start_at (j : S1024x1024.Idx) : (k0_pay1 (F := Ideal) j : EReal) = 0 := by
  pointwise [k0_pay1]

theorem round_at (v : FVec Ideal S1024x1024 .f32) (j : S1024x1024.Idx) : (k0_pay3 (F := Ideal) v j : EReal) = v j := by
  pointwise [k0_pay3]

/-- At a point that writes back, the tile written is the accumulator after that point. -/
theorem written (t : Fin cfg0.N) (h : t.val % 4 = 3) (j : S1024x1024.Idx) :
    ((outsAt0 m c t.val t.isLt).1 j : EReal) = (outsAt0 m c t.val t.isLt).2 j := by
  have h2 : (outsAt0 m c t.val t.isLt).2 = k0_pay2 (outsAt0 m c (t.val - 1) (Nat.lt_of_le_of_lt (Nat.sub_le _ _) t.isLt)).2 (iblk m c 0 t) (iblk m c 1 t) := by
    rw [outsAt0_C m c t (by omega) h]; frame_out; simp only [read_unread_whole]
  rw [h2, outsAt0_C m c t (by omega) h]
  frame_out
  simp only [read_unread_whole]
  exact round_at _ j

/-- The accumulator at a point that writes back: the products of the 4 points of its run. -/
theorem total (t : Fin cfg0.N) (h : t.val % 4 = 3) (j : S1024x1024.Idx) :
    ((outsAt0 m c t.val t.isLt).2 j : EReal)
      = 0 + ∑ s : Fin 4, part (iblk m c 0 ⟨4 * (t.val / 4) + s, Pipeline.run_point_lt_of_flush t h s⟩) (iblk m c 1 ⟨4 * (t.val / 4) + s, Pipeline.run_point_lt_of_flush t h s⟩) j := by
  rw [Pipeline.eq_sum_fin_of_reset_step_apply_of_flush (fun n h => (outsAt0 m c n h).2) 4 (fun _ => (0 : EReal))
    (fun t j => part (iblk m c 0 t) (iblk m c 1 t) j)
    (fun t h j => by
      show ((outsAt0 m c t.val t.isLt).2 j : EReal) = _
      rw [outsAt0_A m c t h (by omega)]; frame_out; rw [step_at, start_at])
    (fun t h j => by
      show ((outsAt0 m c t.val t.isLt).2 j : EReal) = _
      by_cases h3 : t.val % 4 = 3
      · rw [outsAt0_C m c t h h3]; frame_out; simp only [read_unread_whole]; rw [step_at]
      · rw [outsAt0_B m c t h h3]; frame_out; simp only [read_unread_whole]; rw [step_at]) t h j]

/-- The array the call leaves. -/
theorem left : (dats m 0 c).arrAt 2 cfg0.N = want m c := by
  refine (dats m 0 c).arrAt_eq_of_covers 2 _ (by decide +kernel) fun t hf y => ?_
  have h := (flush0_2 t).mp hf
  blk_simp
  rw [after0_2]
  refine (written m c t h y).trans ((total m c t h y).trans ?_)
  rw [zero_add]
  unfold want part
  rw [Cert.OutDwRefIdeal.Dense.value_at]
  refine Fin.sum_mul_add_congr fun s k hl => ?_
  blk_point [iblk, V, at_0 t, at_1 t, at_2 t, at_0 ⟨_, Pipeline.run_point_lt_of_flush t h s⟩, at_1 ⟨_, Pipeline.run_point_lt_of_flush t h s⟩]

/-- The kernel over the reals ends with its arguments unchanged. -/
theorem frame_ideal : Cert.quiescent_OutDwIdeal := fun m ρ _ => Gen.frame (F := Ideal) m ρ

/-- The run at bits. -/
def QuietBits : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem text_bits : QuietBits = Cert.quiescent_OutDw := by sl_kernel_rfl

/-- The kernel at bits ends with its arguments unchanged. -/
theorem frame_bits : Cert.quiescent_OutDw := Eq.mp text_bits fun m ρ _ => Gen.frame (F := Bits) m ρ

/-- The reference over the reals ends with its arguments unchanged. -/
theorem frame_reference : Cert.quiescent_OutDwRefIdeal := fun m ρ _ =>
  (θ_run Cert.OutDwRefIdeal.defs _ _).mono (fun r h => ⟨fun c => (h c).2, sem_eq_zero_of_no_sems (by decide) r.2⟩)
    (Cert.OutDwRefIdeal.Value.run (F := Ideal) m ρ)

theorem same_text : Cert.preserves_OutDw_OutDwIdeal := trivial

/-- The kernel's result is the reference's. -/
theorem equal : Cert.algebraic_OutDwIdeal_OutDwRefIdeal := by
  intro m ρ m' ρ' _ agree
  refine ⟨fun c => want m c, (θ_run Cert.OutDwIdeal.defs _ _).mono (fun r h c => ⟨(h c).1.trans (left m c), (h c).2⟩)
    (Cert.OutDwIdeal.Value.run_blocks (F := Ideal) m ρ), ?_⟩
  refine (θ_run Cert.OutDwRefIdeal.defs _ _).mono (fun r h c => ⟨(h c).1.trans ?_, (h c).2⟩)
    (Cert.OutDwRefIdeal.Value.run (F := Ideal) m' ρ')
  obtain ⟨e0, e1⟩ := agree c
  rw [e0, e1]
  rfl

end Cert.OutDwIdeal.Dense

end
-- ==== Proof.Dense.Up.lean ====
/-
The up projection.  Each grid point multiplies a block of one operand by a block of the other over the whole inner axis;
the blocks tile the result.
-/
module

public import proofs.«01_k».proof.Defs
public import proofs.«01_k».proof.Proof.Gen.Up
public import proofs.«01_k».proof.Proof.Gen.UpIdeal.Frame
public import proofs.«01_k».proof.Proof.Gen.UpIdeal.Value
public import proofs.«01_k».proof.Proof.Gen.UpRefIdeal.Run
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384
set_option Elab.async false

noncomputable section

namespace Cert.UpRefIdeal.Dense

open Cert.UpRefIdeal Cert.UpRefIdeal.Gen
open Idealize.ShloMosaic

/-- What the reference computes from its arguments. -/
def value (x0 : FVec Ideal S8192x2048 .bf16) (x1 : FVec Ideal S2048x11264 .bf16) : FVec Ideal S8192x11264 .f32 :=
  Host.dotGeneral dot_S8192x2048_S2048x11264_S8192x11264_1_0_0_1_n_n none (extf .f32 x0 bitsLt_bf16_f32) (extf .f32 x1 bitsLt_bf16_f32)

end Cert.UpRefIdeal.Dense

namespace Cert.UpIdeal.Dense

open Cert.UpIdeal Cert.UpIdeal.Gen
open Idealize.ShloMosaic Idealize.SL.Sem Idealize.ShloMosaic.Tactic
open Idealize.ShloMosaic.TcCoe

variable (m : (ℓ : Loc nD τ sig) → Buf (Elt Ideal) ℓ) (c : Dev nD)

/-- The reference's value on this program's arguments. -/
def want : FVec Ideal S8192x11264 .f32 :=
  Cert.UpRefIdeal.Dense.value (m ((c.tc : Thread nD τ).loc main_arg0)) (m ((c.tc : Thread nD τ).loc main_arg1))

theorem at_0 : ∀ t : Fin cfg0.N, win0_0.index t = ![t.val / 11, 0] := (by decide +kernel : ∀ t : Fin grid0.N, _)
theorem at_1 : ∀ t : Fin cfg0.N, win0_1.index t = ![0, t.val % 11] := (by decide +kernel : ∀ t : Fin grid0.N, _)
theorem at_2 : ∀ t : Fin cfg0.N, win0_2.index t = ![t.val / 11, t.val % 11] := (by decide +kernel : ∀ t : Fin grid0.N, _)

/-- The array the call leaves. -/
theorem left : (dats m 0 c).arrAt 2 cfg0.N = want m c := by
  refine (dats m 0 c).arrAt_eq_of_covers 2 _ (by decide +kernel) fun t hf y => ?_
  blk_simp
  rw [after0_2]
  unfold outsAt0
  frame_out
  unfold want
  pointwise [k0_pay1, Cert.UpRefIdeal.Dense.value]
  blk_point [iblk, V, at_0 t, at_1 t, at_2 t]

/-- The kernel over the reals ends with its arguments unchanged. -/
theorem frame_ideal : Cert.quiescent_UpIdeal := fun m ρ _ => Gen.frame (F := Ideal) m ρ

/-- The run at bits. -/
def QuietBits : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem text_bits : QuietBits = Cert.quiescent_Up := by sl_kernel_rfl

/-- The kernel at bits ends with its arguments unchanged. -/
theorem frame_bits : Cert.quiescent_Up := Eq.mp text_bits fun m ρ _ => Gen.frame (F := Bits) m ρ

/-- The reference over the reals ends with its arguments unchanged. -/
theorem frame_reference : Cert.quiescent_UpRefIdeal := fun m ρ _ =>
  (θ_run Cert.UpRefIdeal.defs _ _).mono (fun r h => ⟨fun c => (h c).2, sem_eq_zero_of_no_sems (by decide) r.2⟩)
    (Cert.UpRefIdeal.Value.run (F := Ideal) m ρ)

theorem same_text : Cert.preserves_Up_UpIdeal := trivial

/-- The kernel's result is the reference's. -/
theorem equal : Cert.algebraic_UpIdeal_UpRefIdeal := by
  intro m ρ m' ρ' _ agree
  refine ⟨fun c => want m c, (θ_run Cert.UpIdeal.defs _ _).mono (fun r h c => ⟨(h c).1.trans (left m c), (h c).2⟩)
    (Cert.UpIdeal.Value.run_blocks (F := Ideal) m ρ), ?_⟩
  refine (θ_run Cert.UpRefIdeal.defs _ _).mono (fun r h c => ⟨(h c).1.trans ?_, (h c).2⟩)
    (Cert.UpRefIdeal.Value.run (F := Ideal) m' ρ')
  obtain ⟨e0, e1⟩ := agree c
  rw [e0, e1]
  rfl

end Cert.UpIdeal.Dense

end
-- ==== Proof.Dense.Down.lean ====
/-
The down projection with the residual added.  Each grid point multiplies a block of one operand by a block of the other over the whole inner axis;
the blocks tile the result.
-/
module

public import proofs.«01_k».proof.Defs
public import proofs.«01_k».proof.Proof.Gen.Down
public import proofs.«01_k».proof.Proof.Gen.DownIdeal.Frame
public import proofs.«01_k».proof.Proof.Gen.DownIdeal.Value
public import proofs.«01_k».proof.Proof.Gen.DownRefIdeal.Run
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384
set_option Elab.async false

noncomputable section

namespace Cert.DownRefIdeal.Dense

open Cert.DownRefIdeal Cert.DownRefIdeal.Gen
open Idealize.ShloMosaic

/-- What the reference computes from its arguments. -/
def value (x0 : FVec Ideal S8192x5632 .bf16) (x1 : FVec Ideal S5632x2048 .bf16) (x2 : FVec Ideal S8192x2048 .f32) : FVec Ideal S8192x2048 .f32 :=
  addf x2 (Host.dotGeneral dot_S8192x5632_S5632x2048_S8192x2048_1_0_0_1_n_n none (extf .f32 x0 bitsLt_bf16_f32) (extf .f32 x1 bitsLt_bf16_f32))

end Cert.DownRefIdeal.Dense

namespace Cert.DownIdeal.Dense

open Cert.DownIdeal Cert.DownIdeal.Gen
open Idealize.ShloMosaic Idealize.SL.Sem Idealize.ShloMosaic.Tactic
open Idealize.ShloMosaic.TcCoe

variable (m : (ℓ : Loc nD τ sig) → Buf (Elt Ideal) ℓ) (c : Dev nD)

/-- The reference's value on this program's arguments. -/
def want : FVec Ideal S8192x2048 .f32 :=
  Cert.DownRefIdeal.Dense.value (m ((c.tc : Thread nD τ).loc main_arg0)) (m ((c.tc : Thread nD τ).loc main_arg1)) (m ((c.tc : Thread nD τ).loc main_arg2))

theorem at_0 : ∀ t : Fin cfg0.N, win0_0.index t = ![t.val / 2, 0] := (by decide +kernel : ∀ t : Fin grid0.N, _)
theorem at_1 : ∀ t : Fin cfg0.N, win0_1.index t = ![0, t.val % 2] := (by decide +kernel : ∀ t : Fin grid0.N, _)
theorem at_2 : ∀ t : Fin cfg0.N, win0_2.index t = ![t.val / 2, t.val % 2] := (by decide +kernel : ∀ t : Fin grid0.N, _)
theorem at_3 : ∀ t : Fin cfg0.N, win0_3.index t = ![t.val / 2, t.val % 2] := (by decide +kernel : ∀ t : Fin grid0.N, _)

/-- The array the call leaves. -/
theorem left : (dats m 0 c).arrAt 3 cfg0.N = want m c := by
  refine (dats m 0 c).arrAt_eq_of_covers 3 _ (by decide +kernel) fun t hf y => ?_
  blk_simp
  rw [after0_3]
  unfold outsAt0
  frame_out
  unfold want
  pointwise [k0_pay1, Cert.DownRefIdeal.Dense.value]
  rw [add_comm]
  blk_point [iblk, V, at_0 t, at_1 t, at_2 t, at_3 t]

/-- The kernel over the reals ends with its arguments unchanged. -/
theorem frame_ideal : Cert.quiescent_DownIdeal := fun m ρ _ => Gen.frame (F := Ideal) m ρ

/-- The run at bits. -/
def QuietBits : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem text_bits : QuietBits = Cert.quiescent_Down := by sl_kernel_rfl

/-- The kernel at bits ends with its arguments unchanged. -/
theorem frame_bits : Cert.quiescent_Down := Eq.mp text_bits fun m ρ _ => Gen.frame (F := Bits) m ρ

/-- The reference over the reals ends with its arguments unchanged. -/
theorem frame_reference : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

theorem same_text : Cert.preserves_Down_DownIdeal := trivial

/-- The kernel's result is the reference's. -/
theorem equal : Cert.algebraic_DownIdeal_DownRefIdeal := by
  intro m ρ m' ρ' _ agree
  refine ⟨fun c => want m c, (θ_run Cert.DownIdeal.defs _ _).mono (fun r h c => ⟨(h c).1.trans (left m c), (h c).2⟩)
    (Cert.DownIdeal.Value.run_blocks (F := Ideal) m ρ), ?_⟩
  refine (θ_run Cert.DownRefIdeal.defs _ _).mono (fun r h c => ⟨(h c).1.trans ?_, (h c).2⟩)
    (Cert.DownRefIdeal.Value.run (F := Ideal) m' ρ')
  obtain ⟨e0, e1, e2⟩ := agree c
  rw [e0, e1, e2]
  rfl

end Cert.DownIdeal.Dense

end
-- ==== Proof.Dense.In.lean ====
/-
The attention input projection.  Each grid point multiplies a block of one operand by a block of the other over the whole inner axis;
the blocks tile the result.
-/
module

public import proofs.«01_k».proof.Defs
public import proofs.«01_k».proof.Proof.Gen.In
public import proofs.«01_k».proof.Proof.Gen.InIdeal.Frame
public import proofs.«01_k».proof.Proof.Gen.InIdeal.Value
public import proofs.«01_k».proof.Proof.Gen.InRefIdeal.Run
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384
set_option Elab.async false

noncomputable section

namespace Cert.InRefIdeal.Dense

open Cert.InRefIdeal Cert.InRefIdeal.Gen
open Idealize.ShloMosaic

/-- What the reference computes from its arguments. -/
def value (x0 : FVec Ideal S8192x2048 .bf16) (x1 : FVec Ideal S2048x6272 .bf16) : FVec Ideal S8192x6272 .f32 :=
  Host.dotGeneral dot_S8192x2048_S2048x6272_S8192x6272_1_0_0_1_n_n none (extf .f32 x0 bitsLt_bf16_f32) (extf .f32 x1 bitsLt_bf16_f32)

end Cert.InRefIdeal.Dense

namespace Cert.InIdeal.Dense

open Cert.InIdeal Cert.InIdeal.Gen
open Idealize.ShloMosaic Idealize.SL.Sem Idealize.ShloMosaic.Tactic
open Idealize.ShloMosaic.TcCoe

variable (m : (ℓ : Loc nD τ sig) → Buf (Elt Ideal) ℓ) (c : Dev nD)

/-- The reference's value on this program's arguments. -/
def want : FVec Ideal S8192x6272 .f32 :=
  Cert.InRefIdeal.Dense.value (m ((c.tc : Thread nD τ).loc main_arg0)) (m ((c.tc : Thread nD τ).loc main_arg1))

theorem at_0 : ∀ t : Fin cfg0.N, win0_0.index t = ![t.val / 7, 0] := (by decide +kernel : ∀ t : Fin grid0.N, _)
theorem at_1 : ∀ t : Fin cfg0.N, win0_1.index t = ![0, t.val % 7] := (by decide +kernel : ∀ t : Fin grid0.N, _)
theorem at_2 : ∀ t : Fin cfg0.N, win0_2.index t = ![t.val / 7, t.val % 7] := (by decide +kernel : ∀ t : Fin grid0.N, _)

/-- The array the call leaves. -/
theorem left : (dats m 0 c).arrAt 2 cfg0.N = want m c := by
  refine (dats m 0 c).arrAt_eq_of_covers 2 _ (by decide +kernel) fun t hf y => ?_
  blk_simp
  rw [after0_2]
  unfold outsAt0
  frame_out
  unfold want
  pointwise [k0_pay1, Cert.InRefIdeal.Dense.value]
  blk_point [iblk, V, at_0 t, at_1 t, at_2 t]

/-- The kernel over the reals ends with its arguments unchanged. -/
theorem frame_ideal : Cert.quiescent_InIdeal := fun m ρ _ => Gen.frame (F := Ideal) m ρ

/-- The run at bits. -/
def QuietBits : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0)

theorem text_bits : QuietBits = Cert.quiescent_In := by sl_kernel_rfl

/-- The kernel at bits ends with its arguments unchanged. -/
theorem frame_bits : Cert.quiescent_In := Eq.mp text_bits fun m ρ _ => Gen.frame (F := Bits) m ρ

/-- The reference over the reals ends with its arguments unchanged. -/
theorem frame_reference : Cert.quiescent_InRefIdeal := fun m ρ _ =>
  (θ_run Cert.InRefIdeal.defs _ _).mono (fun r h => ⟨fun c => (h c).2, sem_eq_zero_of_no_sems (by decide) r.2⟩)
    (Cert.InRefIdeal.Value.run (F := Ideal) m ρ)

theorem same_text : Cert.preserves_In_InIdeal := trivial

/-- The kernel's result is the reference's. -/
theorem equal : Cert.algebraic_InIdeal_InRefIdeal := by
  intro m ρ m' ρ' _ agree
  refine ⟨fun c => want m c, (θ_run Cert.InIdeal.defs _ _).mono (fun r h c => ⟨(h c).1.trans (left m c), (h c).2⟩)
    (Cert.InIdeal.Value.run_blocks (F := Ideal) m ρ), ?_⟩
  refine (θ_run Cert.InRefIdeal.defs _ _).mono (fun r h c => ⟨(h c).1.trans ?_, (h c).2⟩)
    (Cert.InRefIdeal.Value.run (F := Ideal) m' ρ')
  obtain ⟨e0, e1⟩ := agree c
  rw [e0, e1]
  rfl

end Cert.InIdeal.Dense

end
-- ==== Proof.Dense.Out.lean ====
/-
The attention output projection with the residual added.  Each grid point multiplies a block of one operand by a block of the other over the whole inner axis;
the blocks tile the result.
-/
module

public import proofs.«01_k».proof.Defs
public import proofs.«01_k».proof.Proof.Gen.Out
public import proofs.«01_k».proof.Proof.Gen.OutIdeal.Frame
public import proofs.«01_k».proof.Proof.Gen.OutIdeal.Value
public import proofs.«01_k».proof.Proof.Gen.OutRefIdeal.Run
public import Idealize.ShloMosaic.Lib.Pipeline.ValueKit
public import Idealize.ShloMosaic.Lib.Pipeline.ReadBack
public import Idealize.ShloMosaic.Lib.Pointwise
public import Idealize.ShloMosaic.Lib.Tactic

@[expose] public section

set_option maxRecDepth 16384
set_option Elab.async false

noncomputable section

namespace Cert.OutRefIdeal.Dense

open Cert.OutRefIdeal Cert.OutRefIdeal.Gen
open Idealize.ShloMosaic

/-- What the reference computes from its arguments. -/
def value (x0 : FVec Ideal S8192x2048 .bf16) (x1 : FVec Ideal S2048x2048 .bf16) (x2 : FVec Ideal S8192x2048 .f32) : FVec Ideal S8192x2048 .f32 :=
  addf x2 (Host.dotGeneral dot_S8192x2048_S2048x2048_S8192x2048_1_0_0_1_n_n none (extf .f32 x0 bitsLt_bf16_f32) (extf .f32 x1 bitsLt_bf16_f32))

end Cert.OutRefIdeal.Dense

namespace Cert.OutIdeal.Dense

open Cert.OutIdeal Cert.OutIdeal.Gen
open Idealize.ShloMosaic Idealize.SL.Sem Idealize.ShloMosaic.Tactic
open Idealize.ShloMosaic.TcCoe

variable (m : (ℓ : Loc nD τ sig) → Buf (Elt Ideal) ℓ) (c : Dev nD)

/-- The reference's value on this program's arguments. -/
def want : FVec Ideal S8192x2048 .f32 :=
  Cert.OutRefIdeal.Dense.value (m ((c.tc : Thread nD τ).loc main_arg0)) (m ((c.tc : Thread nD τ).loc main_arg1)) (m ((c.tc : Thread nD τ).loc main_arg2))

theorem at_0 : ∀ t : Fin cfg0.N, win0_0.index t = ![t.val / 2, 0] := (by decide +kernel : ∀ t : Fin grid0.N, _)
theorem at_1 : ∀ t : Fin cfg0.N, win0_1.index t = ![0, t.val % 2] := (by decide +kernel : ∀ t : Fin grid0.N, _)
theorem at_2 : ∀ t : Fin cfg0.N, win0_2.index t = ![t.val / 2, t.val % 2] := (by decide +kernel : ∀ t : Fin grid0.N, _)
theorem at_3 : ∀ t : Fin cfg0.N, win0_3.index t = ![t.val / 2, t.val % 2] := (by decide +kernel : ∀ t : Fin grid0.N, _)

/-- The array the call leaves. -/
theorem left : (dats m 0 c).arrAt 3 cfg0.N = want m c := by
  refine (dats m 0 c).arrAt_eq_of_covers 3 _ (by decide +kernel) fun t hf y => ?_
  blk_simp
  rw [after0_3]
  unfold outsAt0
  frame_out
  unfold want
  pointwise [k0_pay1, Cert.OutRefIdeal.Dense.value]
  rw [add_comm]
  blk_point [iblk, V, at_0 t, at_1 t, at_2 t, at_3 t]

/-- The kernel over the reals ends with its arguments unchanged. -/
theorem frame_ideal : Cert.quiescent_OutIdeal := fun m ρ _ => Gen.frame (F := Ideal) m ρ

/-- The run at bits. -/
def QuietBits : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem text_bits : QuietBits = Cert.quiescent_Out := by sl_kernel_rfl

/-- The kernel at bits ends with its arguments unchanged. -/
theorem frame_bits : Cert.quiescent_Out := Eq.mp text_bits fun m ρ _ => Gen.frame (F := Bits) m ρ

/-- The reference over the reals ends with its arguments unchanged. -/
theorem frame_reference : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

theorem same_text : Cert.preserves_Out_OutIdeal := trivial

/-- The kernel's result is the reference's. -/
theorem equal : Cert.algebraic_OutIdeal_OutRefIdeal := by
  intro m ρ m' ρ' _ agree
  refine ⟨fun c => want m c, (θ_run Cert.OutIdeal.defs _ _).mono (fun r h c => ⟨(h c).1.trans (left m c), (h c).2⟩)
    (Cert.OutIdeal.Value.run_blocks (F := Ideal) m ρ), ?_⟩
  refine (θ_run Cert.OutRefIdeal.defs _ _).mono (fun r h c => ⟨(h c).1.trans ?_, (h c).2⟩)
    (Cert.OutRefIdeal.Value.run (F := Ideal) m' ρ')
  obtain ⟨e0, e1, e2⟩ := agree c
  rw [e0, e1, e2]
  rfl

end Cert.OutIdeal.Dense

end
-- ==== Proof.lean ====
/-
The claims about the gradients of the queries, keys, values and gates in the fox attention of a training step, and about the
products with the layers' weights and their gradients.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.Gen.Dkv
public import proofs.«01_k».proof.Proof.Gen.DkvIdeal
public import proofs.«01_k».proof.Proof.Gen.DkvIdeal.Skeleton
public import proofs.«01_k».proof.Proof.Gen.DkvIdeal.Launch
public import proofs.«01_k».proof.Proof.Gen.DkvIdeal.Flash
public import proofs.«01_k».proof.Proof.Gen.DkvRefIdeal
public import proofs.«01_k».proof.Proof.Gen.DkvRefIdeal.Run
public import proofs.«01_k».proof.Proof.Gen.DkvRefIdeal.Read
public import proofs.«01_k».proof.Proof.Fox.Equal
public import proofs.«01_k».proof.Proof.FoxKv.Equal
public import proofs.«01_k».proof.Proof.Dense.UpDx
public import proofs.«01_k».proof.Proof.Dense.UpDw
public import proofs.«01_k».proof.Proof.Dense.DownDx
public import proofs.«01_k».proof.Proof.Dense.DownDw
public import proofs.«01_k».proof.Proof.Dense.InDx
public import proofs.«01_k».proof.Proof.Dense.InDw
public import proofs.«01_k».proof.Proof.Dense.OutDx
public import proofs.«01_k».proof.Proof.Dense.OutDw
public import proofs.«01_k».proof.Proof.Dense.Up
public import proofs.«01_k».proof.Proof.Dense.Down
public import proofs.«01_k».proof.Proof.Dense.In
public import proofs.«01_k».proof.Proof.Dense.Out
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.UpDx.Gen.facts, Cert.UpDxIdeal.Gen.facts, Cert.UpDxRefIdeal.Gen.facts,
  Cert.UpDw.Gen.facts, Cert.UpDwIdeal.Gen.facts, Cert.UpDwRefIdeal.Gen.facts,
  Cert.DownDx.Gen.facts, Cert.DownDxIdeal.Gen.facts, Cert.DownDxRefIdeal.Gen.facts,
  Cert.DownDw.Gen.facts, Cert.DownDwIdeal.Gen.facts, Cert.DownDwRefIdeal.Gen.facts,
  Cert.InDx.Gen.facts, Cert.InDxIdeal.Gen.facts, Cert.InDxRefIdeal.Gen.facts,
  Cert.InDw.Gen.facts, Cert.InDwIdeal.Gen.facts, Cert.InDwRefIdeal.Gen.facts,
  Cert.OutDx.Gen.facts, Cert.OutDxIdeal.Gen.facts, Cert.OutDxRefIdeal.Gen.facts,
  Cert.OutDw.Gen.facts, Cert.OutDwIdeal.Gen.facts, Cert.OutDwRefIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.In.Gen.facts, Cert.InIdeal.Gen.facts, Cert.InRefIdeal.Gen.facts,
  Cert.Out.Gen.facts, Cert.OutIdeal.Gen.facts, Cert.OutRefIdeal.Gen.facts,
  Cert.Dkv.Gen.facts, Cert.DkvIdeal.Gen.facts, Cert.DkvRefIdeal.Gen.facts,
  Cert.Pre_finite.Gen.facts,
  Cert.KernelIdeal.Fox.frame_bits, Cert.KernelIdeal.Fox.frame_ideal, Cert.KernelIdeal.Fox.frame_ideal_pre,
  Cert.KernelIdeal.Fox.frame_reference, Cert.KernelIdeal.Fox.frame_reference_pre,
  Cert.UpDxIdeal.Dense.frame_bits, Cert.UpDxIdeal.Dense.frame_ideal, Cert.UpDxIdeal.Dense.frame_reference,
  Cert.UpDwIdeal.Dense.frame_bits, Cert.UpDwIdeal.Dense.frame_ideal, Cert.UpDwIdeal.Dense.frame_reference,
  Cert.DownDxIdeal.Dense.frame_bits, Cert.DownDxIdeal.Dense.frame_ideal, Cert.DownDxIdeal.Dense.frame_reference,
  Cert.DownDwIdeal.Dense.frame_bits, Cert.DownDwIdeal.Dense.frame_ideal, Cert.DownDwIdeal.Dense.frame_reference,
  Cert.InDxIdeal.Dense.frame_bits, Cert.InDxIdeal.Dense.frame_ideal, Cert.InDxIdeal.Dense.frame_reference,
  Cert.InDwIdeal.Dense.frame_bits, Cert.InDwIdeal.Dense.frame_ideal, Cert.InDwIdeal.Dense.frame_reference,
  Cert.OutDxIdeal.Dense.frame_bits, Cert.OutDxIdeal.Dense.frame_ideal, Cert.OutDxIdeal.Dense.frame_reference,
  Cert.OutDwIdeal.Dense.frame_bits, Cert.OutDwIdeal.Dense.frame_ideal, Cert.OutDwIdeal.Dense.frame_reference,
  Cert.UpIdeal.Dense.frame_bits, Cert.UpIdeal.Dense.frame_ideal, Cert.UpIdeal.Dense.frame_reference,
  Cert.DownIdeal.Dense.frame_bits, Cert.DownIdeal.Dense.frame_ideal, Cert.DownIdeal.Dense.frame_reference,
  Cert.InIdeal.Dense.frame_bits, Cert.InIdeal.Dense.frame_ideal, Cert.InIdeal.Dense.frame_reference,
  Cert.OutIdeal.Dense.frame_bits, Cert.OutIdeal.Dense.frame_ideal, Cert.OutIdeal.Dense.frame_reference,
  Cert.DkvIdeal.FoxKv.frame_bits, Cert.DkvIdeal.FoxKv.frame_ideal, Cert.DkvIdeal.FoxKv.frame_ideal_pre,
  Cert.DkvIdeal.FoxKv.frame_reference, Cert.DkvIdeal.FoxKv.frame_reference_pre,
  Cert.KernelIdeal.Fox.preserves_constants, Cert.KernelIdeal.Fox.equal,
  Cert.UpDxIdeal.Dense.same_text, Cert.UpDxIdeal.Dense.equal,
  Cert.UpDwIdeal.Dense.same_text, Cert.UpDwIdeal.Dense.equal,
  Cert.DownDxIdeal.Dense.same_text, Cert.DownDxIdeal.Dense.equal,
  Cert.DownDwIdeal.Dense.same_text, Cert.DownDwIdeal.Dense.equal,
  Cert.InDxIdeal.Dense.same_text, Cert.InDxIdeal.Dense.equal,
  Cert.InDwIdeal.Dense.same_text, Cert.InDwIdeal.Dense.equal,
  Cert.OutDxIdeal.Dense.same_text, Cert.OutDxIdeal.Dense.equal,
  Cert.OutDwIdeal.Dense.same_text, Cert.OutDwIdeal.Dense.equal,
  Cert.UpIdeal.Dense.same_text, Cert.UpIdeal.Dense.equal,
  Cert.DownIdeal.Dense.same_text, Cert.DownIdeal.Dense.equal,
  Cert.InIdeal.Dense.same_text, Cert.InIdeal.Dense.equal,
  Cert.OutIdeal.Dense.same_text, Cert.OutIdeal.Dense.equal,
  Cert.DkvIdeal.FoxKv.preserves_constants, Cert.DkvIdeal.FoxKv.equal⟩

end Cert.Proof

end
